-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_ReferenceIdeal_finite_first [hPre_finite_first : Cert.Pre_finite_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite_first [hPre_finite_first : Cert.Pre_finite_first.Facts] (m : (ℓ : Loc Cert.FirstIdeal.nD Cert.FirstIdeal.τ Cert.FirstIdeal.sig) → Buf (Elt Ideal) ℓ) : Prop :=
  ∀ c : Dev Cert.FirstIdeal.nD,
    (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))).1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))).2.1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))).2.2.1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))).2.2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))).2.2.2.2.2.2.2.2 = (fun _ => 1#1)

def Pre_Params (m : (ℓ : Loc Cert.Params.nD Cert.Params.τ Cert.Params.sig) → Buf (Elt Bits) ℓ) : Prop :=
  True

def Pre_ParamsIdeal (m : (ℓ : Loc Cert.ParamsIdeal.nD Cert.ParamsIdeal.τ Cert.ParamsIdeal.sig) → Buf (Elt Ideal) ℓ) : Prop :=
  True

def Pre_ParamsReferenceIdeal (m : (ℓ : Loc Cert.ParamsReferenceIdeal.nD Cert.ParamsReferenceIdeal.τ Cert.ParamsReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mixin [hPre_finite_mixin : Cert.Pre_finite_mixin.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8))).1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8))).2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8))).2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8))).2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8))).2.2.2.2 = (fun _ => 1#1)

def Pre_MixInReferenceIdeal (m : (ℓ : Loc Cert.MixInReferenceIdeal.nD Cert.MixInReferenceIdeal.τ Cert.MixInReferenceIdeal.sig) → Buf (Elt Ideal) ℓ) : Prop :=
  True

def Pre_MixInReferenceIdeal_finite_mixin [hPre_finite_mixin : Cert.Pre_finite_mixin.Facts] (m : (ℓ : Loc Cert.MixInReferenceIdeal.nD Cert.MixInReferenceIdeal.τ Cert.MixInReferenceIdeal.sig) → Buf (Elt Ideal) ℓ) : Prop :=
  ∀ c : Dev Cert.MixInReferenceIdeal.nD,
    (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))).1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))).2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))).2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))).2.2.2.1 = (fun _ => 1#1)
    ∧ (Cert.Pre_finite_mixin.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))).2.2.2.2 = (fun _ => 1#1)

def Pre_Hold (m : (ℓ : Loc Cert.Hold.nD Cert.Hold.τ Cert.Hold.sig) → Buf (Elt Bits) ℓ) : Prop :=
  True

def Pre_HoldIdeal (m : (ℓ : Loc Cert.HoldIdeal.nD Cert.HoldIdeal.τ Cert.HoldIdeal.sig) → Buf (Elt Ideal) ℓ) : Prop :=
  True

def Pre_HoldReferenceIdeal (m : (ℓ : Loc Cert.HoldReferenceIdeal.nD Cert.HoldReferenceIdeal.τ Cert.HoldReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Spread (m : (ℓ : Loc Cert.Spread.nD Cert.Spread.τ Cert.Spread.sig) → Buf (Elt Bits) ℓ) : Prop :=
  True

def Pre_SpreadIdeal (m : (ℓ : Loc Cert.SpreadIdeal.nD Cert.SpreadIdeal.τ Cert.SpreadIdeal.sig) → Buf (Elt Ideal) ℓ) : Prop :=
  True

def Pre_SpreadReferenceIdeal (m : (ℓ : Loc Cert.SpreadReferenceIdeal.nD Cert.SpreadReferenceIdeal.τ Cert.SpreadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_first [hReferenceIdeal : Cert.ReferenceIdeal.Facts] [hPre_finite_first : Cert.Pre_finite_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstIdeal_pre_finite_first [hFirstIdeal : Cert.FirstIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite_first m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1)
      ∧ r.2.mem ((c.tc : Thread Cert.DwinReferenceIdeal.nD Cert.DwinReferenceIdeal.τ).loc Cert.DwinReferenceIdeal.main_arg2) = m ((c.tc : Thread Cert.DwinReferenceIdeal.nD Cert.DwinReferenceIdeal.τ).loc Cert.DwinReferenceIdeal.main_arg2)
      ∧ r.2.mem ((c.tc : Thread Cert.DwinReferenceIdeal.nD Cert.DwinReferenceIdeal.τ).loc Cert.DwinReferenceIdeal.main_arg3) = m ((c.tc : Thread Cert.DwinReferenceIdeal.nD Cert.DwinReferenceIdeal.τ).loc Cert.DwinReferenceIdeal.main_arg3)
      ∧ r.2.mem ((c.tc : Thread Cert.DwinReferenceIdeal.nD Cert.DwinReferenceIdeal.τ).loc Cert.DwinReferenceIdeal.main_arg4) = m ((c.tc : Thread Cert.DwinReferenceIdeal.nD Cert.DwinReferenceIdeal.τ).loc Cert.DwinReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7)
      ∧ r.2.mem ((c.tc : Thread Cert.LossReferenceIdeal.nD Cert.LossReferenceIdeal.τ).loc Cert.LossReferenceIdeal.main_arg8) = m ((c.tc : Thread Cert.LossReferenceIdeal.nD Cert.LossReferenceIdeal.τ).loc Cert.LossReferenceIdeal.main_arg8))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7)
      ∧ r.2.mem ((c.tc : Thread Cert.LossReferenceIdeal.nD Cert.LossReferenceIdeal.τ).loc Cert.LossReferenceIdeal.main_arg8) = m ((c.tc : Thread Cert.LossReferenceIdeal.nD Cert.LossReferenceIdeal.τ).loc Cert.LossReferenceIdeal.main_arg8))
      ∧ r.2.sem = fun _ => 0)

def quiescent_Params [hParams : Cert.Params.Facts] : Prop :=
  ∀ (m : (ℓ : Loc Cert.Params.nD Cert.Params.τ Cert.Params.sig) → Buf (Elt Bits) ℓ) (g : Dev Cert.Params.nD → PrngReg), Pre_Params m →
    θ_run (Cert.Params.defs (F := Bits)) (onTc (τ := Cert.Params.τ) (Cert.Params.main (F := Bits))) ⟨m, fun _ => 0, g⟩ (fun r => (∀ c : Dev Cert.Params.nD,
      r.2.mem ((c.tc : Thread Cert.Params.nD Cert.Params.τ).loc Cert.Params.main_arg0) = m ((c.tc : Thread Cert.Params.nD Cert.Params.τ).loc Cert.Params.main_arg0)
      ∧ r.2.mem ((c.tc : Thread Cert.Params.nD Cert.Params.τ).loc Cert.Params.main_arg1) = m ((c.tc : Thread Cert.Params.nD Cert.Params.τ).loc Cert.Params.main_arg1)
      ∧ r.2.mem ((c.tc : Thread Cert.Params.nD Cert.Params.τ).loc Cert.Params.main_arg2) = m ((c.tc : Thread Cert.Params.nD Cert.Params.τ).loc Cert.Params.main_arg2)
      ∧ r.2.mem ((c.tc : Thread Cert.Params.nD Cert.Params.τ).loc Cert.Params.main_arg3) = m ((c.tc : Thread Cert.Params.nD Cert.Params.τ).loc Cert.Params.main_arg3)
      ∧ r.2.mem ((c.tc : Thread Cert.Params.nD Cert.Params.τ).loc Cert.Params.main_arg4) = m ((c.tc : Thread Cert.Params.nD Cert.Params.τ).loc Cert.Params.main_arg4)
      ∧ r.2.mem ((c.tc : Thread Cert.Params.nD Cert.Params.τ).loc Cert.Params.main_arg5) = m ((c.tc : Thread Cert.Params.nD Cert.Params.τ).loc Cert.Params.main_arg5)
      ∧ r.2.mem ((c.tc : Thread Cert.Params.nD Cert.Params.τ).loc Cert.Params.main_arg6) = m ((c.tc : Thread Cert.Params.nD Cert.Params.τ).loc Cert.Params.main_arg6))
      ∧ r.2.sem = fun _ => 0)

def quiescent_ParamsIdeal [hParamsIdeal : Cert.ParamsIdeal.Facts] : Prop :=
  ∀ (m : (ℓ : Loc Cert.ParamsIdeal.nD Cert.ParamsIdeal.τ Cert.ParamsIdeal.sig) → Buf (Elt Ideal) ℓ) (g : Dev Cert.ParamsIdeal.nD → PrngReg), Pre_ParamsIdeal m →
    θ_run (Cert.ParamsIdeal.defs (F := Ideal)) (onTc (τ := Cert.ParamsIdeal.τ) (Cert.ParamsIdeal.main (F := Ideal))) ⟨m, fun _ => 0, g⟩ (fun r => (∀ c : Dev Cert.ParamsIdeal.nD,
      r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
      ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
      ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
      ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
      ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
      ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
      ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6))
      ∧ r.2.sem = fun _ => 0)

def quiescent_ParamsReferenceIdeal [hParamsReferenceIdeal : Cert.ParamsReferenceIdeal.Facts] : Prop :=
  ∀ (m : (ℓ : Loc Cert.ParamsReferenceIdeal.nD Cert.ParamsReferenceIdeal.τ Cert.ParamsReferenceIdeal.sig) → Buf (Elt Ideal) ℓ) (g : Dev Cert.ParamsReferenceIdeal.nD → PrngReg), Pre_ParamsReferenceIdeal m →
    θ_run (Cert.ParamsReferenceIdeal.defs (F := Ideal)) (onTc (τ := Cert.ParamsReferenceIdeal.τ) (Cert.ParamsReferenceIdeal.main (F := Ideal))) ⟨m, fun _ => 0, g⟩ (fun r => (∀ c : Dev Cert.ParamsReferenceIdeal.nD,
      r.2.mem ((c.tc : Thread Cert.ParamsReferenceIdeal.nD Cert.ParamsReferenceIdeal.τ).loc Cert.ParamsReferenceIdeal.main_arg0) = m ((c.tc : Thread Cert.ParamsReferenceIdeal.nD Cert.ParamsReferenceIdeal.τ).loc Cert.ParamsReferenceIdeal.main_arg0)
      ∧ r.2.mem ((c.tc : Thread Cert.ParamsReferenceIdeal.nD Cert.ParamsReferenceIdeal.τ).loc Cert.ParamsReferenceIdeal.main_arg1) = m ((c.tc : Thread Cert.ParamsReferenceIdeal.nD Cert.ParamsReferenceIdeal.τ).loc Cert.ParamsReferenceIdeal.main_arg1)
      ∧ r.2.mem ((c.tc : Thread Cert.ParamsReferenceIdeal.nD Cert.ParamsReferenceIdeal.τ).loc Cert.ParamsReferenceIdeal.main_arg2) = m ((c.tc : Thread Cert.ParamsReferenceIdeal.nD Cert.ParamsReferenceIdeal.τ).loc Cert.ParamsReferenceIdeal.main_arg2)
      ∧ r.2.mem ((c.tc : Thread Cert.ParamsReferenceIdeal.nD Cert.ParamsReferenceIdeal.τ).loc Cert.ParamsReferenceIdeal.main_arg3) = m ((c.tc : Thread Cert.ParamsReferenceIdeal.nD Cert.ParamsReferenceIdeal.τ).loc Cert.ParamsReferenceIdeal.main_arg3)
      ∧ r.2.mem ((c.tc : Thread Cert.ParamsReferenceIdeal.nD Cert.ParamsReferenceIdeal.τ).loc Cert.ParamsReferenceIdeal.main_arg4) = m ((c.tc : Thread Cert.ParamsReferenceIdeal.nD Cert.ParamsReferenceIdeal.τ).loc Cert.ParamsReferenceIdeal.main_arg4)
      ∧ r.2.mem ((c.tc : Thread Cert.ParamsReferenceIdeal.nD Cert.ParamsReferenceIdeal.τ).loc Cert.ParamsReferenceIdeal.main_arg5) = m ((c.tc : Thread Cert.ParamsReferenceIdeal.nD Cert.ParamsReferenceIdeal.τ).loc Cert.ParamsReferenceIdeal.main_arg5)
      ∧ r.2.mem ((c.tc : Thread Cert.ParamsReferenceIdeal.nD Cert.ParamsReferenceIdeal.τ).loc Cert.ParamsReferenceIdeal.main_arg6) = m ((c.tc : Thread Cert.ParamsReferenceIdeal.nD Cert.ParamsReferenceIdeal.τ).loc Cert.ParamsReferenceIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8))
      ∧ r.2.sem = fun _ => 0)

def quiescent_MixInIdeal_pre_finite_mixin [hMixInIdeal : Cert.MixInIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mixin m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def quiescent_MixInReferenceIdeal_pre_finite_mixin [hMixInReferenceIdeal : Cert.MixInReferenceIdeal.Facts] [hPre_finite_mixin : Cert.Pre_finite_mixin.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal_finite_mixin m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def quiescent_Hold [hHold : Cert.Hold.Facts] : Prop :=
  ∀ (m : (ℓ : Loc Cert.Hold.nD Cert.Hold.τ Cert.Hold.sig) → Buf (Elt Bits) ℓ) (g : Dev Cert.Hold.nD → PrngReg), Pre_Hold m →
    θ_run (Cert.Hold.defs (F := Bits)) (onTc (τ := Cert.Hold.τ) (Cert.Hold.main (F := Bits))) ⟨m, fun _ => 0, g⟩ (fun r => (∀ c : Dev Cert.Hold.nD,
      r.2.mem ((c.tc : Thread Cert.Hold.nD Cert.Hold.τ).loc Cert.Hold.main_arg0) = m ((c.tc : Thread Cert.Hold.nD Cert.Hold.τ).loc Cert.Hold.main_arg0)
      ∧ r.2.mem ((c.tc : Thread Cert.Hold.nD Cert.Hold.τ).loc Cert.Hold.main_arg1) = m ((c.tc : Thread Cert.Hold.nD Cert.Hold.τ).loc Cert.Hold.main_arg1)
      ∧ r.2.mem ((c.tc : Thread Cert.Hold.nD Cert.Hold.τ).loc Cert.Hold.main_arg2) = m ((c.tc : Thread Cert.Hold.nD Cert.Hold.τ).loc Cert.Hold.main_arg2))
      ∧ r.2.sem = fun _ => 0)

def quiescent_HoldIdeal [hHoldIdeal : Cert.HoldIdeal.Facts] : Prop :=
  ∀ (m : (ℓ : Loc Cert.HoldIdeal.nD Cert.HoldIdeal.τ Cert.HoldIdeal.sig) → Buf (Elt Ideal) ℓ) (g : Dev Cert.HoldIdeal.nD → PrngReg), Pre_HoldIdeal m →
    θ_run (Cert.HoldIdeal.defs (F := Ideal)) (onTc (τ := Cert.HoldIdeal.τ) (Cert.HoldIdeal.main (F := Ideal))) ⟨m, fun _ => 0, g⟩ (fun r => (∀ c : Dev Cert.HoldIdeal.nD,
      r.2.mem ((c.tc : Thread Cert.HoldIdeal.nD Cert.HoldIdeal.τ).loc Cert.HoldIdeal.main_arg0) = m ((c.tc : Thread Cert.HoldIdeal.nD Cert.HoldIdeal.τ).loc Cert.HoldIdeal.main_arg0)
      ∧ r.2.mem ((c.tc : Thread Cert.HoldIdeal.nD Cert.HoldIdeal.τ).loc Cert.HoldIdeal.main_arg1) = m ((c.tc : Thread Cert.HoldIdeal.nD Cert.HoldIdeal.τ).loc Cert.HoldIdeal.main_arg1)
      ∧ r.2.mem ((c.tc : Thread Cert.HoldIdeal.nD Cert.HoldIdeal.τ).loc Cert.HoldIdeal.main_arg2) = m ((c.tc : Thread Cert.HoldIdeal.nD Cert.HoldIdeal.τ).loc Cert.HoldIdeal.main_arg2))
      ∧ r.2.sem = fun _ => 0)

def quiescent_HoldReferenceIdeal [hHoldReferenceIdeal : Cert.HoldReferenceIdeal.Facts] : Prop :=
  ∀ (m : (ℓ : Loc Cert.HoldReferenceIdeal.nD Cert.HoldReferenceIdeal.τ Cert.HoldReferenceIdeal.sig) → Buf (Elt Ideal) ℓ) (g : Dev Cert.HoldReferenceIdeal.nD → PrngReg), Pre_HoldReferenceIdeal m →
    θ_run (Cert.HoldReferenceIdeal.defs (F := Ideal)) (onTc (τ := Cert.HoldReferenceIdeal.τ) (Cert.HoldReferenceIdeal.main (F := Ideal))) ⟨m, fun _ => 0, g⟩ (fun r => (∀ c : Dev Cert.HoldReferenceIdeal.nD,
      r.2.mem ((c.tc : Thread Cert.HoldReferenceIdeal.nD Cert.HoldReferenceIdeal.τ).loc Cert.HoldReferenceIdeal.main_arg0) = m ((c.tc : Thread Cert.HoldReferenceIdeal.nD Cert.HoldReferenceIdeal.τ).loc Cert.HoldReferenceIdeal.main_arg0)
      ∧ r.2.mem ((c.tc : Thread Cert.HoldReferenceIdeal.nD Cert.HoldReferenceIdeal.τ).loc Cert.HoldReferenceIdeal.main_arg1) = m ((c.tc : Thread Cert.HoldReferenceIdeal.nD Cert.HoldReferenceIdeal.τ).loc Cert.HoldReferenceIdeal.main_arg1)
      ∧ r.2.mem ((c.tc : Thread Cert.HoldReferenceIdeal.nD Cert.HoldReferenceIdeal.τ).loc Cert.HoldReferenceIdeal.main_arg2) = m ((c.tc : Thread Cert.HoldReferenceIdeal.nD Cert.HoldReferenceIdeal.τ).loc Cert.HoldReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Spread [hSpread : Cert.Spread.Facts] : Prop :=
  ∀ (m : (ℓ : Loc Cert.Spread.nD Cert.Spread.τ Cert.Spread.sig) → Buf (Elt Bits) ℓ) (g : Dev Cert.Spread.nD → PrngReg), Pre_Spread m →
    θ_run (Cert.Spread.defs (F := Bits)) (onTc (τ := Cert.Spread.τ) (Cert.Spread.main (F := Bits))) ⟨m, fun _ => 0, g⟩ (fun r => (∀ c : Dev Cert.Spread.nD,
      r.2.mem ((c.tc : Thread Cert.Spread.nD Cert.Spread.τ).loc Cert.Spread.main_arg0) = m ((c.tc : Thread Cert.Spread.nD Cert.Spread.τ).loc Cert.Spread.main_arg0)
      ∧ r.2.mem ((c.tc : Thread Cert.Spread.nD Cert.Spread.τ).loc Cert.Spread.main_arg1) = m ((c.tc : Thread Cert.Spread.nD Cert.Spread.τ).loc Cert.Spread.main_arg1)
      ∧ r.2.mem ((c.tc : Thread Cert.Spread.nD Cert.Spread.τ).loc Cert.Spread.main_arg2) = m ((c.tc : Thread Cert.Spread.nD Cert.Spread.τ).loc Cert.Spread.main_arg2)
      ∧ r.2.mem ((c.tc : Thread Cert.Spread.nD Cert.Spread.τ).loc Cert.Spread.main_arg3) = m ((c.tc : Thread Cert.Spread.nD Cert.Spread.τ).loc Cert.Spread.main_arg3)
      ∧ r.2.mem ((c.tc : Thread Cert.Spread.nD Cert.Spread.τ).loc Cert.Spread.main_arg4) = m ((c.tc : Thread Cert.Spread.nD Cert.Spread.τ).loc Cert.Spread.main_arg4)
      ∧ r.2.mem ((c.tc : Thread Cert.Spread.nD Cert.Spread.τ).loc Cert.Spread.main_arg5) = m ((c.tc : Thread Cert.Spread.nD Cert.Spread.τ).loc Cert.Spread.main_arg5)
      ∧ r.2.mem ((c.tc : Thread Cert.Spread.nD Cert.Spread.τ).loc Cert.Spread.main_arg6) = m ((c.tc : Thread Cert.Spread.nD Cert.Spread.τ).loc Cert.Spread.main_arg6)
      ∧ r.2.mem ((c.tc : Thread Cert.Spread.nD Cert.Spread.τ).loc Cert.Spread.main_arg7) = m ((c.tc : Thread Cert.Spread.nD Cert.Spread.τ).loc Cert.Spread.main_arg7))
      ∧ r.2.sem = fun _ => 0)

def quiescent_SpreadIdeal [hSpreadIdeal : Cert.SpreadIdeal.Facts] : Prop :=
  ∀ (m : (ℓ : Loc Cert.SpreadIdeal.nD Cert.SpreadIdeal.τ Cert.SpreadIdeal.sig) → Buf (Elt Ideal) ℓ) (g : Dev Cert.SpreadIdeal.nD → PrngReg), Pre_SpreadIdeal m →
    θ_run (Cert.SpreadIdeal.defs (F := Ideal)) (onTc (τ := Cert.SpreadIdeal.τ) (Cert.SpreadIdeal.main (F := Ideal))) ⟨m, fun _ => 0, g⟩ (fun r => (∀ c : Dev Cert.SpreadIdeal.nD,
      r.2.mem ((c.tc : Thread Cert.SpreadIdeal.nD Cert.SpreadIdeal.τ).loc Cert.SpreadIdeal.main_arg0) = m ((c.tc : Thread Cert.SpreadIdeal.nD Cert.SpreadIdeal.τ).loc Cert.SpreadIdeal.main_arg0)
      ∧ r.2.mem ((c.tc : Thread Cert.SpreadIdeal.nD Cert.SpreadIdeal.τ).loc Cert.SpreadIdeal.main_arg1) = m ((c.tc : Thread Cert.SpreadIdeal.nD Cert.SpreadIdeal.τ).loc Cert.SpreadIdeal.main_arg1)
      ∧ r.2.mem ((c.tc : Thread Cert.SpreadIdeal.nD Cert.SpreadIdeal.τ).loc Cert.SpreadIdeal.main_arg2) = m ((c.tc : Thread Cert.SpreadIdeal.nD Cert.SpreadIdeal.τ).loc Cert.SpreadIdeal.main_arg2)
      ∧ r.2.mem ((c.tc : Thread Cert.SpreadIdeal.nD Cert.SpreadIdeal.τ).loc Cert.SpreadIdeal.main_arg3) = m ((c.tc : Thread Cert.SpreadIdeal.nD Cert.SpreadIdeal.τ).loc Cert.SpreadIdeal.main_arg3)
      ∧ r.2.mem ((c.tc : Thread Cert.SpreadIdeal.nD Cert.SpreadIdeal.τ).loc Cert.SpreadIdeal.main_arg4) = m ((c.tc : Thread Cert.SpreadIdeal.nD Cert.SpreadIdeal.τ).loc Cert.SpreadIdeal.main_arg4)
      ∧ r.2.mem ((c.tc : Thread Cert.SpreadIdeal.nD Cert.SpreadIdeal.τ).loc Cert.SpreadIdeal.main_arg5) = m ((c.tc : Thread Cert.SpreadIdeal.nD Cert.SpreadIdeal.τ).loc Cert.SpreadIdeal.main_arg5)
      ∧ r.2.mem ((c.tc : Thread Cert.SpreadIdeal.nD Cert.SpreadIdeal.τ).loc Cert.SpreadIdeal.main_arg6) = m ((c.tc : Thread Cert.SpreadIdeal.nD Cert.SpreadIdeal.τ).loc Cert.SpreadIdeal.main_arg6)
      ∧ r.2.mem ((c.tc : Thread Cert.SpreadIdeal.nD Cert.SpreadIdeal.τ).loc Cert.SpreadIdeal.main_arg7) = m ((c.tc : Thread Cert.SpreadIdeal.nD Cert.SpreadIdeal.τ).loc Cert.SpreadIdeal.main_arg7))
      ∧ r.2.sem = fun _ => 0)

def quiescent_SpreadReferenceIdeal [hSpreadReferenceIdeal : Cert.SpreadReferenceIdeal.Facts] : Prop :=
  ∀ (m : (ℓ : Loc Cert.SpreadReferenceIdeal.nD Cert.SpreadReferenceIdeal.τ Cert.SpreadReferenceIdeal.sig) → Buf (Elt Ideal) ℓ) (g : Dev Cert.SpreadReferenceIdeal.nD → PrngReg), Pre_SpreadReferenceIdeal m →
    θ_run (Cert.SpreadReferenceIdeal.defs (F := Ideal)) (onTc (τ := Cert.SpreadReferenceIdeal.τ) (Cert.SpreadReferenceIdeal.main (F := Ideal))) ⟨m, fun _ => 0, g⟩ (fun r => (∀ c : Dev Cert.SpreadReferenceIdeal.nD,
      r.2.mem ((c.tc : Thread Cert.SpreadReferenceIdeal.nD Cert.SpreadReferenceIdeal.τ).loc Cert.SpreadReferenceIdeal.main_arg0) = m ((c.tc : Thread Cert.SpreadReferenceIdeal.nD Cert.SpreadReferenceIdeal.τ).loc Cert.SpreadReferenceIdeal.main_arg0)
      ∧ r.2.mem ((c.tc : Thread Cert.SpreadReferenceIdeal.nD Cert.SpreadReferenceIdeal.τ).loc Cert.SpreadReferenceIdeal.main_arg1) = m ((c.tc : Thread Cert.SpreadReferenceIdeal.nD Cert.SpreadReferenceIdeal.τ).loc Cert.SpreadReferenceIdeal.main_arg1)
      ∧ r.2.mem ((c.tc : Thread Cert.SpreadReferenceIdeal.nD Cert.SpreadReferenceIdeal.τ).loc Cert.SpreadReferenceIdeal.main_arg2) = m ((c.tc : Thread Cert.SpreadReferenceIdeal.nD Cert.SpreadReferenceIdeal.τ).loc Cert.SpreadReferenceIdeal.main_arg2)
      ∧ r.2.mem ((c.tc : Thread Cert.SpreadReferenceIdeal.nD Cert.SpreadReferenceIdeal.τ).loc Cert.SpreadReferenceIdeal.main_arg3) = m ((c.tc : Thread Cert.SpreadReferenceIdeal.nD Cert.SpreadReferenceIdeal.τ).loc Cert.SpreadReferenceIdeal.main_arg3)
      ∧ r.2.mem ((c.tc : Thread Cert.SpreadReferenceIdeal.nD Cert.SpreadReferenceIdeal.τ).loc Cert.SpreadReferenceIdeal.main_arg4) = m ((c.tc : Thread Cert.SpreadReferenceIdeal.nD Cert.SpreadReferenceIdeal.τ).loc Cert.SpreadReferenceIdeal.main_arg4)
      ∧ r.2.mem ((c.tc : Thread Cert.SpreadReferenceIdeal.nD Cert.SpreadReferenceIdeal.τ).loc Cert.SpreadReferenceIdeal.main_arg5) = m ((c.tc : Thread Cert.SpreadReferenceIdeal.nD Cert.SpreadReferenceIdeal.τ).loc Cert.SpreadReferenceIdeal.main_arg5)
      ∧ r.2.mem ((c.tc : Thread Cert.SpreadReferenceIdeal.nD Cert.SpreadReferenceIdeal.τ).loc Cert.SpreadReferenceIdeal.main_arg6) = m ((c.tc : Thread Cert.SpreadReferenceIdeal.nD Cert.SpreadReferenceIdeal.τ).loc Cert.SpreadReferenceIdeal.main_arg6)
      ∧ r.2.mem ((c.tc : Thread Cert.SpreadReferenceIdeal.nD Cert.SpreadReferenceIdeal.τ).loc Cert.SpreadReferenceIdeal.main_arg7) = m ((c.tc : Thread Cert.SpreadReferenceIdeal.nD Cert.SpreadReferenceIdeal.τ).loc Cert.SpreadReferenceIdeal.main_arg7))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_First_FirstIdeal : Prop :=
  True

def algebraic_FirstIdeal_ReferenceIdeal_pre_finite_first [hFirstIdeal : Cert.FirstIdeal.Facts] [hReferenceIdeal : Cert.ReferenceIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_FirstIdeal_finite_first m →
    (∀ c : Dev Cert.FirstIdeal.nD,
      m' ((c.tc : Thread Cert.ReferenceIdeal.nD Cert.ReferenceIdeal.τ).loc Cert.ReferenceIdeal.main_arg0) = m ((c.tc : Thread Cert.FirstIdeal.nD Cert.FirstIdeal.τ).loc Cert.FirstIdeal.main_arg0)
      ∧ m' ((c.tc : Thread Cert.ReferenceIdeal.nD Cert.ReferenceIdeal.τ).loc Cert.ReferenceIdeal.main_arg1) = m ((c.tc : Thread Cert.FirstIdeal.nD Cert.FirstIdeal.τ).loc Cert.FirstIdeal.main_arg1)
      ∧ m' ((c.tc : Thread Cert.ReferenceIdeal.nD Cert.ReferenceIdeal.τ).loc Cert.ReferenceIdeal.main_arg2) = m ((c.tc : Thread Cert.FirstIdeal.nD Cert.FirstIdeal.τ).loc Cert.FirstIdeal.main_arg2)
      ∧ m' ((c.tc : Thread Cert.ReferenceIdeal.nD Cert.ReferenceIdeal.τ).loc Cert.ReferenceIdeal.main_arg3) = m ((c.tc : Thread Cert.FirstIdeal.nD Cert.FirstIdeal.τ).loc Cert.FirstIdeal.main_arg3)
      ∧ m' ((c.tc : Thread Cert.ReferenceIdeal.nD Cert.ReferenceIdeal.τ).loc Cert.ReferenceIdeal.main_arg4) = m ((c.tc : Thread Cert.FirstIdeal.nD Cert.FirstIdeal.τ).loc Cert.FirstIdeal.main_arg4)
      ∧ m' ((c.tc : Thread Cert.ReferenceIdeal.nD Cert.ReferenceIdeal.τ).loc Cert.ReferenceIdeal.main_arg5) = m ((c.tc : Thread Cert.FirstIdeal.nD Cert.FirstIdeal.τ).loc Cert.FirstIdeal.main_arg5)
      ∧ m' ((c.tc : Thread Cert.ReferenceIdeal.nD Cert.ReferenceIdeal.τ).loc Cert.ReferenceIdeal.main_arg6) = m ((c.tc : Thread Cert.FirstIdeal.nD Cert.FirstIdeal.τ).loc Cert.FirstIdeal.main_arg6)
      ∧ m' ((c.tc : Thread Cert.ReferenceIdeal.nD Cert.ReferenceIdeal.τ).loc Cert.ReferenceIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v8_0)) (v1 : (c : Dev Cert.FirstIdeal.nD) → Buf (Elt Ideal) ((c.tc : Thread Cert.FirstIdeal.nD Cert.FirstIdeal.τ).loc Cert.FirstIdeal.main_v8_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v8_0) = v0 c
          ∧ r.2.mem ((c.tc : Thread Cert.FirstIdeal.nD Cert.FirstIdeal.τ).loc Cert.FirstIdeal.main_v8_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v34_0)) (v1 : (c : Dev Cert.DenseIdeal.nD) → Buf (Elt Ideal) ((c.tc : Thread Cert.DenseIdeal.nD Cert.DenseIdeal.τ).loc Cert.DenseIdeal.main_v34_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v34_0) = v0 c
          ∧ r.2.mem ((c.tc : Thread Cert.DenseIdeal.nD Cert.DenseIdeal.τ).loc Cert.DenseIdeal.main_v34_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v96) = v0 c
          ∧ r.2.mem ((c.tc : Thread Cert.DenseReferenceIdeal.nD Cert.DenseReferenceIdeal.τ).loc Cert.DenseReferenceIdeal.main_v93) = v1 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v13_0)) (v1 : (c : Dev Cert.FfnIdeal.nD) → Buf (Elt Ideal) ((c.tc : Thread Cert.FfnIdeal.nD Cert.FfnIdeal.τ).loc Cert.FfnIdeal.main_v13_1)) (v2 : (c : Dev Cert.FfnIdeal.nD) → Buf (Elt Ideal) ((c.tc : Thread Cert.FfnIdeal.nD Cert.FfnIdeal.τ).loc Cert.FfnIdeal.main_v13_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13_0) = v0 c
          ∧ r.2.mem ((c.tc : Thread Cert.FfnIdeal.nD Cert.FfnIdeal.τ).loc Cert.FfnIdeal.main_v13_1) = v1 c
          ∧ r.2.mem ((c.tc : Thread Cert.FfnIdeal.nD Cert.FfnIdeal.τ).loc Cert.FfnIdeal.main_v13_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_v34) = v1 c
          ∧ r.2.mem ((c.tc : Thread Cert.FfnReferenceIdeal.nD Cert.FfnReferenceIdeal.τ).loc Cert.FfnReferenceIdeal.main_v36) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Dwin_DwinIdeal : Prop :=
  True

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)
      ∧ m' ((c.tc : Thread Cert.DwinReferenceIdeal.nD Cert.DwinReferenceIdeal.τ).loc Cert.DwinReferenceIdeal.main_arg2) = m ((c.tc : Thread Cert.DwinIdeal.nD Cert.DwinIdeal.τ).loc Cert.DwinIdeal.main_arg2)
      ∧ m' ((c.tc : Thread Cert.DwinReferenceIdeal.nD Cert.DwinReferenceIdeal.τ).loc Cert.DwinReferenceIdeal.main_arg3) = m ((c.tc : Thread Cert.DwinIdeal.nD Cert.DwinIdeal.τ).loc Cert.DwinIdeal.main_arg3)
      ∧ m' ((c.tc : Thread Cert.DwinReferenceIdeal.nD Cert.DwinReferenceIdeal.τ).loc Cert.DwinReferenceIdeal.main_arg4) = m ((c.tc : Thread Cert.DwinIdeal.nD Cert.DwinIdeal.τ).loc Cert.DwinIdeal.main_arg4)) →
    ∃ (v0 : (c : Dev Cert.DwinIdeal.nD) → Buf (Elt Ideal) ((c.tc : Thread Cert.DwinIdeal.nD Cert.DwinIdeal.τ).loc Cert.DwinIdeal.main_v7)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v7) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v27) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1)
          ∧ r.2.mem ((c.tc : Thread Cert.DwinReferenceIdeal.nD Cert.DwinReferenceIdeal.τ).loc Cert.DwinReferenceIdeal.main_arg2) = m' ((c.tc : Thread Cert.DwinReferenceIdeal.nD Cert.DwinReferenceIdeal.τ).loc Cert.DwinReferenceIdeal.main_arg2)
          ∧ r.2.mem ((c.tc : Thread Cert.DwinReferenceIdeal.nD Cert.DwinReferenceIdeal.τ).loc Cert.DwinReferenceIdeal.main_arg3) = m' ((c.tc : Thread Cert.DwinReferenceIdeal.nD Cert.DwinReferenceIdeal.τ).loc Cert.DwinReferenceIdeal.main_arg3)
          ∧ r.2.mem ((c.tc : Thread Cert.DwinReferenceIdeal.nD Cert.DwinReferenceIdeal.τ).loc Cert.DwinReferenceIdeal.main_arg4) = m' ((c.tc : Thread Cert.DwinReferenceIdeal.nD Cert.DwinReferenceIdeal.τ).loc Cert.DwinReferenceIdeal.main_arg4))

def preserves_Loss_LossIdeal : Prop :=
  True

def algebraic_LossIdeal_LossReferenceIdeal_pre_finite_loss [hLossIdeal : Cert.LossIdeal.Facts] [hLossReferenceIdeal : Cert.LossReferenceIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_finite_loss m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)
      ∧ m' ((c.tc : Thread Cert.LossReferenceIdeal.nD Cert.LossReferenceIdeal.τ).loc Cert.LossReferenceIdeal.main_arg6) = m ((c.tc : Thread Cert.LossIdeal.nD Cert.LossIdeal.τ).loc Cert.LossIdeal.main_arg6)
      ∧ m' ((c.tc : Thread Cert.LossReferenceIdeal.nD Cert.LossReferenceIdeal.τ).loc Cert.LossReferenceIdeal.main_arg7) = m ((c.tc : Thread Cert.LossIdeal.nD Cert.LossIdeal.τ).loc Cert.LossIdeal.main_arg7)
      ∧ m' ((c.tc : Thread Cert.LossReferenceIdeal.nD Cert.LossReferenceIdeal.τ).loc Cert.LossReferenceIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v14_0)) (v1 : (c : Dev Cert.LossIdeal.nD) → Buf (Elt Ideal) ((c.tc : Thread Cert.LossIdeal.nD Cert.LossIdeal.τ).loc Cert.LossIdeal.main_v14_1)) (v2 : (c : Dev Cert.LossIdeal.nD) → Buf (Elt Ideal) ((c.tc : Thread Cert.LossIdeal.nD Cert.LossIdeal.τ).loc Cert.LossIdeal.main_v14_2)) (v3 : (c : Dev Cert.LossIdeal.nD) → Buf (Elt Ideal) ((c.tc : Thread Cert.LossIdeal.nD Cert.LossIdeal.τ).loc Cert.LossIdeal.main_v14_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v14_0) = v0 c
          ∧ r.2.mem ((c.tc : Thread Cert.LossIdeal.nD Cert.LossIdeal.τ).loc Cert.LossIdeal.main_v14_1) = v1 c
          ∧ r.2.mem ((c.tc : Thread Cert.LossIdeal.nD Cert.LossIdeal.τ).loc Cert.LossIdeal.main_v14_2) = v2 c
          ∧ r.2.mem ((c.tc : Thread Cert.LossIdeal.nD Cert.LossIdeal.τ).loc Cert.LossIdeal.main_v14_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v83) = v0 c
          ∧ r.2.mem ((c.tc : Thread Cert.LossReferenceIdeal.nD Cert.LossReferenceIdeal.τ).loc Cert.LossReferenceIdeal.main_v87) = v1 c
          ∧ r.2.mem ((c.tc : Thread Cert.LossReferenceIdeal.nD Cert.LossReferenceIdeal.τ).loc Cert.LossReferenceIdeal.main_v88) = v2 c
          ∧ r.2.mem ((c.tc : Thread Cert.LossReferenceIdeal.nD Cert.LossReferenceIdeal.τ).loc Cert.LossReferenceIdeal.main_v91) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6)
          ∧ r.2.mem ((c.tc : Thread Cert.LossReferenceIdeal.nD Cert.LossReferenceIdeal.τ).loc Cert.LossReferenceIdeal.main_arg7) = m' ((c.tc : Thread Cert.LossReferenceIdeal.nD Cert.LossReferenceIdeal.τ).loc Cert.LossReferenceIdeal.main_arg7)
          ∧ r.2.mem ((c.tc : Thread Cert.LossReferenceIdeal.nD Cert.LossReferenceIdeal.τ).loc Cert.LossReferenceIdeal.main_arg8) = m' ((c.tc : Thread Cert.LossReferenceIdeal.nD Cert.LossReferenceIdeal.τ).loc Cert.LossReferenceIdeal.main_arg8))

def preserves_Params_ParamsIdeal : Prop :=
  True

def algebraic_ParamsIdeal_ParamsReferenceIdeal [hParamsIdeal : Cert.ParamsIdeal.Facts] [hParamsReferenceIdeal : Cert.ParamsReferenceIdeal.Facts] : Prop :=
  ∀ (m : (ℓ : Loc Cert.ParamsIdeal.nD Cert.ParamsIdeal.τ Cert.ParamsIdeal.sig) → Buf (Elt Ideal) ℓ) (g : Dev Cert.ParamsIdeal.nD → PrngReg)
    (m' : (ℓ : Loc Cert.ParamsReferenceIdeal.nD Cert.ParamsReferenceIdeal.τ Cert.ParamsReferenceIdeal.sig) → Buf (Elt Ideal) ℓ) (g' : Dev Cert.ParamsReferenceIdeal.nD → PrngReg), Pre_ParamsIdeal m →
    (∀ c : Dev Cert.ParamsIdeal.nD,
      m' ((c.tc : Thread Cert.ParamsReferenceIdeal.nD Cert.ParamsReferenceIdeal.τ).loc Cert.ParamsReferenceIdeal.main_arg0) = m ((c.tc : Thread Cert.ParamsIdeal.nD Cert.ParamsIdeal.τ).loc Cert.ParamsIdeal.main_arg0)
      ∧ m' ((c.tc : Thread Cert.ParamsReferenceIdeal.nD Cert.ParamsReferenceIdeal.τ).loc Cert.ParamsReferenceIdeal.main_arg1) = m ((c.tc : Thread Cert.ParamsIdeal.nD Cert.ParamsIdeal.τ).loc Cert.ParamsIdeal.main_arg1)
      ∧ m' ((c.tc : Thread Cert.ParamsReferenceIdeal.nD Cert.ParamsReferenceIdeal.τ).loc Cert.ParamsReferenceIdeal.main_arg2) = m ((c.tc : Thread Cert.ParamsIdeal.nD Cert.ParamsIdeal.τ).loc Cert.ParamsIdeal.main_arg2)
      ∧ m' ((c.tc : Thread Cert.ParamsReferenceIdeal.nD Cert.ParamsReferenceIdeal.τ).loc Cert.ParamsReferenceIdeal.main_arg3) = m ((c.tc : Thread Cert.ParamsIdeal.nD Cert.ParamsIdeal.τ).loc Cert.ParamsIdeal.main_arg3)
      ∧ m' ((c.tc : Thread Cert.ParamsReferenceIdeal.nD Cert.ParamsReferenceIdeal.τ).loc Cert.ParamsReferenceIdeal.main_arg4) = m ((c.tc : Thread Cert.ParamsIdeal.nD Cert.ParamsIdeal.τ).loc Cert.ParamsIdeal.main_arg4)
      ∧ m' ((c.tc : Thread Cert.ParamsReferenceIdeal.nD Cert.ParamsReferenceIdeal.τ).loc Cert.ParamsReferenceIdeal.main_arg5) = m ((c.tc : Thread Cert.ParamsIdeal.nD Cert.ParamsIdeal.τ).loc Cert.ParamsIdeal.main_arg5)
      ∧ m' ((c.tc : Thread Cert.ParamsReferenceIdeal.nD Cert.ParamsReferenceIdeal.τ).loc Cert.ParamsReferenceIdeal.main_arg6) = m ((c.tc : Thread Cert.ParamsIdeal.nD Cert.ParamsIdeal.τ).loc Cert.ParamsIdeal.main_arg6)) →
    ∃ (v0 : (c : Dev Cert.ParamsIdeal.nD) → Buf (Elt Ideal) ((c.tc : Thread Cert.ParamsIdeal.nD Cert.ParamsIdeal.τ).loc Cert.ParamsIdeal.main_v1_0)) (v1 : (c : Dev Cert.ParamsIdeal.nD) → Buf (Elt Ideal) ((c.tc : Thread Cert.ParamsIdeal.nD Cert.ParamsIdeal.τ).loc Cert.ParamsIdeal.main_v1_1)) (v2 : (c : Dev Cert.ParamsIdeal.nD) → Buf (Elt Ideal) ((c.tc : Thread Cert.ParamsIdeal.nD Cert.ParamsIdeal.τ).loc Cert.ParamsIdeal.main_v1_2)),
      θ_run (Cert.ParamsIdeal.defs (F := Ideal)) (onTc (τ := Cert.ParamsIdeal.τ) (Cert.ParamsIdeal.main (F := Ideal))) ⟨m, fun _ => 0, g⟩ (fun r => ∀ c : Dev Cert.ParamsIdeal.nD,
          r.2.mem ((c.tc : Thread Cert.ParamsIdeal.nD Cert.ParamsIdeal.τ).loc Cert.ParamsIdeal.main_v1_0) = v0 c
          ∧ r.2.mem ((c.tc : Thread Cert.ParamsIdeal.nD Cert.ParamsIdeal.τ).loc Cert.ParamsIdeal.main_v1_1) = v1 c
          ∧ r.2.mem ((c.tc : Thread Cert.ParamsIdeal.nD Cert.ParamsIdeal.τ).loc Cert.ParamsIdeal.main_v1_2) = v2 c
          ∧ r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
          ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
          ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
          ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
          ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
          ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
          ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6))
      ∧ θ_run (Cert.ParamsReferenceIdeal.defs (F := Ideal)) (onTc (τ := Cert.ParamsReferenceIdeal.τ) (Cert.ParamsReferenceIdeal.main (F := Ideal))) ⟨m', fun _ => 0, g'⟩ (fun r => ∀ c : Dev Cert.ParamsReferenceIdeal.nD,
          r.2.mem ((c.tc : Thread Cert.ParamsReferenceIdeal.nD Cert.ParamsReferenceIdeal.τ).loc Cert.ParamsReferenceIdeal.main_v92) = v0 c
          ∧ r.2.mem ((c.tc : Thread Cert.ParamsReferenceIdeal.nD Cert.ParamsReferenceIdeal.τ).loc Cert.ParamsReferenceIdeal.main_v80) = v1 c
          ∧ r.2.mem ((c.tc : Thread Cert.ParamsReferenceIdeal.nD Cert.ParamsReferenceIdeal.τ).loc Cert.ParamsReferenceIdeal.main_v93) = v2 c
          ∧ r.2.mem ((c.tc : Thread Cert.ParamsReferenceIdeal.nD Cert.ParamsReferenceIdeal.τ).loc Cert.ParamsReferenceIdeal.main_arg0) = m' ((c.tc : Thread Cert.ParamsReferenceIdeal.nD Cert.ParamsReferenceIdeal.τ).loc Cert.ParamsReferenceIdeal.main_arg0)
          ∧ r.2.mem ((c.tc : Thread Cert.ParamsReferenceIdeal.nD Cert.ParamsReferenceIdeal.τ).loc Cert.ParamsReferenceIdeal.main_arg1) = m' ((c.tc : Thread Cert.ParamsReferenceIdeal.nD Cert.ParamsReferenceIdeal.τ).loc Cert.ParamsReferenceIdeal.main_arg1)
          ∧ r.2.mem ((c.tc : Thread Cert.ParamsReferenceIdeal.nD Cert.ParamsReferenceIdeal.τ).loc Cert.ParamsReferenceIdeal.main_arg2) = m' ((c.tc : Thread Cert.ParamsReferenceIdeal.nD Cert.ParamsReferenceIdeal.τ).loc Cert.ParamsReferenceIdeal.main_arg2)
          ∧ r.2.mem ((c.tc : Thread Cert.ParamsReferenceIdeal.nD Cert.ParamsReferenceIdeal.τ).loc Cert.ParamsReferenceIdeal.main_arg3) = m' ((c.tc : Thread Cert.ParamsReferenceIdeal.nD Cert.ParamsReferenceIdeal.τ).loc Cert.ParamsReferenceIdeal.main_arg3)
          ∧ r.2.mem ((c.tc : Thread Cert.ParamsReferenceIdeal.nD Cert.ParamsReferenceIdeal.τ).loc Cert.ParamsReferenceIdeal.main_arg4) = m' ((c.tc : Thread Cert.ParamsReferenceIdeal.nD Cert.ParamsReferenceIdeal.τ).loc Cert.ParamsReferenceIdeal.main_arg4)
          ∧ r.2.mem ((c.tc : Thread Cert.ParamsReferenceIdeal.nD Cert.ParamsReferenceIdeal.τ).loc Cert.ParamsReferenceIdeal.main_arg5) = m' ((c.tc : Thread Cert.ParamsReferenceIdeal.nD Cert.ParamsReferenceIdeal.τ).loc Cert.ParamsReferenceIdeal.main_arg5)
          ∧ r.2.mem ((c.tc : Thread Cert.ParamsReferenceIdeal.nD Cert.ParamsReferenceIdeal.τ).loc Cert.ParamsReferenceIdeal.main_arg6) = m' ((c.tc : Thread Cert.ParamsReferenceIdeal.nD Cert.ParamsReferenceIdeal.τ).loc Cert.ParamsReferenceIdeal.main_arg6))

def preserves_MixIn_MixInIdeal : Prop :=
  True

def algebraic_MixInIdeal_MixInReferenceIdeal_pre_finite_mixin [hMixInIdeal : Cert.MixInIdeal.Facts] [hMixInReferenceIdeal : Cert.MixInReferenceIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal_finite_mixin m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)
      ∧ m' ((c.tc : Thread Cert.MixInReferenceIdeal.nD Cert.MixInReferenceIdeal.τ).loc Cert.MixInReferenceIdeal.main_arg6) = m ((c.tc : Thread Cert.MixInIdeal.nD Cert.MixInIdeal.τ).loc Cert.MixInIdeal.main_arg6)
      ∧ m' ((c.tc : Thread Cert.MixInReferenceIdeal.nD Cert.MixInReferenceIdeal.τ).loc Cert.MixInReferenceIdeal.main_arg7) = m ((c.tc : Thread Cert.MixInIdeal.nD Cert.MixInIdeal.τ).loc Cert.MixInIdeal.main_arg7)
      ∧ m' ((c.tc : Thread Cert.MixInReferenceIdeal.nD Cert.MixInReferenceIdeal.τ).loc Cert.MixInReferenceIdeal.main_arg8) = m ((c.tc : Thread Cert.MixInIdeal.nD Cert.MixInIdeal.τ).loc Cert.MixInIdeal.main_arg8)) →
    ∃ (v0 : (c : Dev Cert.MixInIdeal.nD) → Buf (Elt Ideal) ((c.tc : Thread Cert.MixInIdeal.nD Cert.MixInIdeal.τ).loc Cert.MixInIdeal.main_v12_0)) (v1 : (c : Dev Cert.MixInIdeal.nD) → Buf (Elt Ideal) ((c.tc : Thread Cert.MixInIdeal.nD Cert.MixInIdeal.τ).loc Cert.MixInIdeal.main_v12_1)) (v2 : (c : Dev Cert.MixInIdeal.nD) → Buf (Elt Ideal) ((c.tc : Thread Cert.MixInIdeal.nD Cert.MixInIdeal.τ).loc Cert.MixInIdeal.main_v12_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v12_0) = v0 c
          ∧ r.2.mem ((c.tc : Thread Cert.MixInIdeal.nD Cert.MixInIdeal.τ).loc Cert.MixInIdeal.main_v12_1) = v1 c
          ∧ r.2.mem ((c.tc : Thread Cert.MixInIdeal.nD Cert.MixInIdeal.τ).loc Cert.MixInIdeal.main_v12_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v69) = v0 c
          ∧ r.2.mem ((c.tc : Thread Cert.MixInReferenceIdeal.nD Cert.MixInReferenceIdeal.τ).loc Cert.MixInReferenceIdeal.main_v76) = v1 c
          ∧ r.2.mem ((c.tc : Thread Cert.MixInReferenceIdeal.nD Cert.MixInReferenceIdeal.τ).loc Cert.MixInReferenceIdeal.main_v79) = v2 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8))

def preserves_Hold_HoldIdeal : Prop :=
  True

def algebraic_HoldIdeal_HoldReferenceIdeal [hHoldIdeal : Cert.HoldIdeal.Facts] [hHoldReferenceIdeal : Cert.HoldReferenceIdeal.Facts] : Prop :=
  ∀ (m : (ℓ : Loc Cert.HoldIdeal.nD Cert.HoldIdeal.τ Cert.HoldIdeal.sig) → Buf (Elt Ideal) ℓ) (g : Dev Cert.HoldIdeal.nD → PrngReg)
    (m' : (ℓ : Loc Cert.HoldReferenceIdeal.nD Cert.HoldReferenceIdeal.τ Cert.HoldReferenceIdeal.sig) → Buf (Elt Ideal) ℓ) (g' : Dev Cert.HoldReferenceIdeal.nD → PrngReg), Pre_HoldIdeal m →
    (∀ c : Dev Cert.HoldIdeal.nD,
      m' ((c.tc : Thread Cert.HoldReferenceIdeal.nD Cert.HoldReferenceIdeal.τ).loc Cert.HoldReferenceIdeal.main_arg0) = m ((c.tc : Thread Cert.HoldIdeal.nD Cert.HoldIdeal.τ).loc Cert.HoldIdeal.main_arg0)
      ∧ m' ((c.tc : Thread Cert.HoldReferenceIdeal.nD Cert.HoldReferenceIdeal.τ).loc Cert.HoldReferenceIdeal.main_arg1) = m ((c.tc : Thread Cert.HoldIdeal.nD Cert.HoldIdeal.τ).loc Cert.HoldIdeal.main_arg1)
      ∧ m' ((c.tc : Thread Cert.HoldReferenceIdeal.nD Cert.HoldReferenceIdeal.τ).loc Cert.HoldReferenceIdeal.main_arg2) = m ((c.tc : Thread Cert.HoldIdeal.nD Cert.HoldIdeal.τ).loc Cert.HoldIdeal.main_arg2)) →
    ∃ (v0 : (c : Dev Cert.HoldIdeal.nD) → Buf (Elt Ideal) ((c.tc : Thread Cert.HoldIdeal.nD Cert.HoldIdeal.τ).loc Cert.HoldIdeal.main_v1_0)) (v1 : (c : Dev Cert.HoldIdeal.nD) → Buf (Elt Ideal) ((c.tc : Thread Cert.HoldIdeal.nD Cert.HoldIdeal.τ).loc Cert.HoldIdeal.main_v1_1)) (v2 : (c : Dev Cert.HoldIdeal.nD) → Buf (Elt Ideal) ((c.tc : Thread Cert.HoldIdeal.nD Cert.HoldIdeal.τ).loc Cert.HoldIdeal.main_v1_2)) (v3 : (c : Dev Cert.HoldIdeal.nD) → Buf (Elt Ideal) ((c.tc : Thread Cert.HoldIdeal.nD Cert.HoldIdeal.τ).loc Cert.HoldIdeal.main_v1_3)),
      θ_run (Cert.HoldIdeal.defs (F := Ideal)) (onTc (τ := Cert.HoldIdeal.τ) (Cert.HoldIdeal.main (F := Ideal))) ⟨m, fun _ => 0, g⟩ (fun r => ∀ c : Dev Cert.HoldIdeal.nD,
          r.2.mem ((c.tc : Thread Cert.HoldIdeal.nD Cert.HoldIdeal.τ).loc Cert.HoldIdeal.main_v1_0) = v0 c
          ∧ r.2.mem ((c.tc : Thread Cert.HoldIdeal.nD Cert.HoldIdeal.τ).loc Cert.HoldIdeal.main_v1_1) = v1 c
          ∧ r.2.mem ((c.tc : Thread Cert.HoldIdeal.nD Cert.HoldIdeal.τ).loc Cert.HoldIdeal.main_v1_2) = v2 c
          ∧ r.2.mem ((c.tc : Thread Cert.HoldIdeal.nD Cert.HoldIdeal.τ).loc Cert.HoldIdeal.main_v1_3) = v3 c
          ∧ r.2.mem ((c.tc : Thread Cert.HoldIdeal.nD Cert.HoldIdeal.τ).loc Cert.HoldIdeal.main_arg0) = m ((c.tc : Thread Cert.HoldIdeal.nD Cert.HoldIdeal.τ).loc Cert.HoldIdeal.main_arg0)
          ∧ r.2.mem ((c.tc : Thread Cert.HoldIdeal.nD Cert.HoldIdeal.τ).loc Cert.HoldIdeal.main_arg1) = m ((c.tc : Thread Cert.HoldIdeal.nD Cert.HoldIdeal.τ).loc Cert.HoldIdeal.main_arg1)
          ∧ r.2.mem ((c.tc : Thread Cert.HoldIdeal.nD Cert.HoldIdeal.τ).loc Cert.HoldIdeal.main_arg2) = m ((c.tc : Thread Cert.HoldIdeal.nD Cert.HoldIdeal.τ).loc Cert.HoldIdeal.main_arg2))
      ∧ θ_run (Cert.HoldReferenceIdeal.defs (F := Ideal)) (onTc (τ := Cert.HoldReferenceIdeal.τ) (Cert.HoldReferenceIdeal.main (F := Ideal))) ⟨m', fun _ => 0, g'⟩ (fun r => ∀ c : Dev Cert.HoldReferenceIdeal.nD,
          r.2.mem ((c.tc : Thread Cert.HoldReferenceIdeal.nD Cert.HoldReferenceIdeal.τ).loc Cert.HoldReferenceIdeal.main_v10) = v0 c
          ∧ r.2.mem ((c.tc : Thread Cert.HoldReferenceIdeal.nD Cert.HoldReferenceIdeal.τ).loc Cert.HoldReferenceIdeal.main_v12) = v1 c
          ∧ r.2.mem ((c.tc : Thread Cert.HoldReferenceIdeal.nD Cert.HoldReferenceIdeal.τ).loc Cert.HoldReferenceIdeal.main_v21) = v2 c
          ∧ r.2.mem ((c.tc : Thread Cert.HoldReferenceIdeal.nD Cert.HoldReferenceIdeal.τ).loc Cert.HoldReferenceIdeal.main_v25) = v3 c
          ∧ r.2.mem ((c.tc : Thread Cert.HoldReferenceIdeal.nD Cert.HoldReferenceIdeal.τ).loc Cert.HoldReferenceIdeal.main_arg0) = m' ((c.tc : Thread Cert.HoldReferenceIdeal.nD Cert.HoldReferenceIdeal.τ).loc Cert.HoldReferenceIdeal.main_arg0)
          ∧ r.2.mem ((c.tc : Thread Cert.HoldReferenceIdeal.nD Cert.HoldReferenceIdeal.τ).loc Cert.HoldReferenceIdeal.main_arg1) = m' ((c.tc : Thread Cert.HoldReferenceIdeal.nD Cert.HoldReferenceIdeal.τ).loc Cert.HoldReferenceIdeal.main_arg1)
          ∧ r.2.mem ((c.tc : Thread Cert.HoldReferenceIdeal.nD Cert.HoldReferenceIdeal.τ).loc Cert.HoldReferenceIdeal.main_arg2) = m' ((c.tc : Thread Cert.HoldReferenceIdeal.nD Cert.HoldReferenceIdeal.τ).loc Cert.HoldReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v9_0)) (v1 : (c : Dev Cert.GateIdeal.nD) → Buf (Elt Ideal) ((c.tc : Thread Cert.GateIdeal.nD Cert.GateIdeal.τ).loc Cert.GateIdeal.main_v9_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9_0) = v0 c
          ∧ r.2.mem ((c.tc : Thread Cert.GateIdeal.nD Cert.GateIdeal.τ).loc Cert.GateIdeal.main_v9_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v28) = v0 c
          ∧ r.2.mem ((c.tc : Thread Cert.GateReferenceIdeal.nD Cert.GateReferenceIdeal.τ).loc Cert.GateReferenceIdeal.main_v31) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v9_0)) (v1 : (c : Dev Cert.OutIdeal.nD) → Buf (Elt Ideal) ((c.tc : Thread Cert.OutIdeal.nD Cert.OutIdeal.τ).loc Cert.OutIdeal.main_v9_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9_0) = v0 c
          ∧ r.2.mem ((c.tc : Thread Cert.OutIdeal.nD Cert.OutIdeal.τ).loc Cert.OutIdeal.main_v9_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_v7) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Spread_SpreadIdeal : Prop :=
  True

def algebraic_SpreadIdeal_SpreadReferenceIdeal [hSpreadIdeal : Cert.SpreadIdeal.Facts] [hSpreadReferenceIdeal : Cert.SpreadReferenceIdeal.Facts] : Prop :=
  ∀ (m : (ℓ : Loc Cert.SpreadIdeal.nD Cert.SpreadIdeal.τ Cert.SpreadIdeal.sig) → Buf (Elt Ideal) ℓ) (g : Dev Cert.SpreadIdeal.nD → PrngReg)
    (m' : (ℓ : Loc Cert.SpreadReferenceIdeal.nD Cert.SpreadReferenceIdeal.τ Cert.SpreadReferenceIdeal.sig) → Buf (Elt Ideal) ℓ) (g' : Dev Cert.SpreadReferenceIdeal.nD → PrngReg), Pre_SpreadIdeal m →
    (∀ c : Dev Cert.SpreadIdeal.nD,
      m' ((c.tc : Thread Cert.SpreadReferenceIdeal.nD Cert.SpreadReferenceIdeal.τ).loc Cert.SpreadReferenceIdeal.main_arg0) = m ((c.tc : Thread Cert.SpreadIdeal.nD Cert.SpreadIdeal.τ).loc Cert.SpreadIdeal.main_arg0)
      ∧ m' ((c.tc : Thread Cert.SpreadReferenceIdeal.nD Cert.SpreadReferenceIdeal.τ).loc Cert.SpreadReferenceIdeal.main_arg1) = m ((c.tc : Thread Cert.SpreadIdeal.nD Cert.SpreadIdeal.τ).loc Cert.SpreadIdeal.main_arg1)
      ∧ m' ((c.tc : Thread Cert.SpreadReferenceIdeal.nD Cert.SpreadReferenceIdeal.τ).loc Cert.SpreadReferenceIdeal.main_arg2) = m ((c.tc : Thread Cert.SpreadIdeal.nD Cert.SpreadIdeal.τ).loc Cert.SpreadIdeal.main_arg2)
      ∧ m' ((c.tc : Thread Cert.SpreadReferenceIdeal.nD Cert.SpreadReferenceIdeal.τ).loc Cert.SpreadReferenceIdeal.main_arg3) = m ((c.tc : Thread Cert.SpreadIdeal.nD Cert.SpreadIdeal.τ).loc Cert.SpreadIdeal.main_arg3)
      ∧ m' ((c.tc : Thread Cert.SpreadReferenceIdeal.nD Cert.SpreadReferenceIdeal.τ).loc Cert.SpreadReferenceIdeal.main_arg4) = m ((c.tc : Thread Cert.SpreadIdeal.nD Cert.SpreadIdeal.τ).loc Cert.SpreadIdeal.main_arg4)
      ∧ m' ((c.tc : Thread Cert.SpreadReferenceIdeal.nD Cert.SpreadReferenceIdeal.τ).loc Cert.SpreadReferenceIdeal.main_arg5) = m ((c.tc : Thread Cert.SpreadIdeal.nD Cert.SpreadIdeal.τ).loc Cert.SpreadIdeal.main_arg5)
      ∧ m' ((c.tc : Thread Cert.SpreadReferenceIdeal.nD Cert.SpreadReferenceIdeal.τ).loc Cert.SpreadReferenceIdeal.main_arg6) = m ((c.tc : Thread Cert.SpreadIdeal.nD Cert.SpreadIdeal.τ).loc Cert.SpreadIdeal.main_arg6)
      ∧ m' ((c.tc : Thread Cert.SpreadReferenceIdeal.nD Cert.SpreadReferenceIdeal.τ).loc Cert.SpreadReferenceIdeal.main_arg7) = m ((c.tc : Thread Cert.SpreadIdeal.nD Cert.SpreadIdeal.τ).loc Cert.SpreadIdeal.main_arg7)) →
    ∃ (v0 : (c : Dev Cert.SpreadIdeal.nD) → Buf (Elt Ideal) ((c.tc : Thread Cert.SpreadIdeal.nD Cert.SpreadIdeal.τ).loc Cert.SpreadIdeal.main_v59_0)) (v1 : (c : Dev Cert.SpreadIdeal.nD) → Buf (Elt Ideal) ((c.tc : Thread Cert.SpreadIdeal.nD Cert.SpreadIdeal.τ).loc Cert.SpreadIdeal.main_v59_1)),
      θ_run (Cert.SpreadIdeal.defs (F := Ideal)) (onTc (τ := Cert.SpreadIdeal.τ) (Cert.SpreadIdeal.main (F := Ideal))) ⟨m, fun _ => 0, g⟩ (fun r => ∀ c : Dev Cert.SpreadIdeal.nD,
          r.2.mem ((c.tc : Thread Cert.SpreadIdeal.nD Cert.SpreadIdeal.τ).loc Cert.SpreadIdeal.main_v59_0) = v0 c
          ∧ r.2.mem ((c.tc : Thread Cert.SpreadIdeal.nD Cert.SpreadIdeal.τ).loc Cert.SpreadIdeal.main_v59_1) = v1 c
          ∧ r.2.mem ((c.tc : Thread Cert.SpreadIdeal.nD Cert.SpreadIdeal.τ).loc Cert.SpreadIdeal.main_arg0) = m ((c.tc : Thread Cert.SpreadIdeal.nD Cert.SpreadIdeal.τ).loc Cert.SpreadIdeal.main_arg0)
          ∧ r.2.mem ((c.tc : Thread Cert.SpreadIdeal.nD Cert.SpreadIdeal.τ).loc Cert.SpreadIdeal.main_arg1) = m ((c.tc : Thread Cert.SpreadIdeal.nD Cert.SpreadIdeal.τ).loc Cert.SpreadIdeal.main_arg1)
          ∧ r.2.mem ((c.tc : Thread Cert.SpreadIdeal.nD Cert.SpreadIdeal.τ).loc Cert.SpreadIdeal.main_arg2) = m ((c.tc : Thread Cert.SpreadIdeal.nD Cert.SpreadIdeal.τ).loc Cert.SpreadIdeal.main_arg2)
          ∧ r.2.mem ((c.tc : Thread Cert.SpreadIdeal.nD Cert.SpreadIdeal.τ).loc Cert.SpreadIdeal.main_arg3) = m ((c.tc : Thread Cert.SpreadIdeal.nD Cert.SpreadIdeal.τ).loc Cert.SpreadIdeal.main_arg3)
          ∧ r.2.mem ((c.tc : Thread Cert.SpreadIdeal.nD Cert.SpreadIdeal.τ).loc Cert.SpreadIdeal.main_arg4) = m ((c.tc : Thread Cert.SpreadIdeal.nD Cert.SpreadIdeal.τ).loc Cert.SpreadIdeal.main_arg4)
          ∧ r.2.mem ((c.tc : Thread Cert.SpreadIdeal.nD Cert.SpreadIdeal.τ).loc Cert.SpreadIdeal.main_arg5) = m ((c.tc : Thread Cert.SpreadIdeal.nD Cert.SpreadIdeal.τ).loc Cert.SpreadIdeal.main_arg5)
          ∧ r.2.mem ((c.tc : Thread Cert.SpreadIdeal.nD Cert.SpreadIdeal.τ).loc Cert.SpreadIdeal.main_arg6) = m ((c.tc : Thread Cert.SpreadIdeal.nD Cert.SpreadIdeal.τ).loc Cert.SpreadIdeal.main_arg6)
          ∧ r.2.mem ((c.tc : Thread Cert.SpreadIdeal.nD Cert.SpreadIdeal.τ).loc Cert.SpreadIdeal.main_arg7) = m ((c.tc : Thread Cert.SpreadIdeal.nD Cert.SpreadIdeal.τ).loc Cert.SpreadIdeal.main_arg7))
      ∧ θ_run (Cert.SpreadReferenceIdeal.defs (F := Ideal)) (onTc (τ := Cert.SpreadReferenceIdeal.τ) (Cert.SpreadReferenceIdeal.main (F := Ideal))) ⟨m', fun _ => 0, g'⟩ (fun r => ∀ c : Dev Cert.SpreadReferenceIdeal.nD,
          r.2.mem ((c.tc : Thread Cert.SpreadReferenceIdeal.nD Cert.SpreadReferenceIdeal.τ).loc Cert.SpreadReferenceIdeal.main_v39) = v0 c
          ∧ r.2.mem ((c.tc : Thread Cert.SpreadReferenceIdeal.nD Cert.SpreadReferenceIdeal.τ).loc Cert.SpreadReferenceIdeal.main_v65) = v1 c
          ∧ r.2.mem ((c.tc : Thread Cert.SpreadReferenceIdeal.nD Cert.SpreadReferenceIdeal.τ).loc Cert.SpreadReferenceIdeal.main_arg0) = m' ((c.tc : Thread Cert.SpreadReferenceIdeal.nD Cert.SpreadReferenceIdeal.τ).loc Cert.SpreadReferenceIdeal.main_arg0)
          ∧ r.2.mem ((c.tc : Thread Cert.SpreadReferenceIdeal.nD Cert.SpreadReferenceIdeal.τ).loc Cert.SpreadReferenceIdeal.main_arg1) = m' ((c.tc : Thread Cert.SpreadReferenceIdeal.nD Cert.SpreadReferenceIdeal.τ).loc Cert.SpreadReferenceIdeal.main_arg1)
          ∧ r.2.mem ((c.tc : Thread Cert.SpreadReferenceIdeal.nD Cert.SpreadReferenceIdeal.τ).loc Cert.SpreadReferenceIdeal.main_arg2) = m' ((c.tc : Thread Cert.SpreadReferenceIdeal.nD Cert.SpreadReferenceIdeal.τ).loc Cert.SpreadReferenceIdeal.main_arg2)
          ∧ r.2.mem ((c.tc : Thread Cert.SpreadReferenceIdeal.nD Cert.SpreadReferenceIdeal.τ).loc Cert.SpreadReferenceIdeal.main_arg3) = m' ((c.tc : Thread Cert.SpreadReferenceIdeal.nD Cert.SpreadReferenceIdeal.τ).loc Cert.SpreadReferenceIdeal.main_arg3)
          ∧ r.2.mem ((c.tc : Thread Cert.SpreadReferenceIdeal.nD Cert.SpreadReferenceIdeal.τ).loc Cert.SpreadReferenceIdeal.main_arg4) = m' ((c.tc : Thread Cert.SpreadReferenceIdeal.nD Cert.SpreadReferenceIdeal.τ).loc Cert.SpreadReferenceIdeal.main_arg4)
          ∧ r.2.mem ((c.tc : Thread Cert.SpreadReferenceIdeal.nD Cert.SpreadReferenceIdeal.τ).loc Cert.SpreadReferenceIdeal.main_arg5) = m' ((c.tc : Thread Cert.SpreadReferenceIdeal.nD Cert.SpreadReferenceIdeal.τ).loc Cert.SpreadReferenceIdeal.main_arg5)
          ∧ r.2.mem ((c.tc : Thread Cert.SpreadReferenceIdeal.nD Cert.SpreadReferenceIdeal.τ).loc Cert.SpreadReferenceIdeal.main_arg6) = m' ((c.tc : Thread Cert.SpreadReferenceIdeal.nD Cert.SpreadReferenceIdeal.τ).loc Cert.SpreadReferenceIdeal.main_arg6)
          ∧ r.2.mem ((c.tc : Thread Cert.SpreadReferenceIdeal.nD Cert.SpreadReferenceIdeal.τ).loc Cert.SpreadReferenceIdeal.main_arg7) = m' ((c.tc : Thread Cert.SpreadReferenceIdeal.nD Cert.SpreadReferenceIdeal.τ).loc Cert.SpreadReferenceIdeal.main_arg7))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hDense : Cert.Dense.Facts) (hDenseIdeal : Cert.DenseIdeal.Facts) (hDenseReferenceIdeal : Cert.DenseReferenceIdeal.Facts) (hFfn : Cert.Ffn.Facts) (hFfnIdeal : Cert.FfnIdeal.Facts) (hFfnReferenceIdeal : Cert.FfnReferenceIdeal.Facts) (hDwin : Cert.Dwin.Facts) (hDwinIdeal : Cert.DwinIdeal.Facts) (hDwinReferenceIdeal : Cert.DwinReferenceIdeal.Facts) (hLoss : Cert.Loss.Facts) (hLossIdeal : Cert.LossIdeal.Facts) (hLossReferenceIdeal : Cert.LossReferenceIdeal.Facts) (hParams : Cert.Params.Facts) (hParamsIdeal : Cert.ParamsIdeal.Facts) (hParamsReferenceIdeal : Cert.ParamsReferenceIdeal.Facts) (hMixIn : Cert.MixIn.Facts) (hMixInIdeal : Cert.MixInIdeal.Facts) (hMixInReferenceIdeal : Cert.MixInReferenceIdeal.Facts) (hHold : Cert.Hold.Facts) (hHoldIdeal : Cert.HoldIdeal.Facts) (hHoldReferenceIdeal : Cert.HoldReferenceIdeal.Facts) (hGate : Cert.Gate.Facts) (hGateIdeal : Cert.GateIdeal.Facts) (hGateReferenceIdeal : Cert.GateReferenceIdeal.Facts) (hOut : Cert.Out.Facts) (hOutIdeal : Cert.OutIdeal.Facts) (hOutReferenceIdeal : Cert.OutReferenceIdeal.Facts) (hSpread : Cert.Spread.Facts) (hSpreadIdeal : Cert.SpreadIdeal.Facts) (hSpreadReferenceIdeal : Cert.SpreadReferenceIdeal.Facts) (hPre_finite_args : Cert.Pre_finite_args.Facts) (hPre_finite_first : Cert.Pre_finite_first.Facts) (hPre_finite_ffn : Cert.Pre_finite_ffn.Facts) (hPre_finite_loss : Cert.Pre_finite_loss.Facts) (hPre_finite_mixin : Cert.Pre_finite_mixin.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_ReferenceIdeal_pre_finite_first (hReferenceIdeal := hReferenceIdeal) (hPre_finite_first := hPre_finite_first)
    ∧ quiescent_First (hFirst := hFirst)
    ∧ quiescent_FirstIdeal (hFirstIdeal := hFirstIdeal)
    ∧ quiescent_FirstIdeal_pre_finite_first (hFirstIdeal := hFirstIdeal) (hPre_finite_first := hPre_finite_first)
    ∧ quiescent_Dense (hDense := hDense)
    ∧ quiescent_DenseIdeal (hDenseIdeal := hDenseIdeal)
    ∧ quiescent_DenseReferenceIdeal (hDenseReferenceIdeal := hDenseReferenceIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Dwin (hDwin := hDwin)
    ∧ quiescent_DwinIdeal (hDwinIdeal := hDwinIdeal)
    ∧ quiescent_DwinReferenceIdeal (hDwinReferenceIdeal := hDwinReferenceIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_Params (hParams := hParams)
    ∧ quiescent_ParamsIdeal (hParamsIdeal := hParamsIdeal)
    ∧ quiescent_ParamsReferenceIdeal (hParamsReferenceIdeal := hParamsReferenceIdeal)
    ∧ quiescent_MixIn (hMixIn := hMixIn)
    ∧ quiescent_MixInIdeal (hMixInIdeal := hMixInIdeal)
    ∧ quiescent_MixInIdeal_pre_finite_mixin (hMixInIdeal := hMixInIdeal) (hPre_finite_mixin := hPre_finite_mixin)
    ∧ quiescent_MixInReferenceIdeal (hMixInReferenceIdeal := hMixInReferenceIdeal)
    ∧ quiescent_MixInReferenceIdeal_pre_finite_mixin (hMixInReferenceIdeal := hMixInReferenceIdeal) (hPre_finite_mixin := hPre_finite_mixin)
    ∧ quiescent_Hold (hHold := hHold)
    ∧ quiescent_HoldIdeal (hHoldIdeal := hHoldIdeal)
    ∧ quiescent_HoldReferenceIdeal (hHoldReferenceIdeal := hHoldReferenceIdeal)
    ∧ quiescent_Gate (hGate := hGate)
    ∧ quiescent_GateIdeal (hGateIdeal := hGateIdeal)
    ∧ quiescent_GateReferenceIdeal (hGateReferenceIdeal := hGateReferenceIdeal)
    ∧ quiescent_Out (hOut := hOut)
    ∧ quiescent_OutIdeal (hOutIdeal := hOutIdeal)
    ∧ quiescent_OutReferenceIdeal (hOutReferenceIdeal := hOutReferenceIdeal)
    ∧ quiescent_Spread (hSpread := hSpread)
    ∧ quiescent_SpreadIdeal (hSpreadIdeal := hSpreadIdeal)
    ∧ quiescent_SpreadReferenceIdeal (hSpreadReferenceIdeal := hSpreadReferenceIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_First_FirstIdeal
    ∧ algebraic_FirstIdeal_ReferenceIdeal_pre_finite_first (hFirstIdeal := hFirstIdeal) (hReferenceIdeal := hReferenceIdeal) (hPre_finite_first := hPre_finite_first)
    ∧ preserves_Dense_DenseIdeal
    ∧ algebraic_DenseIdeal_DenseReferenceIdeal (hDenseIdeal := hDenseIdeal) (hDenseReferenceIdeal := hDenseReferenceIdeal)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Dwin_DwinIdeal
    ∧ algebraic_DwinIdeal_DwinReferenceIdeal (hDwinIdeal := hDwinIdeal) (hDwinReferenceIdeal := hDwinReferenceIdeal)
    ∧ preserves_Loss_LossIdeal
    ∧ algebraic_LossIdeal_LossReferenceIdeal_pre_finite_loss (hLossIdeal := hLossIdeal) (hLossReferenceIdeal := hLossReferenceIdeal) (hPre_finite_loss := hPre_finite_loss)
    ∧ preserves_Params_ParamsIdeal
    ∧ algebraic_ParamsIdeal_ParamsReferenceIdeal (hParamsIdeal := hParamsIdeal) (hParamsReferenceIdeal := hParamsReferenceIdeal)
    ∧ preserves_MixIn_MixInIdeal
    ∧ algebraic_MixInIdeal_MixInReferenceIdeal_pre_finite_mixin (hMixInIdeal := hMixInIdeal) (hMixInReferenceIdeal := hMixInReferenceIdeal) (hPre_finite_mixin := hPre_finite_mixin)
    ∧ preserves_Hold_HoldIdeal
    ∧ algebraic_HoldIdeal_HoldReferenceIdeal (hHoldIdeal := hHoldIdeal) (hHoldReferenceIdeal := hHoldReferenceIdeal)
    ∧ preserves_Gate_GateIdeal
    ∧ algebraic_GateIdeal_GateReferenceIdeal (hGateIdeal := hGateIdeal) (hGateReferenceIdeal := hGateReferenceIdeal)
    ∧ preserves_Out_OutIdeal
    ∧ algebraic_OutIdeal_OutReferenceIdeal (hOutIdeal := hOutIdeal) (hOutReferenceIdeal := hOutReferenceIdeal)
    ∧ preserves_Spread_SpreadIdeal
    ∧ algebraic_SpreadIdeal_SpreadReferenceIdeal (hSpreadIdeal := hSpreadIdeal) (hSpreadReferenceIdeal := hSpreadReferenceIdeal)
-- ==== Pre_finite_args.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024 .f32) (main_arg6 : FVec F S4x4096x1024 .bf16) (main_arg7 : FVec F S4096x1024 .f32) : IVec S4096x1024 1 × IVec S1024 1 × IVec S1024 1 × IVec S4x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg5
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4x4096x1024 .f32 := (extf .f32 · bitsLt_bf16_f32) main_arg6
  let main_v10 : FVec F S4x4096x1024 .f32 := Host.absf main_v9
  let main_cst_2 : FVec F S_ .f32 := constant S_ .f32 0x7F800000#32
  let main_v11 : FVec F S4x4096x1024 .f32 := broadcastInDim S4x4096x1024 ![] bcast_S_S4x4096x1024 main_cst_2
  let main_v12 : IVec S4x4096x1024 1 := cmpf .olt main_v10 main_v11
  (main_v2, main_v5, main_v8, main_v12)
-- ==== Pre_finite_ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S4096x1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_first.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024 .f32) (main_arg6 : FVec F S4x4096x1024 .bf16) (main_arg7 : FVec F S4096x1024 .f32) : IVec S4096x1024 1 × IVec S1024 1 × IVec S1024 1 × IVec S4x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg5
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4x4096x1024 .f32 := (extf .f32 · bitsLt_bf16_f32) main_arg6
  let main_v10 : FVec F S4x4096x1024 .f32 := Host.absf main_v9
  let main_cst_2 : FVec F S_ .f32 := constant S_ .f32 0x7F800000#32
  let main_v11 : FVec F S4x4096x1024 .f32 := broadcastInDim S4x4096x1024 ![] bcast_S_S4x4096x1024 main_cst_2
  let main_v12 : IVec S4x4096x1024 1 := cmpf .olt main_v10 main_v11
  (main_v2, main_v5, main_v8, main_v12)
-- ==== Pre_finite_loss.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x5632 .f32) (main_arg8 : FVec F S2816x1024 .f32) (main_v2 : IVec S4096x1024 1) (main_v5 : IVec S4096x1024 1) (main_v8 : IVec S1024 1) (main_v11 : IVec S1024 1) (main_v14 : IVec S1024 1) (main_v17 : IVec S1024 1) : IVec S4096x1024 1 × IVec S4096x1024 1 × IVec S1024 1 × IVec S1024 1 × IVec S1024 1 × IVec S1024 1 × IVec S1024 1 × IVec S1024x5632 1 × IVec S2816x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024 .f32) (main_arg6 : FVec F S1024 .f32) (main_arg7 : FVec F S1024x5632 .f32) (main_arg8 : FVec F S2816x1024 .f32) : IVec S4096x1024 1 × IVec S4096x1024 1 × IVec S1024 1 × IVec S1024 1 × IVec S1024 1 × IVec S1024 1 × IVec S1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_finite_mixin.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S4096x3072 : S_.BroadcastsInDim S4096x3072 (![] : Fin 0 → Fin S4096x3072.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024 .f32) (main_arg6 : FVec F S1024x3072 .f32) (main_arg7 : FVec F S4096x3072 .bf16) (main_arg8 : FVec F S4096x1024 .f32) : IVec S4096x1024 1 × IVec S1024 1 × IVec S1024 1 × IVec S1024x3072 1 × IVec S4096x3072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg5
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3072 .f32 := Host.absf main_arg6
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_v12 : FVec F S4096x3072 .bf16 := Host.absf main_arg7
  let main_cst_3 : FVec F S_ .bf16 := constant S_ .bf16 0x7F80#16
  let main_v13 : FVec F S4096x3072 .bf16 := broadcastInDim S4096x3072 ![] bcast_S_S4096x3072 main_cst_3
  let main_v14 : IVec S4096x3072 1 := cmpf .olt main_v12 main_v13
  (main_v2, main_v5, main_v8, main_v11, main_v14)
-- ==== Kernel.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩
abbrev S6x1024 : Shape := ⟨2, ![6, 1024]⟩
abbrev S1x1024 : Shape := ⟨2, ![1, 1024]⟩
abbrev S2x1024 : Shape := ⟨2, ![2, 1024]⟩
abbrev S4x1024 : Shape := ⟨2, ![4, 1024]⟩
abbrev S16x1024 : Shape := ⟨2, ![16, 1024]⟩
abbrev S8x1024 : Shape := ⟨2, ![8, 1024]⟩
abbrev S4x512x1024 : Shape := ⟨3, ![4, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 22
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x4096x1024, .bf16⟩
  | .hbm, ⟨7, _⟩ => ⟨S4096x1024, .f32⟩
  | .hbm, ⟨8, _⟩ => ⟨S_, .f32⟩
  | .hbm, ⟨9, _⟩ => ⟨S6x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S_, .f32⟩
  | .hbm, ⟨17, _⟩ => ⟨S4x1024, .f32⟩
  | .hbm, ⟨18, _⟩ => ⟨S16x1024, .f32⟩
  | .hbm, ⟨19, _⟩ => ⟨S4096x1024, .bf16⟩
  | .hbm, ⟨20, _⟩ => ⟨S4096x1024, .f32⟩
  | .hbm, ⟨21, _⟩ => ⟨S8x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_29 : BitVec 32 := 0#32
  let v71 : BitVec 1 := Scalar.cmpi .ne v70 c0_i32_29
  v71

def k0_cond2 (i : grid0.Coords) : BitVec 1 :=
  let arg0 : BitVec 32 := BitVec.ofNat 32 (i 0).val
  let c0_i32_30 : BitVec 32 := 0#32
  let v72 : BitVec 1 := Scalar.cmpi .sgt arg0 c0_i32_30
  let v73 : BitVec 32 := Scalar.extui v72
  let c0_i32_31 : BitVec 32 := 0#32
  let v74 : BitVec 1 := Scalar.cmpi .ne v73 c0_i32_31
  v74

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x4096x1024, .bf16⟩
  | .hbm, ⟨7, _⟩ => ⟨S4096x1024, .f32⟩
  | .hbm, ⟨8, _⟩ => ⟨S4x4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S4x1024, .f32⟩
  | .hbm, ⟨103, _⟩ => ⟨S_, .f32⟩
  | .hbm, ⟨104, _⟩ => ⟨S4x1024, .f32⟩
  | .hbm, ⟨105, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== First.lean ====
abbrev S4096x1024 : Shape := ⟨2, ![4096, 1024]⟩
abbrev S1024 : Shape := ⟨1, ![1024]⟩
abbrev S4x4096x1024 : Shape := ⟨3, ![4, 4096, 1024]⟩
abbrev S1x1024 : Shape := ⟨2, ![1, 1024]⟩
abbrev S_ : Shape := ⟨0, ![]⟩
abbrev S6x1024 : Shape := ⟨2, ![6, 1024]⟩
abbrev S16x1024 : Shape := ⟨2, ![16, 1024]⟩
abbrev S8x1024 : Shape := ⟨2, ![8, 1024]⟩
abbrev S4x512x1024 : Shape := ⟨3, ![4, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S4x1024 : Shape := ⟨2, ![4, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x4096x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S6x1024, .f32⟩
  | .hbm, ⟨13, _⟩ => ⟨S1x1024, .f32⟩
  | .hbm, ⟨14, _⟩ => ⟨S_, .f32⟩
  | .hbm, ⟨15, _⟩ => ⟨S6x1024, .f32⟩
  | .hbm, ⟨16, _⟩ => ⟨S16x1024, .f32⟩
  | .hbm, ⟨17, _⟩ => ⟨S4096x1024, .bf16⟩
  | .hbm, ⟨18, _⟩ => ⟨S4096x1024, .f32⟩
  | .hbm, ⟨19, _⟩ => ⟨S8x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_30 : BitVec 32 := 0#32
  let v71 : BitVec 1 := Scalar.cmpi .ne v70 c0_i32_30
  v71

def k0_cond2 (i : grid0.Coords) : BitVec 1 :=
  let arg0 : BitVec 32 := BitVec.ofNat 32 (i 0).val
  let c0_i32_31 : BitVec 32 := 0#32
  let v72 : BitVec 1 := Scalar.cmpi .sgt arg0 c0_i32_31
  let v73 : BitVec 32 := Scalar.extui v72
  let c0_i32_32 : BitVec 32 := 0#32
  let v74 : BitVec 1 := Scalar.cmpi .ne v73 c0_i32_32
  v74

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Dense.lean ====
abbrev S32x64 : Shape := ⟨2, ![32, 64]⟩
abbrev S32x64x16 : Shape := ⟨3, ![32, 64, 16]⟩
abbrev S2x4x128x512 : Shape := ⟨4, ![2, 4, 128, 512]⟩
abbrev S2x4x8x512 : Shape := ⟨4, ![2, 4, 8, 512]⟩
abbrev S2048 : Shape := ⟨1, ![2048]⟩
abbrev S1x2048 : Shape := ⟨2, ![1, 2048]⟩
abbrev S4x2048 : Shape := ⟨2, ![4, 2048]⟩
abbrev S32x16x64 : Shape := ⟨3, ![32, 16, 64]⟩
abbrev S4x8x16x64 : Shape := ⟨4, ![4, 8, 16, 64]⟩
abbrev S8x8 : Shape := ⟨2, ![8, 8]⟩
abbrev S_ : Shape := ⟨0, ![]⟩
abbrev S1x8x1x8x1 : Shape := ⟨5, ![1, 8, 1, 8, 1]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S1x4x128x512 : Shape := ⟨4, ![1, 4, 128, 512]⟩
abbrev S8x2048 : Shape := ⟨2, ![8, 2048]⟩
abbrev S1x1x8x512 : Shape := ⟨4, ![1, 1, 8, 512]⟩
abbrev S8x512 : Shape := ⟨2, ![8, 512]⟩
abbrev S512 : Shape := ⟨1, ![512]⟩
abbrev S1x512 : Shape := ⟨2, ![1, 512]⟩
abbrev S1x1x128x512 : Shape := ⟨4, ![1, 1, 128, 512]⟩
abbrev S128x512 : Shape := ⟨2, ![128, 512]⟩

abbrev nBuf : Space → Nat
  | .hbm => 56
  | .vmem => 6
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S2x4x128x512, .f32⟩
  | .hbm, ⟨7, _⟩ => ⟨S2x4x8x512, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S4x2048, .f32⟩
  | .hbm, ⟨17, _⟩ => ⟨S32x16x64, .f32⟩
  | .hbm, ⟨18, _⟩ => ⟨S4x8x16x64, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S1x8x1x8x1, .i1⟩
  | .hbm, ⟨26, _⟩ => ⟨S4x8x16x1x64, .f32⟩
  | .hbm, ⟨27, _⟩ => ⟨S_, .f32⟩
  | .hbm, ⟨28, _⟩ => ⟨S_, .f32⟩
  | .hbm, ⟨29, _⟩ => ⟨S4x8x16x8x64, .i1⟩
  | .hbm, ⟨30, _⟩ => ⟨S4x8x16x8x64, .f32⟩
  | .hbm, ⟨31, _⟩ => ⟨S4x8x16x8x64, .f32⟩
  | .hbm, ⟨32, _⟩ => ⟨S4x8x16x8x64, .f32⟩
  | .hbm, ⟨33, _⟩ => ⟨S4x128x512, .f32⟩
  | .hbm, ⟨34, _⟩ => ⟨S32x16x64, .f32⟩
  | .hbm, ⟨35, _⟩ => ⟨S4x8x16x64, .f32⟩
  | .hbm, ⟨36, _⟩ => ⟨S8x8, .i32⟩
  | .hbm, ⟨37, _⟩ => ⟨S8x8, .i32⟩
  | .hbm, ⟨38, _⟩ => ⟨S_, .i32⟩
  | .hbm, ⟨39, _⟩ => ⟨S8x8, .i32⟩
  | .hbm, ⟨40, _⟩ => ⟨S8x8, .i32⟩
  | .hbm, ⟨41, _⟩ => ⟨S8x8, .i1⟩
  | .hbm, ⟨42, _⟩ => ⟨S1x8x1x8x1, .i1⟩
  | .hbm, ⟨43, _⟩ => ⟨S4x8x16x1x64, .f32⟩
  | .hbm, ⟨44, _⟩ => ⟨S_, .f32⟩
  | .hbm, ⟨45, _⟩ => ⟨S_, .f32⟩
  | .hbm, ⟨46, _⟩ => ⟨S4x8x16x8x64, .i1⟩
  | .hbm, ⟨47, _⟩ => ⟨S4x8x16x8x64, .f32⟩
  | .hbm, ⟨48, _⟩ => ⟨S4x8x16x8x64, .f32⟩
  | .hbm, ⟨49, _⟩ => ⟨S4x8x16x8x64, .f32⟩
  | .hbm, ⟨50, _⟩ => ⟨S4x128x512, .f32⟩
  | .hbm, ⟨51, _⟩ => ⟨S1x4x128x512, .f32⟩
  | .hbm, ⟨52, _⟩ => ⟨S1x4x128x512, .f32⟩
  | .hbm, ⟨53, _⟩ => ⟨S2x4x128x512, .f32⟩
  | .hbm, ⟨54, _⟩ => ⟨S2x4x128x512, .f32⟩
  | .hbm, ⟨55, _⟩ => ⟨S8x2048, .f32⟩
  | .local _ .vmem, ⟨0, _⟩ => ⟨S2x4x128x512, .f32⟩
  | .local _ .vmem, ⟨1, _⟩ => ⟨S2x4x8x512, .f32⟩
  | .local _ .vmem, ⟨2, _⟩ => ⟨S4x2048, .f32⟩
  | .local _ .vmem, ⟨3, _⟩ => ⟨S2x4x128x512, .f32⟩
  | .local _ .vmem, ⟨4, _⟩ => ⟨S2x4x128x512, .f32⟩
  | .local _ .vmem, ⟨5, _⟩ => ⟨S8x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DenseReferenceIdeal.lean ====
abbrev S32x64 : Shape := ⟨2, ![32, 64]⟩
abbrev S32x64x16 : Shape := ⟨3, ![32, 64, 16]⟩
abbrev S2x4x128x512 : Shape := ⟨4, ![2, 4, 128, 512]⟩
abbrev S2x4x8x512 : Shape := ⟨4, ![2, 4, 8, 512]⟩
abbrev S8x8 : Shape := ⟨2, ![8, 8]⟩
abbrev S_ : Shape := ⟨0, ![]⟩
abbrev S1x8x1x8x1 : Shape := ⟨5, ![1, 8, 1, 8, 1]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x1x512 : Shape := ⟨3, ![4, 1, 512]⟩
abbrev S4x8x512 : Shape := ⟨3, ![4, 8, 512]⟩
abbrev S1x4x8x512 : Shape := ⟨4, ![1, 4, 8, 512]⟩
abbrev S1x4x128x512 : Shape := ⟨4, ![1, 4, 128, 512]⟩
abbrev S4x512 : Shape := ⟨2, ![4, 512]⟩
abbrev S2048 : Shape := ⟨1, ![2048]⟩
abbrev S1x2048 : Shape := ⟨2, ![1, 2048]⟩
abbrev S4x2048 : Shape := ⟨2, ![4, 2048]⟩
abbrev S8x2048 : Shape := ⟨2, ![8, 2048]⟩

abbrev nBuf : Space → Nat
  | .hbm => 124
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S2x4x128x512, .f32⟩
  | .hbm, ⟨7, _⟩ => ⟨S2x4x8x512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S1x8x1x8x1, .i1⟩
  | .hbm, ⟨15, _⟩ => ⟨S4x8x64x16, .f32⟩
  | .hbm, ⟨16, _⟩ => ⟨S4x8x16x64, .f32⟩
  | .hbm, ⟨17, _⟩ => ⟨S4x8x16x1x64, .f32⟩
  | .hbm, ⟨18, _⟩ => ⟨S_, .f32⟩
  | .hbm, ⟨19, _⟩ => ⟨S_, .f32⟩
  | .hbm, ⟨20, _⟩ => ⟨S4x8x16x8x64, .i1⟩
  | .hbm, ⟨21, _⟩ => ⟨S4x8x16x8x64, .f32⟩
  | .hbm, ⟨22, _⟩ => ⟨S4x8x16x8x64, .f32⟩
  | .hbm, ⟨23, _⟩ => ⟨S4x8x16x8x64, .f32⟩
  | .hbm, ⟨24, _⟩ => ⟨S4x128x512, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S1x8x1x8x1, .i1⟩
  | .hbm, ⟨32, _⟩ => ⟨S4x8x64x16, .f32⟩
  | .hbm, ⟨33, _⟩ => ⟨S4x8x16x64, .f32⟩
  | .hbm, ⟨34, _⟩ => ⟨S4x8x16x1x64, .f32⟩
  | .hbm, ⟨35, _⟩ => ⟨S_, .f32⟩
  | .hbm, ⟨36, _⟩ => ⟨S_, .f32⟩
  | .hbm, ⟨37, _⟩ => ⟨S4x8x16x8x64, .i1⟩
  | .hbm, ⟨38, _⟩ => ⟨S4x8x16x8x64, .f32⟩
  | .hbm, ⟨39, _⟩ => ⟨S4x8x16x8x64, .f32⟩
  | .hbm, ⟨40, _⟩ => ⟨S4x8x16x8x64, .f32⟩
  | .hbm, ⟨41, _⟩ => ⟨S4x128x512, .f32⟩
  | .hbm, ⟨42, _⟩ => ⟨S4x1x512, .f32⟩
  | .hbm, ⟨43, _⟩ => ⟨S4x128x512, .f32⟩
  | .hbm, ⟨44, _⟩ => ⟨S4x128x512, .f32⟩
  | .hbm, ⟨45, _⟩ => ⟨S4x1x512, .f32⟩
  | .hbm, ⟨46, _⟩ => ⟨S4x128x512, .f32⟩
  | .hbm, ⟨47, _⟩ => ⟨S4x128x512, .f32⟩
  | .hbm, ⟨48, _⟩ => ⟨S4x128x512, .f32⟩
  | .hbm, ⟨49, _⟩ => ⟨S4x1x512, .f32⟩
  | .hbm, ⟨50, _⟩ => ⟨S4x128x512, .f32⟩
  | .hbm, ⟨51, _⟩ => ⟨S4x128x512, .f32⟩
  | .hbm, ⟨52, _⟩ => ⟨S4x1x512, .f32⟩
  | .hbm, ⟨53, _⟩ => ⟨S4x128x512, .f32⟩
  | .hbm, ⟨54, _⟩ => ⟨S4x128x512, .f32⟩
  | .hbm, ⟨55, _⟩ => ⟨S4x128x512, .f32⟩
  | .hbm, ⟨56, _⟩ => ⟨S4x1x512, .f32⟩
  | .hbm, ⟨57, _⟩ => ⟨S4x8x512, .f32⟩
  | .hbm, ⟨58, _⟩ => ⟨S4x1x512, .f32⟩
  | .hbm, ⟨59, _⟩ => ⟨S4x8x512, .f32⟩
  | .hbm, ⟨60, _⟩ => ⟨S1x4x8x512, .f32⟩
  | .hbm, ⟨61, _⟩ => ⟨S4x8x512, .f32⟩
  | .hbm, ⟨62, _⟩ => ⟨S1x4x8x512, .f32⟩
  | .hbm, ⟨63, _⟩ => ⟨S4x8x512, .f32⟩
  | .hbm, ⟨64, _⟩ => ⟨S1x4x128x512, .f32⟩
  | .hbm, ⟨65, _⟩ => ⟨S4x128x512, .f32⟩
  | .hbm, ⟨66, _⟩ => ⟨S1x4x128x512, .f32⟩
  | .hbm, ⟨67, _⟩ => ⟨S4x128x512, .f32⟩
  | .hbm, ⟨68, _⟩ => ⟨S_, .f32⟩
  | .hbm, ⟨69, _⟩ => ⟨S4x512, .f32⟩
  | .hbm, ⟨70, _⟩ => ⟨S4x1x512, .f32⟩
  | .hbm, ⟨71, _⟩ => ⟨S32x64, .f32⟩
  | .hbm, ⟨72, _⟩ => ⟨S_, .f32⟩
  | .hbm, ⟨73, _⟩ => ⟨S4x512, .f32⟩
  | .hbm, ⟨74, _⟩ => ⟨S4x1x512, .f32⟩
  | .hbm, ⟨75, _⟩ => ⟨S32x64, .f32⟩
  | .hbm, ⟨76, _⟩ => ⟨S4x128x512, .f32⟩
  | .hbm, ⟨77, _⟩ => ⟨S4x128x512, .f32⟩
  | .hbm, ⟨78, _⟩ => ⟨S4x128x512, .f32⟩
  | .hbm, ⟨79, _⟩ => ⟨S_, .f32⟩
  | .hbm, ⟨80, _⟩ => ⟨S4x512, .f32⟩
  | .hbm, ⟨81, _⟩ => ⟨S4x1x512, .f32⟩
  | .hbm, ⟨82, _⟩ => ⟨S32x64, .f32⟩
  | .hbm, ⟨83, _⟩ => ⟨S4x128x512, .f32⟩
  | .hbm, ⟨84, _⟩ => ⟨S4x128x512, .f32⟩
  | .hbm, ⟨85, _⟩ => ⟨S4x128x512, .f32⟩
  | .hbm, ⟨86, _⟩ => ⟨S_, .f32⟩
  | .hbm, ⟨87, _⟩ => ⟨S4x512, .f32⟩
  | .hbm, ⟨88, _⟩ => ⟨S4x1x512, .f32⟩
  | .hbm, ⟨89, _⟩ => ⟨S32x64, .f32⟩
  | .hbm, ⟨90, _⟩ => ⟨S4x128x512, .f32⟩
  | .hbm, ⟨91, _⟩ => ⟨S4x128x512, .f32⟩
  | .hbm, ⟨92, _⟩ => ⟨S4x128x512, .f32⟩
  | .hbm, ⟨93, _⟩ => ⟨S4x128x512, .f32⟩
  | .hbm, ⟨94, _⟩ => ⟨S4x128x512, .f32⟩
  | .hbm, ⟨95, _⟩ => ⟨S_, .f32⟩
  | .hbm, ⟨96, _⟩ => ⟨S4x512, .f32⟩
  | .hbm, ⟨97, _⟩ => ⟨S4x1x512, .f32⟩
  | .hbm, ⟨98, _⟩ => ⟨S32x64, .f32⟩
  | .hbm, ⟨99, _⟩ => ⟨S32x64, .f32⟩
  | .hbm, ⟨100, _⟩ => ⟨S4x128x512, .f32⟩
  | .hbm, ⟨101, _⟩ => ⟨S4x128x512, .f32⟩
  | .hbm, ⟨102, _⟩ => ⟨S4x128x512, .f32⟩
  | .hbm, ⟨103, _⟩ => ⟨S4x128x512, .f32⟩
  | .hbm, ⟨104, _⟩ => ⟨S_, .f32⟩
  | .hbm, ⟨105, _⟩ => ⟨S4x512, .f32⟩
  | .hbm, ⟨106, _⟩ => ⟨S4x1x512, .f32⟩
  | .hbm, ⟨107, _⟩ => ⟨S32x64, .f32⟩
  | .hbm, ⟨108, _⟩ => ⟨S32x64, .f32⟩
  | .hbm, ⟨109, _⟩ => ⟨S2048, .f32⟩
  | .hbm, ⟨110, _⟩ => ⟨S2048, .f32⟩
  | .hbm, ⟨111, _⟩ => ⟨S2048, .f32⟩
  | .hbm, ⟨112, _⟩ => ⟨S2048, .f32⟩
  | .hbm, ⟨113, _⟩ => ⟨S1x2048, .f32⟩
  | .hbm, ⟨114, _⟩ => ⟨S1x2048, .f32⟩
  | .hbm, ⟨115, _⟩ => ⟨S1x2048, .f32⟩
  | .hbm, ⟨116, _⟩ => ⟨S1x2048, .f32⟩
  | .hbm, ⟨117, _⟩ => ⟨S4x2048, .f32⟩
  | .hbm, ⟨118, _⟩ => ⟨S_, .f32⟩
  | .hbm, ⟨119, _⟩ => ⟨S4x2048, .f32⟩
  | .hbm, ⟨120, _⟩ => ⟨S8x2048, .f32⟩
  | .hbm, ⟨121, _⟩ => ⟨S1x4x128x512, .f32⟩
  | .hbm, ⟨122, _⟩ => ⟨S1x4x128x512, .f32⟩
  | .hbm, ⟨123, _⟩ => ⟨S2x4x128x512, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_6 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_7 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_8 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x1024 : Shape := ⟨2, ![8, 1024]⟩
abbrev S1x1024 : Shape := ⟨2, ![1, 1024]⟩
abbrev S7x1024 : Shape := ⟨2, ![7, 1024]⟩
abbrev S16x1024 : Shape := ⟨2, ![16, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S4x4096x1024 : Shape := ⟨3, ![4, 4096, 1024]⟩
abbrev S1024x1024 : Shape := ⟨2, ![1024, 1024]⟩
abbrev S2x1x1024x704 : Shape := ⟨4, ![2, 1, 1024, 704]⟩
abbrev S2x1x704x1024 : Shape := ⟨4, ![2, 1, 704, 1024]⟩
abbrev S1x704x1024 : Shape := ⟨3, ![1, 704, 1024]⟩
abbrev S1x1024x1024 : Shape := ⟨3, ![1, 1024, 1024]⟩
abbrev S704x1024 : Shape := ⟨2, ![704, 1024]⟩
abbrev S1x1x704x1024 : Shape := ⟨4, ![1, 1, 704, 1024]⟩
abbrev S1x1x256x704 : Shape := ⟨4, ![1, 1, 256, 704]⟩
abbrev S256x704 : Shape := ⟨2, ![256, 704]⟩
abbrev S256x1024 : Shape := ⟨2, ![256, 1024]⟩
abbrev S1x256x1024 : Shape := ⟨3, ![1, 256, 1024]⟩
abbrev S1024x704 : Shape := ⟨2, ![1024, 704]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S8x1024, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S16x1024, .f32⟩
  | .hbm, ⟨11, _⟩ => ⟨S5632x1024, .f32⟩
  | .hbm, ⟨12, _⟩ => ⟨S5632x1024, .bf16⟩
  | .hbm, ⟨13, _⟩ => ⟨S2x4x704x1024, .bf16⟩
  | .hbm, ⟨14, _⟩ => ⟨S2816x1024, .bf16⟩
  | .hbm, ⟨15, _⟩ => ⟨S4x704x1024, .bf16⟩
  | .hbm, ⟨16, _⟩ => ⟨S4096x5632, .f32⟩
  | .hbm, ⟨17, _⟩ => ⟨S4096x5632, .bf16⟩
  | .hbm, ⟨18, _⟩ => ⟨S4096x2x4x704, .bf16⟩
  | .hbm, ⟨19, _⟩ => ⟨S2x4x4096x704, .bf16⟩
  | .hbm, ⟨20, _⟩ => ⟨S4x4096x1024, .bf16⟩
  | .hbm, ⟨21, _⟩ => ⟨S2x4x4096x704, .bf16⟩
  | .hbm, ⟨22, _⟩ => ⟨S4x704x1024, .bf16⟩
  | .local _ .vmem, ⟨0, _⟩ => ⟨S1024x1024, .f32⟩
  | .local _ .vmem, ⟨1, _⟩ => ⟨S1024x1024, .f32⟩
  | .local _ .vmem, ⟨2, _⟩ => ⟨S2x1x1024x704, .bf16⟩
  | .local _ .vmem, ⟨3, _⟩ => ⟨S2x1x1024x704, .bf16⟩
  | .local _ .vmem, ⟨4, _⟩ => ⟨S16x1024, .f32⟩
  | .local _ .vmem, ⟨5, _⟩ => ⟨S2x1x704x1024, .bf16⟩
  | .local _ .vmem, ⟨6, _⟩ => ⟨S2x1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S2x1x1024x704, .bf16⟩
  | .local _ .vmem, ⟨12, _⟩ => ⟨S2x1x1024x704, .bf16⟩
  | .local _ .vmem, ⟨13, _⟩ => ⟨S1x704x1024, .bf16⟩
  | .local _ .vmem, ⟨14, _⟩ => ⟨S1x704x1024, .bf16⟩
  | .local _ .vmem, ⟨15, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v177 : BitVec 1 := Scalar.cmpi .eq arg1 c3_i32
  let v178 : BitVec 32 := Scalar.extui v177
  let c0_i32_117 : BitVec 32 := 0#32
  let v179 : BitVec 1 := Scalar.cmpi .ne v178 c0_i32_117
  v179

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x4096x1024 : Shape := ⟨3, ![1, 4096, 1024]⟩
abbrev S4x4096x1024 : Shape := ⟨3, ![4, 4096, 1024]⟩
abbrev S1024x2816 : Shape := ⟨2, ![1024, 2816]⟩
abbrev S1024x4x704 : Shape := ⟨3, ![1024, 4, 704]⟩
abbrev S4x4096x704 : Shape := ⟨3, ![4, 4096, 704]⟩
abbrev S1x1024 : Shape := ⟨2, ![1, 1024]⟩
abbrev S_ : Shape := ⟨0, ![]⟩
abbrev S4x704x1024 : Shape := ⟨3, ![4, 704, 1024]⟩
abbrev S4096x4x704 : Shape := ⟨3, ![4096, 4, 704]⟩
abbrev S1x4x4096x704 : Shape := ⟨4, ![1, 4, 4096, 704]⟩
abbrev S2x4x4096x704 : Shape := ⟨4, ![2, 4, 4096, 704]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S1x4096x1024, .f32⟩
  | .hbm, ⟨6, _⟩ => ⟨S4x4096x1024, .f32⟩
  | .hbm, ⟨7, _⟩ => ⟨S1024x2816, .f32⟩
  | .hbm, ⟨8, _⟩ => ⟨S1024x2816, .f32⟩
  | .hbm, ⟨9, _⟩ => ⟨S1024x4x704, .f32⟩
  | .hbm, ⟨10, _⟩ => ⟨S4x4096x704, .f32⟩
  | .hbm, ⟨11, _⟩ => ⟨S1024x4x704, .f32⟩
  | .hbm, ⟨12, _⟩ => ⟨S4x4096x704, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4x4096x704, .f32⟩
  | .hbm, ⟨18, _⟩ => ⟨S4x4096x704, .f32⟩
  | .hbm, ⟨19, _⟩ => ⟨S_, .f32⟩
  | .hbm, ⟨20, _⟩ => ⟨S4x4096x704, .f32⟩
  | .hbm, ⟨21, _⟩ => ⟨S4x4096x704, .f32⟩
  | .hbm, ⟨22, _⟩ => ⟨S_, .f32⟩
  | .hbm, ⟨23, _⟩ => ⟨S4x4096x704, .f32⟩
  | .hbm, ⟨24, _⟩ => ⟨S4x4096x704, .f32⟩
  | .hbm, ⟨25, _⟩ => ⟨S_, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S4x4096x704, .f32⟩
  | .hbm, ⟨31, _⟩ => ⟨S4x704x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x4x704, .f32⟩
  | .hbm, ⟨38, _⟩ => ⟨S4x704x1024, .f32⟩
  | .hbm, ⟨39, _⟩ => ⟨S4096x4x704, .f32⟩
  | .hbm, ⟨40, _⟩ => ⟨S4x4096x704, .f32⟩
  | .hbm, ⟨41, _⟩ => ⟨S2816x1024, .f32⟩
  | .hbm, ⟨42, _⟩ => ⟨S4x4096x704, .f32⟩
  | .hbm, ⟨43, _⟩ => ⟨S4x4096x704, .f32⟩
  | .hbm, ⟨44, _⟩ => ⟨S4x4096x704, .f32⟩
  | .hbm, ⟨45, _⟩ => ⟨S4x4096x704, .f32⟩
  | .hbm, ⟨46, _⟩ => ⟨S4x4096x704, .f32⟩
  | .hbm, ⟨47, _⟩ => ⟨S4x4096x704, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .bf16⟩
  | .hbm, ⟨52, _⟩ => ⟨S1x4x4096x704, .f32⟩
  | .hbm, ⟨53, _⟩ => ⟨S1x4x4096x704, .f32⟩
  | .hbm, ⟨54, _⟩ => ⟨S2x4x4096x704, .f32⟩
  | .hbm, ⟨55, _⟩ => ⟨S2x4x4096x704, .bf16⟩
  | .hbm, ⟨56, _⟩ => ⟨S4x704x1024, .f32⟩
  | .hbm, ⟨57, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Dwin.lean ====
abbrev S4096x1024 : Shape := ⟨2, ![4096, 1024]⟩
abbrev S1024 : Shape := ⟨1, ![1024]⟩
abbrev S2x4x4096x704 : Shape := ⟨4, ![2, 4, 4096, 704]⟩
abbrev S_ : Shape := ⟨0, ![]⟩
abbrev S6x1024 : Shape := ⟨2, ![6, 1024]⟩
abbrev S1x1024 : Shape := ⟨2, ![1, 1024]⟩
abbrev S3x1024 : Shape := ⟨2, ![3, 1024]⟩
abbrev S4x1024 : Shape := ⟨2, ![4, 1024]⟩
abbrev S16x1024 : Shape := ⟨2, ![16, 1024]⟩
abbrev S2x4x704x1024 : Shape := ⟨4, ![2, 4, 704, 1024]⟩
abbrev S2048x1024 : Shape := ⟨2, ![2048, 1024]⟩
abbrev S2x1x2048x704 : Shape := ⟨4, ![2, 1, 2048, 704]⟩
abbrev S2x1x704x1024 : Shape := ⟨4, ![2, 1, 704, 1024]⟩
abbrev S2x704x1024 : Shape := ⟨3, ![2, 704, 1024]⟩
abbrev S2048 : Shape := ⟨1, ![2048]⟩
abbrev S2048x1 : Shape := ⟨2, ![2048, 1]⟩
abbrev S1x704x1024 : Shape := ⟨3, ![1, 704, 1024]⟩
abbrev S704x1024 : Shape := ⟨2, ![704, 1024]⟩
abbrev S1x1x2048x704 : Shape := ⟨4, ![1, 1, 2048, 704]⟩
abbrev S2048x704 : Shape := ⟨2, ![2048, 704]⟩
abbrev S1x1x704x1024 : Shape := ⟨4, ![1, 1, 704, 1024]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x4x4096x704, .bf16⟩
  | .hbm, ⟨5, _⟩ => ⟨S_, .f32⟩
  | .hbm, ⟨6, _⟩ => ⟨S6x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S_, .f32⟩
  | .hbm, ⟨13, _⟩ => ⟨S4x1024, .f32⟩
  | .hbm, ⟨14, _⟩ => ⟨S16x1024, .f32⟩
  | .hbm, ⟨15, _⟩ => ⟨S2x4x704x1024, .bf16⟩
  | .local _ .vmem, ⟨0, _⟩ => ⟨S2048x1024, .f32⟩
  | .local _ .vmem, ⟨1, _⟩ => ⟨S2048x1024, .f32⟩
  | .local _ .vmem, ⟨2, _⟩ => ⟨S2x1x2048x704, .bf16⟩
  | .local _ .vmem, ⟨3, _⟩ => ⟨S2x1x2048x704, .bf16⟩
  | .local _ .vmem, ⟨4, _⟩ => ⟨S16x1024, .f32⟩
  | .local _ .vmem, ⟨5, _⟩ => ⟨S2x1x704x1024, .bf16⟩
  | .local _ .vmem, ⟨6, _⟩ => ⟨S2x1x704x1024, .bf16⟩
  | .local _ .vmem, ⟨7, _⟩ => ⟨S2x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_29 : BitVec 32 := 0#32
  let v49 : BitVec 1 := Scalar.cmpi .ne v48 c0_i32_29
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwinReferenceIdeal.lean ====
abbrev S4096x1024 : Shape := ⟨2, ![4096, 1024]⟩
abbrev S1024 : Shape := ⟨1, ![1024]⟩
abbrev S2x4x4096x704 : Shape := ⟨4, ![2, 4, 4096, 704]⟩
abbrev S_ : Shape := ⟨0, ![]⟩
abbrev S2x4x704x1024 : Shape := ⟨4, ![2, 4, 704, 1024]⟩
abbrev S4096 : Shape := ⟨1, ![4096]⟩
abbrev S4096x1 : Shape := ⟨2, ![4096, 1]⟩
abbrev S1x1024 : Shape := ⟨2, ![1, 1024]⟩
abbrev S2x4x704x4096 : Shape := ⟨4, ![2, 4, 704, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x4x4096x704, .bf16⟩
  | .hbm, ⟨5, _⟩ => ⟨S_, .f32⟩
  | .hbm, ⟨6, _⟩ => ⟨S2x4x704x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S2x4x704x4096, .f32⟩
  | .hbm, ⟨33, _⟩ => ⟨S2x4x4096x704, .f32⟩
  | .hbm, ⟨34, _⟩ => ⟨S2x4x4096x704, .f32⟩
  | .hbm, ⟨35, _⟩ => ⟨S2x4x704x4096, .f32⟩
  | .hbm, ⟨36, _⟩ => ⟨S2x4x704x1024, .f32⟩
  | .hbm, ⟨37, _⟩ => ⟨S2x4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S6x1024 : Shape := ⟨2, ![6, 1024]⟩
abbrev S1x1024 : Shape := ⟨2, ![1, 1024]⟩
abbrev S2x1024 : Shape := ⟨2, ![2, 1024]⟩
abbrev S3x1024 : Shape := ⟨2, ![3, 1024]⟩
abbrev S16x1024 : Shape := ⟨2, ![16, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S8x1024 : Shape := ⟨2, ![8, 1024]⟩
abbrev S2x4x4096x704 : Shape := ⟨4, ![2, 4, 4096, 704]⟩
abbrev S512x1024 : Shape := ⟨2, ![512, 1024]⟩
abbrev S2x4x512x704 : Shape := ⟨4, ![2, 4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩
abbrev S1x704x1024 : Shape := ⟨3, ![1, 704, 1024]⟩
abbrev S1 : Shape := ⟨1, ![1]⟩
abbrev S1x1 : Shape := ⟨2, ![1, 1]⟩

abbrev nBuf : Space → Nat
  | .hbm => 30
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S_, .f32⟩
  | .hbm, ⟨10, _⟩ => ⟨S6x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S3x1024, .f32⟩
  | .hbm, ⟨20, _⟩ => ⟨S16x1024, .f32⟩
  | .hbm, ⟨21, _⟩ => ⟨S5632x1024, .f32⟩
  | .hbm, ⟨22, _⟩ => ⟨S5632x1024, .bf16⟩
  | .hbm, ⟨23, _⟩ => ⟨S2x4x704x1024, .bf16⟩
  | .hbm, ⟨24, _⟩ => ⟨S2816x1024, .bf16⟩
  | .hbm, ⟨25, _⟩ => ⟨S4x704x1024, .bf16⟩
  | .hbm, ⟨26, _⟩ => ⟨S4096x1024, .f32⟩
  | .hbm, ⟨27, _⟩ => ⟨S8x1024, .f32⟩
  | .hbm, ⟨28, _⟩ => ⟨S4096x1024, .bf16⟩
  | .hbm, ⟨29, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S2x4x704x1024, .bf16⟩
  | .local _ .vmem, ⟨6, _⟩ => ⟨S4x704x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S2x4x512x704, .bf16⟩
  | .local _ .vmem, ⟨13, _⟩ => ⟨S2x4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v169 : BitVec 1 := Scalar.cmpi .eq arg0 c0_i32
  let v170 : BitVec 32 := Scalar.extui v169
  let c0_i32_113 : BitVec 32 := 0#32
  let v171 : BitVec 1 := Scalar.cmpi .ne v170 c0_i32_113
  v171

def k0_cond2 (i : grid0.Coords) : BitVec 1 :=
  let arg0 : BitVec 32 := BitVec.ofNat 32 (i 0).val
  let c0_i32_114 : BitVec 32 := 0#32
  let v172 : BitVec 1 := Scalar.cmpi .sgt arg0 c0_i32_114
  let v173 : BitVec 32 := Scalar.extui v172
  let c0_i32_115 : BitVec 32 := 0#32
  let v174 : BitVec 1 := Scalar.cmpi .ne v173 c0_i32_115
  v174

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S6x1024 : Shape := ⟨2, ![6, 1024]⟩
abbrev S8x1024 : Shape := ⟨2, ![8, 1024]⟩
abbrev S4096x2x4x704 : Shape := ⟨4, ![4096, 2, 4, 704]⟩
abbrev S2x4x4096x704 : Shape := ⟨4, ![2, 4, 4096, 704]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024x5632, .f32⟩
  | 8 => ⟨S2816x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S1x1024, .f32⟩
  | 26 => ⟨S_, .f32⟩
  | 27 => ⟨S1x1024, .f32⟩
  | 28 => ⟨S1x1024, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S4096x5632, .f32⟩
  | 35 => ⟨S4096x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S4096x2816, .f32⟩
  | 47 => ⟨S4096x1024, .f32⟩
  | 48 => ⟨S1x1024, .f32⟩
  | 49 => ⟨S_, .f32⟩
  | 50 => ⟨S1x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096, .f32⟩
  | 82 => ⟨S_, .f32⟩
  | 83 => ⟨S4096, .f32⟩
  | 84 => ⟨S4096, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4096, .f32⟩
  | 93 => ⟨S_, .f32⟩
  | 94 => ⟨S4096, .f32⟩
  | 95 => ⟨S4096, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S1x1024, .f32⟩
  | 124 => ⟨S1x1024, .f32⟩
  | 125 => ⟨S_, .f32⟩
  | 126 => ⟨S6x1024, .f32⟩
  | 127 => ⟨S8x1024, .f32⟩
  | _ => ⟨S4096x1024, .f32⟩

abbrev hbmTy0_1 (i : Nat) : BufTy := match i % 128 with
  | 0 => ⟨S4096x1024, .bf16⟩
  | 1 => ⟨S4096x2x4x704, .f32⟩
  | 2 => ⟨S2x4x4096x704, .f32⟩
  | 3 => ⟨S2x4x4096x704, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_cst_13 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩

abbrev nD : Nat := 1
abbrev τ : Topo := Topo.v7x

variable {F : FTy → Type} [FloatOps F]
-- ==== Params.lean ====
abbrev S32x64 : Shape := ⟨2, ![32, 64]⟩
abbrev S32 : Shape := ⟨1, ![32]⟩
abbrev S32x1 : Shape := ⟨2, ![32, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x1, .f32⟩
  | .hbm, ⟨8, _⟩ => ⟨S32x64, .f32⟩
  | .hbm, ⟨9, _⟩ => ⟨S32x64, .f32⟩
  | .hbm, ⟨10, _⟩ => ⟨S32x1, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x1, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ParamsReferenceIdeal.lean ====
abbrev S32x64 : Shape := ⟨2, ![32, 64]⟩
abbrev S32 : Shape := ⟨1, ![32]⟩
abbrev S32x1 : Shape := ⟨2, ![32, 1]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32, .f32⟩
  | .hbm, ⟨10, _⟩ => ⟨S32x1, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S_, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S_, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S32x64, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S32x64, .f32⟩
  | .hbm, ⟨75, _⟩ => ⟨S32x64, .f32⟩
  | .hbm, ⟨76, _⟩ => ⟨S32x64, .f32⟩
  | .hbm, ⟨77, _⟩ => ⟨S32x64, .f32⟩
  | .hbm, ⟨78, _⟩ => ⟨S32x64, .f32⟩
  | .hbm, ⟨79, _⟩ => ⟨S32x64, .f32⟩
  | .hbm, ⟨80, _⟩ => ⟨S32x64, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S_, .f32⟩
  | .hbm, ⟨87, _⟩ => ⟨S32, .f32⟩
  | .hbm, ⟨88, _⟩ => ⟨S32x1, .f32⟩
  | .hbm, ⟨89, _⟩ => ⟨S32x64, .f32⟩
  | .hbm, ⟨90, _⟩ => ⟨S32x64, .f32⟩
  | .hbm, ⟨91, _⟩ => ⟨S32x64, .f32⟩
  | .hbm, ⟨92, _⟩ => ⟨S32x64, .f32⟩
  | .hbm, ⟨93, _⟩ => ⟨S32x64, .f32⟩
  | .hbm, ⟨94, _⟩ => ⟨S_, .f32⟩
  | .hbm, ⟨95, _⟩ => ⟨S32, .f32⟩
  | .hbm, ⟨96, _⟩ => ⟨S32x1, .f32⟩
  | .hbm, ⟨97, _⟩ => ⟨S32x1, .f32⟩
  | .hbm, ⟨98, _⟩ => ⟨S32x64, .f32⟩
  | .hbm, ⟨99, _⟩ => ⟨S32x64, .f32⟩
  | .hbm, ⟨100, _⟩ => ⟨S32x64, .f32⟩
  | .hbm, ⟨101, _⟩ => ⟨S_, .f32⟩
  | .hbm, ⟨102, _⟩ => ⟨S32, .f32⟩
  | .hbm, ⟨103, _⟩ => ⟨S32, .f32⟩
  | .hbm, ⟨104, _⟩ => ⟨S32x64, .f32⟩
  | .hbm, ⟨105, _⟩ => ⟨S32x64, .f32⟩
  | .hbm, ⟨106, _⟩ => ⟨S32x1, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_2 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_3 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_4 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩

abbrev nD : Nat := 1
abbrev τ : Topo := Topo.v7x

variable {F : FTy → Type} [FloatOps F]
-- ==== MixIn.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S3x1024 : Shape := ⟨2, ![3, 1024]⟩
abbrev S1x1024 : Shape := ⟨2, ![1, 1024]⟩
abbrev S4x1024 : Shape := ⟨2, ![4, 1024]⟩
abbrev S5x1024 : Shape := ⟨2, ![5, 1024]⟩
abbrev S16x1024 : Shape := ⟨2, ![16, 1024]⟩
abbrev S1024x8x384 : Shape := ⟨3, ![1024, 8, 384]⟩
abbrev S8x1024x384 : Shape := ⟨3, ![8, 1024, 384]⟩
abbrev S8x1024 : Shape := ⟨2, ![8, 1024]⟩
abbrev S512x1024 : Shape := ⟨2, ![512, 1024]⟩
abbrev S512x3072 : Shape := ⟨2, ![512, 3072]⟩
abbrev S8 : Shape := ⟨1, ![8]⟩
abbrev S1 : Shape := ⟨1, ![1]⟩
abbrev S1024x384 : Shape := ⟨2, ![1024, 384]⟩
abbrev S1x1024x384 : Shape := ⟨3, ![1, 1024, 384]⟩
abbrev S512 : Shape := ⟨1, ![512]⟩
abbrev S512x1 : Shape := ⟨2, ![512, 1]⟩

abbrev nBuf : Space → Nat
  | .hbm => 27
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x3072, .f32⟩
  | .hbm, ⟨7, _⟩ => ⟨S4096x3072, .bf16⟩
  | .hbm, ⟨8, _⟩ => ⟨S4096x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S4x1024, .f32⟩
  | .hbm, ⟨16, _⟩ => ⟨S1x1024, .f32⟩
  | .hbm, ⟨17, _⟩ => ⟨S_, .f32⟩
  | .hbm, ⟨18, _⟩ => ⟨S5x1024, .f32⟩
  | .hbm, ⟨19, _⟩ => ⟨S16x1024, .f32⟩
  | .hbm, ⟨20, _⟩ => ⟨S1024x3072, .bf16⟩
  | .hbm, ⟨21, _⟩ => ⟨S1024x8x384, .bf16⟩
  | .hbm, ⟨22, _⟩ => ⟨S8x1024x384, .bf16⟩
  | .hbm, ⟨23, _⟩ => ⟨S4096x1024, .bf16⟩
  | .hbm, ⟨24, _⟩ => ⟨S4096x1024, .f32⟩
  | .hbm, ⟨25, _⟩ => ⟨S8x1024, .f32⟩
  | .hbm, ⟨26, _⟩ => ⟨S8x1024x384, .bf16⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024x384, .bf16⟩
  | .local _ .vmem, ⟨13, _⟩ => ⟨S1024x3072, .bf16⟩
  | .local _ .vmem, ⟨14, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_40 : BitVec 32 := 0#32
  let v91 : BitVec 1 := Scalar.cmpi .eq arg0 c0_i32_40
  let v92 : BitVec 32 := Scalar.extui v91
  let c0_i32_41 : BitVec 32 := 0#32
  let v93 : BitVec 1 := Scalar.cmpi .ne v92 c0_i32_41
  v93

def k0_cond3 (i : grid0.Coords) : BitVec 1 :=
  let arg0 : BitVec 32 := BitVec.ofNat 32 (i 0).val
  let c0_i32_42 : BitVec 32 := 0#32
  let v94 : BitVec 1 := Scalar.cmpi .sgt arg0 c0_i32_42
  let v95 : BitVec 32 := Scalar.extui v94
  let c0_i32_43 : BitVec 32 := 0#32
  let v96 : BitVec 1 := Scalar.cmpi .ne v95 c0_i32_43
  v96

def k0_cond4 (i : grid0.Coords) : BitVec 1 :=
  let arg0 : BitVec 32 := BitVec.ofNat 32 (i 0).val
  let c7_i32 : BitVec 32 := 7#32
  let v97 : BitVec 1 := Scalar.cmpi .eq arg0 c7_i32
  let v98 : BitVec 32 := Scalar.extui v97
  let c0_i32_44 : BitVec 32 := 0#32
  let v99 : BitVec 1 := Scalar.cmpi .ne v98 c0_i32_44
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInReferenceIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩
abbrev S4x1024 : Shape := ⟨2, ![4, 1024]⟩
abbrev S8x1024 : Shape := ⟨2, ![8, 1024]⟩
abbrev S1024x8x384 : Shape := ⟨3, ![1024, 8, 384]⟩
abbrev S8x1024x384 : Shape := ⟨3, ![8, 1024, 384]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x3072, .f32⟩
  | .hbm, ⟨7, _⟩ => ⟨S4096x3072, .bf16⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x3072, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x3072, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S3072x1024, .f32⟩
  | .hbm, ⟨54, _⟩ => ⟨S1024x3072, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S4x1024, .f32⟩
  | .hbm, ⟨100, _⟩ => ⟨S_, .f32⟩
  | .hbm, ⟨101, _⟩ => ⟨S4x1024, .f32⟩
  | .hbm, ⟨102, _⟩ => ⟨S8x1024, .f32⟩
  | .hbm, ⟨103, _⟩ => ⟨S1024x8x384, .f32⟩
  | .hbm, ⟨104, _⟩ => ⟨S8x1024x384, .f32⟩
  | .hbm, ⟨105, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Hold.lean ====
abbrev S32x64 : Shape := ⟨2, ![32, 64]⟩
abbrev S32 : Shape := ⟨1, ![32]⟩
abbrev S32x1 : Shape := ⟨2, ![32, 1]⟩

abbrev nBuf : Space → Nat
  | .hbm => 8
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x1, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== HoldReferenceIdeal.lean ====
abbrev S32x64 : Shape := ⟨2, ![32, 64]⟩
abbrev S32 : Shape := ⟨1, ![32]⟩
abbrev S32x1 : Shape := ⟨2, ![32, 1]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S_, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Gate.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S_ : Shape := ⟨0, ![]⟩
abbrev S7x1024 : Shape := ⟨2, ![7, 1024]⟩
abbrev S6x1024 : Shape := ⟨2, ![6, 1024]⟩
abbrev S16x1024 : Shape := ⟨2, ![16, 1024]⟩
abbrev S5632x1024 : Shape := ⟨2, ![5632, 1024]⟩
abbrev S2x4x704x1024 : Shape := ⟨4, ![2, 4, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S2x4x512x704 : Shape := ⟨4, ![2, 4, 512, 704]⟩
abbrev S4x512x704 : Shape := ⟨3, ![4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 18
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S7x1024, .f32⟩
  | .hbm, ⟨9, _⟩ => ⟨S1x1024, .f32⟩
  | .hbm, ⟨10, _⟩ => ⟨S_, .f32⟩
  | .hbm, ⟨11, _⟩ => ⟨S6x1024, .f32⟩
  | .hbm, ⟨12, _⟩ => ⟨S16x1024, .f32⟩
  | .hbm, ⟨13, _⟩ => ⟨S5632x1024, .f32⟩
  | .hbm, ⟨14, _⟩ => ⟨S5632x1024, .bf16⟩
  | .hbm, ⟨15, _⟩ => ⟨S2x4x704x1024, .bf16⟩
  | .hbm, ⟨16, _⟩ => ⟨S2x4x4096x704, .bf16⟩
  | .hbm, ⟨17, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S2x4x704x1024, .bf16⟩
  | .local _ .vmem, ⟨4, _⟩ => ⟨S2x4x512x704, .bf16⟩
  | .local _ .vmem, ⟨5, _⟩ => ⟨S2x4x512x704, .bf16⟩
  | .local _ .vmem, ⟨6, _⟩ => ⟨S4x512x704, .bf16⟩
  | .local _ .vmem, ⟨7, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2x4x704, .f32⟩
  | .hbm, ⟨44, _⟩ => ⟨S2x4x4096x704, .f32⟩
  | .hbm, ⟨45, _⟩ => ⟨S2x4x4096x704, .bf16⟩
  | .hbm, ⟨46, _⟩ => ⟨S4096x4x704, .f32⟩
  | .hbm, ⟨47, _⟩ => ⟨S4x4096x704, .f32⟩
  | .hbm, ⟨48, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Out.lean ====
abbrev S4096x1024 : Shape := ⟨2, ![4096, 1024]⟩
abbrev S4096x2816 : Shape := ⟨2, ![4096, 2816]⟩
abbrev S1024 : Shape := ⟨1, ![1024]⟩
abbrev S2816x1024 : Shape := ⟨2, ![2816, 1024]⟩
abbrev S_ : Shape := ⟨0, ![]⟩
abbrev S2x1024 : Shape := ⟨2, ![2, 1024]⟩
abbrev S1x1024 : Shape := ⟨2, ![1, 1024]⟩
abbrev S13x1024 : Shape := ⟨2, ![13, 1024]⟩
abbrev S16x1024 : Shape := ⟨2, ![16, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1024, .f32⟩
  | .hbm, ⟨3, _⟩ => ⟨S2816x1024, .f32⟩
  | .hbm, ⟨4, _⟩ => ⟨S_, .f32⟩
  | .hbm, ⟨5, _⟩ => ⟨S2x1024, .f32⟩
  | .hbm, ⟨6, _⟩ => ⟨S1x1024, .f32⟩
  | .hbm, ⟨7, _⟩ => ⟨S_, .f32⟩
  | .hbm, ⟨8, _⟩ => ⟨S13x1024, .f32⟩
  | .hbm, ⟨9, _⟩ => ⟨S16x1024, .f32⟩
  | .hbm, ⟨10, _⟩ => ⟨S4096x2816, .bf16⟩
  | .hbm, ⟨11, _⟩ => ⟨S4096x4x704, .bf16⟩
  | .hbm, ⟨12, _⟩ => ⟨S4x4096x704, .bf16⟩
  | .hbm, ⟨13, _⟩ => ⟨S2816x1024, .bf16⟩
  | .hbm, ⟨14, _⟩ => ⟨S4x704x1024, .bf16⟩
  | .hbm, ⟨15, _⟩ => ⟨S4096x1024, .f32⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S16x1024, .f32⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S4096x1024 : Shape := ⟨2, ![4096, 1024]⟩
abbrev S4096x2816 : Shape := ⟨2, ![4096, 2816]⟩
abbrev S1024 : Shape := ⟨1, ![1024]⟩
abbrev S2816x1024 : Shape := ⟨2, ![2816, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Spread.lean ====
abbrev S32x64 : Shape := ⟨2, ![32, 64]⟩
abbrev S32x64x16 : Shape := ⟨3, ![32, 64, 16]⟩
abbrev S32x16x64 : Shape := ⟨3, ![32, 16, 64]⟩
abbrev S2048 : Shape := ⟨1, ![2048]⟩
abbrev S1x2048 : Shape := ⟨2, ![1, 2048]⟩
abbrev S4x2048 : Shape := ⟨2, ![4, 2048]⟩
abbrev S4x8x16x64 : Shape := ⟨4, ![4, 8, 16, 64]⟩
abbrev S8x8 : Shape := ⟨2, ![8, 8]⟩
abbrev S_ : Shape := ⟨0, ![]⟩
abbrev S1x8x1x8x1 : Shape := ⟨5, ![1, 8, 1, 8, 1]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S1x4x128x512 : Shape := ⟨4, ![1, 4, 128, 512]⟩
abbrev S2x4x128x512 : Shape := ⟨4, ![2, 4, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x4x512x128 : Shape := ⟨4, ![1, 4, 512, 128]⟩
abbrev S2x4x512x128 : Shape := ⟨4, ![2, 4, 512, 128]⟩
abbrev S1x512 : Shape := ⟨2, ![1, 512]⟩
abbrev S1x1x128x512 : Shape := ⟨4, ![1, 1, 128, 512]⟩
abbrev S128x512 : Shape := ⟨2, ![128, 512]⟩
abbrev S1x1x512x128 : Shape := ⟨4, ![1, 1, 512, 128]⟩
abbrev S512x128 : Shape := ⟨2, ![512, 128]⟩

abbrev nBuf : Space → Nat
  | .hbm => 93
  | .vmem => 5
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S4x2048, .f32⟩
  | .hbm, ⟨17, _⟩ => ⟨S32x16x64, .f32⟩
  | .hbm, ⟨18, _⟩ => ⟨S4x8x16x64, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S1x8x1x8x1, .i1⟩
  | .hbm, ⟨26, _⟩ => ⟨S4x8x16x1x64, .f32⟩
  | .hbm, ⟨27, _⟩ => ⟨S_, .f32⟩
  | .hbm, ⟨28, _⟩ => ⟨S_, .f32⟩
  | .hbm, ⟨29, _⟩ => ⟨S4x8x16x8x64, .i1⟩
  | .hbm, ⟨30, _⟩ => ⟨S4x8x16x8x64, .f32⟩
  | .hbm, ⟨31, _⟩ => ⟨S4x8x16x8x64, .f32⟩
  | .hbm, ⟨32, _⟩ => ⟨S4x8x16x8x64, .f32⟩
  | .hbm, ⟨33, _⟩ => ⟨S4x128x512, .f32⟩
  | .hbm, ⟨34, _⟩ => ⟨S32x16x64, .f32⟩
  | .hbm, ⟨35, _⟩ => ⟨S4x8x16x64, .f32⟩
  | .hbm, ⟨36, _⟩ => ⟨S8x8, .i32⟩
  | .hbm, ⟨37, _⟩ => ⟨S8x8, .i32⟩
  | .hbm, ⟨38, _⟩ => ⟨S_, .i32⟩
  | .hbm, ⟨39, _⟩ => ⟨S8x8, .i32⟩
  | .hbm, ⟨40, _⟩ => ⟨S8x8, .i32⟩
  | .hbm, ⟨41, _⟩ => ⟨S8x8, .i1⟩
  | .hbm, ⟨42, _⟩ => ⟨S1x8x1x8x1, .i1⟩
  | .hbm, ⟨43, _⟩ => ⟨S4x8x16x1x64, .f32⟩
  | .hbm, ⟨44, _⟩ => ⟨S_, .f32⟩
  | .hbm, ⟨45, _⟩ => ⟨S_, .f32⟩
  | .hbm, ⟨46, _⟩ => ⟨S4x8x16x8x64, .i1⟩
  | .hbm, ⟨47, _⟩ => ⟨S4x8x16x8x64, .f32⟩
  | .hbm, ⟨48, _⟩ => ⟨S4x8x16x8x64, .f32⟩
  | .hbm, ⟨49, _⟩ => ⟨S4x8x16x8x64, .f32⟩
  | .hbm, ⟨50, _⟩ => ⟨S4x128x512, .f32⟩
  | .hbm, ⟨51, _⟩ => ⟨S1x4x128x512, .f32⟩
  | .hbm, ⟨52, _⟩ => ⟨S1x4x128x512, .f32⟩
  | .hbm, ⟨53, _⟩ => ⟨S2x4x128x512, .f32⟩
  | .hbm, ⟨54, _⟩ => ⟨S32x64x16, .f32⟩
  | .hbm, ⟨55, _⟩ => ⟨S4x8x64x16, .f32⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S1x8x1x8x1, .i1⟩
  | .hbm, ⟨63, _⟩ => ⟨S4x8x64x1x16, .f32⟩
  | .hbm, ⟨64, _⟩ => ⟨S_, .f32⟩
  | .hbm, ⟨65, _⟩ => ⟨S_, .f32⟩
  | .hbm, ⟨66, _⟩ => ⟨S4x8x64x8x16, .i1⟩
  | .hbm, ⟨67, _⟩ => ⟨S4x8x64x8x16, .f32⟩
  | .hbm, ⟨68, _⟩ => ⟨S4x8x64x8x16, .f32⟩
  | .hbm, ⟨69, _⟩ => ⟨S4x8x64x8x16, .f32⟩
  | .hbm, ⟨70, _⟩ => ⟨S4x512x128, .f32⟩
  | .hbm, ⟨71, _⟩ => ⟨S32x64x16, .f32⟩
  | .hbm, ⟨72, _⟩ => ⟨S4x8x64x16, .f32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i1⟩
  | .hbm, ⟨79, _⟩ => ⟨S1x8x1x8x1, .i1⟩
  | .hbm, ⟨80, _⟩ => ⟨S4x8x64x1x16, .f32⟩
  | .hbm, ⟨81, _⟩ => ⟨S_, .f32⟩
  | .hbm, ⟨82, _⟩ => ⟨S_, .f32⟩
  | .hbm, ⟨83, _⟩ => ⟨S4x8x64x8x16, .i1⟩
  | .hbm, ⟨84, _⟩ => ⟨S4x8x64x8x16, .f32⟩
  | .hbm, ⟨85, _⟩ => ⟨S4x8x64x8x16, .f32⟩
  | .hbm, ⟨86, _⟩ => ⟨S4x8x64x8x16, .f32⟩
  | .hbm, ⟨87, _⟩ => ⟨S4x512x128, .f32⟩
  | .hbm, ⟨88, _⟩ => ⟨S1x4x512x128, .f32⟩
  | .hbm, ⟨89, _⟩ => ⟨S1x4x512x128, .f32⟩
  | .hbm, ⟨90, _⟩ => ⟨S2x4x512x128, .f32⟩
  | .hbm, ⟨91, _⟩ => ⟨S2x4x128x512, .bf16⟩
  | .hbm, ⟨92, _⟩ => ⟨S2x4x512x128, .bf16⟩
  | .local _ .vmem, ⟨0, _⟩ => ⟨S4x2048, .f32⟩
  | .local _ .vmem, ⟨1, _⟩ => ⟨S2x4x128x512, .f32⟩
  | .local _ .vmem, ⟨2, _⟩ => ⟨S2x4x512x128, .f32⟩
  | .local _ .vmem, ⟨3, _⟩ => ⟨S2x4x128x512, .bf16⟩
  | .local _ .vmem, ⟨4, _⟩ => ⟨S2x4x512x128, .bf16⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59_0 : Ref sig .tc := ⟨.hbm, 91, rfl⟩
abbrev main_v59_1 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SpreadReferenceIdeal.lean ====
abbrev S32x64 : Shape := ⟨2, ![32, 64]⟩
abbrev S32x64x16 : Shape := ⟨3, ![32, 64, 16]⟩
abbrev S32x16x64 : Shape := ⟨3, ![32, 16, 64]⟩
abbrev S32x64x1 : Shape := ⟨3, ![32, 64, 1]⟩
abbrev S8x8 : Shape := ⟨2, ![8, 8]⟩
abbrev S_ : Shape := ⟨0, ![]⟩
abbrev S1x8x1x8x1 : Shape := ⟨5, ![1, 8, 1, 8, 1]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S1x4x128x512 : Shape := ⟨4, ![1, 4, 128, 512]⟩
abbrev S2x4x128x512 : Shape := ⟨4, ![2, 4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x4x512x128 : Shape := ⟨4, ![1, 4, 512, 128]⟩
abbrev S2x4x512x128 : Shape := ⟨4, ![2, 4, 512, 128]⟩

abbrev nBuf : Space → Nat
  | .hbm => 98
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x64x1, .f32⟩
  | .hbm, ⟨9, _⟩ => ⟨S32x64x16, .f32⟩
  | .hbm, ⟨10, _⟩ => ⟨S32x64x16, .f32⟩
  | .hbm, ⟨11, _⟩ => ⟨S32x64x1, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x1, .f32⟩
  | .hbm, ⟨16, _⟩ => ⟨S32x64x16, .f32⟩
  | .hbm, ⟨17, _⟩ => ⟨S32x64x16, .f32⟩
  | .hbm, ⟨18, _⟩ => ⟨S32x64x1, .f32⟩
  | .hbm, ⟨19, _⟩ => ⟨S32x64x16, .f32⟩
  | .hbm, ⟨20, _⟩ => ⟨S32x64x16, .f32⟩
  | .hbm, ⟨21, _⟩ => ⟨S32x64x16, .f32⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S1x8x1x8x1, .i1⟩
  | .hbm, ⟨29, _⟩ => ⟨S4x8x64x16, .f32⟩
  | .hbm, ⟨30, _⟩ => ⟨S4x8x16x64, .f32⟩
  | .hbm, ⟨31, _⟩ => ⟨S4x8x16x1x64, .f32⟩
  | .hbm, ⟨32, _⟩ => ⟨S_, .f32⟩
  | .hbm, ⟨33, _⟩ => ⟨S_, .f32⟩
  | .hbm, ⟨34, _⟩ => ⟨S4x8x16x8x64, .i1⟩
  | .hbm, ⟨35, _⟩ => ⟨S4x8x16x8x64, .f32⟩
  | .hbm, ⟨36, _⟩ => ⟨S4x8x16x8x64, .f32⟩
  | .hbm, ⟨37, _⟩ => ⟨S4x8x16x8x64, .f32⟩
  | .hbm, ⟨38, _⟩ => ⟨S4x128x512, .f32⟩
  | .hbm, ⟨39, _⟩ => ⟨S8x8, .i32⟩
  | .hbm, ⟨40, _⟩ => ⟨S8x8, .i32⟩
  | .hbm, ⟨41, _⟩ => ⟨S_, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S1x8x1x8x1, .i1⟩
  | .hbm, ⟨46, _⟩ => ⟨S4x8x64x16, .f32⟩
  | .hbm, ⟨47, _⟩ => ⟨S4x8x16x64, .f32⟩
  | .hbm, ⟨48, _⟩ => ⟨S4x8x16x1x64, .f32⟩
  | .hbm, ⟨49, _⟩ => ⟨S_, .f32⟩
  | .hbm, ⟨50, _⟩ => ⟨S_, .f32⟩
  | .hbm, ⟨51, _⟩ => ⟨S4x8x16x8x64, .i1⟩
  | .hbm, ⟨52, _⟩ => ⟨S4x8x16x8x64, .f32⟩
  | .hbm, ⟨53, _⟩ => ⟨S4x8x16x8x64, .f32⟩
  | .hbm, ⟨54, _⟩ => ⟨S4x8x16x8x64, .f32⟩
  | .hbm, ⟨55, _⟩ => ⟨S4x128x512, .f32⟩
  | .hbm, ⟨56, _⟩ => ⟨S1x4x128x512, .f32⟩
  | .hbm, ⟨57, _⟩ => ⟨S1x4x128x512, .f32⟩
  | .hbm, ⟨58, _⟩ => ⟨S2x4x128x512, .f32⟩
  | .hbm, ⟨59, _⟩ => ⟨S2x4x128x512, .bf16⟩
  | .hbm, ⟨60, _⟩ => ⟨S8x8, .i32⟩
  | .hbm, ⟨61, _⟩ => ⟨S8x8, .i32⟩
  | .hbm, ⟨62, _⟩ => ⟨S_, .i32⟩
  | .hbm, ⟨63, _⟩ => ⟨S8x8, .i32⟩
  | .hbm, ⟨64, _⟩ => ⟨S8x8, .i32⟩
  | .hbm, ⟨65, _⟩ => ⟨S8x8, .i1⟩
  | .hbm, ⟨66, _⟩ => ⟨S1x8x1x8x1, .i1⟩
  | .hbm, ⟨67, _⟩ => ⟨S4x8x16x64, .f32⟩
  | .hbm, ⟨68, _⟩ => ⟨S4x8x64x16, .f32⟩
  | .hbm, ⟨69, _⟩ => ⟨S4x8x64x1x16, .f32⟩
  | .hbm, ⟨70, _⟩ => ⟨S_, .f32⟩
  | .hbm, ⟨71, _⟩ => ⟨S_, .f32⟩
  | .hbm, ⟨72, _⟩ => ⟨S4x8x64x8x16, .i1⟩
  | .hbm, ⟨73, _⟩ => ⟨S4x8x64x8x16, .f32⟩
  | .hbm, ⟨74, _⟩ => ⟨S4x8x64x8x16, .f32⟩
  | .hbm, ⟨75, _⟩ => ⟨S4x8x64x8x16, .f32⟩
  | .hbm, ⟨76, _⟩ => ⟨S4x512x128, .f32⟩
  | .hbm, ⟨77, _⟩ => ⟨S8x8, .i32⟩
  | .hbm, ⟨78, _⟩ => ⟨S8x8, .i32⟩
  | .hbm, ⟨79, _⟩ => ⟨S_, .i32⟩
  | .hbm, ⟨80, _⟩ => ⟨S8x8, .i32⟩
  | .hbm, ⟨81, _⟩ => ⟨S8x8, .i32⟩
  | .hbm, ⟨82, _⟩ => ⟨S8x8, .i1⟩
  | .hbm, ⟨83, _⟩ => ⟨S1x8x1x8x1, .i1⟩
  | .hbm, ⟨84, _⟩ => ⟨S4x8x16x64, .f32⟩
  | .hbm, ⟨85, _⟩ => ⟨S4x8x64x16, .f32⟩
  | .hbm, ⟨86, _⟩ => ⟨S4x8x64x1x16, .f32⟩
  | .hbm, ⟨87, _⟩ => ⟨S_, .f32⟩
  | .hbm, ⟨88, _⟩ => ⟨S_, .f32⟩
  | .hbm, ⟨89, _⟩ => ⟨S4x8x64x8x16, .i1⟩
  | .hbm, ⟨90, _⟩ => ⟨S4x8x64x8x16, .f32⟩
  | .hbm, ⟨91, _⟩ => ⟨S4x8x64x8x16, .f32⟩
  | .hbm, ⟨92, _⟩ => ⟨S4x8x64x8x16, .f32⟩
  | .hbm, ⟨93, _⟩ => ⟨S4x512x128, .f32⟩
  | .hbm, ⟨94, _⟩ => ⟨S1x4x512x128, .f32⟩
  | .hbm, ⟨95, _⟩ => ⟨S1x4x512x128, .f32⟩
  | .hbm, ⟨96, _⟩ => ⟨S2x4x512x128, .f32⟩
  | .hbm, ⟨97, _⟩ => ⟨S2x4x512x128, .bf16⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_4 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Proof.Rows.lean ====
/- Reading arrays of rows: a stack of row groups at one row. -/
module

public import Idealize.ShloMosaic.PureOps.Ideal
public import Idealize.ShloMosaic.Lib.Pipeline.ValueKit

@[expose] public section
noncomputable section

namespace Cert.Rows
open Idealize.ShloMosaic

/-- A stack of row groups read at row `p`: row `q` of group `k`, which starts at row `pre`. -/
theorem stack_apply {R C n : ℕ} {α : Type} {xs : List ((s : Shape) × (s.Idx → α))} {h : Shape.Concatenates (xs.map (·.1)) ⟨2, ![R, C]⟩ 0}
    {p : Fin R} {j : Fin C} (k : ℕ) (x₁ : (⟨2, ![n, C]⟩ : Shape).Idx → α) (pre : ℕ) (q : Fin n) (hk : k < xs.length) (hxk : xs[k] = ⟨_, x₁⟩)
    (hpre : (((xs.take k).map (·.1)).map fun s => if h : s.rank = 2 then s.size ((0 : Fin 2).cast h.symm) else 0).sum = pre)
    (hq : pre + q.val = p.val) : concatenate ⟨2, ![R, C]⟩ 0 xs h (ix2 p j) = x₁ (ix2 q j) :=
  concatenate_apply_piece (t := ⟨2, ![R, C]⟩) 0 xs h (ix2 p j) k hk ⟨2, ![n, C]⟩ x₁ hxk rfl pre hpre (ix2 q j)
    (fun b hb => by match b with | 0 => exact absurd rfl hb | 1 => rfl) hq

/-- An index of a matrix is its row and its column. -/
theorem ix2_surj {R C : ℕ} (y : (⟨2, ![R, C]⟩ : Shape).Idx) : ∃ (r : Fin R) (j : Fin C), y = ix2 r j :=
  ⟨y 0, y 1, by funext a; match a with | 0 => rfl | 1 => rfl⟩

end Cert.Rows
-- ==== Proof.Reals.lean ====
/- Finite extended reals: sums, quotients and roots of real numbers stay real. -/
module

public import Idealize.ShloMosaic.PureOps.Ideal
public import Idealize.ShloMosaic.PureOps.Ideal.Laws
public import Idealize.ShloMosaic.Lib.IdealHost

@[expose] public section
noncomputable section

namespace Cert.Reals
open Idealize.ShloMosaic

/-- A sum of reals, as extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A quotient of reals by a real other than zero is the real quotient. -/
theorem div_real {a b : ℝ} (h : b ≠ 0) : Ideal.div (a : EReal) (b : EReal) = ((a / b : ℝ) : EReal) := by
  rw [Ideal.div_coe h, ← EReal.coe_mul, mul_one_div]

/-- The reciprocal root of a positive real. -/
theorem rsqrt_real {a : ℝ} (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

/-- An extended real whose absolute value lies below `⊤` is a real. -/
theorem real_of_abs_lt {a : EReal} (h : max a (-a) < ⊤) : a = (a.toReal : EReal) := by
  refine (EReal.coe_toReal ?_ ?_).symm
  · rintro rfl; simp at h
  · rintro rfl; simp at h

/-- A real that is not negative distributes over any sum. -/
theorem mul_sum {ι : Type} {a : ℝ} (ha : 0 ≤ a) (s : Finset ι) (f : ι → EReal) : (a : EReal) * ∑ k ∈ s, f k = ∑ k ∈ s, (a : EReal) * f k := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

/-- An entry whose flag "the absolute value lies below infinity" is set is a real. -/
theorem real_of_flag {s : Shape} {d : Fin 0 → Fin s.rank} (x : FVec Ideal s .f32) (h : (⟨0, ![]⟩ : Shape).BroadcastsInDim s d) (i : s.Idx)
    (e : cmpf .olt (Host.absf x) (broadcastInDim s d h (constant (F := Ideal) ⟨0, ![]⟩ .f32 0x7F800000#32)) i = 1#1) : ∃ r : ℝ, x i = (r : EReal) := by
  have top : Ideal.ofBits .f32 0x7F800000#32 = ⊤ := by simp [Ideal.ofBits, Ideal.ieee]
  have e' : BitVec.ofBool (decide (max (x i) (-(x i)) < Ideal.ofBits .f32 0x7F800000#32)) = 1#1 := e
  refine ⟨_, real_of_abs_lt ?_⟩
  rw [top] at e'
  by_contra hn
  rw [decide_eq_false hn] at e'
  exact absurd e' (by decide)

end Cert.Reals
-- ==== Proof.NormGrad.lean ====
/- One row of a normalisation `x · rsqrt(mean(x²) + ε)` and its gradient, over the extended reals: the row's scale,
   the gradient as a kernel writes it out, the gradient as reverse-mode differentiation composes it, and their
   equality on finite rows. -/
module

public import proofs.«01_k».proof.Proof.Reals

@[expose] public section
noncomputable section

namespace Cert.NormGrad
open Idealize.ShloMosaic Cert.Reals

/-- The row length, as the programs' float constant. -/
abbrev len : EReal := Ideal.ofBits .f32 1149239296#32
/-- The normalisation's ε, as the programs' float constant. -/
abbrev eps : EReal := Ideal.ofBits .f32 897988541#32
/-- The factor of the reciprocal root's derivative, as the reference's float constant. -/
abbrev negHalf : EReal := Ideal.ofBits .f32 3204448256#32

theorem len_eq : len = ((1024 : ℝ) : EReal) := by
  simp [len, Ideal.ofBits, Ideal.ieee]
  rw [← EReal.coe_mul]
  norm_num
theorem eps_eq : ∃ e : ℝ, 0 < e ∧ eps = (e : EReal) :=
  ⟨8796093 * (2 ^ 43)⁻¹, by positivity, by simp [eps, Ideal.ofBits, Ideal.ieee]⟩
theorem negHalf_eq : negHalf = ((-(1 / 2) : ℝ) : EReal) := by
  simp [negHalf, Ideal.ofBits, Ideal.ieee]
  rw [← EReal.coe_mul]
  norm_num

/-- The mean of a row's squares, plus ε. -/
def var (x : Fin 1024 → EReal) : EReal := Ideal.div (∑ k, x k * x k) len + eps
/-- The row's scale. -/
def rinv (x : Fin 1024 → EReal) : EReal := Ideal.rsqrt (var x)
/-- The gradient against `x` of the normalised row with cotangent `q`, written out. -/
def grad (x q : Fin 1024 → EReal) (j : Fin 1024) : EReal :=
  rinv x * (q j - x j * rinv x * Ideal.div (∑ k, q k * (x k * rinv x)) len)
/-- What reverse-mode differentiation multiplies `x` with, once for each factor of `x · x`. -/
def coef (x q : Fin 1024 → EReal) : EReal :=
  ∑ _k : Fin 1, Ideal.div ((∑ k, x k * q k) * (negHalf * Ideal.div (rinv x) (var x))) len

/-- Of a finite row: the mean is a positive real, and the scale a real whose square is the mean's reciprocal. -/
theorem rinv_real {x : Fin 1024 → EReal} {ξ : Fin 1024 → ℝ} (hx : ∀ k, x k = ξ k) :
    ∃ v ρ : ℝ, 0 < v ∧ ρ * ρ * v = 1 ∧ var x = v ∧ rinv x = ρ := by
  obtain ⟨e, he, hE⟩ := eps_eq
  have hv : var x = (((∑ k, ξ k * ξ k) / 1024 + e : ℝ) : EReal) := by
    rw [var, hE, len_eq, EReal.coe_add, ← div_real (by norm_num), ← coe_sum]
    simp only [hx, EReal.coe_mul]
  have hp : 0 < (∑ k, ξ k * ξ k) / 1024 + e := by
    have : 0 ≤ ∑ k, ξ k * ξ k := Finset.sum_nonneg fun k _ => mul_self_nonneg _
    positivity
  refine ⟨_, _, hp, ?_, hv, by rw [rinv, hv, rsqrt_real hp]⟩
  rw [← mul_inv, Real.mul_self_sqrt hp.le, inv_mul_cancel₀ hp.ne']

/-- On finite rows the written-out gradient is the composed one, whatever it is added to. -/
theorem grad_eq {x q : Fin 1024 → EReal} (ξ θ : Fin 1024 → ℝ) (hx : ∀ k, x k = ξ k) (hq : ∀ k, q k = θ k) (d : EReal) (j : Fin 1024) :
    d + q j * rinv x + x j * coef x q + coef x q * x j = d + grad x q j := by
  obtain ⟨v, ρ, hv, hρ, hV, hR⟩ := rinv_real hx
  have hP : coef x q = (((∑ k, ξ k * θ k) * (-(1 / 2) * (ρ / v)) / 1024 : ℝ) : EReal) := by
    simp only [coef, hR, hV, hx, hq, negHalf_eq, len_eq, div_real hv.ne', ← EReal.coe_mul, coe_sum,
      div_real (show (1024 : ℝ) ≠ 0 by norm_num), Finset.univ_unique, Finset.sum_singleton]
  have hG : grad x q j = ((ρ * (θ j - ξ j * ρ * ((∑ k, θ k * (ξ k * ρ)) / 1024)) : ℝ) : EReal) := by
    simp only [grad, hR, hx, hq, len_eq, ← EReal.coe_mul, ← EReal.coe_sub, coe_sum,
      div_real (show (1024 : ℝ) ≠ 0 by norm_num)]
  rw [add_assoc, add_assoc]
  congr 1
  rw [hP, hG, hR, hx, hq]
  simp only [← EReal.coe_mul, ← EReal.coe_add]
  congr 1
  have e1 : ∑ k, θ k * (ξ k * ρ) = (∑ k, ξ k * θ k) * ρ := by
    rw [Finset.sum_mul]; exact Finset.sum_congr rfl fun k _ => by ring
  have e2 : ρ / v = ρ * ρ * ρ := by rw [div_eq_iff hv.ne']; linear_combination (-ρ) * hρ
  rw [e1, e2]
  ring

end Cert.NormGrad
-- ==== Proof.NormCall.lean ====
/- The gradient of one residual sublayer's normalisation and modulation `h = norm(x)·g·(1 + s) + shift`, `x' = x + c·gate·y`,
   with the cotangents `dh` of `h` and `d` of `x'`, over arrays of rows: what it adds to `d`, and the eight rows of sums
   over the tokens (of `g`, of `shift`, of `s`, of `gate`, and four rows of zeros). -/
module

public import proofs.«01_k».proof.Proof.NormGrad
public import Idealize.ShloMosaic.Lib.Pipeline.ValueKit

@[expose] public section
noncomputable section

namespace Cert.NormCall
open Idealize.ShloMosaic Cert.Reals Cert.NormGrad

variable {n : ℕ}

/-- The cotangent of the normalised row. -/
def cot (dh : Fin n → Fin 1024 → EReal) (s g : Fin 1024 → EReal) (i : Fin n) (j : Fin 1024) : EReal := dh i j * (1 + s j) * g j

/-- The gradient of the rows, added to `d`. -/
def dx (x d dh : Fin n → Fin 1024 → EReal) (s g : Fin 1024 → EReal) (i : Fin n) (j : Fin 1024) : EReal :=
  d i j + grad (x i) (cot dh s g i) j

/-- What token `i` adds to row `k` of the sums; the gate's row has its factor `c` outside. -/
def term (x d dh y : Fin n → Fin 1024 → EReal) (s g : Fin 1024 → EReal) (k : Fin 8) (j : Fin 1024) (i : Fin n) : EReal :=
  match k.val with
  | 0 => dh i j * (1 + s j) * (x i j * rinv (x i))
  | 1 => dh i j
  | 2 => dh i j * (x i j * rinv (x i) * g j)
  | 3 => d i j * y i j
  | _ => 0

/-- A row's sum of `f` over the tokens, with the gate's factor `c`. -/
def total (c : EReal) (k : Fin 8) (f : Fin n → EReal) : EReal := match k.val with | 3 => c * ∑ i, f i | _ => ∑ i, f i

/-- The rows' sums over `T` tiles of `n` tokens each are the sums over all tokens. -/
theorem total_tiles {T N : ℕ} {a : ℝ} (ha : 0 ≤ a) (hN : N = T * n) (k : Fin 8) (F : Fin T → Fin n → EReal) (f : Fin N → EReal)
    (h : ∀ t r (hl : t.val * n + r.val < N), F t r = f ⟨t.val * n + r.val, hl⟩) :
    ∑ t, total (a : EReal) k (F t) = total (a : EReal) k f := by
  have e : ∑ t, ∑ r, F t r = ∑ i, f i :=
    (Finset.sum_congr rfl fun t _ => Finset.sum_congr rfl fun r _ => h t r (Fin.mul_add_lt_of_eq_mul hN t r)).trans (Fin.sum_mul_add_fin T n f hN)
  unfold total
  split
  · rw [← mul_sum ha, e]
  · exact e

end Cert.NormCall
-- ==== Proof.NormKernel.lean ====
/- The backward call of the second feed-forward's normalisation: what it stores of the blocks it loads, and the two arrays
   it leaves, as functions of the arguments. -/
module

public import proofs.«01_k».proof.Proof.Gen.KernelIdeal.Value
public import proofs.«01_k».proof.Proof.Rows
public import proofs.«01_k».proof.Proof.NormCall

@[expose] public section
set_option maxRecDepth 16384
noncomputable section

namespace Cert.KernelIdeal.Norm
open Cert.KernelIdeal Cert.KernelIdeal.Gen Idealize.ShloMosaic Idealize.ShloMosaic.TcCoe Idealize.SL.Sem
open Idealize.ShloMosaic.Pipeline (Dat)
open Cert.KernelIdeal.Facts Cert.NormGrad Cert.NormCall
variable (m : (ℓ : Loc nD τ sig) → Buf (Elt Ideal) ℓ)

/-- Where each window's block lies at each grid point. -/
theorem idx : ∀ t : Fin cfg0.N, win0_0.index t = ![0, t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![0, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

theorem parts_blk (c : Dev nD) (t : Fin cfg0.N) (k : Fin 4) (r : Fin 512) (j : Fin 1024) :
    iblk m c 0 t (ix3 k r j) = m ((c : Thread nD τ).loc main_arg6) (ix3 k (tok t r) j) := by
  blk_ext [iblk, V, idx t, tok]

theorem x_blk (c : Dev nD) (t : Fin cfg0.N) (r : Fin 512) (j : Fin 1024) :
    iblk m c 1 t (ix2 r j) = m ((c : Thread nD τ).loc main_arg0) (ix2 (tok t r) j) := by
  blk_ext [iblk, V, idx t, tok]

theorem d_blk (c : Dev nD) (t : Fin cfg0.N) (r : Fin 512) (j : Fin 1024) :
    iblk m c 2 t (ix2 r j) = m ((c : Thread nD τ).loc main_arg7) (ix2 (tok t r) j) := by
  blk_ext [iblk, V, idx t, tok]

theorem y_blk (c : Dev nD) (t : Fin cfg0.N) (r : Fin 512) (j : Fin 1024) :
    iblk m c 3 t (ix2 r j) = m ((c : Thread nD τ).loc main_arg1) (ix2 (tok t r) j) := by
  blk_simp [iblk, idx t]
  entry_read
  pointwise
  blk_ext [idx t, tok]

theorem prm_blk (c : Dev nD) (t : Fin cfg0.N) (k : Fin 16) (j : Fin 1024) :
    iblk m c 4 t (ix2 k j) = V m c main_v7 (ix2 k j) := by
  unfold iblk
  blk_ext [idx t]

/-- The packed parameter rows, as the host lays them out. -/
def prm (shift scale gate g : FVec Ideal S1024 .f32) : FVec Ideal S16x1024 .f32 :=
  concatenate S16x1024 0 [⟨S6x1024, broadcastInDim S6x1024 ![] bcast_S_S6x1024 (constant (F := Ideal) S_ .f32 0x00000000#32)⟩,
    ⟨S1x1024, broadcastInDim S1x1024 ![1] bcast_S1024_S1x1024_1 shift⟩, ⟨S1x1024, broadcastInDim S1x1024 ![1] bcast_S1024_S1x1024_1 scale⟩,
    ⟨S1x1024, broadcastInDim S1x1024 ![1] bcast_S1024_S1x1024_1 gate⟩,
    ⟨S2x1024, broadcastInDim S2x1024 ![] bcast_S_S2x1024 (constant (F := Ideal) S_ .f32 0x00000000#32)⟩,
    ⟨S1x1024, broadcastInDim S1x1024 ![1] bcast_S1024_S1x1024_1 g⟩,
    ⟨S4x1024, broadcastInDim S4x1024 ![] bcast_S_S4x1024 (constant (F := Ideal) S_ .f32 0x00000000#32)⟩]
    concatenates_S6x1024_S1x1024_S1x1024_S1x1024_S2x1024_S1x1024_S4x1024_S16x1024_d0

theorem prm_scale (shift scale gate g : FVec Ideal S1024 .f32) (j : Fin 1024) : prm shift scale gate g (ix2 7 j) = scale (ix1 j) := by
  refine (Rows.stack_apply 2 (broadcastInDim S1x1024 ![1] bcast_S1024_S1x1024_1 scale) 7 0 (by simp) rfl rfl rfl).trans ?_
  pointwise
  blk_ext []

theorem prm_g (shift scale gate g : FVec Ideal S1024 .f32) (j : Fin 1024) : prm shift scale gate g (ix2 11 j) = g (ix1 j) := by
  refine (Rows.stack_apply 5 (broadcastInDim S1x1024 ![1] bcast_S1024_S1x1024_1 g) 11 0 (by simp) rfl rfl rfl).trans ?_
  pointwise
  blk_ext []

theorem prm_entry (c : Dev nD) : V m c main_v7 = prm (m ((c : Thread nD τ).loc main_arg2)) (m ((c : Thread nD τ).loc main_arg3))
    (m ((c : Thread nD τ).loc main_arg4)) (m ((c : Thread nD τ).loc main_arg5)) := rfl

theorem scale_blk (c : Dev nD) (t : Fin cfg0.N) (j : Fin 1024) : iblk m c 4 t (ix2 7 j) = m ((c : Thread nD τ).loc main_arg3) (ix1 j) := by
  rw [prm_blk, prm_entry, prm_scale]

theorem g_blk (c : Dev nD) (t : Fin cfg0.N) (j : Fin 1024) : iblk m c 4 t (ix2 11 j) = m ((c : Thread nD τ).loc main_arg5) (ix1 j) := by
  rw [prm_blk, prm_entry, prm_g]

/-- The arguments as functions of row and column: the rows normalised, -/
def X (c : Dev nD) (i : Fin 4096) (j : Fin 1024) : EReal := m ((c : Thread nD τ).loc main_arg0) (ix2 i j)
/-- the sublayer's output, -/
def Y (c : Dev nD) (i : Fin 4096) (j : Fin 1024) : EReal := m ((c : Thread nD τ).loc main_arg1) (ix2 i j)
/-- the residual's cotangent, -/
def D (c : Dev nD) (i : Fin 4096) (j : Fin 1024) : EReal := m ((c : Thread nD τ).loc main_arg7) (ix2 i j)
/-- the modulated rows' cotangent, the sum of the four parts, -/
def H (c : Dev nD) (i : Fin 4096) (j : Fin 1024) : EReal := ∑ k : Fin 4, m ((c : Thread nD τ).loc main_arg6) (ix3 k i j)
/-- the modulation's scale, -/
def S (c : Dev nD) (j : Fin 1024) : EReal := m ((c : Thread nD τ).loc main_arg3) (ix1 j)
/-- and the norm's weight. -/
def Gn (c : Dev nD) (j : Fin 1024) : EReal := m ((c : Thread nD τ).loc main_arg5) (ix1 j)

/-- The gate's factor. -/
abbrev half : EReal := Ideal.ofBits .f32 1056964608#32

theorem one_bits : (FloatOps.ofBits FTy.f32 1065353216#32 : Ideal .f32) = (1 : EReal) := by
  show Ideal.ofBits .f32 1065353216#32 = 1
  simp [Ideal.ofBits, Ideal.ieee]
  rw [← EReal.coe_mul]
  norm_num

theorem half_eq : ∃ a : ℝ, 0 ≤ a ∧ half = (a : EReal) :=
  ⟨8388608 * (2 ^ 24)⁻¹, by positivity, by simp [half, Ideal.ofBits, Ideal.ieee]⟩

/-- The first array: the gradient of the rows. -/
theorem dx_arr (c : Dev nD) : (dats m 0 c).arrAt 5 cfg0.N = fun y => dx (X m c) (D m c) (H m c) (S m c) (Gn m c) (y 0) (y 1) := by
  refine (dats m 0 c).arrAt_eq_of_covers 5 _ (by decide +kernel) fun t hf y => ?_
  obtain ⟨r, j, rfl⟩ := Rows.ix2_surj y
  blk_simp
  rw [after0_5]
  have hN : t.val < 8 := lt_of_lt_of_eq t.isLt N_0
  have hG : ((View.whole main_v9_0).slice (win0_5.rect t)).emb (ix2 r j) = ix2 (tok t r) j := by
    blk_ext [idx t, tok]
  rw [hG]
  by_cases h0 : t.val % 8 = 0
  · rw [outsAt0_A m c t h0 (by omega)]
    frame_out
    open_payloads
    pointwise
    simp only [parts_blk, x_blk, d_blk, scale_blk, g_blk, dx, grad, rinv, var, cot, X, D, H, S, Gn, Fin.sum_univ_four]
  · rw [outsAt0_B m c t h0 (by omega)]
    frame_out
    open_payloads
    pointwise
    simp only [parts_blk, x_blk, d_blk, scale_blk, g_blk, dx, grad, rinv, var, cot, X, D, H, S, Gn, Fin.sum_univ_four]

/-- What a tile adds to the sums, row by row. -/
theorem tile_rows (dh : FVec Ideal S512x1024 .f32) (d : FVec Ideal S512x1024 .f32) (f : FVec Ideal S512x1024 .bf16) (s g : FVec Ideal S1x1024 .f32)
    (x : FVec Ideal S512x1024 .f32) (o : Ideal .f32) (k : Fin 8) (j : Fin 1024) :
    k0_pay9 dh d f s g x o (ix2 k j) = total half k fun r => match k.val with
      | 0 => dh (ix2 r j) * (o + s (ix2 0 j)) * x (ix2 r j)
      | 1 => dh (ix2 r j)
      | 2 => dh (ix2 r j) * (x (ix2 r j) * g (ix2 0 j))
      | 3 => d (ix2 r j) * f (ix2 r j)
      | _ => 0 := by
  unfold k0_pay9
  match k with
  | 0 => refine (Rows.stack_apply (n := 1) 0 _ 0 0 (by simp) rfl rfl rfl).trans ?_; open_payloads; pointwise; rfl
  | 1 => refine (Rows.stack_apply (n := 1) 1 _ 1 0 (by simp) rfl rfl rfl).trans ?_; open_payloads; pointwise; rfl
  | 2 => refine (Rows.stack_apply (n := 1) 2 _ 2 0 (by simp) rfl rfl rfl).trans ?_; open_payloads; pointwise; rfl
  | 3 => refine (Rows.stack_apply (n := 1) 3 _ 3 0 (by simp) rfl rfl rfl).trans ?_; open_payloads; pointwise; rfl
  | ⟨k + 4, hk⟩ =>
    refine (Rows.stack_apply (n := 4) 4 _ 4 ⟨k, by omega⟩ (by simp) rfl rfl (Nat.add_comm _ _)).trans ?_
    pointwise
    exact Finset.sum_const_zero.symm

/-- The parts of grid point `t`'s tile, added. -/
abbrev dhT (c : Dev nD) (t : Fin cfg0.N) : FVec Ideal S512x1024 .f32 :=
  k0_pay1 (View.ld (iblk m c 0 t) (Rect.unit ![0, 0, 0] ![1, 512, 1024] inb_S4x512x1024_S1x512x1024_0_0_0))
        (View.ld (iblk m c 0 t) (Rect.unit ![1, 0, 0] ![1, 512, 1024] inb_S4x512x1024_S1x512x1024_1_0_0))
        (View.ld (iblk m c 0 t) (Rect.unit ![2, 0, 0] ![1, 512, 1024] inb_S4x512x1024_S1x512x1024_2_0_0))
        (View.ld (iblk m c 0 t) (Rect.unit ![3, 0, 0] ![1, 512, 1024] inb_S4x512x1024_S1x512x1024_3_0_0))
/-- The scale's row, as a grid point loads it. -/
abbrev sT (c : Dev nD) (t : Fin cfg0.N) : FVec Ideal S1x1024 .f32 :=
  k0_pay3 (View.ld (iblk m c 4 t) (Rect.unit ![7, 0] ![1, 1024] inb_S16x1024_S1x1024_7_0))
/-- The norm's weight, as a grid point loads it. -/
abbrev gT (c : Dev nD) (t : Fin cfg0.N) : FVec Ideal S1x1024 .f32 :=
  k0_pay4 (View.ld (iblk m c 4 t) (Rect.unit ![11, 0] ![1, 1024] inb_S16x1024_S1x1024_11_0))

theorem dhT_apply (c : Dev nD) (t : Fin cfg0.N) (r : Fin 512) (j : Fin 1024) : dhT m c t (ix2 r j) = H m c (tok t r) j := by
  unfold dhT; open_payloads; pointwise; simp only [parts_blk, H, Fin.sum_univ_four]
theorem yT_apply (c : Dev nD) (t : Fin cfg0.N) (r : Fin 512) (j : Fin 1024) : k0_pay2 (iblk m c 3 t) (ix2 r j) = Y m c (tok t r) j := by
  open_payloads; pointwise; simp only [y_blk, Y]
theorem sT_apply (c : Dev nD) (t : Fin cfg0.N) (j : Fin 1024) : sT m c t (ix2 0 j) = S m c j := by
  unfold sT; open_payloads; pointwise; simp only [scale_blk, S]
theorem gT_apply (c : Dev nD) (t : Fin cfg0.N) (j : Fin 1024) : gT m c t (ix2 0 j) = Gn m c j := by
  unfold gT; open_payloads; pointwise; simp only [g_blk, Gn]
theorem nT_apply (c : Dev nD) (t : Fin cfg0.N) (r : Fin 512) (j : Fin 1024) :
    k0_pay6 (iblk m c 1 t) (ix2 r j) = X m c (tok t r) j * rinv (X m c (tok t r)) := by
  open_payloads; pointwise; simp only [x_blk, X, rinv, var]

/-- What grid point `t`'s tile adds to the sums, of blocks that hold its tokens. -/
theorem tile_term (c : Dev nD) (t : Fin cfg0.N) (k : Fin 8) (j : Fin 1024) :
    k0_pay9 (dhT m c t) (iblk m c 2 t) (k0_pay2 (iblk m c 3 t)) (sT m c t) (gT m c t) (k0_pay6 (iblk m c 1 t)) (FloatOps.ofBits FTy.f32 1065353216#32) (ix2 k j)
      = total half k fun r => term (X m c) (D m c) (H m c) (Y m c) (S m c) (Gn m c) k j (tok t r) := by
  rw [tile_rows]
  refine congrArg (total half k) (funext fun r => ?_)
  simp only [dhT_apply, yT_apply, sT_apply, gT_apply, nT_apply, d_blk, one_bits]
  rfl

/-- The second array: the sums over all tokens. -/
theorem sums_arr (c : Dev nD) : (dats m 0 c).arrAt 6 cfg0.N = fun y =>
    total half (y 0) (term (X m c) (D m c) (H m c) (Y m c) (S m c) (Gn m c) (y 0) (y 1)) := by
  refine (dats m 0 c).arrAt_eq_of_after_last 6 t0_7 (by decide +kernel) _ fun j => ?_
  obtain ⟨k, j, rfl⟩ := Rows.ix2_surj j
  blk_simp
  rw [after0_6]
  refine (Pipeline.eq_sum_fin_of_reset_step_apply_last (fun n h => (outsAt0 m c n h).2) 8 (fun _ => (0 : EReal))
    (fun t y => total half (y 0) fun r => term (X m c) (D m c) (H m c) (Y m c) (S m c) (Gn m c) (y 0) (y 1) (tok ⟨t.val, lt_of_lt_of_eq t.isLt N_0.symm⟩ r))
    (fun t h y => ?_) (fun t h y => ?_) (le_of_eq N_0) t0_7 rfl (ix2 k j)).trans ?_
  · have hN : t.val < 8 := lt_of_lt_of_eq t.isLt N_0
    obtain ⟨k, j, rfl⟩ := Rows.ix2_surj y
    rw [outsAt0_A m c t (by omega) (by omega)]
    frame_out
    exact (tile_term m c t k j).trans (zero_add _).symm
  · have hN : t.val < 8 := lt_of_lt_of_eq t.isLt N_0
    obtain ⟨k, j, rfl⟩ := Rows.ix2_surj y
    rw [outsAt0_B m c t (by omega) (by omega)]
    frame_out
    refine Eq.trans ?_ (congrArg ((outsAt0 m c (t.val - 1) (by omega)).2 (ix2 k j) + ·) (tile_term m c t k j))
    unfold k0_pay10
    pointwise
    rfl
  · rw [zero_add]
    obtain ⟨a, ha, e⟩ := half_eq
    rw [e]
    exact total_tiles ha rfl k _ _ fun t r hl => rfl

end Cert.KernelIdeal.Norm
-- ==== Proof.NormRef.lean ====
/- The reference of the normalisation's backward call: what reverse-mode differentiation of the sublayer's lines computes,
   entry by entry. -/
module

public import proofs.«01_k».proof.Proof.Gen.ReferenceIdeal.Run
public import proofs.«01_k».proof.Proof.Gen.ReferenceIdeal.Read
public import proofs.«01_k».proof.Proof.Rows
public import proofs.«01_k».proof.Proof.NormCall

@[expose] public section
set_option maxRecDepth 16384
noncomputable section

namespace Cert.ReferenceIdeal.Norm
open Idealize.ShloMosaic Idealize.ShloMosaic.TcCoe Cert.ReferenceIdeal.Read Cert.NormGrad Cert.NormCall
variable (m : (ℓ : Loc nD τ sig) → Buf (Elt Ideal) ℓ)

/-- The arguments as functions of row and column: the rows normalised, -/
def X (c : Dev nD) (i : Fin 4096) (j : Fin 1024) : EReal := m ((c : Thread nD τ).loc main_arg0) (ix2 i j)
/-- the sublayer's output, -/
def Y (c : Dev nD) (i : Fin 4096) (j : Fin 1024) : EReal := m ((c : Thread nD τ).loc main_arg1) (ix2 i j)
/-- the residual's cotangent, -/
def D (c : Dev nD) (i : Fin 4096) (j : Fin 1024) : EReal := m ((c : Thread nD τ).loc main_arg7) (ix2 i j)
/-- the modulated rows' cotangent, the sum of the four parts, -/
def H (c : Dev nD) (i : Fin 4096) (j : Fin 1024) : EReal := ∑ k : Fin 4, m ((c : Thread nD τ).loc main_arg6) (ix3 k i j)
/-- the modulation's scale, -/
def S (c : Dev nD) (j : Fin 1024) : EReal := m ((c : Thread nD τ).loc main_arg3) (ix1 j)
/-- and the norm's weight. -/
def Gn (c : Dev nD) (j : Fin 1024) : EReal := m ((c : Thread nD τ).loc main_arg5) (ix1 j)

/-- The gradient of the rows, composed, is the written-out one where the arguments it reads are finite. -/
theorem dx_res (c : Dev nD) (hx : ∀ i j, ∃ a : ℝ, X m c i j = a) (hh : ∀ i j, ∃ a : ℝ, H m c i j = a) (hs : ∀ j, ∃ a : ℝ, S m c j = a)
    (hg : ∀ j, ∃ a : ℝ, Gn m c j = a) : Cert.ReferenceIdeal.Value.res_main_v70 m c = fun y => dx (X m c) (D m c) (H m c) (S m c) (Gn m c) (y 0) (y 1) := by
  funext y
  obtain ⟨i, j, rfl⟩ := Rows.ix2_surj y
  unfold Cert.ReferenceIdeal.Value.res_main_v70
  pointwise
  choose ξ hξ using hx
  choose η hη using hh
  choose σ hσ using hs
  choose γ hγ using hg
  refine Eq.trans ?_ (grad_eq (ξ i) (fun k => η i k * (1 + σ k) * γ k) (hξ i) (fun k => ?_) (D m c i j) j)
  · rfl
  · rw [cot, hη, hσ, hγ, EReal.coe_mul, EReal.coe_mul, EReal.coe_add, EReal.coe_one]

/-- The sums, row by row. -/
theorem sums_res (c : Dev nD) (k : Fin 8) (j : Fin 1024) :
    val_main_v77 (F := Ideal) (m ((c : Thread nD τ).loc main_arg0)) (m ((c : Thread nD τ).loc main_arg1)) (m ((c : Thread nD τ).loc main_arg3))
      (m ((c : Thread nD τ).loc main_arg5)) (m ((c : Thread nD τ).loc main_arg6)) (m ((c : Thread nD τ).loc main_arg7)) (ix2 k j)
      = total (Ideal.ofBits .f32 1056964608#32) k (term (X m c) (D m c) (H m c) (Y m c) (S m c) (Gn m c) k j) := by
  rw [← val_main_v77_eq]
  match k with
  | 0 =>
    refine (Rows.stack_apply (n := 4) 0 _ 0 0 (by simp) rfl rfl rfl).trans ?_
    refine (Rows.stack_apply (n := 1) 0 _ 0 0 (by simp) rfl rfl rfl).trans ?_
    pointwise
    exact (Fin.sum_univ_one _).trans (Finset.sum_congr rfl fun i _ => mul_comm _ _)
  | 1 =>
    refine (Rows.stack_apply (n := 4) 0 _ 0 1 (by simp) rfl rfl rfl).trans ?_
    refine (Rows.stack_apply (n := 1) 1 _ 1 0 (by simp) rfl rfl rfl).trans ?_
    pointwise
    exact Fin.sum_univ_one _
  | 2 =>
    refine (Rows.stack_apply (n := 4) 0 _ 0 2 (by simp) rfl rfl rfl).trans ?_
    refine (Rows.stack_apply (n := 1) 2 _ 2 0 (by simp) rfl rfl rfl).trans ?_
    pointwise
    exact (Fin.sum_univ_one _).trans (Finset.sum_congr rfl fun i _ => mul_comm _ _)
  | 3 =>
    refine (Rows.stack_apply (n := 4) 0 _ 0 3 (by simp) rfl rfl rfl).trans ?_
    refine (Rows.stack_apply (n := 1) 3 _ 3 0 (by simp) rfl rfl rfl).trans ?_
    pointwise
    exact Fin.sum_univ_one _
  | ⟨k + 4, hk⟩ =>
    refine (Rows.stack_apply (n := 4) 1 _ 4 ⟨k, by omega⟩ (by simp) rfl rfl (Nat.add_comm _ _)).trans ?_
    pointwise
    exact Finset.sum_const_zero.symm

end Cert.ReferenceIdeal.Norm
-- ==== Proof.NormEq.lean ====
/- The normalisation's backward call and its reference leave the same arrays, where the arguments that the composed gradient
   reads are finite. -/
module

public import proofs.«01_k».proof.Defs
public import proofs.«01_k».proof.Proof.Gen.Pre_finite_args
public import proofs.«01_k».proof.Proof.Gen.KernelIdeal
public import proofs.«01_k».proof.Proof.Gen.ReferenceIdeal
public import proofs.«01_k».proof.Proof.NormKernel
public import proofs.«01_k».proof.Proof.NormRef

@[expose] public section
noncomputable section

namespace Cert.NormEq
open Idealize.ShloMosaic Idealize.ShloMosaic.TcCoe Idealize.SL.Sem Cert.Reals Cert.NormGrad Cert.NormCall
open Cert.KernelIdeal (nD τ sig)
open Cert.KernelIdeal.Norm (X Y D H S Gn)
attribute [local instance] Cert.KernelIdeal.Gen.facts Cert.ReferenceIdeal.Gen.facts Cert.Pre_finite_args.Gen.facts

variable (m : (ℓ : Loc nD τ sig) → Buf (Elt Ideal) ℓ) (h : Cert.Pre_KernelIdeal_finite_args m) (c : Dev nD)
include h

theorem x_real (i : Fin 4096) (j : Fin 1024) : ∃ a : ℝ, X m c i j = a :=
  real_of_flag _ _ (ix2 i j) (congrFun (h c).1 (ix2 i j))

theorem s_real (j : Fin 1024) : ∃ a : ℝ, S m c j = a := real_of_flag _ _ (ix1 j) (congrFun (h c).2.1 (ix1 j))

theorem g_real (j : Fin 1024) : ∃ a : ℝ, Gn m c j = a := real_of_flag _ _ (ix1 j) (congrFun (h c).2.2.1 (ix1 j))

theorem h_real (i : Fin 4096) (j : Fin 1024) : ∃ a : ℝ, H m c i j = a := by
  choose p hp using fun k : Fin 4 => real_of_flag (extf .f32 (m ((c : Thread nD τ).loc Cert.KernelIdeal.main_arg6)) (by decide)) _ (ix3 k i j) (congrFun (h c).2.2.2 (ix3 k i j))
  exact ⟨∑ k, p k, (Finset.sum_congr rfl fun k _ => hp k).trans (coe_sum _ _)⟩

end Cert.NormEq

namespace Cert.Proof
open Idealize.ShloMosaic Idealize.ShloMosaic.TcCoe Idealize.SL.Sem Cert.NormCall
attribute [local instance] Cert.KernelIdeal.Gen.facts Cert.ReferenceIdeal.Gen.facts Cert.Pre_finite_args.Gen.facts

/-- The two programs leave the same arrays. -/
theorem norm : Cert.algebraic_KernelIdeal_ReferenceIdeal_pre_finite_args := fun m g m' g' hp ha => by
  refine ⟨fun c => (Cert.KernelIdeal.Gen.dats m 0 c).arrAt 5 Cert.KernelIdeal.cfg0.N, fun c => (Cert.KernelIdeal.Gen.dats m 0 c).arrAt 6 Cert.KernelIdeal.cfg0.N,
    (θ_run Cert.KernelIdeal.defs _ _).mono (fun r h c => ?_) (Cert.KernelIdeal.Value.run_blocks (F := Ideal) m g),
    (θ_run Cert.ReferenceIdeal.defs _ _).mono (fun r h c => ?_) (Cert.ReferenceIdeal.Value.run (F := Ideal) m' g')⟩
  · exact h c
  · obtain ⟨h0, h1, h⟩ := h c
    obtain ⟨a0, a1, a2, a3, a4, a5, a6, a7⟩ := ha c
    have eX : Cert.ReferenceIdeal.Norm.X m' c = Cert.KernelIdeal.Norm.X m c := funext₂ fun i j => congrFun a0 (ix2 i j)
    have eY : Cert.ReferenceIdeal.Norm.Y m' c = Cert.KernelIdeal.Norm.Y m c := funext₂ fun i j => congrFun a1 (ix2 i j)
    have eS : Cert.ReferenceIdeal.Norm.S m' c = Cert.KernelIdeal.Norm.S m c := funext fun j => congrFun a3 (ix1 j)
    have eG : Cert.ReferenceIdeal.Norm.Gn m' c = Cert.KernelIdeal.Norm.Gn m c := funext fun j => congrFun a5 (ix1 j)
    have eH : Cert.ReferenceIdeal.Norm.H m' c = Cert.KernelIdeal.Norm.H m c :=
      funext₂ fun i j => Finset.sum_congr rfl fun k _ => congrFun a6 (ix3 k i j)
    have eD : Cert.ReferenceIdeal.Norm.D m' c = Cert.KernelIdeal.Norm.D m c := funext₂ fun i j => congrFun a7 (ix2 i j)
    refine ⟨h0.trans ?_, h1.trans ?_, h⟩
    · refine (Cert.ReferenceIdeal.Norm.dx_res m' c (eX ▸ Cert.NormEq.x_real m hp c) (eH ▸ Cert.NormEq.h_real m hp c) (eS ▸ Cert.NormEq.s_real m hp c)
        (eG ▸ Cert.NormEq.g_real m hp c)).trans ?_
      rw [eX, eD, eH, eS, eG]
      exact (Cert.KernelIdeal.Norm.dx_arr m c).symm
    · refine Eq.trans ?_ (Cert.KernelIdeal.Norm.sums_arr m c).symm
      funext y
      obtain ⟨k, j, rfl⟩ := Rows.ix2_surj y
      rw [← eX, ← eD, ← eH, ← eY, ← eS, ← eG]
      exact Cert.ReferenceIdeal.Norm.sums_res m' c k j

end Cert.Proof
-- ==== Proof.FirstKernel.lean ====
/- The backward call of the first feed-forward's normalisation: what it stores of the blocks it loads, and the two arrays
   it leaves, as functions of the arguments. -/
module

public import proofs.«01_k».proof.Proof.Gen.FirstIdeal.Value
public import proofs.«01_k».proof.Proof.Rows
public import proofs.«01_k».proof.Proof.NormCall

@[expose] public section
set_option maxRecDepth 16384
noncomputable section

namespace Cert.FirstIdeal.First
open Cert.FirstIdeal Cert.FirstIdeal.Gen Idealize.ShloMosaic Idealize.ShloMosaic.TcCoe Idealize.SL.Sem
open Idealize.ShloMosaic.Pipeline (Dat)
open Cert.FirstIdeal.Facts Cert.NormGrad Cert.NormCall
variable (m : (ℓ : Loc nD τ sig) → Buf (Elt Ideal) ℓ)

/-- Where each window's block lies at each grid point. -/
theorem idx : ∀ t : Fin cfg0.N, win0_0.index t = ![0, t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![0, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

theorem parts_blk (c : Dev nD) (t : Fin cfg0.N) (k : Fin 4) (r : Fin 512) (j : Fin 1024) :
    iblk m c 0 t (ix3 k r j) = m ((c : Thread nD τ).loc main_arg6) (ix3 k (tok t r) j) := by
  blk_ext [iblk, V, idx t, tok]

theorem x_blk (c : Dev nD) (t : Fin cfg0.N) (r : Fin 512) (j : Fin 1024) :
    iblk m c 1 t (ix2 r j) = m ((c : Thread nD τ).loc main_arg0) (ix2 (tok t r) j) := by
  blk_ext [iblk, V, idx t, tok]

theorem d_blk (c : Dev nD) (t : Fin cfg0.N) (r : Fin 512) (j : Fin 1024) :
    iblk m c 2 t (ix2 r j) = m ((c : Thread nD τ).loc main_arg7) (ix2 (tok t r) j) := by
  blk_ext [iblk, V, idx t, tok]

theorem y_blk (c : Dev nD) (t : Fin cfg0.N) (r : Fin 512) (j : Fin 1024) :
    iblk m c 3 t (ix2 r j) = m ((c : Thread nD τ).loc main_arg1) (ix2 (tok t r) j) := by
  blk_simp [iblk, idx t]
  entry_read
  pointwise
  blk_ext [idx t, tok]

theorem prm_blk (c : Dev nD) (t : Fin cfg0.N) (k : Fin 16) (j : Fin 1024) :
    iblk m c 4 t (ix2 k j) = V m c main_v6 (ix2 k j) := by
  unfold iblk
  blk_ext [idx t]

/-- The packed parameter rows, as the host lays them out. -/
def prm (shift scale gate g : FVec Ideal S1024 .f32) : FVec Ideal S16x1024 .f32 :=
  concatenate S16x1024 0 [⟨S1x1024, broadcastInDim S1x1024 ![1] bcast_S1024_S1x1024_1 shift⟩,
    ⟨S1x1024, broadcastInDim S1x1024 ![1] bcast_S1024_S1x1024_1 scale⟩, ⟨S1x1024, broadcastInDim S1x1024 ![1] bcast_S1024_S1x1024_1 gate⟩,
    ⟨S6x1024, broadcastInDim S6x1024 ![] bcast_S_S6x1024 (constant (F := Ideal) S_ .f32 0x00000000#32)⟩,
    ⟨S1x1024, broadcastInDim S1x1024 ![1] bcast_S1024_S1x1024_1 g⟩,
    ⟨S6x1024, broadcastInDim S6x1024 ![] bcast_S_S6x1024 (constant (F := Ideal) S_ .f32 0x00000000#32)⟩]
    concatenates_S1x1024_S1x1024_S1x1024_S6x1024_S1x1024_S6x1024_S16x1024_d0

theorem prm_scale (shift scale gate g : FVec Ideal S1024 .f32) (j : Fin 1024) : prm shift scale gate g (ix2 1 j) = scale (ix1 j) := by
  refine (Rows.stack_apply 1 (broadcastInDim S1x1024 ![1] bcast_S1024_S1x1024_1 scale) 1 0 (by simp) rfl rfl rfl).trans ?_
  pointwise
  blk_ext []

theorem prm_g (shift scale gate g : FVec Ideal S1024 .f32) (j : Fin 1024) : prm shift scale gate g (ix2 9 j) = g (ix1 j) := by
  refine (Rows.stack_apply 4 (broadcastInDim S1x1024 ![1] bcast_S1024_S1x1024_1 g) 9 0 (by simp) rfl rfl rfl).trans ?_
  pointwise
  blk_ext []

theorem prm_entry (c : Dev nD) : V m c main_v6 = prm (m ((c : Thread nD τ).loc main_arg2)) (m ((c : Thread nD τ).loc main_arg3))
    (m ((c : Thread nD τ).loc main_arg4)) (m ((c : Thread nD τ).loc main_arg5)) := rfl

theorem scale_blk (c : Dev nD) (t : Fin cfg0.N) (j : Fin 1024) : iblk m c 4 t (ix2 1 j) = m ((c : Thread nD τ).loc main_arg3) (ix1 j) := by
  rw [prm_blk, prm_entry, prm_scale]

theorem g_blk (c : Dev nD) (t : Fin cfg0.N) (j : Fin 1024) : iblk m c 4 t (ix2 9 j) = m ((c : Thread nD τ).loc main_arg5) (ix1 j) := by
  rw [prm_blk, prm_entry, prm_g]

/-- The arguments as functions of row and column: the rows normalised, -/
def X (c : Dev nD) (i : Fin 4096) (j : Fin 1024) : EReal := m ((c : Thread nD τ).loc main_arg0) (ix2 i j)
/-- the sublayer's output, -/
def Y (c : Dev nD) (i : Fin 4096) (j : Fin 1024) : EReal := m ((c : Thread nD τ).loc main_arg1) (ix2 i j)
/-- the residual's cotangent, -/
def D (c : Dev nD) (i : Fin 4096) (j : Fin 1024) : EReal := m ((c : Thread nD τ).loc main_arg7) (ix2 i j)
/-- the modulated rows' cotangent, the sum of the four parts, -/
def H (c : Dev nD) (i : Fin 4096) (j : Fin 1024) : EReal := ∑ k : Fin 4, m ((c : Thread nD τ).loc main_arg6) (ix3 k i j)
/-- the modulation's scale, -/
def S (c : Dev nD) (j : Fin 1024) : EReal := m ((c : Thread nD τ).loc main_arg3) (ix1 j)
/-- and the norm's weight. -/
def Gn (c : Dev nD) (j : Fin 1024) : EReal := m ((c : Thread nD τ).loc main_arg5) (ix1 j)

/-- The gate's factor. -/
abbrev half : EReal := Ideal.ofBits .f32 1056964608#32

theorem one_bits : (FloatOps.ofBits FTy.f32 1065353216#32 : Ideal .f32) = (1 : EReal) := by
  show Ideal.ofBits .f32 1065353216#32 = 1
  simp [Ideal.ofBits, Ideal.ieee]
  rw [← EReal.coe_mul]
  norm_num

theorem half_eq : ∃ a : ℝ, 0 ≤ a ∧ half = (a : EReal) :=
  ⟨8388608 * (2 ^ 24)⁻¹, by positivity, by simp [half, Ideal.ofBits, Ideal.ieee]⟩

/-- The first array: the gradient of the rows. -/
theorem dx_arr (c : Dev nD) : (dats m 0 c).arrAt 5 cfg0.N = fun y => dx (X m c) (D m c) (H m c) (S m c) (Gn m c) (y 0) (y 1) := by
  refine (dats m 0 c).arrAt_eq_of_covers 5 _ (by decide +kernel) fun t hf y => ?_
  obtain ⟨r, j, rfl⟩ := Rows.ix2_surj y
  blk_simp
  rw [after0_5]
  have hN : t.val < 8 := lt_of_lt_of_eq t.isLt N_0
  have hG : ((View.whole main_v8_0).slice (win0_5.rect t)).emb (ix2 r j) = ix2 (tok t r) j := by
    blk_ext [idx t, tok]
  rw [hG]
  by_cases h0 : t.val % 8 = 0
  · rw [outsAt0_A m c t h0 (by omega)]
    frame_out
    open_payloads
    pointwise
    simp only [parts_blk, x_blk, d_blk, scale_blk, g_blk, dx, grad, rinv, var, cot, X, D, H, S, Gn, Fin.sum_univ_four]
  · rw [outsAt0_B m c t h0 (by omega)]
    frame_out
    open_payloads
    pointwise
    simp only [parts_blk, x_blk, d_blk, scale_blk, g_blk, dx, grad, rinv, var, cot, X, D, H, S, Gn, Fin.sum_univ_four]

/-- What a tile adds to the sums, row by row. -/
theorem tile_rows (dh : FVec Ideal S512x1024 .f32) (d : FVec Ideal S512x1024 .f32) (f : FVec Ideal S512x1024 .bf16) (s g : FVec Ideal S1x1024 .f32)
    (x : FVec Ideal S512x1024 .f32) (o : Ideal .f32) (k : Fin 8) (j : Fin 1024) :
    k0_pay9 dh d f s g x o (ix2 k j) = total half k fun r => match k.val with
      | 0 => dh (ix2 r j) * (o + s (ix2 0 j)) * x (ix2 r j)
      | 1 => dh (ix2 r j)
      | 2 => dh (ix2 r j) * (x (ix2 r j) * g (ix2 0 j))
      | 3 => d (ix2 r j) * f (ix2 r j)
      | _ => 0 := by
  unfold k0_pay9
  match k with
  | 0 => refine (Rows.stack_apply (n := 1) 0 _ 0 0 (by simp) rfl rfl rfl).trans ?_; open_payloads; pointwise; rfl
  | 1 => refine (Rows.stack_apply (n := 1) 1 _ 1 0 (by simp) rfl rfl rfl).trans ?_; open_payloads; pointwise; rfl
  | 2 => refine (Rows.stack_apply (n := 1) 2 _ 2 0 (by simp) rfl rfl rfl).trans ?_; open_payloads; pointwise; rfl
  | 3 => refine (Rows.stack_apply (n := 1) 3 _ 3 0 (by simp) rfl rfl rfl).trans ?_; open_payloads; pointwise; rfl
  | ⟨k + 4, hk⟩ =>
    refine (Rows.stack_apply (n := 4) 4 _ 4 ⟨k, by omega⟩ (by simp) rfl rfl (Nat.add_comm _ _)).trans ?_
    pointwise
    exact Finset.sum_const_zero.symm

/-- The parts of grid point `t`'s tile, added. -/
abbrev dhT (c : Dev nD) (t : Fin cfg0.N) : FVec Ideal S512x1024 .f32 :=
  k0_pay1 (View.ld (iblk m c 0 t) (Rect.unit ![0, 0, 0] ![1, 512, 1024] inb_S4x512x1024_S1x512x1024_0_0_0))
        (View.ld (iblk m c 0 t) (Rect.unit ![1, 0, 0] ![1, 512, 1024] inb_S4x512x1024_S1x512x1024_1_0_0))
        (View.ld (iblk m c 0 t) (Rect.unit ![2, 0, 0] ![1, 512, 1024] inb_S4x512x1024_S1x512x1024_2_0_0))
        (View.ld (iblk m c 0 t) (Rect.unit ![3, 0, 0] ![1, 512, 1024] inb_S4x512x1024_S1x512x1024_3_0_0))
/-- The scale's row, as a grid point loads it. -/
abbrev sT (c : Dev nD) (t : Fin cfg0.N) : FVec Ideal S1x1024 .f32 :=
  k0_pay3 (View.ld (iblk m c 4 t) (Rect.unit ![1, 0] ![1, 1024] inb_S16x1024_S1x1024_1_0))
/-- The norm's weight, as a grid point loads it. -/
abbrev gT (c : Dev nD) (t : Fin cfg0.N) : FVec Ideal S1x1024 .f32 :=
  k0_pay4 (View.ld (iblk m c 4 t) (Rect.unit ![9, 0] ![1, 1024] inb_S16x1024_S1x1024_9_0))

theorem dhT_apply (c : Dev nD) (t : Fin cfg0.N) (r : Fin 512) (j : Fin 1024) : dhT m c t (ix2 r j) = H m c (tok t r) j := by
  unfold dhT; open_payloads; pointwise; simp only [parts_blk, H, Fin.sum_univ_four]
theorem yT_apply (c : Dev nD) (t : Fin cfg0.N) (r : Fin 512) (j : Fin 1024) : k0_pay2 (iblk m c 3 t) (ix2 r j) = Y m c (tok t r) j := by
  open_payloads; pointwise; simp only [y_blk, Y]
theorem sT_apply (c : Dev nD) (t : Fin cfg0.N) (j : Fin 1024) : sT m c t (ix2 0 j) = S m c j := by
  unfold sT; open_payloads; pointwise; simp only [scale_blk, S]
theorem gT_apply (c : Dev nD) (t : Fin cfg0.N) (j : Fin 1024) : gT m c t (ix2 0 j) = Gn m c j := by
  unfold gT; open_payloads; pointwise; simp only [g_blk, Gn]
theorem nT_apply (c : Dev nD) (t : Fin cfg0.N) (r : Fin 512) (j : Fin 1024) :
    k0_pay6 (iblk m c 1 t) (ix2 r j) = X m c (tok t r) j * rinv (X m c (tok t r)) := by
  open_payloads; pointwise; simp only [x_blk, X, rinv, var]

/-- What grid point `t`'s tile adds to the sums, of blocks that hold its tokens. -/
theorem tile_term (c : Dev nD) (t : Fin cfg0.N) (k : Fin 8) (j : Fin 1024) :
    k0_pay9 (dhT m c t) (iblk m c 2 t) (k0_pay2 (iblk m c 3 t)) (sT m c t) (gT m c t) (k0_pay6 (iblk m c 1 t)) (FloatOps.ofBits FTy.f32 1065353216#32) (ix2 k j)
      = total half k fun r => term (X m c) (D m c) (H m c) (Y m c) (S m c) (Gn m c) k j (tok t r) := by
  rw [tile_rows]
  refine congrArg (total half k) (funext fun r => ?_)
  simp only [dhT_apply, yT_apply, sT_apply, gT_apply, nT_apply, d_blk, one_bits]
  rfl

/-- The second array: the sums over all tokens. -/
theorem sums_arr (c : Dev nD) : (dats m 0 c).arrAt 6 cfg0.N = fun y =>
    total half (y 0) (term (X m c) (D m c) (H m c) (Y m c) (S m c) (Gn m c) (y 0) (y 1)) := by
  refine (dats m 0 c).arrAt_eq_of_after_last 6 t0_7 (by decide +kernel) _ fun j => ?_
  obtain ⟨k, j, rfl⟩ := Rows.ix2_surj j
  blk_simp
  rw [after0_6]
  refine (Pipeline.eq_sum_fin_of_reset_step_apply_last (fun n h => (outsAt0 m c n h).2) 8 (fun _ => (0 : EReal))
    (fun t y => total half (y 0) fun r => term (X m c) (D m c) (H m c) (Y m c) (S m c) (Gn m c) (y 0) (y 1) (tok ⟨t.val, lt_of_lt_of_eq t.isLt N_0.symm⟩ r))
    (fun t h y => ?_) (fun t h y => ?_) (le_of_eq N_0) t0_7 rfl (ix2 k j)).trans ?_
  · have hN : t.val < 8 := lt_of_lt_of_eq t.isLt N_0
    obtain ⟨k, j, rfl⟩ := Rows.ix2_surj y
    rw [outsAt0_A m c t (by omega) (by omega)]
    frame_out
    exact (tile_term m c t k j).trans (zero_add _).symm
  · have hN : t.val < 8 := lt_of_lt_of_eq t.isLt N_0
    obtain ⟨k, j, rfl⟩ := Rows.ix2_surj y
    rw [outsAt0_B m c t (by omega) (by omega)]
    frame_out
    refine Eq.trans ?_ (congrArg ((outsAt0 m c (t.val - 1) (by omega)).2 (ix2 k j) + ·) (tile_term m c t k j))
    unfold k0_pay10
    pointwise
    rfl
  · rw [zero_add]
    obtain ⟨a, ha, e⟩ := half_eq
    rw [e]
    exact total_tiles ha rfl k _ _ fun t r hl => rfl

end Cert.FirstIdeal.First
-- ==== Proof.FirstEq.lean ====
/- The first normalisation's backward call and its reference leave the same arrays, where the arguments that the composed gradient
   reads are finite. -/
module

public import proofs.«01_k».proof.Defs
public import proofs.«01_k».proof.Proof.Gen.Pre_finite_first
public import proofs.«01_k».proof.Proof.Gen.FirstIdeal
public import proofs.«01_k».proof.Proof.Gen.ReferenceIdeal
public import proofs.«01_k».proof.Proof.FirstKernel
public import proofs.«01_k».proof.Proof.NormRef

@[expose] public section
noncomputable section

namespace Cert.FirstEq
open Idealize.ShloMosaic Idealize.ShloMosaic.TcCoe Idealize.SL.Sem Cert.Reals Cert.NormGrad Cert.NormCall
open Cert.FirstIdeal (nD τ sig)
open Cert.FirstIdeal.First (X Y D H S Gn)
attribute [local instance] Cert.FirstIdeal.Gen.facts Cert.ReferenceIdeal.Gen.facts Cert.Pre_finite_first.Gen.facts

variable (m : (ℓ : Loc nD τ sig) → Buf (Elt Ideal) ℓ) (h : Cert.Pre_FirstIdeal_finite_first m) (c : Dev nD)
include h

theorem x_real (i : Fin 4096) (j : Fin 1024) : ∃ a : ℝ, X m c i j = a :=
  real_of_flag _ _ (ix2 i j) (congrFun (h c).1 (ix2 i j))

theorem s_real (j : Fin 1024) : ∃ a : ℝ, S m c j = a := real_of_flag _ _ (ix1 j) (congrFun (h c).2.1 (ix1 j))

theorem g_real (j : Fin 1024) : ∃ a : ℝ, Gn m c j = a := real_of_flag _ _ (ix1 j) (congrFun (h c).2.2.1 (ix1 j))

theorem h_real (i : Fin 4096) (j : Fin 1024) : ∃ a : ℝ, H m c i j = a := by
  choose p hp using fun k : Fin 4 => real_of_flag (extf .f32 (m ((c : Thread nD τ).loc Cert.FirstIdeal.main_arg6)) (by decide)) _ (ix3 k i j) (congrFun (h c).2.2.2 (ix3 k i j))
  exact ⟨∑ k, p k, (Finset.sum_congr rfl fun k _ => hp k).trans (coe_sum _ _)⟩

end Cert.FirstEq

namespace Cert.Proof
open Idealize.ShloMosaic Idealize.ShloMosaic.TcCoe Idealize.SL.Sem Cert.NormCall
attribute [local instance] Cert.FirstIdeal.Gen.facts Cert.ReferenceIdeal.Gen.facts Cert.Pre_finite_first.Gen.facts

/-- The two programs leave the same arrays. -/
theorem first : Cert.algebraic_FirstIdeal_ReferenceIdeal_pre_finite_first := fun m g m' g' hp ha => by
  refine ⟨fun c => (Cert.FirstIdeal.Gen.dats m 0 c).arrAt 5 Cert.FirstIdeal.cfg0.N, fun c => (Cert.FirstIdeal.Gen.dats m 0 c).arrAt 6 Cert.FirstIdeal.cfg0.N,
    (θ_run Cert.FirstIdeal.defs _ _).mono (fun r h c => ?_) (Cert.FirstIdeal.Value.run_blocks (F := Ideal) m g),
    (θ_run Cert.ReferenceIdeal.defs _ _).mono (fun r h c => ?_) (Cert.ReferenceIdeal.Value.run (F := Ideal) m' g')⟩
  · exact h c
  · obtain ⟨h0, h1, h⟩ := h c
    obtain ⟨a0, a1, a2, a3, a4, a5, a6, a7⟩ := ha c
    have eX : Cert.ReferenceIdeal.Norm.X m' c = Cert.FirstIdeal.First.X m c := funext₂ fun i j => congrFun a0 (ix2 i j)
    have eY : Cert.ReferenceIdeal.Norm.Y m' c = Cert.FirstIdeal.First.Y m c := funext₂ fun i j => congrFun a1 (ix2 i j)
    have eS : Cert.ReferenceIdeal.Norm.S m' c = Cert.FirstIdeal.First.S m c := funext fun j => congrFun a3 (ix1 j)
    have eG : Cert.ReferenceIdeal.Norm.Gn m' c = Cert.FirstIdeal.First.Gn m c := funext fun j => congrFun a5 (ix1 j)
    have eH : Cert.ReferenceIdeal.Norm.H m' c = Cert.FirstIdeal.First.H m c :=
      funext₂ fun i j => Finset.sum_congr rfl fun k _ => congrFun a6 (ix3 k i j)
    have eD : Cert.ReferenceIdeal.Norm.D m' c = Cert.FirstIdeal.First.D m c := funext₂ fun i j => congrFun a7 (ix2 i j)
    refine ⟨h0.trans ?_, h1.trans ?_, h⟩
    · refine (Cert.ReferenceIdeal.Norm.dx_res m' c (eX ▸ Cert.FirstEq.x_real m hp c) (eH ▸ Cert.FirstEq.h_real m hp c) (eS ▸ Cert.FirstEq.s_real m hp c)
        (eG ▸ Cert.FirstEq.g_real m hp c)).trans ?_
      rw [eX, eD, eH, eS, eG]
      exact (Cert.FirstIdeal.First.dx_arr m c).symm
    · refine Eq.trans ?_ (Cert.FirstIdeal.First.sums_arr m c).symm
      funext y
      obtain ⟨k, j, rfl⟩ := Rows.ix2_surj y
      rw [← eX, ← eD, ← eH, ← eY, ← eS, ← eG]
      exact Cert.ReferenceIdeal.Norm.sums_res m' c k j

end Cert.Proof
-- ==== Proof.DenseCall.lean ====
/- The backward call of the recurrence's input matrices: what it leaves, as functions of its arguments' entries. -/
module

public import Idealize.ShloMosaic.PureOps.Ideal
public import Idealize.ShloMosaic.Lib.Pipeline.ValueKit

@[expose] public section
noncomputable section

namespace Cert.DenseCall
open Idealize.ShloMosaic

/-- An index of an array of four axes is its four coordinates. -/
theorem ix4_surj {A B C D : ℕ} (y : (⟨4, ![A, B, C, D]⟩ : Shape).Idx) : ∃ (a : Fin A) (b : Fin B) (r : Fin C) (l : Fin D), y = ix4 a b r l :=
  ⟨y 0, y 1, y 2, y 3, by funext a; match a with | 0 => rfl | 1 => rfl | 2 => rfl | 3 => rfl⟩

/-- A table of 32 groups by 64 states, read along its 2048 lanes. -/
def flat (f : (⟨2, ![32, 64]⟩ : Shape).Idx → EReal) (q : Fin 2048) : EReal := f (ix2 ⟨q.val / 64, by omega⟩ ⟨q.val % 64, by omega⟩)

/-- The groups' matrices on the diagonals of four blocks: entry (`r`, `l`) of block `j` belongs to group `r / 16` of the
    block's eight, and is zero where the lane's group is another. -/
def spread (b : (⟨3, ![32, 64, 16]⟩ : Shape).Idx → EReal) (j : Fin 4) (r : Fin 128) (l : Fin 512) : EReal :=
  Scalar.select (IntOp.cmpi CmpIPredicate.eq (IntOp.addi (BitVec.ofNat 32 (r.val / 16)) 0#32) (BitVec.ofNat 32 (l.val / 64)))
    (b (ix3 ⟨j.val * 8 + r.val / 16, by omega⟩ ⟨l.val % 64, by omega⟩ ⟨r.val % 16, by omega⟩)) 0

variable (fr fi : (⟨2, ![32, 64]⟩ : Shape).Idx → EReal) (br bi : (⟨3, ![32, 64, 16]⟩ : Shape).Idx → EReal)
  (g : (⟨4, ![2, 4, 128, 512]⟩ : Shape).Idx → EReal) (a : (⟨4, ![2, 4, 8, 512]⟩ : Shape).Idx → EReal)

/-- The gradient of the blocks: the product with the factor's conjugate, real part and imaginary part. -/
def db (p : Fin 2) (j : Fin 4) (r : Fin 128) (l : Fin 512) : EReal :=
  if p.val < 1 then flat fr ⟨512 * j.val + l.val, by omega⟩ * g (ix4 0 j r l) + flat fi ⟨512 * j.val + l.val, by omega⟩ * g (ix4 1 j r l)
  else flat fr ⟨512 * j.val + l.val, by omega⟩ * g (ix4 1 j r l) - flat fi ⟨512 * j.val + l.val, by omega⟩ * g (ix4 0 j r l)

variable {fr fi g} in
theorem db_re {p : Fin 2} {j j' : Fin 4} {r r' : Fin 128} {l l' : Fin 512} {q : Fin 2048} (hp : p.val = 0) (hj : j.val = j'.val) (hr : r.val = r'.val)
    (hl : l.val = l'.val) (hq : q.val = 512 * j.val + l.val) :
    flat fr q * g (ix4 0 j' r' l') + flat fi q * g (ix4 1 j' r' l') = db fr fi g p j r l := by
  obtain rfl := Fin.ext hj; obtain rfl := Fin.ext hr; obtain rfl := Fin.ext hl
  rw [db, if_pos (by omega), show q = ⟨512 * j.val + l.val, by omega⟩ from Fin.ext hq]

variable {fr fi g} in
theorem db_im {p : Fin 2} {j j' : Fin 4} {r r' : Fin 128} {l l' : Fin 512} {q : Fin 2048} (hp : p.val = 1) (hj : j.val = j'.val) (hr : r.val = r'.val)
    (hl : l.val = l'.val) (hq : q.val = 512 * j.val + l.val) :
    flat fr q * g (ix4 1 j' r' l') - flat fi q * g (ix4 0 j' r' l') = db fr fi g p j r l := by
  obtain rfl := Fin.ext hj; obtain rfl := Fin.ext hr; obtain rfl := Fin.ext hl
  rw [db, if_neg (by omega), show q = ⟨512 * j.val + l.val, by omega⟩ from Fin.ext hq]

/-- The rows of sums at lane `l` of block `j`: the factor's gradient, real and imaginary, and the decay's two. -/
def lane (k : Fin 8) (j : Fin 4) (l : Fin 512) : EReal :=
  match k with
  | 0 => ∑ r : Fin 128, (g (ix4 0 j r l) * spread br j r l + g (ix4 1 j r l) * spread bi j r l)
  | 1 => ∑ r : Fin 128, (g (ix4 1 j r l) * spread br j r l - g (ix4 0 j r l) * spread bi j r l)
  | 2 => ∑ r : Fin 8, a (ix4 0 j r l)
  | 3 => ∑ r : Fin 8, a (ix4 1 j r l)
  | _ => 0

/-- A row of lanes in four tiles, read at lane `q`: lane `q % 512` of tile `q / 512`. -/
theorem tiles_apply (x0 x1 x2 x3 : (⟨2, ![1, 512]⟩ : Shape).Idx → EReal)
    (h : Shape.Concatenates [(⟨2, ![1, 512]⟩ : Shape), ⟨2, ![1, 512]⟩, ⟨2, ![1, 512]⟩, ⟨2, ![1, 512]⟩] ⟨2, ![1, 2048]⟩ 1) (q : Fin 2048) :
    concatenate ⟨2, ![1, 2048]⟩ 1 [⟨⟨2, ![1, 512]⟩, x0⟩, ⟨⟨2, ![1, 512]⟩, x1⟩, ⟨⟨2, ![1, 512]⟩, x2⟩, ⟨⟨2, ![1, 512]⟩, x3⟩] h (ix2 0 q)
      = (![x0, x1, x2, x3] : Fin 4 → (⟨2, ![1, 512]⟩ : Shape).Idx → EReal) ⟨q.val / 512, by omega⟩ (ix2 0 ⟨q.val % 512, by omega⟩) := by
  obtain ⟨j, hj⟩ : ∃ j : Fin 4, j = ⟨q.val / 512, by omega⟩ := ⟨_, rfl⟩
  have hv : j.val = q.val / 512 := congrArg Fin.val hj
  rw [← hj]
  pointwise
  match j, hv with
  | 0, hv =>
    rw [dif_pos (by simp at hv; omega)]
    exact congrArg x0 (congrArg (ix2 0) (Fin.ext (by simp at hv ⊢; omega)))
  | 1, hv =>
    rw [dif_neg (by simp at hv; omega), dif_pos (by simp at hv; omega)]
    exact congrArg x1 (congrArg (ix2 0) (Fin.ext (by simp at hv ⊢; omega)))
  | 2, hv =>
    rw [dif_neg (by simp at hv; omega), dif_neg (by simp at hv; omega), dif_pos (by simp at hv; omega)]
    exact congrArg x2 (congrArg (ix2 0) (Fin.ext (by simp at hv ⊢; omega)))
  | 3, hv =>
    rw [dif_neg (by simp at hv; omega), dif_neg (by simp at hv; omega), dif_neg (by simp at hv; omega)]
    exact congrArg x3 (congrArg (ix2 0) (Fin.ext (by simp at hv ⊢; omega)))

/-- The rows of sums along all lanes. -/
def rows (k : Fin 8) (q : Fin 2048) : EReal := lane br bi g a k ⟨q.val / 512, by omega⟩ ⟨q.val % 512, by omega⟩

end Cert.DenseCall
-- ==== Proof.DenseBlocks.lean ====
/- The backward call of the recurrence's input matrices: what it stores of the blocks it loads, and the two arrays it
   leaves, as functions of the arguments. -/
module

public import proofs.«01_k».proof.Proof.Gen.DenseIdeal.Value
public import proofs.«01_k».proof.Proof.Rows
public import proofs.«01_k».proof.Proof.DenseCall

@[expose] public section
set_option maxRecDepth 16384
noncomputable section

namespace Cert.DenseIdeal.Dense
open Cert.DenseIdeal Cert.DenseIdeal.Gen Idealize.ShloMosaic Idealize.ShloMosaic.TcCoe Idealize.SL.Sem
open Idealize.ShloMosaic.Pipeline (Dat)
open Cert.DenseIdeal.Facts Cert.DenseCall
variable (m : (ℓ : Loc nD τ sig) → Buf (Elt Ideal) ℓ)

/-- The call has one grid point, whose blocks are the whole arrays. -/
theorem idx : ∀ t : Fin cfg0.N, win0_0.index t = ![0, 0, 0, 0] ∧ win0_1.index t = ![0, 0, 0, 0] ∧ win0_2.index t = ![0, 0] ∧
    win0_3.index t = ![0, 0, 0, 0] ∧ win0_4.index t = ![0, 0, 0, 0] ∧ win0_5.index t = ![0, 0] :=
  (by decide +kernel : ∀ t : Fin grid0.N, _)

theorem g_blk (c : Dev nD) (t : Fin cfg0.N) (p : Fin 2) (j : Fin 4) (r : Fin 128) (l : Fin 512) :
    iblk m c 0 t (ix4 p j r l) = m ((c : Thread nD τ).loc main_arg6) (ix4 p j r l) := by
  blk_ext [iblk, V, idx t]

theorem a_blk (c : Dev nD) (t : Fin cfg0.N) (p : Fin 2) (j : Fin 4) (r : Fin 8) (l : Fin 512) :
    iblk m c 1 t (ix4 p j r l) = m ((c : Thread nD τ).loc main_arg7) (ix4 p j r l) := by
  blk_ext [iblk, V, idx t]

theorem s_blk (c : Dev nD) (t : Fin cfg0.N) (k : Fin 4) (q : Fin 2048) : iblk m c 2 t (ix2 k q) = V m c main_v8 (ix2 k q) := by
  unfold iblk
  blk_ext [idx t]

theorem b_blk (c : Dev nD) (t : Fin cfg0.N) (p : Fin 2) (j : Fin 4) (r : Fin 128) (l : Fin 512) :
    iblk m c 3 t (ix4 p j r l) = V m c main_v33 (ix4 p j r l) := by
  unfold iblk
  blk_ext [idx t]

/-- The four tables' lanes, as the host lays them out in rows. -/
def lanes (ar ai fr fi : FVec Ideal S32x64 .f32) : FVec Ideal S4x2048 .f32 :=
  concatenate S4x2048 0 [⟨S1x2048, broadcastInDim S1x2048 ![1] bcast_S2048_S1x2048_1 (shapeCast S2048 ar shapeCasts_S32x64_S2048)⟩,
    ⟨S1x2048, broadcastInDim S1x2048 ![1] bcast_S2048_S1x2048_1 (shapeCast S2048 ai shapeCasts_S32x64_S2048)⟩,
    ⟨S1x2048, broadcastInDim S1x2048 ![1] bcast_S2048_S1x2048_1 (shapeCast S2048 fr shapeCasts_S32x64_S2048)⟩,
    ⟨S1x2048, broadcastInDim S1x2048 ![1] bcast_S2048_S1x2048_1 (shapeCast S2048 fi shapeCasts_S32x64_S2048)⟩]
    concatenates_S1x2048_S1x2048_S1x2048_S1x2048_S4x2048_d0

/-- The groups' matrices on the blocks' diagonals, as the host lays them out. -/
def blocks (b : FVec Ideal S32x64x16 .f32) : FVec Ideal S4x128x512 .f32 :=
  shapeCast S4x128x512 (select
    (broadcastInDim S4x8x16x8x64 ![0, 1, 2, 3, 4] bcast_S1x8x1x8x1_S4x8x16x8x64_0_1_2_3_4 (broadcastInDim S1x8x1x8x1 ![1, 3] bcast_S8x8_S1x8x1x8x1_1_3
      (cmpi .eq (addi (iotaInDim S8x8 32 0) (broadcastInDim S8x8 ![] bcast_S_S8x8 (constantI S_ 32 0#32))) (iotaInDim S8x8 32 1))))
    (broadcastInDim S4x8x16x8x64 ![0, 1, 2, 3, 4] bcast_S4x8x16x1x64_S4x8x16x8x64_0_1_2_3_4 (broadcastInDim S4x8x16x1x64 ![0, 1, 2, 4] bcast_S4x8x16x64_S4x8x16x1x64_0_1_2_4
      (shapeCast S4x8x16x64 (transpose S32x16x64 [0, 2, 1] b transposes_S32x64x16_S32x16x64_0_2_1) shapeCasts_S32x16x64_S4x8x16x64)))
    (broadcastInDim S4x8x16x8x64 ![] bcast_S_S4x8x16x8x64 (constant (F := Ideal) S_ .f32 0x00000000#32))) shapeCasts_S4x8x16x8x64_S4x128x512

set_option maxHeartbeats 8000000 in
theorem s_entry (c : Dev nD) : V m c main_v8 = lanes (m ((c : Thread nD τ).loc main_arg0)) (m ((c : Thread nD τ).loc main_arg1))
    (m ((c : Thread nD τ).loc main_arg2)) (m ((c : Thread nD τ).loc main_arg3)) := by
  unfold V
  simp only [hostOps0, hostOps0_1, hostOps0_2, hostOps0_3, hostOps0_4, List.flatten_cons, List.flatten_nil, List.append_nil, List.cons_append,
    StableHlo.TRef.ternary, StableHlo.TRef.unary, StableHlo.TRef.toBuf, StableHlo.TRef.ofBuf, cast_eq]
  after_results_simp <;> (try dsimp only [Matrix.cons_val]) <;> (try after_results_simp) <;> rfl

set_option maxHeartbeats 8000000 in
theorem b_entry (c : Dev nD) : V m c main_v33 = concatenate S2x4x128x512 0
    [⟨S1x4x128x512, broadcastInDim S1x4x128x512 ![1, 2, 3] bcast_S4x128x512_S1x4x128x512_1_2_3 (blocks (m ((c : Thread nD τ).loc main_arg4)))⟩,
     ⟨S1x4x128x512, broadcastInDim S1x4x128x512 ![1, 2, 3] bcast_S4x128x512_S1x4x128x512_1_2_3 (blocks (m ((c : Thread nD τ).loc main_arg5)))⟩]
    concatenates_S1x4x128x512_S1x4x128x512_S2x4x128x512_d0 := by
  unfold V
  simp only [hostOps0, hostOps0_1, hostOps0_2, hostOps0_3, hostOps0_4, List.flatten_cons, List.flatten_nil, List.append_nil, List.cons_append,
    StableHlo.TRef.ternary, StableHlo.TRef.unary, StableHlo.TRef.toBuf, StableHlo.TRef.ofBuf, cast_eq]
  after_results_simp <;> (try dsimp only [Matrix.cons_val]) <;> (try after_results_simp) <;> rfl

theorem blocks_apply (b : FVec Ideal S32x64x16 .f32) (j : Fin 4) (r : Fin 128) (l : Fin 512) : blocks b (ix3 j r l) = spread b j r l := by
  unfold blocks
  pointwise
  rfl

theorem br_blk (c : Dev nD) (t : Fin cfg0.N) (j : Fin 4) (r : Fin 128) (l : Fin 512) :
    iblk m c 3 t (ix4 0 j r l) = spread (m ((c : Thread nD τ).loc main_arg4)) j r l := by
  rw [b_blk, b_entry]
  pointwise
  exact blocks_apply _ j r l

theorem bi_blk (c : Dev nD) (t : Fin cfg0.N) (j : Fin 4) (r : Fin 128) (l : Fin 512) :
    iblk m c 3 t (ix4 1 j r l) = spread (m ((c : Thread nD τ).loc main_arg5)) j r l := by
  rw [b_blk, b_entry]
  pointwise
  exact blocks_apply _ j r l

theorem fr_blk (c : Dev nD) (t : Fin cfg0.N) (q : Fin 2048) : iblk m c 2 t (ix2 2 q) = flat (m ((c : Thread nD τ).loc main_arg2)) q := by
  rw [s_blk, s_entry, lanes]
  pointwise
  rfl

theorem fi_blk (c : Dev nD) (t : Fin cfg0.N) (q : Fin 2048) : iblk m c 2 t (ix2 3 q) = flat (m ((c : Thread nD τ).loc main_arg3)) q := by
  rw [s_blk, s_entry, lanes]
  pointwise
  rfl

end Cert.DenseIdeal.Dense
-- ==== Proof.DenseMatrix.lean ====
/- The backward call of the recurrence's input matrices: what it stores of the blocks it loads, and the two arrays it
   leaves, as functions of the arguments. -/
module

public import proofs.«01_k».proof.Proof.Gen.DenseIdeal.Value
public import proofs.«01_k».proof.Proof.Rows
public import proofs.«01_k».proof.Proof.DenseCall
public import proofs.«01_k».proof.Proof.DenseBlocks

@[expose] public section
set_option maxRecDepth 16384
noncomputable section

namespace Cert.DenseIdeal.Dense
open Cert.DenseIdeal Cert.DenseIdeal.Gen Idealize.ShloMosaic Idealize.ShloMosaic.TcCoe Idealize.SL.Sem
open Idealize.ShloMosaic.Pipeline (Dat)
open Cert.DenseIdeal.Facts Cert.DenseCall

/-- The gradient of the blocks, of the block it is scaled from and the rows that hold the factor. -/
def cell (s : FVec Ideal S4x2048 .f32) (g : FVec Ideal S2x4x128x512 .f32) (p : Fin 2) (j : Fin 4) (r : Fin 128) (l : Fin 512) : EReal :=
  if p.val < 1 then s (ix2 2 ⟨512 * j.val + l.val, by omega⟩) * g (ix4 0 j r l) + s (ix2 3 ⟨512 * j.val + l.val, by omega⟩) * g (ix4 1 j r l)
  else s (ix2 2 ⟨512 * j.val + l.val, by omega⟩) * g (ix4 1 j r l) - s (ix2 3 ⟨512 * j.val + l.val, by omega⟩) * g (ix4 0 j r l)

theorem cell_re {s : FVec Ideal S4x2048 .f32} {g : FVec Ideal S2x4x128x512 .f32} {p : Fin 2} {j j' : Fin 4} {r r' : Fin 128} {l l' : Fin 512}
    {q : Fin 2048} (hp : p.val = 0) (hj : j.val = j'.val) (hr : r.val = r'.val) (hl : l.val = l'.val) (hq : q.val = 512 * j.val + l.val) :
    (s (ix2 2 q) * g (ix4 0 j' r' l') + s (ix2 3 q) * g (ix4 1 j' r' l') : EReal) = cell s g p j r l := by
  obtain rfl := Fin.ext hj; obtain rfl := Fin.ext hr; obtain rfl := Fin.ext hl
  rw [cell, if_pos (by omega), show q = ⟨512 * j.val + l.val, by omega⟩ from Fin.ext hq]

theorem cell_im {s : FVec Ideal S4x2048 .f32} {g : FVec Ideal S2x4x128x512 .f32} {p : Fin 2} {j j' : Fin 4} {r r' : Fin 128} {l l' : Fin 512}
    {q : Fin 2048} (hp : p.val = 1) (hj : j.val = j'.val) (hr : r.val = r'.val) (hl : l.val = l'.val) (hq : q.val = 512 * j.val + l.val) :
    (s (ix2 2 q) * g (ix4 1 j' r' l') - s (ix2 3 q) * g (ix4 0 j' r' l') : EReal) = cell s g p j r l := by
  obtain rfl := Fin.ext hj; obtain rfl := Fin.ext hr; obtain rfl := Fin.ext hl
  rw [cell, if_neg (by omega), show q = ⟨512 * j.val + l.val, by omega⟩ from Fin.ext hq]

set_option maxHeartbeats 4000000 in
/-- What the body stores of the blocks' gradient. -/
theorem matrix_out (x0 : FVec Ideal S2x4x128x512 .f32) (x1 : FVec Ideal S2x4x8x512 .f32) (x2 : FVec Ideal S4x2048 .f32) (x3 : FVec Ideal S2x4x128x512 .f32)
    (p : Fin 2) (j : Fin 4) (r : Fin 128) (l : Fin 512) : out0_4 (F := Ideal) x0 x1 x2 x3 (ix4 p j r l) = cell x2 x0 p j r l := by
  canon_tiles x h
  all_goals
    open_payloads
    pointwise
    replace h0 : p.val = _ := h0
    replace h1 : j.val = _ := h1
    replace h2 : r.val = _ := h2
    replace h3 : l.val = _ := h3
    first
      | exact cell_re (by omega) (h1.trans (by simp only [Fin.isValue, Fin.coe_ofNat_eq_mod]; omega)) h2 h3 (by simp only; omega)
      | exact cell_im (by omega) (h1.trans (by simp only [Fin.isValue, Fin.coe_ofNat_eq_mod]; omega)) h2 h3 (by simp only; omega)

variable (m : (ℓ : Loc nD τ sig) → Buf (Elt Ideal) ℓ)

/-- The first array: the gradient of the blocks. -/
theorem db_arr (c : Dev nD) : (dats m 0 c).arrAt 4 cfg0.N = fun y =>
    db (m ((c : Thread nD τ).loc main_arg2)) (m ((c : Thread nD τ).loc main_arg3)) (m ((c : Thread nD τ).loc main_arg6)) (y 0) (y 1) (y 2) (y 3) := by
  refine (dats m 0 c).arrAt_eq_of_covers 4 _ (by decide +kernel) fun t hf y => ?_
  obtain ⟨p, j, r, l, rfl⟩ := ix4_surj y
  blk_simp
  rw [after0_4]
  have hG : ((View.whole main_v34_0).slice (win0_4.rect t)).emb (ix4 p j r l) = ix4 p j r l := by
    blk_ext [idx t]
  rw [hG]
  show _ = db _ _ _ p j r l
  refine (matrix_out _ _ _ _ p j r l).trans ?_
  simp only [cell, db, g_blk, fr_blk, fi_blk]

end Cert.DenseIdeal.Dense
-- ==== Proof.DenseSums.lean ====
/- The backward call of the recurrence's input matrices: what it stores of the blocks it loads, and the two arrays it
   leaves, as functions of the arguments. -/
module

public import proofs.«01_k».proof.Proof.Gen.DenseIdeal.Value
public import proofs.«01_k».proof.Proof.Rows
public import proofs.«01_k».proof.Proof.DenseCall

@[expose] public section
set_option maxRecDepth 16384
noncomputable section

namespace Cert.DenseIdeal.Dense
open Cert.DenseIdeal Cert.DenseIdeal.Gen Idealize.ShloMosaic Idealize.ShloMosaic.TcCoe Idealize.SL.Sem
open Idealize.ShloMosaic.Pipeline (Dat)
open Cert.DenseIdeal.Facts Cert.DenseCall
variable (x0 : FVec Ideal S2x4x128x512 .f32) (x1 : FVec Ideal S2x4x8x512 .f32) (x2 : FVec Ideal S4x2048 .f32) (x3 : FVec Ideal S2x4x128x512 .f32)

set_option maxHeartbeats 4000000 in
/-- The factor's gradient, real part, tile by tile. -/
theorem fre_tile (j : Fin 4) (l : Fin 512) :
    (![k0_pay20 (k0_pay50 x0 x1 x2 x3) (k0_pay51 x0 x1 x2 x3) (k0_pay52 x0 x1 x2 x3) (k0_pay53 x0 x1 x2 x3), k0_pay31 (k0_pay54 x0 x1 x2 x3) (k0_pay55 x0 x1 x2 x3) (k0_pay56 x0 x1 x2 x3) (k0_pay57 x0 x1 x2 x3),
      k0_pay41 (k0_pay60 x0 x1 x2 x3) (k0_pay61 x0 x1 x2 x3) (k0_pay62 x0 x1 x2 x3) (View.ld x3 r0_19),
      shapeCast S1x512 (multiReduction .add [0] S512 (addf (mulf (k0_pay65 x0 x1 x2 x3) (shapeCast S128x512 (View.ld x3 r0_22 : Vec Ideal S1x1x128x512 .f32) shapeCasts_S1x1x128x512_S128x512)) (mulf (k0_pay46 (F := Ideal) (View.ld x0 r0_23)) (shapeCast S128x512 (View.ld x3 r0_23 : Vec Ideal S1x1x128x512 .f32) shapeCasts_S1x1x128x512_S128x512))) 0x00000000#32 reduces_S128x512_S512 (.inl rfl) rfl) shapeCasts_S512_S1x512] : Fin 4 → FVec Ideal S1x512 .f32) j (ix2 0 l)
      = ∑ r : Fin 128, (x0 (ix4 0 j r l) * x3 (ix4 0 j r l) + x0 (ix4 1 j r l) * x3 (ix4 1 j r l)) := by
  match j with
  | 0 => dsimp only [Matrix.cons_val]; open_payloads; pointwise; try rfl
  | 1 => dsimp only [Matrix.cons_val]; open_payloads; pointwise; try rfl
  | 2 => dsimp only [Matrix.cons_val]; open_payloads; pointwise; try rfl
  | 3 => dsimp only [Matrix.cons_val]; open_payloads; pointwise; try rfl

set_option maxHeartbeats 4000000 in
/-- The factor's gradient, imaginary part. -/
theorem fim_tile (j : Fin 4) (l : Fin 512) :
    (![k0_pay21 (k0_pay50 x0 x1 x2 x3) (k0_pay51 x0 x1 x2 x3) (k0_pay52 x0 x1 x2 x3) (k0_pay53 x0 x1 x2 x3), k0_pay32 (k0_pay54 x0 x1 x2 x3) (k0_pay55 x0 x1 x2 x3) (k0_pay56 x0 x1 x2 x3) (k0_pay57 x0 x1 x2 x3),
      k0_pay42 (k0_pay60 x0 x1 x2 x3) (k0_pay61 x0 x1 x2 x3) (k0_pay62 x0 x1 x2 x3) (View.ld x3 r0_19),
      shapeCast S1x512 (multiReduction .add [0] S512 (subf (mulf (k0_pay46 (F := Ideal) (View.ld x0 r0_23)) (shapeCast S128x512 (View.ld x3 r0_22 : Vec Ideal S1x1x128x512 .f32) shapeCasts_S1x1x128x512_S128x512)) (mulf (k0_pay65 x0 x1 x2 x3) (shapeCast S128x512 (View.ld x3 r0_23 : Vec Ideal S1x1x128x512 .f32) shapeCasts_S1x1x128x512_S128x512))) 0x00000000#32 reduces_S128x512_S512 (.inl rfl) rfl) shapeCasts_S512_S1x512] : Fin 4 → FVec Ideal S1x512 .f32) j (ix2 0 l)
      = ∑ r : Fin 128, (x0 (ix4 1 j r l) * x3 (ix4 0 j r l) - x0 (ix4 0 j r l) * x3 (ix4 1 j r l)) := by
  match j with
  | 0 => dsimp only [Matrix.cons_val]; open_payloads; pointwise; try rfl
  | 1 => dsimp only [Matrix.cons_val]; open_payloads; pointwise; try rfl
  | 2 => dsimp only [Matrix.cons_val]; open_payloads; pointwise; try rfl
  | 3 => dsimp only [Matrix.cons_val]; open_payloads; pointwise; try rfl

/-- The decay's gradient, real part. -/
theorem are_tile (j : Fin 4) (l : Fin 512) :
    (![k0_pay1 (View.ld x1 r0_0), k0_pay2 (View.ld x1 r0_1), k0_pay3 (View.ld x1 r0_2), k0_pay4 (View.ld x1 r0_3)] : Fin 4 → FVec Ideal S1x512 .f32) j (ix2 0 l)
      = ∑ r : Fin 8, x1 (ix4 0 j r l) := by
  match j with
  | 0 => dsimp only [Matrix.cons_val]; open_payloads; pointwise; try rfl
  | 1 => dsimp only [Matrix.cons_val]; open_payloads; pointwise; try rfl
  | 2 => dsimp only [Matrix.cons_val]; open_payloads; pointwise; try rfl
  | 3 => dsimp only [Matrix.cons_val]; open_payloads; pointwise; try rfl

/-- The decay's gradient, imaginary part. -/
theorem aim_tile (j : Fin 4) (l : Fin 512) :
    (![k0_pay5 (View.ld x1 r0_4), k0_pay6 (View.ld x1 r0_5), k0_pay8 (k0_pay7 (View.ld x1 r0_6)), k0_pay9 (View.ld x1 r0_7)] : Fin 4 → FVec Ideal S1x512 .f32) j (ix2 0 l)
      = ∑ r : Fin 8, x1 (ix4 1 j r l) := by
  match j with
  | 0 => dsimp only [Matrix.cons_val]; open_payloads; pointwise; try rfl
  | 1 => dsimp only [Matrix.cons_val]; open_payloads; pointwise; try rfl
  | 2 => dsimp only [Matrix.cons_val]; open_payloads; pointwise; try rfl
  | 3 => dsimp only [Matrix.cons_val]; open_payloads; pointwise; try rfl

/-- The rows of sums, as the body stores them. -/
abbrev stored : FVec Ideal S8x2048 .f32 := k0_pay49 (k0_pay1 (View.ld x1 r0_0)) (k0_pay2 (View.ld x1 r0_1)) (k0_pay3 (View.ld x1 r0_2)) (k0_pay4 (View.ld x1 r0_3)) (k0_pay5 (View.ld x1 r0_4)) (k0_pay6 (View.ld x1 r0_5)) (k0_pay8 (k0_pay7 (View.ld x1 r0_6))) (k0_pay9 (View.ld x1 r0_7)) (k0_pay20 (k0_pay50 x0 x1 x2 x3) (k0_pay51 x0 x1 x2 x3) (k0_pay52 x0 x1 x2 x3) (k0_pay53 x0 x1 x2 x3)) (k0_pay21 (k0_pay50 x0 x1 x2 x3) (k0_pay51 x0 x1 x2 x3) (k0_pay52 x0 x1 x2 x3) (k0_pay53 x0 x1 x2 x3)) (k0_pay31 (k0_pay54 x0 x1 x2 x3) (k0_pay55 x0 x1 x2 x3) (k0_pay56 x0 x1 x2 x3) (k0_pay57 x0 x1 x2 x3)) (k0_pay32 (k0_pay54 x0 x1 x2 x3) (k0_pay55 x0 x1 x2 x3) (k0_pay56 x0 x1 x2 x3) (k0_pay57 x0 x1 x2 x3)) (k0_pay41 (k0_pay60 x0 x1 x2 x3) (k0_pay61 x0 x1 x2 x3) (k0_pay62 x0 x1 x2 x3) (View.ld x3 r0_19)) (k0_pay42 (k0_pay60 x0 x1 x2 x3) (k0_pay61 x0 x1 x2 x3) (k0_pay62 x0 x1 x2 x3) (View.ld x3 r0_19)) (k0_pay65 x0 x1 x2 x3) (View.ld x0 r0_23) (View.ld x3 r0_22) (View.ld x3 r0_23)

theorem stored_0 (q : Fin 2048) : stored x0 x1 x2 x3 (ix2 0 q) = ∑ r : Fin 128, (x0 (ix4 0 ⟨q.val / 512, by omega⟩ r ⟨q.val % 512, by omega⟩) * x3 (ix4 0 ⟨q.val / 512, by omega⟩ r ⟨q.val % 512, by omega⟩) + x0 (ix4 1 ⟨q.val / 512, by omega⟩ r ⟨q.val % 512, by omega⟩) * x3 (ix4 1 ⟨q.val / 512, by omega⟩ r ⟨q.val % 512, by omega⟩)) := by
  unfold stored k0_pay49
  refine (Rows.stack_apply (n := 1) 0 _ 0 0 (by simp) rfl rfl rfl).trans ((tiles_apply _ _ _ _ _ q).trans ?_)
  exact fre_tile x0 x1 x2 x3 _ _

theorem stored_1 (q : Fin 2048) : stored x0 x1 x2 x3 (ix2 1 q) = ∑ r : Fin 128, (x0 (ix4 1 ⟨q.val / 512, by omega⟩ r ⟨q.val % 512, by omega⟩) * x3 (ix4 0 ⟨q.val / 512, by omega⟩ r ⟨q.val % 512, by omega⟩) - x0 (ix4 0 ⟨q.val / 512, by omega⟩ r ⟨q.val % 512, by omega⟩) * x3 (ix4 1 ⟨q.val / 512, by omega⟩ r ⟨q.val % 512, by omega⟩)) := by
  unfold stored k0_pay49
  refine (Rows.stack_apply (n := 1) 1 _ 1 0 (by simp) rfl rfl rfl).trans ((tiles_apply _ _ _ _ _ q).trans ?_)
  exact fim_tile x0 x1 x2 x3 _ _

theorem stored_2 (q : Fin 2048) : stored x0 x1 x2 x3 (ix2 2 q) = ∑ r : Fin 8, x1 (ix4 0 ⟨q.val / 512, by omega⟩ r ⟨q.val % 512, by omega⟩) := by
  unfold stored k0_pay49
  refine (Rows.stack_apply (n := 1) 2 _ 2 0 (by simp) rfl rfl rfl).trans ((tiles_apply _ _ _ _ _ q).trans ?_)
  exact are_tile x1 _ _

theorem stored_3 (q : Fin 2048) : stored x0 x1 x2 x3 (ix2 3 q) = ∑ r : Fin 8, x1 (ix4 1 ⟨q.val / 512, by omega⟩ r ⟨q.val % 512, by omega⟩) := by
  unfold stored k0_pay49
  refine (Rows.stack_apply (n := 1) 3 _ 3 0 (by simp) rfl rfl rfl).trans ((tiles_apply _ _ _ _ _ q).trans ?_)
  exact aim_tile x1 _ _

theorem stored_rest (k : ℕ) (hk : k + 4 < 8) (q : Fin 2048) : stored x0 x1 x2 x3 (ix2 ⟨k + 4, hk⟩ q) = (0 : EReal) := by
  unfold stored k0_pay49
  refine (Rows.stack_apply (n := 4) 4 _ 4 ⟨k, by omega⟩ (by simp) rfl rfl (Nat.add_comm _ _)).trans ?_
  pointwise

end Cert.DenseIdeal.Dense
-- ==== Proof.DenseRows.lean ====
/- The backward call of the recurrence's input matrices: what it stores of the blocks it loads, and the two arrays it
   leaves, as functions of the arguments. -/
module

public import proofs.«01_k».proof.Proof.Gen.DenseIdeal.Value
public import proofs.«01_k».proof.Proof.Rows
public import proofs.«01_k».proof.Proof.DenseCall
public import proofs.«01_k».proof.Proof.DenseSums
public import proofs.«01_k».proof.Proof.DenseBlocks

@[expose] public section
set_option maxRecDepth 16384
noncomputable section

namespace Cert.DenseIdeal.Dense
open Cert.DenseIdeal Cert.DenseIdeal.Gen Idealize.ShloMosaic Idealize.ShloMosaic.TcCoe Idealize.SL.Sem
open Idealize.ShloMosaic.Pipeline (Dat)
open Cert.DenseIdeal.Facts Cert.DenseCall
variable (m : (ℓ : Loc nD τ sig) → Buf (Elt Ideal) ℓ)

/-- The second array: the rows of sums. -/
theorem rows_arr (c : Dev nD) : (dats m 0 c).arrAt 5 cfg0.N = fun y =>
    rows (m ((c : Thread nD τ).loc main_arg4)) (m ((c : Thread nD τ).loc main_arg5)) (m ((c : Thread nD τ).loc main_arg6))
      (m ((c : Thread nD τ).loc main_arg7)) (y 0) (y 1) := by
  refine (dats m 0 c).arrAt_eq_of_covers 5 _ (by decide +kernel) fun t hf y => ?_
  obtain ⟨k, q, rfl⟩ := Rows.ix2_surj y
  blk_simp
  rw [after0_5]
  frame_out
  have hG : ((View.whole main_v34_1).slice (win0_5.rect t)).emb (ix2 k q) = ix2 k q := by
    blk_ext [idx t]
  rw [hG]
  show _ = rows _ _ _ _ k q
  unfold rows
  match k with
  | 0 => refine (stored_0 _ _ _ _ q).trans ?_; simp only [g_blk, br_blk, bi_blk, lane]
  | 1 => refine (stored_1 _ _ _ _ q).trans ?_; simp only [g_blk, br_blk, bi_blk, lane]
  | 2 => refine (stored_2 _ _ _ _ q).trans ?_; simp only [a_blk, lane]
  | 3 => refine (stored_3 _ _ _ _ q).trans ?_; simp only [a_blk, lane]
  | ⟨k + 4, hk⟩ => exact stored_rest _ _ _ _ k hk q

end Cert.DenseIdeal.Dense
-- ==== Proof.DenseRef.lean ====
/- The reference of the backward call of the recurrence's input matrices: what reverse-mode differentiation of the inputs'
   lines computes, entry by entry. -/
module

public import proofs.«01_k».proof.Proof.Gen.DenseReferenceIdeal.Run
public import proofs.«01_k».proof.Proof.Gen.DenseReferenceIdeal.Read
public import proofs.«01_k».proof.Proof.Rows
public import proofs.«01_k».proof.Proof.DenseCall

@[expose] public section
set_option maxRecDepth 16384
noncomputable section

namespace Cert.DenseReferenceIdeal.Dense
open Idealize.ShloMosaic Idealize.ShloMosaic.TcCoe Cert.DenseReferenceIdeal.Read Cert.DenseCall

variable (x2 x3 : FVec Ideal S32x64 .f32) (x4 x5 : FVec Ideal S32x64x16 .f32) (x6 : FVec Ideal S2x4x128x512 .f32) (x7 : FVec Ideal S2x4x8x512 .f32)

/-- The gradient of the blocks. -/
theorem db_res : val_main_v96 (F := Ideal) x2 x3 x6 = fun y => db x2 x3 x6 (y 0) (y 1) (y 2) (y 3) := by
  funext y
  obtain ⟨p, j, r, l, rfl⟩ := ix4_surj y
  have hq : ∀ f : FVec Ideal S32x64 .f32, flat f ⟨512 * j.val + l.val, by omega⟩ = f (ix2 ⟨j.val * 8 + l.val / 64, by omega⟩ ⟨l.val % 64, by omega⟩) :=
    fun f => congrArg f (congrArg₂ ix2 (Fin.ext (by show (512 * j.val + l.val) / 64 = j.val * 8 + l.val / 64; omega)) (Fin.ext (by show (512 * j.val + l.val) % 64 = l.val % 64; omega)))
  show _ = db x2 x3 x6 p j r l
  rw [db, hq, hq, ← val_main_v96_eq]
  pointwise
  by_cases h : p.val < 1
  · simp only [h, if_true, dite_true]
    exact add_comm _ _
  · simp only [h, if_false, dite_false]
    simp only [mul_neg, sub_eq_add_neg]

theorem g0_at (j : Fin 4) (r : Fin 128) (l : Fin 512) : val_main_v45 (F := Ideal) x6 (ix3 j r l) = x6 (ix4 0 j r l) := by
  unfold val_main_v45 val_main_v44; pointwise

theorem g1_at (j : Fin 4) (r : Fin 128) (l : Fin 512) : val_main_v47 (F := Ideal) x6 (ix3 j r l) = x6 (ix4 1 j r l) := by
  unfold val_main_v47 val_main_v46; pointwise

theorem a0_at (j : Fin 4) (r : Fin 8) (l : Fin 512) : val_main_v41 (F := Ideal) x7 (ix3 j r l) = x7 (ix4 0 j r l) := by
  unfold val_main_v41 val_main_v40; pointwise

theorem a1_at (j : Fin 4) (r : Fin 8) (l : Fin 512) : val_main_v43 (F := Ideal) x7 (ix3 j r l) = x7 (ix4 1 j r l) := by
  unfold val_main_v43 val_main_v42; pointwise

theorem br_at (j : Fin 4) (r : Fin 128) (l : Fin 512) : val_main_v10 (F := Ideal) x4 (ix3 j r l) = spread x4 j r l := by
  unfold val_main_v10 val_main_v9 val_main_call0_v1 val_main_call0_v2 val_main_call0_v3 val_main_call0_v0 val_main_v8 val_main_v7 val_main_v6 val_main_v5
    val_main_v4 val_main_v3 val_main_v2 val_main_v1 val_main_v0 val_main_cst val_main_c
  pointwise
  simp only [id_eq]
  pointwise
  rfl

theorem bi_at (j : Fin 4) (r : Fin 128) (l : Fin 512) : val_main_v21 (F := Ideal) x5 (ix3 j r l) = spread x5 j r l := by
  unfold val_main_v21 val_main_v20 val_main_call1_v1 val_main_call1_v2 val_main_call1_v3 val_main_call1_v0 val_main_v19 val_main_v18 val_main_v17 val_main_v16
    val_main_v15 val_main_v14 val_main_v13 val_main_v12 val_main_v11 val_main_cst_1 val_main_c_0
  pointwise
  simp only [id_eq]
  pointwise
  rfl

theorem sum57 (j : Fin 4) (l : Fin 512) : val_main_v57 (F := Ideal) x4 x6 (ix2 j l) = ∑ r : Fin 128, (x6 (ix4 1 j r l) * spread x4 j r l : EReal) := by
  rw [val_main_v57_apply]
  refine (congrArg₂ (· + ·) (?_ : _ = (0 : EReal)) (Finset.sum_congr rfl fun r _ => ?_)).trans (zero_add _)
  · unfold val_main_cst_4; pointwise
  · rw [show idx_main_v57 (ix2 j l) r = ix3 j r l from by funext a; match a with | 0 => rfl | 1 => rfl | 2 => rfl, val_main_v56_apply, g1_at, br_at]
    rfl

theorem sum63 (j : Fin 4) (l : Fin 512) : val_main_v63 (F := Ideal) x5 x6 (ix2 j l) = ∑ r : Fin 128, (x6 (ix4 1 j r l) * spread x5 j r l : EReal) := by
  rw [val_main_v63_apply]
  refine (congrArg₂ (· + ·) (?_ : _ = (0 : EReal)) (Finset.sum_congr rfl fun r _ => ?_)).trans (zero_add _)
  · unfold val_main_cst_5; pointwise
  · rw [show idx_main_v63 (ix2 j l) r = ix3 j r l from by funext a; match a with | 0 => rfl | 1 => rfl | 2 => rfl, val_main_v62_apply, g1_at, bi_at]
    rfl

theorem sum71 (j : Fin 4) (l : Fin 512) : val_main_v71 (F := Ideal) x5 x6 (ix2 j l) = ∑ r : Fin 128, (-(x6 (ix4 0 j r l)) * spread x5 j r l : EReal) := by
  rw [val_main_v71_apply]
  refine (congrArg₂ (· + ·) (?_ : _ = (0 : EReal)) (Finset.sum_congr rfl fun r _ => ?_)).trans (zero_add _)
  · unfold val_main_cst_6; pointwise
  · rw [show idx_main_v71 (ix2 j l) r = ix3 j r l from by funext a; match a with | 0 => rfl | 1 => rfl | 2 => rfl, val_main_v70_apply, val_main_v66_apply, g0_at, bi_at]
    rfl

theorem sum79 (j : Fin 4) (l : Fin 512) : val_main_v79 (F := Ideal) x4 x6 (ix2 j l) = ∑ r : Fin 128, (x6 (ix4 0 j r l) * spread x4 j r l : EReal) := by
  rw [val_main_v79_apply]
  refine (congrArg₂ (· + ·) (?_ : _ = (0 : EReal)) (Finset.sum_congr rfl fun r _ => ?_)).trans (zero_add _)
  · unfold val_main_cst_7; pointwise
  · rw [show idx_main_v79 (ix2 j l) r = ix3 j r l from by funext a; match a with | 0 => rfl | 1 => rfl | 2 => rfl, val_main_v78_apply, g0_at, br_at]
    rfl

theorem sum48 (j : Fin 4) (l : Fin 512) : val_main_v48 (F := Ideal) x7 (ix2 j l) = ∑ r : Fin 8, (x7 (ix4 1 j r l) : EReal) := by
  rw [val_main_v48_apply]
  refine (congrArg₂ (· + ·) (?_ : _ = (0 : EReal)) (Finset.sum_congr rfl fun r _ => ?_)).trans (zero_add _)
  · unfold val_main_cst_2; pointwise
  · rw [show idx_main_v48 (ix2 j l) r = ix3 j r l from by funext a; match a with | 0 => rfl | 1 => rfl | 2 => rfl, a1_at]

theorem sum51 (j : Fin 4) (l : Fin 512) : val_main_v51 (F := Ideal) x7 (ix2 j l) = ∑ r : Fin 8, (x7 (ix4 0 j r l) : EReal) := by
  rw [val_main_v51_apply]
  refine (congrArg₂ (· + ·) (?_ : _ = (0 : EReal)) (Finset.sum_congr rfl fun r _ => ?_)).trans (zero_add _)
  · unfold val_main_cst_3; pointwise
  · rw [show idx_main_v51 (ix2 j l) r = ix3 j r l from by funext a; match a with | 0 => rfl | 1 => rfl | 2 => rfl, a0_at]

/-- A lane's tile and place, reached through its group and state. -/
theorem place (q : Fin 2048) (h : q.val / 64 / 8 < 4) (h' : q.val / 64 % 8 * 64 + q.val % 64 < 512) :
    (ix2 ⟨q.val / 64 / 8, h⟩ ⟨q.val / 64 % 8 * 64 + q.val % 64, h'⟩ : S4x512.Idx) = ix2 ⟨q.val / 512, by omega⟩ ⟨q.val % 512, by omega⟩ :=
  congrArg₂ ix2 (Fin.ext (by show q.val / 64 / 8 = q.val / 512; omega)) (Fin.ext (by show q.val / 64 % 8 * 64 + q.val % 64 = q.val % 512; omega))

theorem row0 (q : Fin 2048) : val_main_v87 (F := Ideal) x4 x5 x6 (ix2 0 q) = rows x4 x5 x6 x7 0 q := by
  unfold val_main_v87 val_main_v83 val_main_v82 val_main_v65 val_main_v64 val_main_v81 val_main_v80
  pointwise
  simp only [place]
  unfold rows lane
  rw [sum63, sum79, ← Finset.sum_add_distrib]
  exact Finset.sum_congr rfl fun r _ => add_comm _ _

theorem row1 (q : Fin 2048) : val_main_v88 (F := Ideal) x4 x5 x6 (ix2 0 q) = rows x4 x5 x6 x7 1 q := by
  unfold val_main_v88 val_main_v84 val_main_v74 val_main_v59 val_main_v58 val_main_v73 val_main_v72
  pointwise
  simp only [place]
  unfold rows lane
  rw [sum57, sum71, ← Finset.sum_add_distrib]
  exact Finset.sum_congr rfl fun r _ => by rw [EReal.neg_mul, sub_eq_add_neg]

theorem row2 (q : Fin 2048) : val_main_v89 (F := Ideal) x7 (ix2 0 q) = rows x4 x5 x6 x7 2 q := by
  unfold val_main_v89 val_main_v85 val_main_v53 val_main_v52
  pointwise
  unfold rows lane
  exact sum51 x7 _ _

theorem row3 (q : Fin 2048) : val_main_v90 (F := Ideal) x7 (ix2 0 q) = rows x4 x5 x6 x7 3 q := by
  unfold val_main_v90 val_main_v86 val_main_v50 val_main_v49
  pointwise
  unfold rows lane
  exact sum48 x7 _ _

/-- The rows of sums. -/
theorem rows_res : val_main_v93 (F := Ideal) x4 x5 x6 x7 = fun y => rows x4 x5 x6 x7 (y 0) (y 1) := by
  funext y
  obtain ⟨k, q, rfl⟩ := Rows.ix2_surj y
  show _ = rows x4 x5 x6 x7 k q
  unfold val_main_v93
  match k with
  | 0 => exact (Rows.stack_apply (n := 4) 0 _ 0 0 (by simp) rfl rfl rfl).trans ((Rows.stack_apply (n := 1) 0 _ 0 0 (by simp) rfl rfl rfl).trans (row0 _ _ _ _ q))
  | 1 => exact (Rows.stack_apply (n := 4) 0 _ 0 1 (by simp) rfl rfl rfl).trans ((Rows.stack_apply (n := 1) 1 _ 1 0 (by simp) rfl rfl rfl).trans (row1 _ _ _ _ q))
  | 2 => exact (Rows.stack_apply (n := 4) 0 _ 0 2 (by simp) rfl rfl rfl).trans ((Rows.stack_apply (n := 1) 2 _ 2 0 (by simp) rfl rfl rfl).trans (row2 _ _ _ _ q))
  | 3 => exact (Rows.stack_apply (n := 4) 0 _ 0 3 (by simp) rfl rfl rfl).trans ((Rows.stack_apply (n := 1) 3 _ 3 0 (by simp) rfl rfl rfl).trans (row3 _ _ _ _ q))
  | ⟨k + 4, hk⟩ =>
    refine (Rows.stack_apply (n := 4) 1 _ 4 ⟨k, by omega⟩ (by simp) rfl rfl (Nat.add_comm _ _)).trans ?_
    unfold val_main_v92 val_main_cst_8
    pointwise
    rfl

end Cert.DenseReferenceIdeal.Dense
-- ==== Proof.DenseEq.lean ====
/- The backward call of the recurrence's input matrices and its reference leave the same arrays. -/
module

public import proofs.«01_k».proof.Defs
public import proofs.«01_k».proof.Proof.Gen.DenseIdeal
public import proofs.«01_k».proof.Proof.Gen.DenseReferenceIdeal
public import proofs.«01_k».proof.Proof.DenseMatrix
public import proofs.«01_k».proof.Proof.DenseRows
public import proofs.«01_k».proof.Proof.DenseRef

@[expose] public section
noncomputable section

namespace Cert.Proof
open Idealize.ShloMosaic Idealize.ShloMosaic.TcCoe Idealize.SL.Sem
attribute [local instance] Cert.DenseIdeal.Gen.facts Cert.DenseReferenceIdeal.Gen.facts

/-- The two programs leave the same arrays. -/
theorem dense : Cert.algebraic_DenseIdeal_DenseReferenceIdeal := fun m g m' g' _ ha => by
  refine ⟨fun c => (Cert.DenseIdeal.Gen.dats m 0 c).arrAt 4 Cert.DenseIdeal.cfg0.N, fun c => (Cert.DenseIdeal.Gen.dats m 0 c).arrAt 5 Cert.DenseIdeal.cfg0.N,
    (θ_run Cert.DenseIdeal.defs _ _).mono (fun r h c => ?_) (Cert.DenseIdeal.Value.run_blocks (F := Ideal) m g),
    (θ_run Cert.DenseReferenceIdeal.defs _ _).mono (fun r h c => ?_) (Cert.DenseReferenceIdeal.Value.run (F := Ideal) m' g')⟩
  · exact h c
  · obtain ⟨h0, h1, h⟩ := h c
    obtain ⟨a0, a1, a2, a3, a4, a5, a6, a7⟩ := ha c
    refine ⟨h0.trans ?_, h1.trans ?_, h⟩
    · refine Eq.trans ?_ (Cert.DenseIdeal.Dense.db_arr m c).symm
      rw [← a2, ← a3, ← a6]
      exact (Cert.DenseReferenceIdeal.Read.val_main_v96_eq (F := Ideal) _ _ _).trans (Cert.DenseReferenceIdeal.Dense.db_res _ _ _)
    · refine Eq.trans ?_ (Cert.DenseIdeal.Dense.rows_arr m c).symm
      rw [← a4, ← a5, ← a6, ← a7]
      exact (Cert.DenseReferenceIdeal.Read.val_main_v93_eq m' c).trans (Cert.DenseReferenceIdeal.Dense.rows_res _ _ _ _)

end Cert.Proof
-- ==== Proof.FfnCall.lean ====
/- The gate's backward call of a feed-forward sublayer: what it leaves, as functions of its arguments' entries. -/
module

public import Idealize.ShloMosaic.PureOps.Ideal
public import Idealize.ShloMosaic.Lib.Pipeline.ValueKit

@[expose] public section
noncomputable section

namespace Cert.FfnCall
open Idealize.ShloMosaic

theorem ix3_surj {A B C : ℕ} (y : (⟨3, ![A, B, C]⟩ : Shape).Idx) : ∃ (a : Fin A) (b : Fin B) (r : Fin C), y = ix3 a b r :=
  ⟨y 0, y 1, y 2, by funext a; match a with | 0 => rfl | 1 => rfl | 2 => rfl⟩

theorem ix4_surj {A B C D : ℕ} (y : (⟨4, ![A, B, C, D]⟩ : Shape).Idx) : ∃ (a : Fin A) (b : Fin B) (r : Fin C) (l : Fin D), y = ix4 a b r l :=
  ⟨y 0, y 1, y 2, y 3, by funext a; match a with | 0 => rfl | 1 => rfl | 2 => rfl | 3 => rfl⟩

variable (h : (⟨2, ![4096, 1024]⟩ : Shape).Idx → EReal) (gate : (⟨1, ![1024]⟩ : Shape).Idx → EReal)
  (wi : (⟨2, ![1024, 5632]⟩ : Shape).Idx → EReal) (wo : (⟨2, ![2816, 1024]⟩ : Shape).Idx → EReal)
  (d : (⟨2, ![4096, 1024]⟩ : Shape).Idx → EReal)

/-- The factor one half, as the float that spells it. -/
def half : EReal := Ideal.ofBits FTy.f32 0x3F000000#32

/-- The input's weight to unit `k` of column block `j`: of the gate's argument (`p = 0`) or of the factor beside it. -/
def wIn (p : Fin 2) (j : Fin 4) (k : Fin 704) (e : Fin 1024) : EReal := wi (ix2 e ⟨2816 * p.val + 704 * j.val + k.val, by omega⟩)

def wOut (j : Fin 4) (k : Fin 704) (e : Fin 1024) : EReal := wo (ix2 ⟨704 * j.val + k.val, by omega⟩ e)

/-- The hidden units: the gate's argument and the factor beside it. -/
def hid (p : Fin 2) (j : Fin 4) (t : Fin 4096) (k : Fin 704) : EReal := ∑ e, h (ix2 t e) * wIn wi p j k e

/-- The output's cotangent at token `t`. -/
def cot (t : Fin 4096) (e : Fin 1024) : EReal := half * gate (ix1 e) * d (ix2 t e)

/-- The gated units' cotangent. -/
def ds (j : Fin 4) (t : Fin 4096) (k : Fin 704) : EReal := ∑ e, cot gate d t e * wOut wo j k e

/-- The gate's gradient, with the sigmoid and its derivative as the kernel multiplies them. -/
def gateGrad (a s : EReal) : EReal := s * (Ideal.logistic a * (1 + a * (1 - Ideal.logistic a)))

/-- The two hidden units' gradients. -/
def dHid (p : Fin 2) (j : Fin 4) (t : Fin 4096) (k : Fin 704) : EReal :=
  if p.val < 1 then gateGrad (hid h wi 0 j t k) (ds gate wo d j t k * hid h wi 1 j t k)
  else ds gate wo d j t k * (hid h wi 0 j t k * Ideal.logistic (hid h wi 0 j t k))

/-- The sublayer's input's gradient through column block `j`. -/
def parts (j : Fin 4) (t : Fin 4096) (e : Fin 1024) : EReal :=
  (∑ k, dHid h gate wi wo d 0 j t k * wIn wi 0 j k e) + ∑ k, dHid h gate wi wo d 1 j t k * wIn wi 1 j k e

/-- The gated unit. -/
def gated (j : Fin 4) (t : Fin 4096) (k : Fin 704) : EReal := hid h wi 0 j t k * Ideal.logistic (hid h wi 0 j t k) * hid h wi 1 j t k

/-- The output's weight's gradient. -/
def dwOut (j : Fin 4) (k : Fin 704) (e : Fin 1024) : EReal := ∑ t, gated h wi j t k * cot gate d t e

end Cert.FfnCall
-- ==== Proof.FfnBlocks.lean ====
/- The gate's backward call: the blocks its grid points load, as entries of the arguments. -/
module

public import proofs.«01_k».proof.Proof.Gen.FfnIdeal.Value
public import proofs.«01_k».proof.Proof.Rows
public import proofs.«01_k».proof.Proof.FfnCall

@[expose] public section
set_option maxRecDepth 16384
noncomputable section

namespace Cert.FfnIdeal.Ffn
open Cert.FfnIdeal Cert.FfnIdeal.Gen Idealize.ShloMosaic Idealize.ShloMosaic.TcCoe Idealize.SL.Sem
open Idealize.ShloMosaic.Pipeline (Dat)
open Cert.FfnIdeal.Facts Cert.FfnCall
variable (m : (ℓ : Loc nD τ sig) → Buf (Elt Ideal) ℓ)

/-- Point `t` works on column block `t / 4` and on the `t % 4`th quarter of the tokens. -/
theorem idx : ∀ t : Fin cfg0.N, win0_0.index t = ![t.val % 4, 0] ∧ win0_1.index t = ![0, t.val / 4, t.val % 4, 0] ∧ win0_2.index t = ![0, 0] ∧
    win0_3.index t = ![0, t.val / 4, 0, 0] ∧ win0_4.index t = ![t.val / 4, 0, 0] ∧ win0_5.index t = ![t.val / 4, t.val % 4, 0] ∧
    win0_6.index t = ![0, t.val / 4, t.val % 4, 0] ∧ win0_7.index t = ![t.val / 4, 0, 0] :=
  (by decide +kernel : ∀ t : Fin grid0.N, _)

/-- Row `r` of point `t`'s tokens, and its column block. -/
def tok (t : Fin cfg0.N) (r : Fin 1024) : Fin 4096 := ⟨t.val % 4 * 1024 + r.val, by omega⟩
def blk (t : Fin cfg0.N) : Fin 4 := ⟨t.val / 4, by have : t.val < 16 := lt_of_lt_of_eq t.isLt N_0; omega⟩

theorem d_blk (c : Dev nD) (t : Fin cfg0.N) (r e : Fin 1024) : iblk m c 0 t (ix2 r e) = m ((c : Thread nD τ).loc main_arg4) (ix2 (tok t r) e) := by
  blk_ext [iblk, V, idx t, tok]

theorem hid_blk (c : Dev nD) (t : Fin cfg0.N) (p : Fin 2) (r : Fin 1024) (k : Fin 704) :
    iblk m c 1 t (ix4 p 0 r k) = hid (m ((c : Thread nD τ).loc main_arg0)) (m ((c : Thread nD τ).loc main_arg2)) p (blk t) (tok t r) k := by
  have hN : t.val < 16 := lt_of_lt_of_eq t.isLt N_0
  blk_simp [iblk, idx t]
  entry_read
  pointwise
  unfold hid
  refine Finset.sum_congr (M := EReal) rfl fun x _ => ?_
  refine congrArg₂ (· * ·) ?_ ?_
  · blk_ext [idx t, tok]
  · blk_ext [idx t, blk, wIn]

theorem in_blk (c : Dev nD) (t : Fin cfg0.N) (p : Fin 2) (k : Fin 704) (e : Fin 1024) :
    iblk m c 3 t (ix4 p 0 k e) = wIn (m ((c : Thread nD τ).loc main_arg2)) p (blk t) k e := by
  have hN : t.val < 16 := lt_of_lt_of_eq t.isLt N_0
  blk_simp [iblk, idx t]
  entry_read
  pointwise
  blk_ext [idx t, blk, wIn]

theorem out_blk (c : Dev nD) (t : Fin cfg0.N) (k : Fin 704) (e : Fin 1024) :
    iblk m c 4 t (ix3 0 k e) = wOut (m ((c : Thread nD τ).loc main_arg3)) (blk t) k e := by
  have hN : t.val < 16 := lt_of_lt_of_eq t.isLt N_0
  blk_simp [iblk, idx t]
  entry_read
  pointwise
  blk_ext [idx t, blk, wOut]

/-- The packed parameter rows, as the host lays them out. -/
def prm (gate : FVec Ideal S1024 .f32) : FVec Ideal S16x1024 .f32 :=
  concatenate S16x1024 0 [⟨S8x1024, broadcastInDim S8x1024 ![] bcast_S_S8x1024 (constant (F := Ideal) S_ .f32 0x00000000#32)⟩,
    ⟨S1x1024, broadcastInDim S1x1024 ![1] bcast_S1024_S1x1024_1 gate⟩,
    ⟨S7x1024, broadcastInDim S7x1024 ![] bcast_S_S7x1024 (constant (F := Ideal) S_ .f32 0x00000000#32)⟩]
    concatenates_S8x1024_S1x1024_S7x1024_S16x1024_d0

theorem prm_gate (gate : FVec Ideal S1024 .f32) (e : Fin 1024) : prm gate (ix2 8 e) = gate (ix1 e) := by
  refine (Rows.stack_apply 1 (broadcastInDim S1x1024 ![1] bcast_S1024_S1x1024_1 gate) 8 0 (by simp) rfl rfl rfl).trans ?_
  pointwise
  blk_ext []

theorem prm_entry (c : Dev nD) : V m c main_v3 = prm (m ((c : Thread nD τ).loc main_arg1)) := rfl

theorem prm_blk (c : Dev nD) (t : Fin cfg0.N) (k : Fin 16) (e : Fin 1024) : iblk m c 2 t (ix2 k e) = V m c main_v3 (ix2 k e) := by
  unfold iblk
  blk_ext [idx t]

theorem gate_blk (c : Dev nD) (t : Fin cfg0.N) (e : Fin 1024) : iblk m c 2 t (ix2 8 e) = m ((c : Thread nD τ).loc main_arg1) (ix1 e) := by
  rw [prm_blk, prm_entry, prm_gate]

end Cert.FfnIdeal.Ffn
-- ==== Proof.FfnTiles.lean ====
/- The gate's backward call: what its body stores, of the blocks it loads. -/
module

public import proofs.«01_k».proof.Proof.Gen.FfnIdeal.Value
public import proofs.«01_k».proof.Proof.Rows
public import proofs.«01_k».proof.Proof.FfnCall

@[expose] public section
set_option maxRecDepth 16384
noncomputable section

namespace Cert.FfnIdeal.Ffn
open Cert.FfnIdeal Cert.FfnIdeal.Gen Idealize.ShloMosaic Idealize.ShloMosaic.TcCoe Idealize.SL.Sem
open Idealize.ShloMosaic.Pipeline (Dat)
open Cert.FfnIdeal.Facts Cert.FfnCall

section
variable (x0 : FVec Ideal S1024x1024 .f32) (x1 : FVec Ideal S2x1x1024x704 .bf16) (x2 : FVec Ideal S16x1024 .f32)
  (x3 : FVec Ideal S2x1x704x1024 .bf16) (x4 : FVec Ideal S1x704x1024 .bf16)

/-- A tile's cotangent of the output, of the gated units, and the hidden units' gradients. -/
def tcot (r : Fin 1024) (e : Fin 1024) : EReal := half * x2 (ix2 8 e) * x0 (ix2 r e)
def tds (r : Fin 1024) (k : Fin 704) : EReal := ∑ e, tcot x0 x2 r e * x4 (ix3 0 k e)
def tda (r : Fin 1024) (k : Fin 704) : EReal := gateGrad (x1 (ix4 0 0 r k)) (tds x0 x2 x4 r k * x1 (ix4 1 0 r k))
def tdb (r : Fin 1024) (k : Fin 704) : EReal := tds x0 x2 x4 r k * (x1 (ix4 0 0 r k) * Ideal.logistic (x1 (ix4 0 0 r k)))
def tpart (r : Fin 1024) (e : Fin 1024) : EReal :=
  (∑ k, tda x0 x1 x2 x4 r k * x3 (ix4 0 0 k e)) + ∑ k, tdb x0 x1 x2 x4 r k * x3 (ix4 1 0 k e)
end

variable (m : (ℓ : Loc nD τ sig) → Buf (Elt Ideal) ℓ)

set_option maxHeartbeats 8000000 in
/-- What the body stores of the input's gradient. -/
theorem part_out (c : Dev nD) (t : Fin cfg0.N) (r e : Fin 1024) : (outsAt0 m c t.val t.isLt).1 (ix3 0 r e)
    = tpart (iblk m c 0 t) (iblk m c 1 t) (iblk m c 2 t) (iblk m c 3 t) (iblk m c 4 t) r e := by
  by_cases hA : t.val % 4 = 0
  · rw [outsAt0_A m c t hA (by omega)]
    frame_out
    generalize iblk m c 0 t = x0; generalize iblk m c 1 t = x1; generalize iblk m c 2 t = x2; generalize iblk m c 3 t = x3; generalize iblk m c 4 t = x4
    canon_tiles x h
    all_goals
      rw [show r = ⟨_, by first | omega | exact Nat.lt_trans x1_lt (by decide)⟩ from Fin.ext h1, show e = x 2 from Fin.ext h2]
      open_payloads
      pointwise
      rfl
  · by_cases hC : t.val % 4 = 3
    · rw [outsAt0_C m c t hA hC]
      frame_out
      generalize iblk m c 0 t = x0; generalize iblk m c 1 t = x1; generalize iblk m c 2 t = x2; generalize iblk m c 3 t = x3; generalize iblk m c 4 t = x4
      canon_tiles x h
      all_goals
        rw [show r = ⟨_, by first | omega | exact Nat.lt_trans x1_lt (by decide)⟩ from Fin.ext h1, show e = x 2 from Fin.ext h2]
        open_payloads
        pointwise
        rfl
    · rw [outsAt0_B m c t hA hC]
      frame_out
      generalize iblk m c 0 t = x0; generalize iblk m c 1 t = x1; generalize iblk m c 2 t = x2; generalize iblk m c 3 t = x3; generalize iblk m c 4 t = x4
      canon_tiles x h
      all_goals
        rw [show r = ⟨_, by first | omega | exact Nat.lt_trans x1_lt (by decide)⟩ from Fin.ext h1, show e = x 2 from Fin.ext h2]
        open_payloads
        pointwise
        rfl

end Cert.FfnIdeal.Ffn
-- ==== Proof.FfnHidden.lean ====
/- The gate's backward call: what its body stores of the hidden units' gradients. -/
module

public import proofs.«01_k».proof.Proof.FfnTiles

@[expose] public section
set_option maxRecDepth 16384
noncomputable section

namespace Cert.FfnIdeal.Ffn
open Cert.FfnIdeal Cert.FfnIdeal.Gen Idealize.ShloMosaic Idealize.ShloMosaic.TcCoe Idealize.SL.Sem
open Idealize.ShloMosaic.Pipeline (Dat)
open Cert.FfnIdeal.Facts Cert.FfnCall

/-- A tile's hidden units' gradients: of the gate's argument, and of the factor beside it. -/
def thid (x0 : FVec Ideal S1024x1024 .f32) (x1 : FVec Ideal S2x1x1024x704 .bf16) (x2 : FVec Ideal S16x1024 .f32) (x4 : FVec Ideal S1x704x1024 .bf16)
    (p : Fin 2) (r : Fin 1024) (k : Fin 704) : EReal :=
  if p.val < 1 then tda x0 x1 x2 x4 r k else tdb x0 x1 x2 x4 r k

variable (m : (ℓ : Loc nD τ sig) → Buf (Elt Ideal) ℓ)

set_option maxHeartbeats 8000000 in
/-- What the body stores of the hidden units' gradients. -/
theorem hidden_out (c : Dev nD) (t : Fin cfg0.N) (p : Fin 2) (r : Fin 1024) (k : Fin 704) : (outsAt0 m c t.val t.isLt).2.1 (ix4 p 0 r k)
    = thid (iblk m c 0 t) (iblk m c 1 t) (iblk m c 2 t) (iblk m c 4 t) p r k := by
  by_cases hA : t.val % 4 = 0
  · rw [outsAt0_A m c t hA (by omega)]
    frame_out
    generalize iblk m c 0 t = x0; generalize iblk m c 1 t = x1; generalize iblk m c 2 t = x2; generalize iblk m c 3 t = x3; generalize iblk m c 4 t = x4
    canon_tiles x h
    all_goals
      replace h0 : p.val = _ := h0
      rw [show r = ⟨_, by first | omega | exact Nat.lt_trans x2_lt (by decide)⟩ from Fin.ext h2, show k = x 3 from Fin.ext h3]
      unfold thid
      first | rw [if_pos (by omega)] | rw [if_neg (by omega)]
      open_payloads
      pointwise
      rfl
  · by_cases hC : t.val % 4 = 3
    · rw [outsAt0_C m c t hA hC]
      frame_out
      generalize iblk m c 0 t = x0; generalize iblk m c 1 t = x1; generalize iblk m c 2 t = x2; generalize iblk m c 3 t = x3; generalize iblk m c 4 t = x4
      canon_tiles x h
      all_goals
        replace h0 : p.val = _ := h0
        rw [show r = ⟨_, by first | omega | exact Nat.lt_trans x2_lt (by decide)⟩ from Fin.ext h2, show k = x 3 from Fin.ext h3]
        unfold thid
        first | rw [if_pos (by omega)] | rw [if_neg (by omega)]
        open_payloads
        pointwise
        rfl
    · rw [outsAt0_B m c t hA hC]
      frame_out
      generalize iblk m c 0 t = x0; generalize iblk m c 1 t = x1; generalize iblk m c 2 t = x2; generalize iblk m c 3 t = x3; generalize iblk m c 4 t = x4
      canon_tiles x h
      all_goals
        replace h0 : p.val = _ := h0
        rw [show r = ⟨_, by first | omega | exact Nat.lt_trans x2_lt (by decide)⟩ from Fin.ext h2, show k = x 3 from Fin.ext h3]
        unfold thid
        first | rw [if_pos (by omega)] | rw [if_neg (by omega)]
        open_payloads
        pointwise
        rfl

end Cert.FfnIdeal.Ffn
-- ==== Proof.FfnSums.lean ====
/- The gate's backward call: the output's weight's gradient, summed over the tiles in a buffer of the kernel's own. -/
module

public import proofs.«01_k».proof.Proof.FfnTiles

@[expose] public section
set_option maxRecDepth 16384
noncomputable section

namespace Cert.FfnIdeal.Ffn
open Cert.FfnIdeal Cert.FfnIdeal.Gen Idealize.ShloMosaic Idealize.ShloMosaic.TcCoe Idealize.SL.Sem
open Idealize.ShloMosaic.Pipeline (Dat)
open Cert.FfnIdeal.Facts Cert.FfnCall

/-- The accumulator after a tile, of the tile's blocks and the accumulator before. -/
abbrev upd (x0 : FVec Ideal S1024x1024 .f32) (x1 : FVec Ideal S2x1x1024x704 .bf16) (x2 : FVec Ideal S16x1024 .f32) (acc : FVec Ideal S704x1024 .f32) :
    FVec Ideal S704x1024 .f32 :=
  let d0 : Vec Ideal S256x1024 .f32 := View.ld (Val := Elt Ideal) (e' := .f32) x0 (Rect.unit ![0, 0] ![256, 1024] inb_S1024x1024_S256x1024_0_0)
  let d1 : Vec Ideal S256x1024 .f32 := View.ld (Val := Elt Ideal) (e' := .f32) x0 (Rect.unit ![256, 0] ![256, 1024] inb_S1024x1024_S256x1024_256_0)
  let d2 : Vec Ideal S256x1024 .f32 := View.ld (Val := Elt Ideal) (e' := .f32) x0 (Rect.unit ![512, 0] ![256, 1024] inb_S1024x1024_S256x1024_512_0)
  let d3 : Vec Ideal S256x1024 .f32 := View.ld (Val := Elt Ideal) (e' := .f32) x0 (Rect.unit ![768, 0] ![256, 1024] inb_S1024x1024_S256x1024_768_0)
  let g : Vec Ideal S1x1024 .f32 := View.ld (Val := Elt Ideal) (e' := .f32) x2 (Rect.unit ![8, 0] ![1, 1024] inb_S16x1024_S1x1024_8_0)
  let a0 : Vec Ideal S1x1x256x704 .bf16 := View.ld (Val := Elt Ideal) (e' := .bf16) x1 (Rect.unit ![0, 0, 0, 0] ![1, 1, 256, 704] inb_S2x1x1024x704_S1x1x256x704_0_0_0_0)
  let b0 : Vec Ideal S1x1x256x704 .bf16 := View.ld (Val := Elt Ideal) (e' := .bf16) x1 (Rect.unit ![1, 0, 0, 0] ![1, 1, 256, 704] inb_S2x1x1024x704_S1x1x256x704_1_0_0_0)
  let a1 : Vec Ideal S1x1x256x704 .bf16 := View.ld (Val := Elt Ideal) (e' := .bf16) x1 (Rect.unit ![0, 0, 256, 0] ![1, 1, 256, 704] inb_S2x1x1024x704_S1x1x256x704_0_0_256_0)
  let b1 : Vec Ideal S1x1x256x704 .bf16 := View.ld (Val := Elt Ideal) (e' := .bf16) x1 (Rect.unit ![1, 0, 256, 0] ![1, 1, 256, 704] inb_S2x1x1024x704_S1x1x256x704_1_0_256_0)
  let a2 : Vec Ideal S1x1x256x704 .bf16 := View.ld (Val := Elt Ideal) (e' := .bf16) x1 (Rect.unit ![0, 0, 512, 0] ![1, 1, 256, 704] inb_S2x1x1024x704_S1x1x256x704_0_0_512_0)
  let b2 : Vec Ideal S1x1x256x704 .bf16 := View.ld (Val := Elt Ideal) (e' := .bf16) x1 (Rect.unit ![1, 0, 512, 0] ![1, 1, 256, 704] inb_S2x1x1024x704_S1x1x256x704_1_0_512_0)
  let a3 : Vec Ideal S1x1x256x704 .bf16 := View.ld (Val := Elt Ideal) (e' := .bf16) x1 (Rect.unit ![0, 0, 768, 0] ![1, 1, 256, 704] inb_S2x1x1024x704_S1x1x256x704_0_0_768_0)
  let b3 : Vec Ideal S1x1x256x704 .bf16 := View.ld (Val := Elt Ideal) (e' := .bf16) x1 (Rect.unit ![1, 0, 768, 0] ![1, 1, 256, 704] inb_S2x1x1024x704_S1x1x256x704_1_0_768_0)
  k0_pay2 (k0_pay13 g d0) (k0_pay22 (k0_pay10 b0) (k0_pay12 a0)) (k0_pay28 d1 (k0_pay27 (k0_pay8 g))) (k0_pay35 (k0_pay24 b1) (k0_pay26 a1))
    (k0_pay40 (k0_pay8 g) d2) (k0_pay47 (k0_pay36 a2) b2) (k0_pay49 b3) (k0_pay51 a3) (k0_pay52 (k0_pay8 g) d3) acc

/-- What a tile adds to the output's weight's gradient. -/
def tsum (x0 : FVec Ideal S1024x1024 .f32) (x1 : FVec Ideal S2x1x1024x704 .bf16) (x2 : FVec Ideal S16x1024 .f32) (k : Fin 704) (e : Fin 1024) : EReal :=
  ∑ r, x1 (ix4 0 0 r k) * Ideal.logistic (x1 (ix4 0 0 r k)) * x1 (ix4 1 0 r k) * tcot x0 x2 r e

set_option maxHeartbeats 8000000 in
theorem upd_apply (x0 : FVec Ideal S1024x1024 .f32) (x1 : FVec Ideal S2x1x1024x704 .bf16) (x2 : FVec Ideal S16x1024 .f32) (acc : FVec Ideal S704x1024 .f32)
    (k : Fin 704) (e : Fin 1024) : upd x0 x1 x2 acc (ix2 k e) = acc (ix2 k e) + tsum x0 x1 x2 k e := by
  unfold upd k0_pay2
  pointwise
  refine congrArg (acc (ix2 k e) + ·) (Finset.sum_congr rfl fun r _ => ?_)
  by_cases c0 : r.val < 256
  · simp only [c0, dite_true]
    open_payloads
    pointwise
    rfl
  · by_cases c1 : r.val - 256 < 256
    · have hr : 256 + (r.val - 256) = r.val := by omega
      simp only [c0, c1, dite_true, dite_false]
      open_payloads
      pointwise
      simp only [hr]
      rfl
    · by_cases c2 : r.val - 256 - 256 < 256
      · have hr : 512 + (r.val - 256 - 256) = r.val := by omega
        simp only [c0, c1, c2, dite_true, dite_false]
        open_payloads
        pointwise
        simp only [hr]
        rfl
      · have hr : 768 + (r.val - 256 - 256 - 256) = r.val := by omega
        simp only [c0, c1, c2, dite_false]
        open_payloads
        pointwise
        simp only [hr]
        rfl

variable (m : (ℓ : Loc nD τ sig) → Buf (Elt Ideal) ℓ)

/-- The accumulator's contents after a tile: at a column block's first tile the tile's sum alone. -/
theorem acc_first (c : Dev nD) (t : Fin cfg0.N) (h0 : t.val % 4 = 0) (k : Fin 704) (e : Fin 1024) : (outsAt0 m c t.val t.isLt).2.2.2 (ix2 k e)
    = tsum (iblk m c 0 t) (iblk m c 1 t) (iblk m c 2 t) k e := by
  rw [outsAt0_A m c t h0 (by omega)]
  frame_out
  refine (upd_apply _ _ _ _ k e).trans ?_
  refine Eq.trans (congrArg (· + _) ?_) (zero_add _)
  open_payloads
  pointwise

/-- At the others, with what the tiles before left. -/
theorem acc_next (c : Dev nD) (t : Fin cfg0.N) (h0 : ¬t.val % 4 = 0) (k : Fin 704) (e : Fin 1024) : (outsAt0 m c t.val t.isLt).2.2.2 (ix2 k e)
    = (outsAt0 m c (t.val - 1) (lt_of_le_of_lt (Nat.sub_le _ _) t.isLt)).2.2.2 (ix2 k e) + tsum (iblk m c 0 t) (iblk m c 1 t) (iblk m c 2 t) k e := by
  by_cases h1 : t.val % 4 = 3
  · rw [outsAt0_C m c t h0 h1]
    frame_out
    exact (upd_apply _ _ _ _ k e).trans (congrArg (· + _) (congrFun (Memref.IsWhole.read_unread _ _) (ix2 k e)))
  · rw [outsAt0_B m c t h0 h1]
    frame_out
    exact (upd_apply _ _ _ _ k e).trans (congrArg (· + _) (congrFun (Memref.IsWhole.read_unread _ _) (ix2 k e)))

/-- At a column block's last tile the accumulator is what is stored. -/
theorem acc_last (c : Dev nD) (t : Fin cfg0.N) (h1 : t.val % 4 = 3) (k : Fin 704) (e : Fin 1024) : (outsAt0 m c t.val t.isLt).2.2.1 (ix3 0 k e)
    = (outsAt0 m c t.val t.isLt).2.2.2 (ix2 k e) := by
  rw [outsAt0_C m c t (by omega) h1]
  frame_out
  unfold k0_pay3
  pointwise

end Cert.FfnIdeal.Ffn
-- ==== Proof.FfnKernel.lean ====
/- The gate's backward call: the three arrays it leaves, as functions of the arguments. -/
module

public import proofs.«01_k».proof.Proof.FfnBlocks
public import proofs.«01_k».proof.Proof.FfnHidden
public import proofs.«01_k».proof.Proof.FfnSums

@[expose] public section
set_option maxRecDepth 16384
noncomputable section

namespace Cert.FfnIdeal.Ffn
open Cert.FfnIdeal Cert.FfnIdeal.Gen Idealize.ShloMosaic Idealize.ShloMosaic.TcCoe Idealize.SL.Sem
open Idealize.ShloMosaic.Pipeline (Dat)
open Cert.FfnIdeal.Facts Cert.FfnCall
variable (m : (ℓ : Loc nD τ sig) → Buf (Elt Ideal) ℓ)

theorem tcot_blk (c : Dev nD) (t : Fin cfg0.N) (r e : Fin 1024) : tcot (iblk m c 0 t) (iblk m c 2 t) r e
    = cot (m ((c : Thread nD τ).loc main_arg1)) (m ((c : Thread nD τ).loc main_arg4)) (tok t r) e := by
  simp only [tcot, cot, d_blk, gate_blk]

theorem tds_blk (c : Dev nD) (t : Fin cfg0.N) (r : Fin 1024) (k : Fin 704) : tds (iblk m c 0 t) (iblk m c 2 t) (iblk m c 4 t) r k
    = ds (m ((c : Thread nD τ).loc main_arg1)) (m ((c : Thread nD τ).loc main_arg3)) (m ((c : Thread nD τ).loc main_arg4)) (blk t) (tok t r) k := by
  simp only [tds, ds, tcot_blk, out_blk]

theorem thid_blk (c : Dev nD) (t : Fin cfg0.N) (p : Fin 2) (r : Fin 1024) (k : Fin 704) :
    thid (iblk m c 0 t) (iblk m c 1 t) (iblk m c 2 t) (iblk m c 4 t) p r k
    = dHid (m ((c : Thread nD τ).loc main_arg0)) (m ((c : Thread nD τ).loc main_arg1)) (m ((c : Thread nD τ).loc main_arg2))
        (m ((c : Thread nD τ).loc main_arg3)) (m ((c : Thread nD τ).loc main_arg4)) p (blk t) (tok t r) k := by
  simp only [thid, tda, tdb, dHid, tds_blk, hid_blk]

/-- The first array: the sublayer's input's gradient, a part from each column block. -/
theorem parts_arr (c : Dev nD) : (dats m 0 c).arrAt 5 cfg0.N = fun y =>
    parts (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) (y 2) := by
  refine (dats m 0 c).arrAt_eq_of_covers 5 _ (by decide +kernel) fun t hf y => ?_
  obtain ⟨z, r, e, rfl⟩ := ix3_surj y
  obtain rfl : z = 0 := Subsingleton.elim _ _
  have hN : t.val < 16 := lt_of_lt_of_eq t.isLt N_0
  blk_simp
  rw [after0_5]
  have hG : ((View.whole main_v13_0).slice (win0_5.rect t)).emb (ix3 0 r e) = ix3 (blk t) (tok t r) e := by
    blk_ext [idx t, blk, tok]
  rw [hG]
  show _ = parts _ _ _ _ _ (blk t) (tok t r) e
  refine (part_out m c t r e).trans ?_
  unfold tpart parts
  refine congrArg₂ (· + ·) (Finset.sum_congr rfl fun k _ => congrArg₂ (· * ·) (thid_blk m c t 0 r k) (in_blk m c t 0 k e))
    (Finset.sum_congr rfl fun k _ => congrArg₂ (· * ·) (thid_blk m c t 1 r k) (in_blk m c t 1 k e))

/-- The second array: the hidden units' gradients. -/
theorem hidden_arr (c : Dev nD) : (dats m 0 c).arrAt 6 cfg0.N = fun y =>
    dHid (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) (y 2) (y 3) := by
  refine (dats m 0 c).arrAt_eq_of_covers 6 _ (by decide +kernel) fun t hf y => ?_
  obtain ⟨p, z, r, k, rfl⟩ := ix4_surj y
  obtain rfl : z = 0 := Subsingleton.elim _ _
  have hN : t.val < 16 := lt_of_lt_of_eq t.isLt N_0
  blk_simp
  rw [after0_6]
  have hG : ((View.whole main_v13_1).slice (win0_6.rect t)).emb (ix4 p 0 r k) = ix4 p (blk t) (tok t r) k := by
    blk_ext [idx t, blk, tok]
  rw [hG]
  exact (hidden_out m c t p r k).trans (thid_blk m c t p r k)

/-- A tile's part of the output's weight's gradient. -/
theorem tsum_blk (c : Dev nD) (t : Fin cfg0.N) (k : Fin 704) (e : Fin 1024) : tsum (iblk m c 0 t) (iblk m c 1 t) (iblk m c 2 t) k e
    = ∑ r : Fin 1024, gated (m ((c : Thread nD τ).loc main_arg0)) (m ((c : Thread nD τ).loc main_arg2)) (blk t) (tok t r) k
        * cot (m ((c : Thread nD τ).loc main_arg1)) (m ((c : Thread nD τ).loc main_arg4)) (tok t r) e := by
  simp only [tsum, gated, tcot_blk, hid_blk]

/-- A sum over the tokens is the sum of its four quarters. -/
theorem quarters (f : Fin 4096 → EReal) : (∑ r : Fin 1024, f ⟨r.val, by omega⟩) + (∑ r : Fin 1024, f ⟨1024 + r.val, by omega⟩)
    + (∑ r : Fin 1024, f ⟨2048 + r.val, by omega⟩) + (∑ r : Fin 1024, f ⟨3072 + r.val, by omega⟩) = ∑ t, f t := by
  have h2 := Fin.sum_univ_add (a := 1024) (b := 1024) fun i : Fin 2048 => f ⟨i.val, by omega⟩
  have h3 := Fin.sum_univ_add (a := 2048) (b := 1024) fun i : Fin 3072 => f ⟨i.val, by omega⟩
  exact ((congrArg (· + _) ((congrArg (· + _) h2.symm).trans h3.symm)).trans (Fin.sum_univ_add (a := 3072) (b := 1024) f).symm)

/-- The third array: the output's weight's gradient, stored at a column block's last tile. -/
theorem weight_arr (c : Dev nD) : (dats m 0 c).arrAt 7 cfg0.N = fun y =>
    dwOut (m ((c : Thread nD τ).loc main_arg0)) (m ((c : Thread nD τ).loc main_arg1)) (m ((c : Thread nD τ).loc main_arg2))
      (m ((c : Thread nD τ).loc main_arg4)) (y 0) (y 1) (y 2) := by
  refine (dats m 0 c).arrAt_eq_of_covers 7 _ (by decide +kernel) fun t hf y => ?_
  obtain ⟨z, k, e, rfl⟩ := ix3_surj y
  obtain rfl : z = 0 := Subsingleton.elim _ _
  have hN : t.val < 16 := lt_of_lt_of_eq t.isLt N_0
  have h3 : t.val % 4 = 3 := (flush0_7 t).mp hf
  have hM : cfg0.N = 16 := N_0
  blk_simp
  rw [after0_7]
  have hG : ((View.whole main_v13_2).slice (win0_7.rect t)).emb (ix3 0 k e) = ix3 (blk t) k e := by
    blk_ext [idx t, blk]
  rw [hG]
  show _ = dwOut _ _ _ _ (blk t) k e
  have e3 := acc_next m c t (by omega) k e
  have e2 := acc_next m c ⟨t.val - 1, by omega⟩ (by show ¬(t.val - 1) % 4 = 0; omega) k e
  have e1 := acc_next m c ⟨t.val - 1 - 1, by omega⟩ (by show ¬(t.val - 1 - 1) % 4 = 0; omega) k e
  have e0 := acc_first m c ⟨t.val - 1 - 1 - 1, by omega⟩ (by show (t.val - 1 - 1 - 1) % 4 = 0; omega) k e
  refine (acc_last m c t h3 k e).trans ?_
  rw [e3, e2, e1, e0, tsum_blk, tsum_blk, tsum_blk, tsum_blk, dwOut, ← quarters]
  have hb : ∀ s, s = 0 ∨ s = 1 ∨ s = 2 → (t.val - 1 - s) / 4 = t.val / 4 := fun s hs => by omega
  refine congrArg₂ (· + ·) (congrArg₂ (· + ·) (congrArg₂ (· + ·) ?_ ?_) ?_) ?_ <;> refine Finset.sum_congr rfl fun r _ => ?_
  · rw [show blk ⟨t.val - 1 - 1 - 1, by omega⟩ = blk t from Fin.ext (by show (t.val - 1 - 1 - 1) / 4 = t.val / 4; omega),
      show tok ⟨t.val - 1 - 1 - 1, by omega⟩ r = ⟨r.val, by omega⟩ from Fin.ext (by show (t.val - 1 - 1 - 1) % 4 * 1024 + r.val = r.val; omega)]
  · rw [show blk ⟨t.val - 1 - 1, by omega⟩ = blk t from Fin.ext (by show (t.val - 1 - 1) / 4 = t.val / 4; omega),
      show tok ⟨t.val - 1 - 1, by omega⟩ r = ⟨1024 + r.val, by omega⟩ from Fin.ext (by show (t.val - 1 - 1) % 4 * 1024 + r.val = 1024 + r.val; omega)]
  · rw [show blk ⟨t.val - 1, by omega⟩ = blk t from Fin.ext (by show (t.val - 1) / 4 = t.val / 4; omega),
      show tok ⟨t.val - 1, by omega⟩ r = ⟨2048 + r.val, by omega⟩ from Fin.ext (by show (t.val - 1) % 4 * 1024 + r.val = 2048 + r.val; omega)]
  · rw [show tok t r = ⟨3072 + r.val, by omega⟩ from Fin.ext (by show t.val % 4 * 1024 + r.val = 3072 + r.val; omega)]

end Cert.FfnIdeal.Ffn
-- ==== Proof.FfnRef.lean ====
/- The reference of the gate's backward call: what reverse-mode differentiation of the sublayer's lines computes, entry by
   entry. -/
module

public import proofs.«01_k».proof.Proof.Gen.FfnReferenceIdeal.Run
public import proofs.«01_k».proof.Proof.Gen.FfnReferenceIdeal.Read
public import proofs.«01_k».proof.Proof.Rows
public import proofs.«01_k».proof.Proof.Reals
public import proofs.«01_k».proof.Proof.FfnCall

@[expose] public section
set_option maxRecDepth 16384
noncomputable section

namespace Cert.FfnReferenceIdeal.Ffn
open Idealize.ShloMosaic Idealize.ShloMosaic.TcCoe Cert.FfnReferenceIdeal.Read Cert.FfnCall

variable (x0 : FVec Ideal S4096x1024 .f32) (x1 : FVec Ideal S1024 .f32) (x2 : FVec Ideal S1024x5632 .f32) (x3 : FVec Ideal S2816x1024 .f32)
  (x4 : FVec Ideal S4096x1024 .f32)

theorem one_eq : Ideal.ofBits .f32 0x3F800000#32 = 1 := by
  simp [Ideal.ofBits, Ideal.ieee]; rw [← EReal.coe_mul]; norm_num

theorem copy_at (j : Fin 4) (t : Fin 4096) (e : Fin 1024) : val_main_v1 (F := Ideal) x0 (ix3 j t e) = x0 (ix2 t e) := by
  unfold val_main_v1 val_main_v0; pointwise

theorem wa_at (e : Fin 1024) (j : Fin 4) (k : Fin 704) : val_main_v4 (F := Ideal) x2 (ix3 e j k) = wIn x2 0 j k e := by
  unfold val_main_v4 val_main_v2 wIn; pointwise
  exact congrArg x2 (by blk_ext [])

theorem wb_at (e : Fin 1024) (j : Fin 4) (k : Fin 704) : val_main_v6 (F := Ideal) x2 (ix3 e j k) = wIn x2 1 j k e := by
  unfold val_main_v6 val_main_v3 wIn; pointwise
  exact congrArg x2 (by blk_ext [])

theorem wo_at (j : Fin 4) (k : Fin 704) (e : Fin 1024) : val_main_v13 (F := Ideal) x3 (ix3 j k e) = wOut x3 j k e := by
  unfold val_main_v13 wOut; pointwise
  exact congrArg x3 (by blk_ext [])

theorem a_at (j : Fin 4) (t : Fin 4096) (k : Fin 704) : val_main_v5 (F := Ideal) x0 x2 (ix3 j t k) = hid x0 x2 0 j t k := by
  rw [val_main_v5_apply]
  refine Finset.sum_congr (M := EReal) rfl fun e _ => ?_
  rw [show lidx_main_v5 (ix3 j t k) e = ix3 j t e from by funext a; match a with | 0 => rfl | 1 => rfl | 2 => rfl,
    show ridx_main_v5 (ix3 j t k) e = ix3 e j k from by funext a; match a with | 0 => rfl | 1 => rfl | 2 => rfl, copy_at, wa_at]

theorem b_at (j : Fin 4) (t : Fin 4096) (k : Fin 704) : val_main_v7 (F := Ideal) x0 x2 (ix3 j t k) = hid x0 x2 1 j t k := by
  rw [val_main_v7_apply]
  refine Finset.sum_congr (M := EReal) rfl fun e _ => ?_
  rw [show lidx_main_v7 (ix3 j t k) e = ix3 j t e from by funext a; match a with | 0 => rfl | 1 => rfl | 2 => rfl,
    show ridx_main_v7 (ix3 j t k) e = ix3 e j k from by funext a; match a with | 0 => rfl | 1 => rfl | 2 => rfl, copy_at, wb_at]

theorem cot_at (t : Fin 4096) (e : Fin 1024) : val_main_v18 (F := Ideal) x1 x4 (ix2 t e) = cot x1 x4 t e := by
  unfold val_main_v18 val_main_v17 val_main_v10 val_main_v9 val_main_v8 val_main_cst; pointwise; rfl

theorem sg_at (j : Fin 4) (t : Fin 4096) (k : Fin 704) : val_main_v11_2 (F := Ideal) x0 x2 (ix3 j t k) = Ideal.logistic (hid x0 x2 0 j t k) := by
  rw [← a_at, val_main_v11_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-_)) = _
  rw [one_eq]; rfl

theorem slope_at (j : Fin 4) (t : Fin 4096) (k : Fin 704) : val_main_v11_1 (F := Ideal) x0 x2 (ix3 j t k)
    = Ideal.logistic (hid x0 x2 0 j t k) * (1 - Ideal.logistic (hid x0 x2 0 j t k)) := by
  rw [val_main_v11_1_apply, val_main_call0_v7_apply, val_main_call0_v6_apply, val_main_call0_cst_1_apply, sg_at]
  show _ * (Ideal.ofBits .f32 0x3F800000#32 - _) = _
  rw [one_eq]

theorem silu_at (j : Fin 4) (t : Fin 4096) (k : Fin 704) : val_main_v11_0 (F := Ideal) x0 x2 (ix3 j t k)
    = hid x0 x2 0 j t k * Ideal.logistic (hid x0 x2 0 j t k) := by
  rw [val_main_v11_0_apply, a_at, sg_at]; rfl

theorem ds_at (j : Fin 4) (t : Fin 4096) (k : Fin 704) : val_main_v22 (F := Ideal) x1 x3 x4 (ix3 j t k) = ds x1 x3 x4 j t k := by
  rw [val_main_v22_apply, val_main_v21_apply]
  refine Finset.sum_congr (M := EReal) rfl fun e _ => ?_
  rw [show lidx_main_v21 (idx_main_v22 (ix3 j t k)) e = ix2 t e from by funext a; match a with | 0 => rfl | 1 => rfl,
    show ridx_main_v21 (idx_main_v22 (ix3 j t k)) e = ix3 j k e from by funext a; match a with | 0 => rfl | 1 => rfl | 2 => rfl, cot_at, wo_at]

/-- The output's weight's gradient. -/
theorem dw_res : val_main_v36 (F := Ideal) x0 x1 x2 x4 = fun y => dwOut x0 x1 x2 x4 (y 0) (y 1) (y 2) := by
  funext y
  obtain ⟨j, k, e, rfl⟩ := ix3_surj y
  rw [val_main_v36_apply, val_main_v35_apply, val_main_v23_apply, val_main_v20_apply, val_main_v19_apply]
  show (∑ _, _ : EReal) = dwOut x0 x1 x2 x4 j k e
  refine Finset.sum_congr (M := EReal) rfl fun t _ => ?_
  rw [show lidx_main_v19 (idx_main_v20 (idx_main_v23 (idx_main_v35 (ix3 j k e)))) t = ix2 t e from by blk_ext [],
    show ridx_main_v19 (idx_main_v20 (idx_main_v23 (idx_main_v35 (ix3 j k e)))) t = ix3 j t k from by blk_ext [], cot_at, val_main_v12_apply,
    silu_at, b_at]
  exact mul_comm (G := EReal) _ _

/-- The gate's gradient as reverse mode composes it is the written-out one at reals. -/
theorem gate_eq {a s : EReal} (ha : ∃ r : ℝ, a = r) (hs : ∃ r : ℝ, s = r) :
    s * Ideal.logistic a + a * s * (Ideal.logistic a * (1 - Ideal.logistic a)) = gateGrad a s := by
  obtain ⟨α, rfl⟩ := ha
  obtain ⟨σ, rfl⟩ := hs
  rw [gateGrad, Ideal.logistic_coe]
  generalize (1 + Real.exp (-α))⁻¹ = l
  norm_cast
  ring_nf

variable (ha : ∀ p j t k, ∃ r : ℝ, hid x0 x2 p j t k = r) (hs : ∀ j t k, ∃ r : ℝ, ds x1 x3 x4 j t k = r)

include ha hs in
theorem da_at (j : Fin 4) (t : Fin 4096) (k : Fin 704) : val_main_v26 (F := Ideal) x0 x1 x2 x3 x4 (ix3 j t k) = dHid x0 x1 x2 x3 x4 0 j t k := by
  rw [val_main_v26_apply, val_main_call1_v1_apply, val_main_call1_v2_apply, val_main_call1_v0_apply, val_main_v25_apply, ds_at, a_at, b_at, sg_at, slope_at]
  refine (gate_eq (ha 0 j t k) ?_).trans (if_pos (by decide)).symm
  obtain ⟨β, hβ⟩ := ha 1 j t k
  obtain ⟨δ, hδ⟩ := hs j t k
  exact ⟨δ * β, by rw [hβ, hδ]; exact (EReal.coe_mul _ _).symm⟩

theorem db_at (j : Fin 4) (t : Fin 4096) (k : Fin 704) : val_main_v24 (F := Ideal) x0 x1 x2 x3 x4 (ix3 j t k) = dHid x0 x1 x2 x3 x4 1 j t k := by
  rw [val_main_v24_apply, ds_at, silu_at]
  exact (mul_comm (G := EReal) _ _).trans (if_neg (by decide)).symm

include ha hs in
/-- The sublayer's input's gradient, a part from each column block. -/
theorem parts_res : val_main_v30 (F := Ideal) x0 x1 x2 x3 x4 = fun y => parts x0 x1 x2 x3 x4 (y 0) (y 1) (y 2) := by
  funext y
  obtain ⟨j, t, e, rfl⟩ := ix3_surj y
  rw [val_main_v30_apply, val_main_v29_apply, val_main_v27_apply, val_main_v28_apply]
  refine (add_comm (G := EReal) _ _).trans (congrArg₂ (· + ·) (Finset.sum_congr (M := EReal) rfl fun k _ => ?_) (Finset.sum_congr (M := EReal) rfl fun k _ => ?_))
  · rw [show lidx_main_v28 (ix3 j t e) k = ix3 j t k from by funext a; match a with | 0 => rfl | 1 => rfl | 2 => rfl,
      show ridx_main_v28 (ix3 j t e) k = ix3 e j k from by funext a; match a with | 0 => rfl | 1 => rfl | 2 => rfl, da_at x0 x1 x2 x3 x4 ha hs, wa_at]
    rfl
  · rw [show lidx_main_v27 (ix3 j t e) k = ix3 j t k from by funext a; match a with | 0 => rfl | 1 => rfl | 2 => rfl,
      show ridx_main_v27 (ix3 j t e) k = ix3 e j k from by funext a; match a with | 0 => rfl | 1 => rfl | 2 => rfl, db_at, wb_at]
    rfl

include ha hs in
/-- The hidden units' gradients. -/
theorem hidden_res : val_main_v34 (F := Ideal) x0 x1 x2 x3 x4 = fun y => dHid x0 x1 x2 x3 x4 (y 0) (y 1) (y 2) (y 3) := by
  funext y
  obtain ⟨p, j, t, k, rfl⟩ := ix4_surj y
  show _ = dHid x0 x1 x2 x3 x4 p j t k
  unfold val_main_v34 val_main_v33 val_main_v32 val_main_v31
  pointwise
  by_cases h : p.val < 1
  · obtain rfl : p = 0 := Fin.ext (by show p.val = 0; omega)
    simp only [h, dite_true, if_true]
    exact da_at x0 x1 x2 x3 x4 ha hs j t k
  · obtain rfl : p = 1 := Fin.ext (by show p.val = 1; omega)
    simp only [h, dite_false, if_false]
    exact db_at x0 x1 x2 x3 x4 j t k

end Cert.FfnReferenceIdeal.Ffn
-- ==== Proof.FfnEq.lean ====
/- The gate's backward call and its reference leave the same arrays, where the arguments are finite. -/
module

public import proofs.«01_k».proof.Defs
public import proofs.«01_k».proof.Proof.Gen.Pre_finite_ffn
public import proofs.«01_k».proof.Proof.Gen.FfnIdeal
public import proofs.«01_k».proof.Proof.Gen.FfnReferenceIdeal
public import proofs.«01_k».proof.Proof.FfnKernel
public import proofs.«01_k».proof.Proof.FfnRef

@[expose] public section
noncomputable section

namespace Cert.FfnEq
open Idealize.ShloMosaic Idealize.ShloMosaic.TcCoe Idealize.SL.Sem Cert.Reals Cert.FfnCall
open Cert.FfnIdeal (nD τ sig main_arg0 main_arg1 main_arg2 main_arg3 main_arg4)
attribute [local instance] Cert.FfnIdeal.Gen.facts Cert.FfnReferenceIdeal.Gen.facts Cert.Pre_finite_ffn.Gen.facts

/-- A sum of products of reals is a real. -/
theorem sum_real {ι : Type} (s : Finset ι) (f g : ι → EReal) (hf : ∀ i, ∃ r : ℝ, f i = r) (hg : ∀ i, ∃ r : ℝ, g i = r) :
    ∃ r : ℝ, ∑ i ∈ s, f i * g i = r := by
  choose a ha using hf
  choose b hb using hg
  exact ⟨∑ i ∈ s, a i * b i, (Finset.sum_congr rfl fun i _ => by rw [ha, hb, EReal.coe_mul]).trans (coe_sum s _)⟩

theorem half_real : ∃ r : ℝ, half = r :=
  ⟨1 / 2, by unfold half; simp [Ideal.ofBits, Ideal.ieee]; rw [← EReal.coe_mul]; norm_num⟩

variable (m : (ℓ : Loc nD τ sig) → Buf (Elt Ideal) ℓ) (h : Cert.Pre_FfnIdeal_finite_ffn m) (c : Dev nD)
include h

theorem hid_real (p : Fin 2) (j : Fin 4) (t : Fin 4096) (k : Fin 704) :
    ∃ r : ℝ, hid (m ((c : Thread nD τ).loc main_arg0)) (m ((c : Thread nD τ).loc main_arg2)) p j t k = r :=
  sum_real _ _ _ (fun e => real_of_flag _ _ (ix2 t e) (congrFun (h c).1 (ix2 t e)))
    (fun e => real_of_flag _ _ (ix2 e ⟨2816 * p.val + 704 * j.val + k.val, by omega⟩) (congrFun (h c).2.2.1 (ix2 e ⟨2816 * p.val + 704 * j.val + k.val, by omega⟩)))

theorem cot_real (t : Fin 4096) (e : Fin 1024) :
    ∃ r : ℝ, cot (m ((c : Thread nD τ).loc main_arg1)) (m ((c : Thread nD τ).loc main_arg4)) t e = r := by
  obtain ⟨a, ha⟩ := half_real
  obtain ⟨g, hg⟩ := real_of_flag _ _ (ix1 e) (congrFun (h c).2.1 (ix1 e))
  obtain ⟨d, hd⟩ := real_of_flag _ _ (ix2 t e) (congrFun (h c).2.2.2.2 (ix2 t e))
  exact ⟨a * g * d, (congrArg₂ (· * ·) (congrArg₂ (· * ·) ha hg) hd).trans (by rw [EReal.coe_mul, EReal.coe_mul])⟩

theorem ds_real (j : Fin 4) (t : Fin 4096) (k : Fin 704) :
    ∃ r : ℝ, ds (m ((c : Thread nD τ).loc main_arg1)) (m ((c : Thread nD τ).loc main_arg3)) (m ((c : Thread nD τ).loc main_arg4)) j t k = r :=
  sum_real _ _ _ (fun e => cot_real m h c t e)
    (fun e => real_of_flag _ _ (ix2 ⟨704 * j.val + k.val, by omega⟩ e) (congrFun (h c).2.2.2.1 (ix2 ⟨704 * j.val + k.val, by omega⟩ e)))

end Cert.FfnEq

namespace Cert.Proof
open Idealize.ShloMosaic Idealize.ShloMosaic.TcCoe Idealize.SL.Sem
attribute [local instance] Cert.FfnIdeal.Gen.facts Cert.FfnReferenceIdeal.Gen.facts Cert.Pre_finite_ffn.Gen.facts

/-- The two programs leave the same arrays. -/
theorem ffn : Cert.algebraic_FfnIdeal_FfnReferenceIdeal_pre_finite_ffn := fun m g m' g' hp ha => by
  refine ⟨fun c => (Cert.FfnIdeal.Gen.dats m 0 c).arrAt 5 Cert.FfnIdeal.cfg0.N, fun c => (Cert.FfnIdeal.Gen.dats m 0 c).arrAt 6 Cert.FfnIdeal.cfg0.N,
    fun c => (Cert.FfnIdeal.Gen.dats m 0 c).arrAt 7 Cert.FfnIdeal.cfg0.N,
    (θ_run Cert.FfnIdeal.defs _ _).mono (fun r h c => ?_) (Cert.FfnIdeal.Value.run_blocks (F := Ideal) m g),
    (θ_run Cert.FfnReferenceIdeal.defs _ _).mono (fun r h c => ?_) (Cert.FfnReferenceIdeal.Value.run (F := Ideal) m' g')⟩
  · exact h c
  · obtain ⟨h0, h1, h2, h⟩ := h c
    obtain ⟨a0, a1, a2, a3, a4⟩ := ha c
    refine ⟨h0.trans ?_, h1.trans ?_, h2.trans ?_, h⟩
    · refine ((Cert.FfnReferenceIdeal.Read.val_main_v30_eq m' c).trans ?_).trans (Cert.FfnIdeal.Ffn.parts_arr m c).symm
      rw [a0, a1, a2, a3, a4]
      exact Cert.FfnReferenceIdeal.Ffn.parts_res _ _ _ _ _ (Cert.FfnEq.hid_real m hp c) (Cert.FfnEq.ds_real m hp c)
    · refine ((Cert.FfnReferenceIdeal.Read.val_main_v34_eq m' c).trans ?_).trans (Cert.FfnIdeal.Ffn.hidden_arr m c).symm
      rw [a0, a1, a2, a3, a4]
      exact Cert.FfnReferenceIdeal.Ffn.hidden_res _ _ _ _ _ (Cert.FfnEq.hid_real m hp c) (Cert.FfnEq.ds_real m hp c)
    · refine Eq.trans ?_ (Cert.FfnIdeal.Ffn.weight_arr m c).symm
      rw [← a0, ← a1, ← a2, ← a4]
      exact (Cert.FfnReferenceIdeal.Read.val_main_v36_eq (F := Ideal) _ _ _ _).trans (Cert.FfnReferenceIdeal.Ffn.dw_res _ _ _ _)

end Cert.Proof
-- ==== Proof.DwinCall.lean ====
/- The backward call of a feed-forward's input matrix: what it leaves, as functions of its arguments' entries. -/
module

public import proofs.«01_k».proof.Proof.NormGrad
public import proofs.«01_k».proof.Proof.FfnCall
public import Idealize.ShloMosaic.Lib.Pipeline.ValueKit

@[expose] public section
noncomputable section

namespace Cert.DwinCall
open Idealize.ShloMosaic Cert.NormGrad

variable (x : (⟨2, ![4096, 1024]⟩ : Shape).Idx → EReal) (shift scale g : (⟨1, ![1024]⟩ : Shape).Idx → EReal)
  (dab : (⟨4, ![2, 4, 4096, 704]⟩ : Shape).Idx → EReal)

/-- The sublayer's input: token `t` normalised and modulated. -/
def modulated (t : Fin 4096) (e : Fin 1024) : EReal :=
  x (ix2 t e) * rinv (fun k => x (ix2 t k)) * g (ix1 e) * (1 + scale (ix1 e)) + shift (ix1 e)

/-- The gradient of the input matrix, unit by unit: of the gate's argument (`p = 0`) and of the factor beside it. -/
def dwIn (p : Fin 2) (j : Fin 4) (k : Fin 704) (e : Fin 1024) : EReal := ∑ t, dab (ix4 p j t k) * modulated x shift scale g t e

end Cert.DwinCall
-- ==== Proof.DwinTiles.lean ====
/- The backward call of the input matrix: what its body adds up and stores, of the blocks it loads. -/
module

public import proofs.«01_k».proof.Proof.Gen.DwinIdeal.Value
public import Idealize.ShloMosaic.Lib.Pipeline.ReadBack
public import proofs.«01_k».proof.Proof.Rows
public import proofs.«01_k».proof.Proof.DwinCall

@[expose] public section
set_option maxRecDepth 16384
noncomputable section

namespace Cert.DwinIdeal.Dwin
open Cert.DwinIdeal Cert.DwinIdeal.Gen Idealize.ShloMosaic Idealize.ShloMosaic.TcCoe Idealize.SL.Sem
open Idealize.ShloMosaic.Pipeline (Dat)
open Cert.DwinIdeal.Facts Cert.DwinCall Cert.NormGrad

section
variable (x0 : FVec Ideal S2048x1024 .f32) (x1 : FVec Ideal S2x1x2048x704 .bf16) (x2 : FVec Ideal S16x1024 .f32)

/-- A tile's modulated rows, and its sum of the gradient. -/
def tmod (r : Fin 2048) (e : Fin 1024) : EReal :=
  x0 (ix2 r e) * rinv (fun k => x0 (ix2 r k)) * x2 (ix2 11 e) * (1 + x2 (ix2 7 e)) + x2 (ix2 6 e)
def tsum (p : Fin 2) (k : Fin 704) (e : Fin 1024) : EReal := ∑ r, x1 (ix4 p 0 r k) * tmod x0 x2 r e
end

/-- The modulated rows, entry by entry. -/
theorem pay6_apply (x0 : FVec Ideal S2048x1024 .f32) (x2 : FVec Ideal S16x1024 .f32) (r : Fin 2048) (e : Fin 1024) :
    k0_pay6 x0 (View.ld (Val := Elt Ideal) (e' := .f32) x2 (Rect.unit ![6, 0] ![1, 1024] inb_S16x1024_S1x1024_6_0))
      (View.ld (Val := Elt Ideal) (e' := .f32) x2 (Rect.unit ![7, 0] ![1, 1024] inb_S16x1024_S1x1024_7_0))
      (View.ld (Val := Elt Ideal) (e' := .f32) x2 (Rect.unit ![11, 0] ![1, 1024] inb_S16x1024_S1x1024_11_0)) (ix2 r e) = tmod x0 x2 r e := by
  open_payloads; pointwise; rfl

/-- An accumulator's row with a tile's sum added. -/
theorem pay2_apply (h : FVec Ideal S2048x1024 .bf16) (a : Vec Ideal S1x704x1024 .f32) (d : Vec Ideal S1x1x2048x704 .bf16) (k : Fin 704) (e : Fin 1024) :
    k0_pay2 h a d (ix3 0 k e) = a (ix3 0 k e) + ∑ r : Fin 2048, d (ix4 0 0 r k) * h (ix2 r e) := by
  unfold k0_pay2; pointwise

theorem pay1_apply (x : Vec Ideal S2048x1024 .f32) (s0 s1 s2 : Vec Ideal S1x1024 .f32) (a : Vec Ideal S1x704x1024 .f32) (d : Vec Ideal S1x1x2048x704 .bf16)
    (k : Fin 704) (e : Fin 1024) : k0_pay1 (k0_pay7 x s0 s1 s2 a d) (ix3 0 k e) = a (ix3 0 k e) + ∑ r : Fin 2048, d (ix4 0 0 r k) * k0_pay6 x s0 s1 s2 (ix2 r e) := by
  unfold k0_pay1 k0_pay7; pointwise

theorem idx3_eq (x : S1x704x1024.Idx) : x = ix3 0 (x 1) (x 2) := by
  refine (eq_ix3 x).trans ?_
  rw [show x 0 = (0 : Fin 1) from Fin.ext (by have : (x 0).val < 1 := (x 0).isLt; show (x 0).val = 0; omega)]
  rfl

variable (m : (ℓ : Loc nD τ sig) → Buf (Elt Ideal) ℓ)

/-- The accumulator after a column block's first tile. -/
theorem acc_first (c : Dev nD) (t : Fin cfg0.N) (h0 : t.val % 2 = 0) (p : Fin 2) (k : Fin 704) (e : Fin 1024) : (outsAt0 m c t.val t.isLt).2 (ix3 p k e)
    = tsum (iblk m c 0 t) (iblk m c 1 t) (iblk m c 2 t) p k e := by
  rw [outsAt0_A m c t h0 (by omega)]
  frame_out
  generalize iblk m c 0 t = x0; generalize iblk m c 1 t = x1; generalize iblk m c 2 t = x2
  refine View.canon_append_of_piecesOf (Val := Elt Ideal) (s := S2x704x1024) (e := .f32) (fun y => tsum x0 x1 x2 (y 0) (y 1) (y 2)) [_] [_, _]
    ⟨fun x => ?_, fun x => ?_, trivial⟩ (ix3 p k e) ?_
  rotate_left 2
  · exact View.cover_of_tiledL _ ![1, 704, 1024] rfl _
  · rw [idx3_eq x]
    refine (pay2_apply _ _ _ _ _).trans ?_
    refine Eq.trans (congrArg₂ (· + ·) (?_ : _ = (0 : EReal)) (Finset.sum_congr (M := EReal) rfl fun r _ => congrArg₂ (· * ·) (?_ : _ = x1 (ix4 1 0 r (x 1))) (pay6_apply x0 x2 r (x 2)))) ?_
    · rw [View.readCov_skip _ _ _ _ _ (by decide +kernel)]; rw [View.readCov_fill _ _ _ _ _ (by decide +kernel)]; open_payloads; pointwise
    · pointwise
    · refine (zero_add _).trans ?_
      show tsum x0 x1 x2 1 (x 1) (x 2) = tsum x0 x1 x2 _ _ _
      congr 1 <;> (refine Fin.ext ?_; simp [Rect.emb, Rect.unit]; done)
  · rw [idx3_eq x]
    refine (pay1_apply _ _ _ _ _ _ _ _).trans ?_
    refine Eq.trans (congrArg₂ (· + ·) (?_ : _ = (0 : EReal)) (Finset.sum_congr (M := EReal) rfl fun r _ => congrArg₂ (· * ·) (?_ : _ = x1 (ix4 0 0 r (x 1))) (pay6_apply x0 x2 r (x 2)))) ?_
    · rw [View.readCov_fill _ _ _ _ _ (by decide +kernel)]; open_payloads; pointwise
    · pointwise
    · refine (zero_add _).trans ?_
      show tsum x0 x1 x2 0 (x 1) (x 2) = tsum x0 x1 x2 _ _ _
      congr 1 <;> (refine Fin.ext ?_; simp [Rect.emb, Rect.unit]; done)

/-- What is stored at its second. -/
theorem acc_last (c : Dev nD) (t : Fin cfg0.N) (h1 : t.val % 2 = 1) (p : Fin 2) (k : Fin 704) (e : Fin 1024) : (outsAt0 m c t.val t.isLt).1 (ix4 p 0 k e)
    = (outsAt0 m c (t.val - 1) (lt_of_le_of_lt (Nat.sub_le _ _) t.isLt)).2 (ix3 p k e) + tsum (iblk m c 0 t) (iblk m c 1 t) (iblk m c 2 t) p k e := by
  rw [outsAt0_B m c t (by omega) h1]
  frame_out
  generalize iblk m c 0 t = x0; generalize iblk m c 1 t = x1; generalize iblk m c 2 t = x2
  canon_tiles x h
  · replace h0 : p.val = 1 + (x 0).val := h0
    obtain rfl : p = 1 := Fin.ext (by show p.val = 1; omega)
    rw [show k = x 2 from Fin.ext h2, show e = x 3 from Fin.ext h3]
    unfold k0_pay4; pointwise
    rw [View.readCov_cons_toLoadRect]
    refine (pay2_apply _ _ _ _ _).trans ?_
    refine congrArg₂ (· + ·) ?_ (Finset.sum_congr (M := EReal) rfl fun r _ => congrArg₂ (· * ·) (?_ : _ = x1 (ix4 1 0 r (x 2))) (pay6_apply x0 x2 r (x 3)))
    · refine Eq.trans ?_ (congrFun (Memref.IsWhole.read_unread (Memref.isWhole_whole cc0_scratch0) _) (ix3 1 (x 2) (x 3)))
      pointwise
    · pointwise
  · replace h0 : p.val = (x 0).val := h0
    obtain rfl : p = 0 := Fin.ext (by show p.val = 0; omega)
    rw [show k = x 2 from Fin.ext h2, show e = x 3 from Fin.ext h3]
    unfold k0_pay3; pointwise
    rw [View.readCov_skip _ _ _ _ _ (by decide +kernel), View.readCov_cons_toLoadRect]
    refine (pay1_apply _ _ _ _ _ _ _ _).trans ?_
    refine congrArg₂ (· + ·) ?_ (Finset.sum_congr (M := EReal) rfl fun r _ => congrArg₂ (· * ·) (?_ : _ = x1 (ix4 0 0 r (x 2))) (pay6_apply x0 x2 r (x 3)))
    · refine Eq.trans ?_ (congrFun (Memref.IsWhole.read_unread (Memref.isWhole_whole cc0_scratch0) _) (ix3 0 (x 2) (x 3)))
      pointwise
    · pointwise

end Cert.DwinIdeal.Dwin
-- ==== Proof.DwinKernel.lean ====
/- The backward call of the input matrix: the array it leaves, as a function of the arguments. -/
module

public import proofs.«01_k».proof.Proof.DwinTiles

@[expose] public section
set_option maxRecDepth 16384
noncomputable section

namespace Cert.DwinIdeal.Dwin
open Cert.DwinIdeal Cert.DwinIdeal.Gen Idealize.ShloMosaic Idealize.ShloMosaic.TcCoe Idealize.SL.Sem
open Idealize.ShloMosaic.Pipeline (Dat)
open Cert.DwinIdeal.Facts Cert.DwinCall Cert.NormGrad
variable (m : (ℓ : Loc nD τ sig) → Buf (Elt Ideal) ℓ)

/-- Point `t` works on column block `t / 2` and on the `t % 2`th half of the tokens. -/
theorem idx : ∀ t : Fin cfg0.N, win0_0.index t = ![t.val % 2, 0] ∧ win0_1.index t = ![0, t.val / 2, t.val % 2, 0] ∧ win0_2.index t = ![0, 0] ∧
    win0_3.index t = ![0, t.val / 2, 0, 0] :=
  (by decide +kernel : ∀ t : Fin grid0.N, _)

/-- Row `r` of point `t`'s tokens, and its column block. -/
def tok (t : Fin cfg0.N) (r : Fin 2048) : Fin 4096 := ⟨t.val % 2 * 2048 + r.val, by omega⟩
def blk (t : Fin cfg0.N) : Fin 4 := ⟨t.val / 2, by have : t.val < 8 := lt_of_lt_of_eq t.isLt N_0; omega⟩

theorem x_blk (c : Dev nD) (t : Fin cfg0.N) (r : Fin 2048) (e : Fin 1024) : iblk m c 0 t (ix2 r e) = m ((c : Thread nD τ).loc main_arg0) (ix2 (tok t r) e) := by
  blk_ext [iblk, V, idx t, tok]

theorem dab_blk (c : Dev nD) (t : Fin cfg0.N) (p : Fin 2) (r : Fin 2048) (k : Fin 704) :
    iblk m c 1 t (ix4 p 0 r k) = m ((c : Thread nD τ).loc main_arg4) (ix4 p (blk t) (tok t r) k) := by
  blk_ext [iblk, V, idx t, tok, blk]

/-- The packed parameter rows, as the host lays them out. -/
def prm (shift scale g : FVec Ideal S1024 .f32) : FVec Ideal S16x1024 .f32 :=
  concatenate S16x1024 0 [⟨S6x1024, broadcastInDim S6x1024 ![] bcast_S_S6x1024 (constant (F := Ideal) S_ .f32 0x00000000#32)⟩,
    ⟨S1x1024, broadcastInDim S1x1024 ![1] bcast_S1024_S1x1024_1 shift⟩, ⟨S1x1024, broadcastInDim S1x1024 ![1] bcast_S1024_S1x1024_1 scale⟩,
    ⟨S3x1024, broadcastInDim S3x1024 ![] bcast_S_S3x1024 (constant (F := Ideal) S_ .f32 0x00000000#32)⟩,
    ⟨S1x1024, broadcastInDim S1x1024 ![1] bcast_S1024_S1x1024_1 g⟩,
    ⟨S4x1024, broadcastInDim S4x1024 ![] bcast_S_S4x1024 (constant (F := Ideal) S_ .f32 0x00000000#32)⟩]
    concatenates_S6x1024_S1x1024_S1x1024_S3x1024_S1x1024_S4x1024_S16x1024_d0

theorem prm_shift (shift scale g : FVec Ideal S1024 .f32) (e : Fin 1024) : prm shift scale g (ix2 6 e) = shift (ix1 e) := by
  refine (Rows.stack_apply 1 (broadcastInDim S1x1024 ![1] bcast_S1024_S1x1024_1 shift) 6 0 (by simp) rfl rfl rfl).trans ?_
  pointwise
  blk_ext []

theorem prm_scale (shift scale g : FVec Ideal S1024 .f32) (e : Fin 1024) : prm shift scale g (ix2 7 e) = scale (ix1 e) := by
  refine (Rows.stack_apply 2 (broadcastInDim S1x1024 ![1] bcast_S1024_S1x1024_1 scale) 7 0 (by simp) rfl rfl rfl).trans ?_
  pointwise
  blk_ext []

theorem prm_g (shift scale g : FVec Ideal S1024 .f32) (e : Fin 1024) : prm shift scale g (ix2 11 e) = g (ix1 e) := by
  refine (Rows.stack_apply 4 (broadcastInDim S1x1024 ![1] bcast_S1024_S1x1024_1 g) 11 0 (by simp) rfl rfl rfl).trans ?_
  pointwise
  blk_ext []

theorem prm_entry (c : Dev nD) : V m c main_v6 = prm (m ((c : Thread nD τ).loc main_arg1)) (m ((c : Thread nD τ).loc main_arg2))
    (m ((c : Thread nD τ).loc main_arg3)) := rfl

theorem prm_blk (c : Dev nD) (t : Fin cfg0.N) (k : Fin 16) (e : Fin 1024) : iblk m c 2 t (ix2 k e) = V m c main_v6 (ix2 k e) := by
  unfold iblk
  blk_ext [idx t]

theorem shift_blk (c : Dev nD) (t : Fin cfg0.N) (e : Fin 1024) : iblk m c 2 t (ix2 6 e) = m ((c : Thread nD τ).loc main_arg1) (ix1 e) := by
  rw [prm_blk, prm_entry, prm_shift]

theorem scale_blk (c : Dev nD) (t : Fin cfg0.N) (e : Fin 1024) : iblk m c 2 t (ix2 7 e) = m ((c : Thread nD τ).loc main_arg2) (ix1 e) := by
  rw [prm_blk, prm_entry, prm_scale]

theorem g_blk (c : Dev nD) (t : Fin cfg0.N) (e : Fin 1024) : iblk m c 2 t (ix2 11 e) = m ((c : Thread nD τ).loc main_arg3) (ix1 e) := by
  rw [prm_blk, prm_entry, prm_g]

theorem tmod_blk (c : Dev nD) (t : Fin cfg0.N) (r : Fin 2048) (e : Fin 1024) : tmod (iblk m c 0 t) (iblk m c 2 t) r e
    = modulated (m ((c : Thread nD τ).loc main_arg0)) (m ((c : Thread nD τ).loc main_arg1)) (m ((c : Thread nD τ).loc main_arg2))
        (m ((c : Thread nD τ).loc main_arg3)) (tok t r) e := by
  simp only [tmod, modulated, x_blk, shift_blk, scale_blk, g_blk]

/-- The hidden units' gradients, by half, column block, token and unit. -/
def D (c : Dev nD) (p : Fin 2) (j : Fin 4) (t : Fin 4096) (k : Fin 704) : EReal := m ((c : Thread nD τ).loc main_arg4) (ix4 p j t k)

/-- A tile's sum, in the arguments. -/
theorem tsum_blk (c : Dev nD) (t : Fin cfg0.N) (p : Fin 2) (k : Fin 704) (e : Fin 1024) : tsum (iblk m c 0 t) (iblk m c 1 t) (iblk m c 2 t) p k e
    = ∑ r : Fin 2048, D m c p (blk t) (tok t r) k * modulated (m ((c : Thread nD τ).loc main_arg0)) (m ((c : Thread nD τ).loc main_arg1)) (m ((c : Thread nD τ).loc main_arg2))
        (m ((c : Thread nD τ).loc main_arg3)) (tok t r) e := by
  simp only [tsum, tmod_blk, dab_blk]; rfl

/-- The array: the input matrix's gradient, stored at a column block's last tile. -/
theorem dw_arr (c : Dev nD) : (dats m 0 c).arrAt 3 cfg0.N = fun y =>
    dwIn (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) (y 2) (y 3) := by
  refine (dats m 0 c).arrAt_eq_of_covers 3 _ (by decide +kernel) fun t hf y => ?_
  obtain ⟨p, z, k, e, rfl⟩ := FfnCall.ix4_surj y
  obtain rfl : z = 0 := Subsingleton.elim _ _
  have hN : t.val < 8 := lt_of_lt_of_eq t.isLt N_0
  have h1 : t.val % 2 = 1 := (flush0_3 t).mp hf
  have hM : cfg0.N = 8 := N_0
  blk_simp
  rw [after0_3]
  have hG : ((View.whole main_v7).slice (win0_3.rect t)).emb (ix4 p 0 k e) = ix4 p (blk t) k e := by
    blk_ext [idx t, blk]
  rw [hG]
  show _ = dwIn _ _ _ _ _ p (blk t) k e
  have e0 := acc_first m c ⟨t.val - 1, by omega⟩ (by show (t.val - 1) % 2 = 0; omega) p k e
  refine (acc_last m c t h1 p k e).trans ?_
  rw [e0, tsum_blk, tsum_blk, dwIn]
  refine Eq.trans ?_ (Fin.sum_univ_add (a := 2048) (b := 2048) _).symm
  refine congrArg₂ (· + ·) ?_ ?_ <;> refine Finset.sum_congr (M := EReal) rfl fun r _ => ?_
  · rw [show blk ⟨t.val - 1, by omega⟩ = blk t from Fin.ext (by show (t.val - 1) / 2 = t.val / 2; omega),
      show tok ⟨t.val - 1, by omega⟩ r = Fin.castAdd 2048 r from Fin.ext (by show (t.val - 1) % 2 * 2048 + r.val = r.val; omega)]
    rfl
  · rw [show tok t r = Fin.natAdd 2048 r from Fin.ext (by show t.val % 2 * 2048 + r.val = 2048 + r.val; omega)]
    rfl

end Cert.DwinIdeal.Dwin
-- ==== Proof.DwinEq.lean ====
/- The backward call of the input matrix and its reference leave the same array. -/
module

public import proofs.«01_k».proof.Defs
public import proofs.«01_k».proof.Proof.Gen.DwinIdeal
public import proofs.«01_k».proof.Proof.Gen.DwinReferenceIdeal
public import proofs.«01_k».proof.Proof.Gen.DwinReferenceIdeal.Run
public import proofs.«01_k».proof.Proof.DwinKernel

@[expose] public section
noncomputable section

namespace Cert.Proof
open Idealize.ShloMosaic Idealize.ShloMosaic.TcCoe Idealize.SL.Sem
attribute [local instance] Cert.DwinIdeal.Gen.facts Cert.DwinReferenceIdeal.Gen.facts

/-- The two programs leave the same array. -/
theorem dwin : Cert.algebraic_DwinIdeal_DwinReferenceIdeal := fun m g m' g' _ ha => by
  refine ⟨fun c => (Cert.DwinIdeal.Gen.dats m 0 c).arrAt 3 Cert.DwinIdeal.cfg0.N,
    (θ_run Cert.DwinIdeal.defs _ _).mono (fun r h c => ?_) (Cert.DwinIdeal.Value.run_blocks (F := Ideal) m g),
    (θ_run Cert.DwinReferenceIdeal.defs _ _).mono (fun r h c => ?_) (Cert.DwinReferenceIdeal.Value.run (F := Ideal) m' g')⟩
  · exact h c
  · obtain ⟨h0, h⟩ := h c
    obtain ⟨a0, a1, a2, a3, a4⟩ := ha c
    refine ⟨h0.trans ?_, h⟩
    refine Eq.trans ?_ (Cert.DwinIdeal.Dwin.dw_arr m c).symm
    rw [← a0, ← a1, ← a2, ← a3, ← a4]
    funext y
    obtain ⟨p, j, k, e, rfl⟩ := FfnCall.ix4_surj y
    pointwise
    rfl

end Cert.Proof
-- ==== Proof.LossCall.lean ====
/- The second feed-forward's forward pass together with the loss and its gradient: what the call leaves, as functions of its
   arguments' entries. -/
module

public import proofs.«01_k».proof.Proof.DwinCall

@[expose] public section
noncomputable section

namespace Cert.LossCall
open Idealize.ShloMosaic Cert.Reals Cert.NormGrad Cert.FfnCall Cert.DwinCall

variable (x : (⟨2, ![4096, 1024]⟩ : Shape).Idx → EReal) (shift scale gate g : (⟨1, ![1024]⟩ : Shape).Idx → EReal)
  (wi : (⟨2, ![1024, 5632]⟩ : Shape).Idx → EReal) (wo : (⟨2, ![2816, 1024]⟩ : Shape).Idx → EReal)

/-- The gated unit of a gate's argument and the factor beside it. -/
def unit (a b : EReal) : EReal := a * Ideal.logistic a * b

/-- The hidden units of the normalised and modulated tokens. -/
def hidden (p : Fin 2) (j : Fin 4) (t : Fin 4096) (k : Fin 704) : EReal := ∑ e, modulated x shift scale g t e * wIn wi p j k e

/-- The sublayer's output, summed over the column blocks, -/
def out (t : Fin 4096) (e : Fin 1024) : EReal :=
  ∑ j, ∑ k, unit (hidden x shift scale g wi 0 j t k) (hidden x shift scale g wi 1 j t k) * wOut wo j k e

/-- and the rows it leaves beside the residual. -/
def rows (t : Fin 4096) (e : Fin 1024) : EReal := x (ix2 t e) + half * gate (ix1 e) * out x shift scale g wi wo t e

section
variable (y target gf : Fin 1024 → EReal)

/-- One token's error: the row normalised, less the target. -/
def err (e : Fin 1024) : EReal := y e * rinv y * gf e - target e

/-- The gradient of the token's half mean square against its error. -/
def dErr (e : Fin 1024) : EReal := Ideal.div (err y target gf e) len

/-- The gradient against the row. -/
def dRow (e : Fin 1024) : EReal := grad y (fun k => dErr y target gf k * gf k) e

/-- What the token adds to row `k` of the sums: to the gradient of the norm's weight, and to twice the loss. -/
def term (k : Fin 8) (e : Fin 1024) : EReal :=
  match k.val with
  | 0 => dErr y target gf e * (y e * rinv y)
  | 1 => Ideal.div (∑ k, err y target gf k * err y target gf k) len
  | _ => 0
end

/-- A row's sum over the tokens, the loss's with its factor `c`. -/
def total {n : ℕ} (c : EReal) (k : Fin 8) (f : Fin n → EReal) : EReal := match k.val with | 1 => c * ∑ i, f i | _ => ∑ i, f i

/-- The sums over `T` tiles of `n` tokens each are those over all tokens. -/
theorem total_tiles {n T N : ℕ} {a : ℝ} (ha : 0 ≤ a) (hN : N = T * n) (k : Fin 8) (F : Fin T → Fin n → EReal) (f : Fin N → EReal)
    (h : ∀ t r (hl : t.val * n + r.val < N), F t r = f ⟨t.val * n + r.val, hl⟩) : ∑ t, total (a : EReal) k (F t) = total (a : EReal) k f := by
  have e : ∑ t, ∑ r, F t r = ∑ i, f i :=
    (Finset.sum_congr rfl fun t _ => Finset.sum_congr rfl fun r _ => h t r (Fin.mul_add_lt_of_eq_mul hN t r)).trans (Fin.sum_mul_add_fin T n f hN)
  unfold total
  split
  · rw [← mul_sum ha, e]
  · exact e

end Cert.LossCall
-- ==== Proof.LossTiles.lean ====
/- The call that ends the forward pass: what its body computes of the blocks it loads. -/
module

public import proofs.«01_k».proof.Proof.Gen.LossIdeal.Value
public import proofs.«01_k».proof.Proof.Rows
public import proofs.«01_k».proof.Proof.LossCall

@[expose] public section
set_option maxRecDepth 16384
noncomputable section

namespace Cert.LossIdeal.Loss
open Cert.LossIdeal Cert.LossIdeal.Gen Idealize.ShloMosaic Idealize.ShloMosaic.TcCoe Idealize.SL.Sem
open Idealize.ShloMosaic.Pipeline (Dat)
open Cert.LossIdeal.Facts Cert.NormGrad Cert.FfnCall Cert.LossCall

section
variable (x0 : FVec Ideal S512x1024 .f32) (x2 : FVec Ideal S16x1024 .f32) (x3 : FVec Ideal S2x4x704x1024 .bf16) (x4 : FVec Ideal S4x704x1024 .bf16)

/-- A tile's modulated rows, hidden units and output, and the rows beside the residual. -/
def tmod (r : Fin 512) (e : Fin 1024) : EReal :=
  x0 (ix2 r e) * rinv (fun k => x0 (ix2 r k)) * x2 (ix2 11 e) * (1 + x2 (ix2 7 e)) + x2 (ix2 6 e)
def thid (p : Fin 2) (j : Fin 4) (r : Fin 512) (k : Fin 704) : EReal := ∑ e, tmod x0 x2 r e * x3 (ix4 p j k e)
def tout (r : Fin 512) (e : Fin 1024) : EReal := ∑ j, ∑ k, unit (thid x0 x2 x3 0 j r k) (thid x0 x2 x3 1 j r k) * x4 (ix3 j k e)
def trow (r : Fin 512) (e : Fin 1024) : EReal := x0 (ix2 r e) + half * x2 (ix2 8 e) * tout x0 x2 x3 x4 r e
end

/-- The modulated rows, entry by entry. -/
theorem mod_apply (x0 : FVec Ideal S512x1024 .f32) (x2 : FVec Ideal S16x1024 .f32) (r : Fin 512) (e : Fin 1024) :
    k0_pay3 x0 (View.ld (Val := Elt Ideal) (e' := .f32) x2 (Rect.unit ![6, 0] ![1, 1024] inb_S16x1024_S1x1024_6_0))
      (View.ld (Val := Elt Ideal) (e' := .f32) x2 (Rect.unit ![7, 0] ![1, 1024] inb_S16x1024_S1x1024_7_0))
      (View.ld (Val := Elt Ideal) (e' := .f32) x2 (Rect.unit ![11, 0] ![1, 1024] inb_S16x1024_S1x1024_11_0)) (ix2 r e) = tmod x0 x2 r e := by
  open_payloads; pointwise; rfl

/-- The gradient against the rows, and the two sums' rows. -/
theorem drow_apply (y : FVec Ideal S512x1024 .f32) (d : Vec Ideal S512x1024 .f32) (g : Vec Ideal S1x1024 .f32) (r : Fin 512) (e : Fin 1024) :
    k0_pay32 y d g (ix2 r e) = dRow (fun k => y (ix2 r k)) (fun k => d (ix2 r k)) (fun k => g (ix2 0 k)) e := by
  open_payloads; pointwise; rfl

theorem upd_apply (y : FVec Ideal S512x1024 .f32) (d : Vec Ideal S512x1024 .f32) (g : Vec Ideal S1x1024 .f32) (k : Fin 8) (e : Fin 1024) :
    k0_pay1 (k0_pay33 y d g) (k0_pay34 y d g) (ix2 k e)
      = total half k fun r : Fin 512 => term (fun k => y (ix2 r k)) (fun k => d (ix2 r k)) (fun k => g (ix2 0 k)) k e := by
  unfold k0_pay1
  match k with
  | 0 => refine (Rows.stack_apply (n := 1) 0 _ 0 0 (by simp) rfl rfl rfl).trans ?_; open_payloads; pointwise; rfl
  | 1 => refine (Rows.stack_apply (n := 1) 1 _ 1 0 (by simp) rfl rfl rfl).trans ?_; open_payloads; pointwise; rfl
  | ⟨k + 2, hk⟩ =>
    refine (Rows.stack_apply (n := 6) 2 _ 2 ⟨k, by omega⟩ (by simp) rfl rfl (Nat.add_comm _ _)).trans ?_
    pointwise
    exact Finset.sum_const_zero.symm

theorem add_apply (a b : FVec Ideal S1x1024 .f32) (s : Vec Ideal S8x1024 .f32) (k : Fin 8) (e : Fin 1024) :
    k0_pay2 a b s (ix2 k e) = s (ix2 k e) + k0_pay1 a b (ix2 k e) := by
  unfold k0_pay2; pointwise

section
variable (x0 : FVec Ideal S512x1024 .f32) (x2 : FVec Ideal S16x1024 .f32) (x3 : FVec Ideal S2x4x704x1024 .bf16) (x4 : FVec Ideal S4x704x1024 .bf16)

/-- The modulated rows the body computes, -/
abbrev hT : FVec Ideal S512x1024 .bf16 :=
  k0_pay3 x0 (View.ld (Val := Elt Ideal) (e' := .f32) x2 (Rect.unit ![6, 0] ![1, 1024] inb_S16x1024_S1x1024_6_0))
    (View.ld (Val := Elt Ideal) (e' := .f32) x2 (Rect.unit ![7, 0] ![1, 1024] inb_S16x1024_S1x1024_7_0))
    (View.ld (Val := Elt Ideal) (e' := .f32) x2 (Rect.unit ![11, 0] ![1, 1024] inb_S16x1024_S1x1024_11_0))

/-- and the output's sum through the third column block. -/
abbrev accT : FVec Ideal S512x1024 .f32 :=
  k0_pay19 (hT x0 x2)
    (k0_pay9
      (k0_pay4 x0 (View.ld (Val := Elt Ideal) (e' := .f32) x2 (Rect.unit ![6, 0] ![1, 1024] inb_S16x1024_S1x1024_6_0))
        (View.ld (Val := Elt Ideal) (e' := .f32) x2 (Rect.unit ![7, 0] ![1, 1024] inb_S16x1024_S1x1024_7_0))
        (View.ld (Val := Elt Ideal) (e' := .f32) x2 (Rect.unit ![11, 0] ![1, 1024] inb_S16x1024_S1x1024_11_0))
        (View.ld (Val := Elt Ideal) (e' := .bf16) x3 (Rect.unit ![0, 0, 0, 0] ![1, 1, 704, 1024] inb_S2x4x704x1024_S1x1x704x1024_0_0_0_0)))
      (k0_pay5 x0 (View.ld (Val := Elt Ideal) (e' := .f32) x2 (Rect.unit ![6, 0] ![1, 1024] inb_S16x1024_S1x1024_6_0))
        (View.ld (Val := Elt Ideal) (e' := .f32) x2 (Rect.unit ![7, 0] ![1, 1024] inb_S16x1024_S1x1024_7_0))
        (View.ld (Val := Elt Ideal) (e' := .f32) x2 (Rect.unit ![11, 0] ![1, 1024] inb_S16x1024_S1x1024_11_0))
        (View.ld (Val := Elt Ideal) (e' := .bf16) x3 (Rect.unit ![1, 0, 0, 0] ![1, 1, 704, 1024] inb_S2x4x704x1024_S1x1x704x1024_1_0_0_0)))
      (View.ld (Val := Elt Ideal) (e' := .bf16) x4 (Rect.unit ![0, 0, 0] ![1, 704, 1024] inb_S4x704x1024_S1x704x1024_0_0_0)))
    (k0_pay11 (hT x0 x2) (View.ld (Val := Elt Ideal) (e' := .bf16) x3 (Rect.unit ![1, 1, 0, 0] ![1, 1, 704, 1024] inb_S2x4x704x1024_S1x1x704x1024_1_1_0_0)))
    (k0_pay14 (hT x0 x2) (View.ld (Val := Elt Ideal) (e' := .bf16) x3 (Rect.unit ![0, 1, 0, 0] ![1, 1, 704, 1024] inb_S2x4x704x1024_S1x1x704x1024_0_1_0_0)))
    (View.ld (Val := Elt Ideal) (e' := .bf16) x4 (Rect.unit ![1, 0, 0] ![1, 704, 1024] inb_S4x704x1024_S1x704x1024_1_0_0))
    (View.ld (Val := Elt Ideal) (e' := .bf16) x3 (Rect.unit ![0, 2, 0, 0] ![1, 1, 704, 1024] inb_S2x4x704x1024_S1x1x704x1024_0_2_0_0))
    (View.ld (Val := Elt Ideal) (e' := .bf16) x3 (Rect.unit ![1, 2, 0, 0] ![1, 1, 704, 1024] inb_S2x4x704x1024_S1x1x704x1024_1_2_0_0))
    (View.ld (Val := Elt Ideal) (e' := .bf16) x4 (Rect.unit ![2, 0, 0] ![1, 704, 1024] inb_S4x704x1024_S1x704x1024_2_0_0))

/-- A hidden unit, whichever payload computes it. -/
theorem hid_apply (h : FVec Ideal S512x1024 .bf16) (w : Vec Ideal S1x1x704x1024 .bf16) (r : Fin 512) (k : Fin 704) :
    k0_pay10 h w (ix2 r k) = ∑ e : Fin 1024, h (ix2 r e) * w (ix4 0 0 k e) := by
  unfold k0_pay10; pointwise

/-- The output, entry by entry. -/
theorem out_apply (r : Fin 512) (e : Fin 1024) :
    k0_pay24 (hT x0 x2) (accT x0 x2 x3 x4)
      (View.ld (Val := Elt Ideal) (e' := .bf16) x3 (Rect.unit ![0, 3, 0, 0] ![1, 1, 704, 1024] inb_S2x4x704x1024_S1x1x704x1024_0_3_0_0))
      (View.ld (Val := Elt Ideal) (e' := .bf16) x3 (Rect.unit ![1, 3, 0, 0] ![1, 1, 704, 1024] inb_S2x4x704x1024_S1x1x704x1024_1_3_0_0))
      (View.ld (Val := Elt Ideal) (e' := .bf16) x4 (Rect.unit ![3, 0, 0] ![1, 704, 1024] inb_S4x704x1024_S1x704x1024_3_0_0)) (ix2 r e)
      = tout x0 x2 x3 x4 r e := by
  have hh (k : Fin 1024) := mod_apply x0 x2 r k
  unfold accT hT k0_pay4 k0_pay5
  revert hh
  generalize k0_pay3 (F := Ideal) x0 _ _ _ = h
  intro hh
  unfold k0_pay24 k0_pay19 k0_pay9 k0_pay11 k0_pay14 k0_pay15 k0_pay16 k0_pay20 k0_pay21 k0_pay10
  pointwise
  simp only [hh]
  simp only [tout, Fin.sum_univ_four]
  rfl

/-- The rows beside the residual, as the body computes them. -/
abbrev rowT : FVec Ideal S512x1024 .f32 :=
  k0_pay26 x0 (hT x0 x2) (accT x0 x2 x3 x4)
      (View.ld (Val := Elt Ideal) (e' := .bf16) x3 (Rect.unit ![0, 3, 0, 0] ![1, 1, 704, 1024] inb_S2x4x704x1024_S1x1x704x1024_0_3_0_0))
      (View.ld (Val := Elt Ideal) (e' := .bf16) x3 (Rect.unit ![1, 3, 0, 0] ![1, 1, 704, 1024] inb_S2x4x704x1024_S1x1x704x1024_1_3_0_0))
      (View.ld (Val := Elt Ideal) (e' := .bf16) x4 (Rect.unit ![3, 0, 0] ![1, 704, 1024] inb_S4x704x1024_S1x704x1024_3_0_0))
      (View.ld (Val := Elt Ideal) (e' := .f32) x2 (Rect.unit ![8, 0] ![1, 1024] inb_S16x1024_S1x1024_8_0))

theorem row_apply (r : Fin 512) (e : Fin 1024) : rowT x0 x2 x3 x4 (ix2 r e) = trow x0 x2 x3 x4 r e := by
  have h := out_apply x0 x2 x3 x4 r e
  unfold rowT k0_pay26
  revert h
  generalize k0_pay24 (F := Ideal) _ _ _ _ _ = f
  intro h
  pointwise
  rw [h]
  rfl
end

variable (m : (ℓ : Loc nD τ sig) → Buf (Elt Ideal) ℓ)

set_option maxHeartbeats 8000000 in
/-- What the body stores of the output, -/
theorem f_out (c : Dev nD) (t : Fin cfg0.N) (r : Fin 512) (e : Fin 1024) : (outsAt0 m c t.val t.isLt).2.2.1 (ix2 r e)
    = tout (iblk m c 0 t) (iblk m c 2 t) (iblk m c 3 t) (iblk m c 4 t) r e := by
  have hN : t.val < 8 := lt_of_lt_of_eq t.isLt N_0
  by_cases h0 : t.val % 8 = 0
  · rw [outsAt0_A m c t h0 (by omega)]
    frame_out
    exact out_apply (iblk m c 0 t) (iblk m c 2 t) (iblk m c 3 t) (iblk m c 4 t) r e
  · rw [outsAt0_B m c t h0 (by omega)]
    frame_out
    exact out_apply (iblk m c 0 t) (iblk m c 2 t) (iblk m c 3 t) (iblk m c 4 t) r e

/-- The rows of a point's block, its targets and the norm's weight. -/
abbrev yAt (c : Dev nD) (t : Fin cfg0.N) (r : Fin 512) : Fin 1024 → EReal := trow (iblk m c 0 t) (iblk m c 2 t) (iblk m c 3 t) (iblk m c 4 t) r
abbrev dAt (c : Dev nD) (t : Fin cfg0.N) (r : Fin 512) (k : Fin 1024) : EReal := iblk m c 1 t (ix2 r k)
abbrev gAt (c : Dev nD) (t : Fin cfg0.N) (k : Fin 1024) : EReal := iblk m c 2 t (ix2 12 k)

theorem drow_blk (c : Dev nD) (t : Fin cfg0.N) (r : Fin 512) (e : Fin 1024) :
    k0_pay32 (rowT (iblk m c 0 t) (iblk m c 2 t) (iblk m c 3 t) (iblk m c 4 t)) (iblk m c 1 t)
      (View.ld (Val := Elt Ideal) (e' := .f32) (iblk m c 2 t) (Rect.unit ![12, 0] ![1, 1024] inb_S16x1024_S1x1024_12_0)) (ix2 r e)
      = dRow (yAt m c t r) (dAt m c t r) (gAt m c t) e := by
  refine (drow_apply _ _ _ r e).trans ?_
  simp only [row_apply]
  refine congrArg (fun g => dRow _ _ g e) (funext fun k => ?_)
  pointwise

theorem upd_blk (c : Dev nD) (t : Fin cfg0.N) (k : Fin 8) (e : Fin 1024) :
    k0_pay1 (k0_pay33 (rowT (iblk m c 0 t) (iblk m c 2 t) (iblk m c 3 t) (iblk m c 4 t)) (iblk m c 1 t)
        (View.ld (Val := Elt Ideal) (e' := .f32) (iblk m c 2 t) (Rect.unit ![12, 0] ![1, 1024] inb_S16x1024_S1x1024_12_0)))
      (k0_pay34 (rowT (iblk m c 0 t) (iblk m c 2 t) (iblk m c 3 t) (iblk m c 4 t)) (iblk m c 1 t)
        (View.ld (Val := Elt Ideal) (e' := .f32) (iblk m c 2 t) (Rect.unit ![12, 0] ![1, 1024] inb_S16x1024_S1x1024_12_0))) (ix2 k e)
      = total half k fun r : Fin 512 => term (yAt m c t r) (dAt m c t r) (gAt m c t) k e := by
  refine (upd_apply _ _ _ k e).trans ?_
  simp only [row_apply]
  refine congrArg (fun g => total half k fun r : Fin 512 => term (yAt m c t r) (dAt m c t r) g k e) (funext fun k => ?_)
  pointwise

set_option maxHeartbeats 8000000 in
/-- of the rows' gradient, -/
theorem dx_out (c : Dev nD) (t : Fin cfg0.N) (r : Fin 512) (e : Fin 1024) : (outsAt0 m c t.val t.isLt).1 (ix2 r e)
    = dRow (yAt m c t r) (dAt m c t r) (gAt m c t) e := by
  have hN : t.val < 8 := lt_of_lt_of_eq t.isLt N_0
  by_cases h0 : t.val % 8 = 0
  · rw [outsAt0_A m c t h0 (by omega)]
    frame_out
    exact drow_blk m c t r e
  · rw [outsAt0_B m c t h0 (by omega)]
    frame_out
    exact drow_blk m c t r e

set_option maxHeartbeats 8000000 in
/-- of the hidden units, -/
theorem ab_out (c : Dev nD) (t : Fin cfg0.N) (p : Fin 2) (j : Fin 4) (r : Fin 512) (k : Fin 704) : (outsAt0 m c t.val t.isLt).2.2.2 (ix4 p j r k)
    = thid (iblk m c 0 t) (iblk m c 2 t) (iblk m c 3 t) p j r k := by
  have hN : t.val < 8 := lt_of_lt_of_eq t.isLt N_0
  obtain ⟨p, hp⟩ := p
  obtain ⟨j, hj⟩ := j
  by_cases hA : t.val % 8 = 0
  · rw [outsAt0_A m c t hA (by omega)]
    frame_out
    generalize iblk m c 0 t = x0; generalize iblk m c 1 t = x1; generalize iblk m c 2 t = x2; generalize iblk m c 3 t = x3; generalize iblk m c 4 t = x4
    canon_tiles x h
    all_goals
      replace h0 : p = _ := h0
      replace h1 : j = _ := h1
      rw [show (x 0).val = 0 by omega] at h0
      rw [show (x 1).val = 0 by omega] at h1
      subst h0 h1
      rw [show r = x 2 from Fin.ext h2, show k = x 3 from Fin.ext h3]
      open_payloads
      pointwise
      rfl
  · rw [outsAt0_B m c t hA (by omega)]
    frame_out
    generalize iblk m c 0 t = x0; generalize iblk m c 1 t = x1; generalize iblk m c 2 t = x2; generalize iblk m c 3 t = x3; generalize iblk m c 4 t = x4
    canon_tiles x h
    all_goals
      replace h0 : p = _ := h0
      replace h1 : j = _ := h1
      rw [show (x 0).val = 0 by omega] at h0
      rw [show (x 1).val = 0 by omega] at h1
      subst h0 h1
      rw [show r = x 2 from Fin.ext h2, show k = x 3 from Fin.ext h3]
      open_payloads
      pointwise
      rfl

end Cert.LossIdeal.Loss
-- ==== Proof.LossKernel.lean ====
/- The call that ends the forward pass: the four arrays it leaves, as functions of its arguments. -/
module

public import proofs.«01_k».proof.Proof.LossTiles

@[expose] public section
set_option maxRecDepth 16384
noncomputable section

namespace Cert.LossIdeal.Loss
open Cert.LossIdeal Cert.LossIdeal.Gen Idealize.ShloMosaic Idealize.ShloMosaic.TcCoe Idealize.SL.Sem
open Idealize.ShloMosaic.Pipeline (Dat)
open Cert.LossIdeal.Facts Cert.NormGrad Cert.FfnCall Cert.DwinCall Cert.LossCall
variable (m : (ℓ : Loc nD τ sig) → Buf (Elt Ideal) ℓ)

/-- Where each window's block lies at each grid point. -/
theorem idx : ∀ t : Fin cfg0.N, win0_0.index t = ![t.val, 0] ∧ win0_1.index t = ![t.val, 0] ∧ win0_2.index t = ![0, 0] ∧
    win0_3.index t = ![0, 0, 0, 0] ∧ win0_4.index t = ![0, 0, 0] ∧ win0_5.index t = ![t.val, 0] ∧ win0_6.index t = ![0, 0] ∧
    win0_7.index t = ![t.val, 0] ∧ win0_8.index t = ![0, 0, t.val, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

theorem x_blk (c : Dev nD) (t : Fin cfg0.N) (r : Fin 512) (e : Fin 1024) :
    iblk m c 0 t (ix2 r e) = m ((c : Thread nD τ).loc main_arg0) (ix2 (tok t r) e) := by
  blk_ext [iblk, V, idx t, tok]

theorem d_blk (c : Dev nD) (t : Fin cfg0.N) (r : Fin 512) (e : Fin 1024) :
    iblk m c 1 t (ix2 r e) = m ((c : Thread nD τ).loc main_arg1) (ix2 (tok t r) e) := by
  blk_ext [iblk, V, idx t, tok]

theorem in_blk (c : Dev nD) (t : Fin cfg0.N) (p : Fin 2) (j : Fin 4) (k : Fin 704) (e : Fin 1024) :
    iblk m c 3 t (ix4 p j k e) = wIn (m ((c : Thread nD τ).loc main_arg7)) p j k e := by
  blk_simp [iblk, idx t]
  entry_read
  unfold wIn
  pointwise
  refine congrArg (m ((c : Thread nD τ).loc main_arg7)) ?_
  blk_ext [idx t]

theorem out_blk (c : Dev nD) (t : Fin cfg0.N) (j : Fin 4) (k : Fin 704) (e : Fin 1024) :
    iblk m c 4 t (ix3 j k e) = wOut (m ((c : Thread nD τ).loc main_arg8)) j k e := by
  blk_simp [iblk, idx t]
  entry_read
  unfold wOut
  pointwise
  refine congrArg (m ((c : Thread nD τ).loc main_arg8)) ?_
  blk_ext [idx t]

/-- The packed parameter rows, as the host lays them out. -/
def prm (shift scale gate g gf : FVec Ideal S1024 .f32) : FVec Ideal S16x1024 .f32 :=
  concatenate S16x1024 0 [⟨S6x1024, broadcastInDim S6x1024 ![] bcast_S_S6x1024 (constant (F := Ideal) S_ .f32 0x00000000#32)⟩,
    ⟨S1x1024, broadcastInDim S1x1024 ![1] bcast_S1024_S1x1024_1 shift⟩, ⟨S1x1024, broadcastInDim S1x1024 ![1] bcast_S1024_S1x1024_1 scale⟩,
    ⟨S1x1024, broadcastInDim S1x1024 ![1] bcast_S1024_S1x1024_1 gate⟩,
    ⟨S2x1024, broadcastInDim S2x1024 ![] bcast_S_S2x1024 (constant (F := Ideal) S_ .f32 0x00000000#32)⟩,
    ⟨S1x1024, broadcastInDim S1x1024 ![1] bcast_S1024_S1x1024_1 g⟩, ⟨S1x1024, broadcastInDim S1x1024 ![1] bcast_S1024_S1x1024_1 gf⟩,
    ⟨S3x1024, broadcastInDim S3x1024 ![] bcast_S_S3x1024 (constant (F := Ideal) S_ .f32 0x00000000#32)⟩]
    concatenates_S6x1024_S1x1024_S1x1024_S1x1024_S2x1024_S1x1024_S1x1024_S3x1024_S16x1024_d0

theorem prm_shift (shift scale gate g gf : FVec Ideal S1024 .f32) (e : Fin 1024) : prm shift scale gate g gf (ix2 6 e) = shift (ix1 e) := by
  refine (Rows.stack_apply 1 (broadcastInDim S1x1024 ![1] bcast_S1024_S1x1024_1 shift) 6 0 (by simp) rfl rfl rfl).trans ?_
  pointwise
  blk_ext []

theorem prm_scale (shift scale gate g gf : FVec Ideal S1024 .f32) (e : Fin 1024) : prm shift scale gate g gf (ix2 7 e) = scale (ix1 e) := by
  refine (Rows.stack_apply 2 (broadcastInDim S1x1024 ![1] bcast_S1024_S1x1024_1 scale) 7 0 (by simp) rfl rfl rfl).trans ?_
  pointwise
  blk_ext []

theorem prm_gate (shift scale gate g gf : FVec Ideal S1024 .f32) (e : Fin 1024) : prm shift scale gate g gf (ix2 8 e) = gate (ix1 e) := by
  refine (Rows.stack_apply 3 (broadcastInDim S1x1024 ![1] bcast_S1024_S1x1024_1 gate) 8 0 (by simp) rfl rfl rfl).trans ?_
  pointwise
  blk_ext []

theorem prm_g (shift scale gate g gf : FVec Ideal S1024 .f32) (e : Fin 1024) : prm shift scale gate g gf (ix2 11 e) = g (ix1 e) := by
  refine (Rows.stack_apply 5 (broadcastInDim S1x1024 ![1] bcast_S1024_S1x1024_1 g) 11 0 (by simp) rfl rfl rfl).trans ?_
  pointwise
  blk_ext []

theorem prm_gf (shift scale gate g gf : FVec Ideal S1024 .f32) (e : Fin 1024) : prm shift scale gate g gf (ix2 12 e) = gf (ix1 e) := by
  refine (Rows.stack_apply 6 (broadcastInDim S1x1024 ![1] bcast_S1024_S1x1024_1 gf) 12 0 (by simp) rfl rfl rfl).trans ?_
  pointwise
  blk_ext []

theorem prm_entry (c : Dev nD) : V m c main_v8 = prm (m ((c : Thread nD τ).loc main_arg2)) (m ((c : Thread nD τ).loc main_arg3))
    (m ((c : Thread nD τ).loc main_arg4)) (m ((c : Thread nD τ).loc main_arg5)) (m ((c : Thread nD τ).loc main_arg6)) := rfl

theorem prm_blk (c : Dev nD) (t : Fin cfg0.N) (k : Fin 16) (e : Fin 1024) : iblk m c 2 t (ix2 k e) = V m c main_v8 (ix2 k e) := by
  unfold iblk
  blk_ext [idx t]

theorem shift_blk (c : Dev nD) (t : Fin cfg0.N) (e : Fin 1024) : iblk m c 2 t (ix2 6 e) = m ((c : Thread nD τ).loc main_arg2) (ix1 e) := by
  rw [prm_blk, prm_entry, prm_shift]

theorem scale_blk (c : Dev nD) (t : Fin cfg0.N) (e : Fin 1024) : iblk m c 2 t (ix2 7 e) = m ((c : Thread nD τ).loc main_arg3) (ix1 e) := by
  rw [prm_blk, prm_entry, prm_scale]

theorem gate_blk (c : Dev nD) (t : Fin cfg0.N) (e : Fin 1024) : iblk m c 2 t (ix2 8 e) = m ((c : Thread nD τ).loc main_arg4) (ix1 e) := by
  rw [prm_blk, prm_entry, prm_gate]

theorem g_blk (c : Dev nD) (t : Fin cfg0.N) (e : Fin 1024) : iblk m c 2 t (ix2 11 e) = m ((c : Thread nD τ).loc main_arg5) (ix1 e) := by
  rw [prm_blk, prm_entry, prm_g]

theorem gf_blk (c : Dev nD) (t : Fin cfg0.N) (e : Fin 1024) : iblk m c 2 t (ix2 12 e) = m ((c : Thread nD τ).loc main_arg6) (ix1 e) := by
  rw [prm_blk, prm_entry, prm_gf]

/-- The hidden units, the output and the rows beside the residual, of a core's arguments, -/
abbrev hiddenOf (c : Dev nD) : Fin 2 → Fin 4 → Fin 4096 → Fin 704 → EReal :=
  LossCall.hidden (m ((c : Thread nD τ).loc main_arg0)) (m ((c : Thread nD τ).loc main_arg2)) (m ((c : Thread nD τ).loc main_arg3))
    (m ((c : Thread nD τ).loc main_arg5)) (m ((c : Thread nD τ).loc main_arg7))
abbrev outOf (c : Dev nD) : Fin 4096 → Fin 1024 → EReal :=
  out (m ((c : Thread nD τ).loc main_arg0)) (m ((c : Thread nD τ).loc main_arg2)) (m ((c : Thread nD τ).loc main_arg3))
    (m ((c : Thread nD τ).loc main_arg5)) (m ((c : Thread nD τ).loc main_arg7)) (m ((c : Thread nD τ).loc main_arg8))
abbrev rowsOf (c : Dev nD) : Fin 4096 → Fin 1024 → EReal :=
  rows (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg7)) (m ((c : Thread nD τ).loc main_arg8))
/-- its targets and the last norm's weight. -/
abbrev targetOf (c : Dev nD) (t : Fin 4096) (e : Fin 1024) : EReal := m ((c : Thread nD τ).loc main_arg1) (ix2 t e)
abbrev weightOf (c : Dev nD) (e : Fin 1024) : EReal := m ((c : Thread nD τ).loc main_arg6) (ix1 e)

theorem tmod_blk (c : Dev nD) (t : Fin cfg0.N) (r : Fin 512) (e : Fin 1024) : tmod (iblk m c 0 t) (iblk m c 2 t) r e
    = modulated (m ((c : Thread nD τ).loc main_arg0)) (m ((c : Thread nD τ).loc main_arg2)) (m ((c : Thread nD τ).loc main_arg3))
        (m ((c : Thread nD τ).loc main_arg5)) (tok t r) e := by
  simp only [tmod, modulated, x_blk, shift_blk, scale_blk, g_blk]

theorem thid_blk (c : Dev nD) (t : Fin cfg0.N) (p : Fin 2) (j : Fin 4) (r : Fin 512) (k : Fin 704) :
    thid (iblk m c 0 t) (iblk m c 2 t) (iblk m c 3 t) p j r k = hiddenOf m c p j (tok t r) k := by
  simp only [thid, hiddenOf, LossCall.hidden, tmod_blk, in_blk]

theorem tout_blk (c : Dev nD) (t : Fin cfg0.N) (r : Fin 512) (e : Fin 1024) :
    tout (iblk m c 0 t) (iblk m c 2 t) (iblk m c 3 t) (iblk m c 4 t) r e = outOf m c (tok t r) e := by
  simp only [tout, outOf, out, thid_blk, out_blk]

theorem yAt_eq (c : Dev nD) (t : Fin cfg0.N) (r : Fin 512) : yAt m c t r = rowsOf m c (tok t r) := by
  funext e
  simp only [yAt, trow, rowsOf, rows, tout_blk, x_blk, gate_blk]

theorem dAt_eq (c : Dev nD) (t : Fin cfg0.N) (r : Fin 512) : dAt m c t r = targetOf m c (tok t r) := funext fun e => d_blk m c t r e

theorem gAt_eq (c : Dev nD) (t : Fin cfg0.N) : gAt m c t = weightOf m c := funext fun e => gf_blk m c t e

/-- The first array: the loss's gradient against the rows. -/
theorem dx_arr (c : Dev nD) : (dats m 0 c).arrAt 5 cfg0.N = fun y => dRow (rowsOf m c (y 0)) (targetOf m c (y 0)) (weightOf m c) (y 1) := by
  refine (dats m 0 c).arrAt_eq_of_covers 5 _ (by decide +kernel) fun t hf y => ?_
  obtain ⟨r, e, rfl⟩ := Rows.ix2_surj y
  have hN : t.val < 8 := lt_of_lt_of_eq t.isLt N_0
  blk_simp
  rw [after0_5]
  have hG : ((View.whole main_v14_0).slice (win0_5.rect t)).emb (ix2 r e) = ix2 (tok t r) e := by
    blk_ext [idx t, tok]
  rw [hG]
  refine (dx_out m c t r e).trans ?_
  rw [yAt_eq, dAt_eq, gAt_eq]
  rfl

/-- The third array: the sublayer's output. -/
theorem f_arr (c : Dev nD) : (dats m 0 c).arrAt 7 cfg0.N = fun y => outOf m c (y 0) (y 1) := by
  refine (dats m 0 c).arrAt_eq_of_covers 7 _ (by decide +kernel) fun t hf y => ?_
  obtain ⟨r, e, rfl⟩ := Rows.ix2_surj y
  have hN : t.val < 8 := lt_of_lt_of_eq t.isLt N_0
  blk_simp
  rw [after0_7]
  have hG : ((View.whole main_v14_2).slice (win0_7.rect t)).emb (ix2 r e) = ix2 (tok t r) e := by
    blk_ext [idx t, tok]
  rw [hG]
  exact (f_out m c t r e).trans (tout_blk m c t r e)

/-- The fourth array: the hidden units. -/
theorem ab_arr (c : Dev nD) : (dats m 0 c).arrAt 8 cfg0.N = fun y => hiddenOf m c (y 0) (y 1) (y 2) (y 3) := by
  refine (dats m 0 c).arrAt_eq_of_covers 8 _ (by decide +kernel) fun t hf y => ?_
  obtain ⟨p, j, r, k, rfl⟩ := FfnCall.ix4_surj y
  have hN : t.val < 8 := lt_of_lt_of_eq t.isLt N_0
  blk_simp
  rw [after0_8]
  have hG : ((View.whole main_v14_3).slice (win0_8.rect t)).emb (ix4 p j r k) = ix4 p j (tok t r) k := by
    blk_ext [idx t, tok]
  rw [hG]
  exact (ab_out m c t p j r k).trans (thid_blk m c t p j r k)

theorem half_eq : ∃ a : ℝ, 0 ≤ a ∧ half = (a : EReal) :=
  ⟨8388608 * (2 ^ 24)⁻¹, by positivity, by simp [half, Ideal.ofBits, Ideal.ieee]⟩

/-- The second array: the sums over all tokens. -/
theorem sums_arr (c : Dev nD) : (dats m 0 c).arrAt 6 cfg0.N = fun y =>
    total half (y 0) fun t => term (rowsOf m c t) (targetOf m c t) (weightOf m c) (y 0) (y 1) := by
  refine (dats m 0 c).arrAt_eq_of_after_last 6 t0_7 (by decide +kernel) _ fun j => ?_
  obtain ⟨k, e, rfl⟩ := Rows.ix2_surj j
  blk_simp
  rw [after0_6]
  refine (Pipeline.eq_sum_fin_of_reset_step_apply_last (fun n h => (outsAt0 m c n h).2.1) 8 (fun _ => (0 : EReal))
    (fun t y => total half (y 0) fun r : Fin 512 => term (rowsOf m c (tok ⟨t.val, lt_of_lt_of_eq t.isLt N_0.symm⟩ r))
      (targetOf m c (tok ⟨t.val, lt_of_lt_of_eq t.isLt N_0.symm⟩ r)) (weightOf m c) (y 0) (y 1))
    (fun t h y => ?_) (fun t h y => ?_) (le_of_eq N_0) t0_7 rfl (ix2 k e)).trans ?_
  · have hN : t.val < 8 := lt_of_lt_of_eq t.isLt N_0
    obtain ⟨k, e, rfl⟩ := Rows.ix2_surj y
    rw [outsAt0_A m c t (by omega) (by omega)]
    frame_out
    refine ((upd_blk m c t k e).trans ?_).trans (zero_add _).symm
    simp only [yAt_eq, dAt_eq, gAt_eq]
    rfl
  · have hN : t.val < 8 := lt_of_lt_of_eq t.isLt N_0
    obtain ⟨k, e, rfl⟩ := Rows.ix2_surj y
    rw [outsAt0_B m c t (by omega) (by omega)]
    frame_out
    refine (add_apply _ _ _ k e).trans (congrArg₂ (· + ·) ?_ ((upd_blk m c t k e).trans ?_))
    · pointwise
    · simp only [yAt_eq, dAt_eq, gAt_eq]
      rfl
  · rw [zero_add]
    obtain ⟨a, ha, h⟩ := half_eq
    rw [h]
    exact total_tiles ha rfl k _ _ fun t r hl => rfl

end Cert.LossIdeal.Loss
-- ==== Proof.LossRef.lean ====
/- The reference of the call that ends the forward pass: what the sublayer's lines and reverse-mode differentiation of the
   loss compute, entry by entry. -/
module

public import proofs.«01_k».proof.Proof.Gen.LossReferenceIdeal.Run
public import proofs.«01_k».proof.Proof.Gen.LossReferenceIdeal.Read
public import proofs.«01_k».proof.Proof.Rows
public import proofs.«01_k».proof.Proof.LossCall

@[expose] public section
set_option maxRecDepth 16384
noncomputable section

namespace Cert.LossReferenceIdeal.Loss
open Idealize.ShloMosaic Idealize.ShloMosaic.TcCoe Cert.LossReferenceIdeal.Read Cert.NormGrad Cert.FfnCall Cert.DwinCall Cert.LossCall

variable (x0 x1 : FVec Ideal S4096x1024 .f32) (x2 x3 x4 x5 x6 : FVec Ideal S1024 .f32) (x7 : FVec Ideal S1024x5632 .f32) (x8 : FVec Ideal S2816x1024 .f32)

theorem one_eq : Ideal.ofBits .f32 0x3F800000#32 = 1 := by
  simp [Ideal.ofBits, Ideal.ieee]; rw [← EReal.coe_mul]; norm_num

theorem mod_at (t : Fin 4096) (e : Fin 1024) : val_main_v20 (F := Ideal) x0 x2 x3 x5 (ix2 t e) = modulated x0 x2 x3 x5 t e := by
  unfold val_main_v20 val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0 val_main_cst val_main_cst_0
    val_main_cst_1 val_main_cst_2
  pointwise
  rfl

/-- The product with the input matrix, at unit `k` of half `p`'s block `j`. -/
theorem ab_at (t : Fin 4096) (p : Fin 2) (j : Fin 4) (k : Fin 704) (q : Fin 5632) (hq : q.val = 2816 * p.val + 704 * j.val + k.val) :
    val_main_v21 (F := Ideal) x0 x2 x3 x5 x7 (ix2 t q) = LossCall.hidden x0 x2 x3 x5 x7 p j t k := by
  rw [val_main_v21_apply]
  refine Finset.sum_congr (M := EReal) rfl fun e _ => ?_
  rw [show lidx_main_v21 (ix2 t q) e = ix2 t e from by funext a; match a with | 0 => rfl | 1 => rfl,
    show ridx_main_v21 (ix2 t q) e = ix2 e q from by funext a; match a with | 0 => rfl | 1 => rfl, mod_at]
  unfold wIn
  rw [show q = ⟨2816 * p.val + 704 * j.val + k.val, by omega⟩ from Fin.ext hq]

theorem unit_at (t : Fin 4096) (j : Fin 4) (k : Fin 704) (q : Fin 2816) (hq : q.val = j.val * 704 + k.val) :
    val_main_v25 (F := Ideal) x0 x2 x3 x5 x7 (ix2 t q) = unit (LossCall.hidden x0 x2 x3 x5 x7 0 j t k) (LossCall.hidden x0 x2 x3 x5 x7 1 j t k) := by
  have ha : val_main_v22 (F := Ideal) x0 x2 x3 x5 x7 (ix2 t q) = LossCall.hidden x0 x2 x3 x5 x7 0 j t k := by
    unfold val_main_v22
    refine Eq.trans ?_ (ab_at x0 x2 x3 x5 x7 t 0 j k ⟨q.val, by omega⟩ (by show q.val = 2816 * 0 + 704 * j.val + k.val; omega))
    pointwise
  have hb : val_main_v23 (F := Ideal) x0 x2 x3 x5 x7 (ix2 t q) = LossCall.hidden x0 x2 x3 x5 x7 1 j t k := by
    unfold val_main_v23
    refine Eq.trans ?_ (ab_at x0 x2 x3 x5 x7 t 1 j k ⟨2816 + q.val, by omega⟩ (by show 2816 + q.val = 2816 * 1 + 704 * j.val + k.val; omega))
    pointwise
  rw [val_main_v25_apply, val_main_v24_apply, val_main_call0_v5_apply, val_main_call0_v4_apply, val_main_call0_cst_0_apply, val_main_call0_v3_apply,
    val_main_call0_v2_apply, val_main_call0_cst_apply, val_main_call0_v1_apply, val_main_call0_v0_apply, ha, hb]
  show _ * Ideal.div (Ideal.ofBits .f32 0x3F800000#32) (Ideal.ofBits .f32 0x3F800000#32 + Ideal.exp (-_)) * _ = _
  rw [one_eq]
  rfl

theorem out_at (t : Fin 4096) (e : Fin 1024) : val_main_v26 (F := Ideal) x0 x2 x3 x5 x7 x8 (ix2 t e) = out x0 x2 x3 x5 x7 x8 t e := by
  rw [val_main_v26_apply]
  refine (Finset.sum_congr (M := EReal) rfl fun q _ => congrArg₂ (fun a b => val_main_v25 (F := Ideal) x0 x2 x3 x5 x7 a * x8 b)
    (show lidx_main_v26 (ix2 t e) q = ix2 t q from by funext a; match a with | 0 => rfl | 1 => rfl)
    (show ridx_main_v26 (ix2 t e) q = ix2 q e from by funext a; match a with | 0 => rfl | 1 => rfl)).trans ?_
  refine Eq.trans (Fin.sum_mul_add_fin (M := EReal) 4 704 (fun q : Fin 2816 => val_main_v25 (F := Ideal) x0 x2 x3 x5 x7 (ix2 t q) * x8 (ix2 q e)) rfl).symm ?_
  refine Finset.sum_congr (M := EReal) rfl fun j _ => Finset.sum_congr (M := EReal) rfl fun k _ => ?_
  rw [unit_at x0 x2 x3 x5 x7 t j k _ rfl]
  unfold wOut
  exact congrArg (_ * x8 ·) (congrArg (ix2 · e) (Fin.ext (by show j.val * 704 + k.val = 704 * j.val + k.val; omega)))

theorem row_at (t : Fin 4096) (e : Fin 1024) : val_main_v32 (F := Ideal) x0 x2 x3 x4 x5 x7 x8 (ix2 t e) = rows x0 x2 x3 x4 x5 x7 x8 t e := by
  rw [val_main_v32_apply, val_main_v31_apply, out_at]
  unfold val_main_v30 val_main_v29 val_main_v28 val_main_v27 val_main_cst_3
  pointwise
  rfl

/-- The rows, as one function, and one token's targets and weights. -/
abbrev row (t : Fin 4096) : Fin 1024 → EReal := rows x0 x2 x3 x4 x5 x7 x8 t

theorem var_at (t : Fin 4096) : val_main_v39 (F := Ideal) x0 x2 x3 x4 x5 x7 x8 (ix2 t 0) = var (row x0 x2 x3 x4 x5 x7 x8 t) := by
  unfold val_main_v39 val_main_v38 val_main_v37 val_main_v36 val_main_v35 val_main_v34 val_main_v33 val_main_cst_4 val_main_cst_5 val_main_cst_6
  pointwise
  simp only [row_at]
  rfl

theorem rinv_at (t : Fin 4096) : val_main_v40 (F := Ideal) x0 x2 x3 x4 x5 x7 x8 (ix2 t 0) = rinv (row x0 x2 x3 x4 x5 x7 x8 t) := by
  rw [val_main_v40_apply, var_at]; rfl

theorem norm_at (t : Fin 4096) (e : Fin 1024) : val_main_v45 (F := Ideal) x0 x2 x3 x4 x5 x7 x8 (ix2 t e)
    = row x0 x2 x3 x4 x5 x7 x8 t e * rinv (row x0 x2 x3 x4 x5 x7 x8 t) := by
  rw [val_main_v45_apply, row_at, val_main_v44_apply, ← rinv_at]
  exact congrArg (_ * val_main_v40 (F := Ideal) x0 x2 x3 x4 x5 x7 x8 ·) (by blk_ext [])

theorem err_at (t : Fin 4096) (e : Fin 1024) : val_main_v49 (F := Ideal) x0 x1 x2 x3 x4 x5 x6 x7 x8 (ix2 t e)
    = err (row x0 x2 x3 x4 x5 x7 x8 t) (fun k => x1 (ix2 t k)) (fun k => x6 (ix1 k)) e := by
  rw [val_main_v49_apply, val_main_v48_apply, norm_at]
  unfold val_main_v47 val_main_v46
  pointwise
  rfl

/-- The loss's gradient against the errors: the reference halves, divides by the row's length, and doubles. -/
theorem scale_eq (a : EReal) : Ideal.div half len * (Ideal.ofBits .f32 0x40000000#32 * a) = Ideal.div a len := by
  have h2 : Ideal.ofBits .f32 0x40000000#32 = ((2 : ℝ) : EReal) := by
    simp [Ideal.ofBits, Ideal.ieee]; rw [← EReal.coe_mul]; norm_num
  have hh : half = ((1 / 2 : ℝ) : EReal) := by
    unfold half; simp [Ideal.ofBits, Ideal.ieee]; rw [← EReal.coe_mul]; norm_num
  rw [len_eq, Ideal.div_coe (by norm_num), Ideal.div_coe (by norm_num), hh, h2, ← mul_assoc, ← EReal.coe_mul, ← EReal.coe_mul, mul_comm a]
  norm_num

theorem derr_at (t : Fin 4096) (e : Fin 1024) : val_main_v63 (F := Ideal) x0 x1 x2 x3 x4 x5 x6 x7 x8 (ix2 t e)
    = dErr (row x0 x2 x3 x4 x5 x7 x8 t) (fun k => x1 (ix2 t k)) (fun k => x6 (ix1 k)) e := by
  rw [val_main_v63_apply, val_main_v52_apply, err_at]
  unfold val_main_v62 val_main_v61 val_main_v60 val_main_v59 val_main_v58 val_main_v51 val_main_cst_8 val_main_cst_13 val_main_cst_14 val_main_cst_15
  pointwise
  exact scale_eq _

theorem cot_at (t : Fin 4096) (e : Fin 1024) : val_main_v68 (F := Ideal) x0 x1 x2 x3 x4 x5 x6 x7 x8 (ix2 t e)
    = dErr (row x0 x2 x3 x4 x5 x7 x8 t) (fun k => x1 (ix2 t k)) (fun k => x6 (ix1 k)) e * x6 (ix1 e) := by
  rw [val_main_v68_apply, derr_at]
  unfold val_main_v67 val_main_v46
  pointwise

/-- One token's cotangent of the normalised row. -/
abbrev cot (t : Fin 4096) (k : Fin 1024) : EReal :=
  dErr (row x0 x2 x3 x4 x5 x7 x8 t) (fun k => x1 (ix2 t k)) (fun k => x6 (ix1 k)) k * x6 (ix1 k)

theorem coef_at (t : Fin 4096) : val_main_v78 (F := Ideal) x0 x1 x2 x3 x4 x5 x6 x7 x8 (ix1 t)
    = coef (row x0 x2 x3 x4 x5 x7 x8 t) (cot x0 x1 x2 x3 x4 x5 x6 x7 x8 t) := by
  unfold val_main_v78 val_main_v77 val_main_v76 val_main_v75 val_main_v72 val_main_v71 val_main_v70 val_main_v43 val_main_v42 val_main_v41
    val_main_cst_7 val_main_cst_18 val_main_cst_19 val_main_cst_20
  pointwise
  refine Finset.sum_congr (M := EReal) rfl fun (z : Fin 1) _ => ?_
  obtain rfl : z = 0 := Subsingleton.elim _ _
  rw [rinv_at, var_at]
  simp only [row_at, cot_at]

/-- The gradient against the rows, on finite rows. -/
theorem dx_res (hr : ∀ t e, ∃ r : ℝ, row x0 x2 x3 x4 x5 x7 x8 t e = r) (hq : ∀ t e, ∃ r : ℝ, cot x0 x1 x2 x3 x4 x5 x6 x7 x8 t e = r) :
    val_main_v83 (F := Ideal) x0 x1 x2 x3 x4 x5 x6 x7 x8
      = fun y => dRow (row x0 x2 x3 x4 x5 x7 x8 (y 0)) (fun k => x1 (ix2 (y 0) k)) (fun k => x6 (ix1 k)) (y 1) := by
  funext y
  obtain ⟨t, e, rfl⟩ := Rows.ix2_surj y
  have h79 : val_main_v79 (F := Ideal) x0 x1 x2 x3 x4 x5 x6 x7 x8 (ix2 t e) = coef (row x0 x2 x3 x4 x5 x7 x8 t) (cot x0 x1 x2 x3 x4 x5 x6 x7 x8 t) := by
    rw [val_main_v79_apply, ← coef_at]
    exact congrArg (val_main_v78 (F := Ideal) x0 x1 x2 x3 x4 x5 x6 x7 x8) (by blk_ext [])
  have h73 : val_main_v73 (F := Ideal) x0 x2 x3 x4 x5 x7 x8 (ix2 t e) = rinv (row x0 x2 x3 x4 x5 x7 x8 t) := by
    rw [val_main_v73_apply, ← rinv_at]
    exact congrArg (val_main_v40 (F := Ideal) x0 x2 x3 x4 x5 x7 x8) (by blk_ext [])
  rw [val_main_v83_apply, val_main_v81_apply, val_main_v82_apply, val_main_v74_apply, val_main_v80_apply, h79, h73, cot_at, row_at]
  choose ξ hξ using hr t
  choose θ hθ using hq t
  have h := grad_eq ξ θ hξ hθ 0 e
  rw [zero_add, zero_add] at h
  exact h

/-- The gradient of the last norm's weight, -/
theorem dg_at (e : Fin 1024) : val_main_v69 (F := Ideal) x0 x1 x2 x3 x4 x5 x6 x7 x8 (ix1 e)
    = ∑ t, term (row x0 x2 x3 x4 x5 x7 x8 t) (fun k => x1 (ix2 t k)) (fun k => x6 (ix1 k)) 0 e := by
  unfold val_main_v69 val_main_v66 val_main_v65 val_main_v64 val_main_cst_16 val_main_cst_17
  pointwise
  refine (Fin.sum_univ_one _).trans ?_
  refine Finset.sum_congr (M := EReal) rfl fun t _ => ?_
  rw [norm_at, derr_at]
  exact mul_comm (G := EReal) _ _

/-- and the loss. -/
theorem loss_at (i : S_.Idx) : val_main_v57 (F := Ideal) x0 x1 x2 x3 x4 x5 x6 x7 x8 i
    = half * ∑ t, Ideal.div (∑ e, err (row x0 x2 x3 x4 x5 x7 x8 t) (fun k => x1 (ix2 t k)) (fun k => x6 (ix1 k)) e
        * err (row x0 x2 x3 x4 x5 x7 x8 t) (fun k => x1 (ix2 t k)) (fun k => x6 (ix1 k)) e) len := by
  have h55 (t : Fin 4096) : val_main_v55 (F := Ideal) x0 x1 x2 x3 x4 x5 x6 x7 x8 (ix1 t)
      = Ideal.div (∑ e, err (row x0 x2 x3 x4 x5 x7 x8 t) (fun k => x1 (ix2 t k)) (fun k => x6 (ix1 k)) e
        * err (row x0 x2 x3 x4 x5 x7 x8 t) (fun k => x1 (ix2 t k)) (fun k => x6 (ix1 k)) e) len := by
    unfold val_main_v55 val_main_v54 val_main_v53 val_main_v50 val_main_cst_9 val_main_cst_10
    pointwise
    simp only [err_at]
  unfold val_main_v57 val_main_v56 val_main_cst_11 val_main_cst_12
  pointwise
  simp only [h55]
  rfl

/-- The sums' rows. -/
theorem sums_res : val_main_v87 (F := Ideal) x0 x1 x2 x3 x4 x5 x6 x7 x8
    = fun y => total half (y 0) fun t => term (row x0 x2 x3 x4 x5 x7 x8 t) (fun k => x1 (ix2 t k)) (fun k => x6 (ix1 k)) (y 0) (y 1) := by
  funext y
  obtain ⟨k, e, rfl⟩ := Rows.ix2_surj y
  unfold val_main_v87
  match k with
  | 0 =>
    refine (Rows.stack_apply (n := 1) 0 _ 0 0 (by simp) rfl rfl rfl).trans ?_
    unfold val_main_v84
    refine Eq.trans ?_ (dg_at x0 x1 x2 x3 x4 x5 x6 x7 x8 e)
    pointwise
  | 1 =>
    refine (Rows.stack_apply (n := 1) 1 _ 1 0 (by simp) rfl rfl rfl).trans ?_
    unfold val_main_v85
    refine Eq.trans ?_ (loss_at x0 x1 x2 x3 x4 x5 x6 x7 x8 ix0)
    pointwise
  | ⟨k + 2, hk⟩ =>
    refine (Rows.stack_apply (n := 6) 2 _ 2 ⟨k, by omega⟩ (by simp) rfl rfl (Nat.add_comm _ _)).trans ?_
    unfold val_main_v86 val_main_cst_21
    pointwise
    exact Finset.sum_const_zero.symm

/-- The sublayer's output. -/
theorem f_res : val_main_v88 (F := Ideal) x0 x2 x3 x5 x7 x8 = fun y => out x0 x2 x3 x5 x7 x8 (y 0) (y 1) := by
  funext y
  obtain ⟨t, e, rfl⟩ := Rows.ix2_surj y
  exact out_at x0 x2 x3 x5 x7 x8 t e

/-- The hidden units, laid out by half, block, token and unit. -/
theorem ab_res : val_main_v91 (F := Ideal) x0 x2 x3 x5 x7 = fun y => LossCall.hidden x0 x2 x3 x5 x7 (y 0) (y 1) (y 2) (y 3) := by
  funext y
  obtain ⟨p, j, t, k, rfl⟩ := FfnCall.ix4_surj y
  refine Eq.trans ?_ (ab_at x0 x2 x3 x5 x7 t p j k ⟨2816 * p.val + 704 * j.val + k.val, by omega⟩ rfl)
  unfold val_main_v91 val_main_v90 val_main_v89
  pointwise
  refine congrArg (val_main_v21 (F := Ideal) x0 x2 x3 x5 x7) ?_
  blk_ext []

end Cert.LossReferenceIdeal.Loss
-- ==== Proof.LossEq.lean ====
/- The call that ends the forward pass and its reference leave the same arrays, where the arguments are finite. -/
module

public import proofs.«01_k».proof.Defs
public import proofs.«01_k».proof.Proof.Gen.Pre_finite_loss
public import proofs.«01_k».proof.Proof.Gen.LossIdeal
public import proofs.«01_k».proof.Proof.Gen.LossReferenceIdeal
public import proofs.«01_k».proof.Proof.LossKernel
public import proofs.«01_k».proof.Proof.LossRef

@[expose] public section
noncomputable section

namespace Cert.LossEq
open Idealize.ShloMosaic Idealize.ShloMosaic.TcCoe Idealize.SL.Sem Cert.Reals Cert.NormGrad Cert.FfnCall Cert.DwinCall Cert.LossCall
open Cert.LossIdeal (nD τ sig main_arg0 main_arg1 main_arg2 main_arg3 main_arg4 main_arg5 main_arg6 main_arg7 main_arg8)
open Cert.LossIdeal.Loss (hiddenOf outOf rowsOf targetOf weightOf)
attribute [local instance] Cert.LossIdeal.Gen.facts Cert.LossReferenceIdeal.Gen.facts Cert.Pre_finite_loss.Gen.facts

/-- An extended real that is a real. -/
def Real (a : EReal) : Prop := ∃ r : ℝ, a = r

theorem Real.mul {a b : EReal} : Real a → Real b → Real (a * b) := by
  rintro ⟨a, rfl⟩ ⟨b, rfl⟩; exact ⟨a * b, (EReal.coe_mul a b).symm⟩
theorem Real.add {a b : EReal} : Real a → Real b → Real (a + b) := by
  rintro ⟨a, rfl⟩ ⟨b, rfl⟩; exact ⟨a + b, (EReal.coe_add a b).symm⟩
theorem Real.sub {a b : EReal} : Real a → Real b → Real (a - b) := by
  rintro ⟨a, rfl⟩ ⟨b, rfl⟩; exact ⟨a - b, (EReal.coe_sub a b).symm⟩
theorem Real.sum {ι : Type} {s : Finset ι} {f : ι → EReal} (h : ∀ i, Real (f i)) : Real (∑ i ∈ s, f i) := by
  choose a ha using h
  exact ⟨∑ i ∈ s, a i, (Finset.sum_congr rfl fun i _ => ha i).trans (coe_sum s a)⟩
theorem Real.one : Real 1 := ⟨1, EReal.coe_one.symm⟩
theorem Real.logistic {a : EReal} : Real a → Real (Ideal.logistic a) := by
  rintro ⟨a, rfl⟩; exact ⟨_, Ideal.logistic_coe a⟩
theorem Real.rinv {x : Fin 1024 → EReal} (h : ∀ k, Real (x k)) : Real (rinv x) := by
  choose ξ hξ using h
  obtain ⟨_, ρ, -, -, -, e⟩ := rinv_real hξ
  exact ⟨ρ, e⟩
theorem Real.div_len {a : EReal} : Real a → Real (Ideal.div a len) := by
  rintro ⟨a, rfl⟩; exact ⟨a / 1024, by rw [len_eq, div_real (by norm_num)]⟩
theorem half_real : Real half := (Cert.LossIdeal.Loss.half_eq).imp fun _ h => h.2

variable (m : (ℓ : Loc nD τ sig) → Buf (Elt Ideal) ℓ) (h : Cert.Pre_LossIdeal_finite_loss m) (c : Dev nD)
include h

theorem x_real (t : Fin 4096) (e : Fin 1024) : Real (m ((c : Thread nD τ).loc main_arg0) (ix2 t e)) := real_of_flag _ _ _ (congrFun (h c).1 (ix2 t e))
theorem weight_real (e : Fin 1024) : Real (weightOf m c e) := real_of_flag _ _ _ (congrFun (h c).2.2.2.2.2.2.1 (ix1 e))

theorem modulated_real (t : Fin 4096) (e : Fin 1024) : Real (modulated (m ((c : Thread nD τ).loc main_arg0)) (m ((c : Thread nD τ).loc main_arg2))
    (m ((c : Thread nD τ).loc main_arg3)) (m ((c : Thread nD τ).loc main_arg5)) t e) := by
  have h1 : Real (m ((c : Thread nD τ).loc main_arg2) (ix1 e)) := real_of_flag _ _ _ (congrFun (h c).2.2.1 (ix1 e))
  have h2 : Real (m ((c : Thread nD τ).loc main_arg3) (ix1 e)) := real_of_flag _ _ _ (congrFun (h c).2.2.2.1 (ix1 e))
  have h3 : Real (m ((c : Thread nD τ).loc main_arg5) (ix1 e)) := real_of_flag _ _ _ (congrFun (h c).2.2.2.2.2.1 (ix1 e))
  exact ((((x_real m h c t e).mul (Real.rinv fun k => x_real m h c t k)).mul h3).mul (Real.one.add h2)).add h1

theorem hidden_real (p : Fin 2) (j : Fin 4) (t : Fin 4096) (k : Fin 704) : Real (hiddenOf m c p j t k) :=
  Real.sum fun e => (modulated_real m h c t e).mul (real_of_flag _ _ _ (congrFun (h c).2.2.2.2.2.2.2.1 (ix2 e ⟨2816 * p.val + 704 * j.val + k.val, by omega⟩)))

theorem rows_real (t : Fin 4096) (e : Fin 1024) : Real (rowsOf m c t e) := by
  have h4 : Real (m ((c : Thread nD τ).loc main_arg4) (ix1 e)) := real_of_flag _ _ _ (congrFun (h c).2.2.2.2.1 (ix1 e))
  refine (x_real m h c t e).add ((half_real.mul h4).mul (Real.sum fun j => Real.sum fun k => Real.mul ?_ ?_))
  · have a := hidden_real m h c 0 j t k
    exact (a.mul a.logistic).mul (hidden_real m h c 1 j t k)
  · exact real_of_flag _ _ _ (congrFun (h c).2.2.2.2.2.2.2.2 (ix2 ⟨704 * j.val + k.val, by omega⟩ e))

theorem cot_real (t : Fin 4096) (k : Fin 1024) : Real (dErr (rowsOf m c t) (targetOf m c t) (weightOf m c) k * weightOf m c k) := by
  have ht : Real (targetOf m c t k) := real_of_flag _ _ _ (congrFun (h c).2.1 (ix2 t k))
  have hw := weight_real m h c k
  exact (((((rows_real m h c t k).mul (Real.rinv fun e => rows_real m h c t e)).mul hw).sub ht).div_len).mul hw

end Cert.LossEq

namespace Cert.Proof
open Idealize.ShloMosaic Idealize.ShloMosaic.TcCoe Idealize.SL.Sem
attribute [local instance] Cert.LossIdeal.Gen.facts Cert.LossReferenceIdeal.Gen.facts Cert.Pre_finite_loss.Gen.facts

/-- The two programs leave the same arrays. -/
theorem loss : Cert.algebraic_LossIdeal_LossReferenceIdeal_pre_finite_loss := fun m g m' g' hp ha => by
  refine ⟨fun c => (Cert.LossIdeal.Gen.dats m 0 c).arrAt 5 Cert.LossIdeal.cfg0.N, fun c => (Cert.LossIdeal.Gen.dats m 0 c).arrAt 6 Cert.LossIdeal.cfg0.N,
    fun c => (Cert.LossIdeal.Gen.dats m 0 c).arrAt 7 Cert.LossIdeal.cfg0.N, fun c => (Cert.LossIdeal.Gen.dats m 0 c).arrAt 8 Cert.LossIdeal.cfg0.N,
    (θ_run Cert.LossIdeal.defs _ _).mono (fun r h c => ?_) (Cert.LossIdeal.Value.run_blocks (F := Ideal) m g),
    (θ_run Cert.LossReferenceIdeal.defs _ _).mono (fun r h c => ?_) (Cert.LossReferenceIdeal.Value.run (F := Ideal) m' g')⟩
  · exact h c
  · obtain ⟨h0, h1, h2, h3, h⟩ := h c
    obtain ⟨a0, a1, a2, a3, a4, a5, a6, a7, a8⟩ := ha c
    have e : ∀ b, StableHlo.launchContents m' c (Proc.devRef .tc b) = m' ((c : Thread Cert.LossReferenceIdeal.nD Cert.LossReferenceIdeal.τ).loc b) := fun _ => rfl
    refine ⟨h0.trans ?_, h1.trans ?_, h2.trans ?_, h3.trans ?_, h⟩
    · refine Eq.trans ?_ (Cert.LossIdeal.Loss.dx_arr m c).symm
      refine (Cert.LossReferenceIdeal.Read.val_main_v83_eq (F := Ideal) _).trans ?_
      simp only [e, a0, a1, a2, a3, a4, a5, a6, a7, a8]
      exact Cert.LossReferenceIdeal.Loss.dx_res _ _ _ _ _ _ _ _ _ (Cert.LossEq.rows_real m hp c) (Cert.LossEq.cot_real m hp c)
    · refine Eq.trans ?_ (Cert.LossIdeal.Loss.sums_arr m c).symm
      refine (Cert.LossReferenceIdeal.Read.val_main_v87_eq (F := Ideal) _).trans ?_
      simp only [e, a0, a1, a2, a3, a4, a5, a6, a7, a8]
      exact Cert.LossReferenceIdeal.Loss.sums_res _ _ _ _ _ _ _ _ _
    · refine Eq.trans ?_ (Cert.LossIdeal.Loss.f_arr m c).symm
      refine (Cert.LossReferenceIdeal.Read.val_main_v88_eq (F := Ideal) _).trans ?_
      simp only [e, a0, a2, a3, a5, a7, a8]
      exact Cert.LossReferenceIdeal.Loss.f_res _ _ _ _ _ _
    · refine Eq.trans ?_ (Cert.LossIdeal.Loss.ab_arr m c).symm
      refine (Cert.LossReferenceIdeal.Read.val_main_v91_eq (F := Ideal) _).trans ?_
      simp only [e, a0, a2, a3, a5, a7]
      exact Cert.LossReferenceIdeal.Loss.ab_res _ _ _ _ _

end Cert.Proof
-- ==== Proof.ParamsVectors.lean ====
/- The vectors of the backward call of the recurrence's coefficients, against its reference's. -/
module

public import proofs.«01_k».proof.Proof.Gen.ParamsIdeal.Frame
public import proofs.«01_k».proof.Proof.Rows
public import proofs.«01_k».proof.Proof.Gen.ParamsReferenceIdeal.Read

@[expose] public section
set_option maxRecDepth 16384
noncomputable section

namespace Cert.ParamsVectors
open Idealize.ShloMosaic Idealize.ShloMosaic.TcCoe
open Cert.ParamsIdeal Cert.ParamsIdeal.Gen Cert.ParamsReferenceIdeal.Read
attribute [local instance] Cert.ParamsIdeal.Gen.facts Cert.ParamsReferenceIdeal.Gen.facts

/-- The column of the logarithms of the time steps that the call is handed. -/
def column (x2 : Vec Ideal Cert.ParamsReferenceIdeal.S32 .f32) : Vec Ideal S32x1 .f32 := fun i => x2 (ix1 (i 0))

variable (x0 x1 x3 x4 x5 x6 : Vec Ideal S32x64 .f32) (x2 : Vec Ideal Cert.ParamsReferenceIdeal.S32 .f32)

/-- Taking a vector from zero negates it. -/
theorem zero_sub (v : FVec Ideal S32x64 .f32) : subf (broadcast S32x64 (Scalar.ofBits (F := Ideal) .f32 0x00000000#32)) v = Host.negf v := by
  funext y
  pointwise
  exact _root_.zero_sub (G := EReal) _

theorem pay3 : k0_pay3 x0 = val_main_v0 x0 := rfl
theorem pay4 : k0_pay4 x0 = val_main_v1 x0 := zero_sub (val_main_v0 x0)

theorem pay5 : k0_pay5 (column x2) = val_main_v3 x2 := by
  funext y
  obtain ⟨r, z, rfl⟩ := Rows.ix2_surj y
  unfold k0_pay5 val_main_v3 val_main_v2 column
  pointwise

theorem pay5' : broadcastTo S32x64 (k0_pay5 (column x2)) broadcasts_S32x1_S32x64 = val_main_v4 x2 := by
  rw [pay5]
  funext y
  obtain ⟨r, z, rfl⟩ := Rows.ix2_surj y
  unfold val_main_v4
  pointwise

theorem pay6 : k0_pay6 x0 (column x2) = val_main_v6 x0 x2 := by
  unfold k0_pay6
  dsimp only
  rw [pay4, pay5']
  rfl

theorem pay7 : k0_pay7 x1 (column x2) = val_main_v8 x1 x2 := by
  unfold k0_pay7
  dsimp only
  rw [pay5']
  rfl

theorem pay12 : k0_pay12 x0 x1 (column x2) = val_main_v14 x0 x1 x2 := by
  unfold k0_pay12 k0_pay10
  dsimp only
  rw [pay6, pay7]
  rfl

theorem ones : broadcast S32x64 (Scalar.ofBits (F := Ideal) .f32 0x3F800000#32) = val_main_v15 (F := Ideal) := by
  funext y
  unfold val_main_v15 val_main_cst
  pointwise

theorem pay13 : k0_pay13 x0 x1 (column x2) = val_main_v16 x0 x1 x2 := by
  unfold k0_pay13 k0_pay8
  dsimp only
  rw [pay6, pay7, ones]
  rfl

theorem pay14 : k0_pay14 x0 x1 = val_main_v19 x0 x1 := by
  unfold k0_pay14
  dsimp only
  rw [pay4]
  rfl

theorem pay15 : k0_pay15 x0 x1 (column x2) = val_main_v22 x0 x1 x2 := by
  unfold k0_pay15
  dsimp only
  rw [pay12, pay13, pay4]
  rfl

theorem pay16 : k0_pay16 x0 x1 = val_main_v26 x0 x1 := by
  unfold k0_pay16
  dsimp only
  rw [pay14, ones]
  rfl

theorem pay17 : k0_pay17 x0 x1 (column x2) x6 = val_main_v35 x0 x1 x2 x6 := by
  unfold k0_pay17
  dsimp only
  rw [pay12, pay13, pay14, pay4, ones]
  rfl

theorem pay20 : k0_pay20 (val_main_v22 x0 x1 x2) (val_main_v26 x0 x1) x5 (val_main_v35 x0 x1 x2 x6) = val_main_v48 x0 x1 x2 x5 x6 := by
  unfold k0_pay20
  dsimp only
  rw [zero_sub, zero_sub]
  rfl

theorem pay19 : k0_pay19 (val_main_v19 x0 x1) x6 = val_main_v38 x0 x1 x6 := by
  unfold k0_pay19
  dsimp only
  rw [zero_sub]
  rfl

theorem pay22 : k0_pay22 x1 (val_main_v1 x0) (val_main_v19 x0 x1) x4 x5 x6 = val_main_v53 x0 x1 x4 x5 x6 := rfl

theorem pay23 : k0_pay23 x1 (val_main_v1 x0) (val_main_v19 x0 x1) x3 x5 x6 = val_main_v57 x0 x1 x3 x5 x6 := by
  unfold k0_pay23
  dsimp only
  rw [pay19]
  rfl

theorem pay24 : k0_pay24 (val_main_v1 x0) (val_main_v14 x0 x1 x2) (val_main_v16 x0 x1 x2) (val_main_v19 x0 x1) (val_main_v22 x0 x1 x2) (val_main_v26 x0 x1)
    x5 x6 (val_main_v35 x0 x1 x2 x6) = val_main_v65 x0 x1 x2 x5 x6 := by
  unfold k0_pay24
  dsimp only
  rw [pay20]
  rfl

theorem pay25 : k0_pay25 x1 (val_main_v1 x0) (val_main_v6 x0 x2) (val_main_v10 x1 x2) (val_main_v13 x1 x2) (val_main_v19 x0 x1) x3 x4 x5 x6
    = val_main_v74 x0 x1 x2 x3 x4 x5 x6 := by
  unfold k0_pay25
  dsimp only
  rw [pay22, pay23, zero_sub]
  rfl

theorem spread : broadcastTo S32x64 (val_main_v3 x2) broadcasts_S32x1_S32x64 = val_main_v4 x2 := by
  rw [← pay5]
  exact pay5' x2

/-- The second result: the gradient of the frequencies. -/
theorem pay26 : k0_pay26 x1 (val_main_v1 x0) (val_main_v3 x2) (val_main_v6 x0 x2) (val_main_v10 x1 x2) (val_main_v13 x1 x2) (val_main_v14 x0 x1 x2)
    (val_main_v16 x0 x1 x2) (val_main_v19 x0 x1) (val_main_v22 x0 x1 x2) (val_main_v26 x0 x1) x3 x4 x5 x6 (val_main_v35 x0 x1 x2 x6)
    = val_main_v80 x0 x1 x2 x3 x4 x5 x6 := by
  unfold k0_pay26
  dsimp only
  rw [pay20, pay19, pay25, spread]
  rfl

theorem pay27 : k0_pay27 x1 (val_main_v1 x0) (val_main_v6 x0 x2) (val_main_v9 x1 x2) (val_main_v12 x1 x2) (val_main_v19 x0 x1) x3 x4 x5 x6
    = val_main_v81 x0 x1 x2 x3 x4 x5 x6 := by
  unfold k0_pay27
  dsimp only
  rw [pay22, pay23]
  rfl

/-- The first result: the gradient of the logarithms of the decay rates. -/
theorem pay2 : k0_pay2 (val_main_v0 x0) (val_main_v3 x2) (val_main_v65 x0 x1 x2 x5 x6) (val_main_v81 x0 x1 x2 x3 x4 x5 x6)
    = val_main_v92 x0 x1 x2 x3 x4 x5 x6 := by
  unfold k0_pay2
  dsimp only
  rw [spread, zero_sub]
  rfl

/-- The sum of a row over its lanes, as the call writes it and as the reference does. -/
theorem row_sum (v : FVec Ideal S32x64 .f32) (w : FVec Ideal Cert.ParamsReferenceIdeal.S_ .f32) (hw : w = constant _ .f32 0x00000000#32) :
    multiReduction .add [1] S32 v 0x00000000#32 reduces_S32x64_S32 (.inl rfl) rfl
      = Host.reduceAdd v w Cert.ParamsReferenceIdeal.Gen.reducesTo_S32x64_S32_d1 Cert.ParamsReferenceIdeal.Gen.h_S_ := by
  subst hw
  funext y
  pointwise

theorem pay28 : k0_pay28 x1 (val_main_v1 x0) (val_main_v6 x0 x2) (val_main_v9 x1 x2) (val_main_v10 x1 x2) (val_main_v12 x1 x2) (val_main_v13 x1 x2)
    (val_main_v19 x0 x1) x3 x4 x5 x6 = val_main_v85 x0 x1 x2 x3 x4 x5 x6 := by
  unfold k0_pay28
  dsimp only
  rw [pay25, pay27, row_sum _ _ rfl, row_sum _ _ rfl]
  rfl

/-- The third result: the gradient of the logarithms of the time steps. -/
theorem pay1 : k0_pay1 (val_main_v3 x2) (val_main_v85 x0 x1 x2 x3 x4 x5 x6) = val_main_v93 x0 x1 x2 x3 x4 x5 x6 := by
  unfold k0_pay1 val_main_v93 val_main_v90 val_main_v89 val_main_v3 val_main_v2
  generalize val_main_v85 x0 x1 x2 x3 x4 x5 x6 = v
  funext y
  obtain ⟨r, z, rfl⟩ := Rows.ix2_surj y
  obtain rfl : z = 0 := Subsingleton.elim _ _
  pointwise
  refine congrArg (· * Ideal.exp (x2 (ix1 r))) ?_
  unfold val_main_cst_4
  rw [Fin.sum_univ_one]
  pointwise

end Cert.ParamsVectors
-- ==== Proof.ParamsCall.lean ====
/- The backward call of the recurrence's coefficients: the arrays it leaves. -/
module

public import proofs.«01_k».proof.Proof.ParamsVectors

@[expose] public section
set_option maxRecDepth 16384
noncomputable section

namespace Cert.ParamsIdeal.Params
open Cert.ParamsIdeal Cert.ParamsIdeal.Gen Idealize.ShloMosaic Idealize.ShloMosaic.TcCoe Idealize.SL.Sem
open Idealize.ShloMosaic.Pipeline (Dat)
open Cert.ParamsIdeal.Facts Cert.ParamsVectors Cert.ParamsReferenceIdeal.Read
attribute [local instance] Cert.ParamsReferenceIdeal.Gen.facts
variable (m : (ℓ : Loc nD τ sig) → Buf (Elt Ideal) ℓ) (c : Dev nD)

theorem zeros : (![0, 0] : Fin 2 → Nat) = fun _ => 0 := by decide

variable (x0 x1 x3 x4 x5 x6 : Vec Ideal S32x64 .f32) (x2 : Vec Ideal Cert.ParamsReferenceIdeal.S32 .f32)

/-- The first block it stores. -/
theorem block7 : out0_7 x0 x1 (column x2) x3 x4 x5 x6 = val_main_v92 x0 x1 x2 x3 x4 x5 x6 := by
  unfold_out out0_7
  rw [View.canon_unit_zero zeros, View.ld_unit_zero zeros, View.ld_unit_zero zeros, View.ld_unit_zero zeros, View.ld_unit_zero zeros,
    View.ld_unit_zero zeros, View.ld_unit_zero zeros, View.ld_unit_zero zeros]
  rw [pay3, pay5, pay4, pay6, pay12, pay13, pay14, pay15, pay16, pay17, pay24]
  rw [show k0_pay8 x1 (column x2) = val_main_v9 x1 x2 by unfold k0_pay8; rw [pay7]; rfl,
    show k0_pay10 x1 (column x2) = val_main_v12 x1 x2 by unfold k0_pay10; rw [pay7]; rfl]
  rw [pay27, pay2]

/-- The second block it stores. -/
theorem block8 : out0_8 x0 x1 (column x2) x3 x4 x5 x6 = val_main_v80 x0 x1 x2 x3 x4 x5 x6 := by
  unfold_out out0_8
  rw [View.canon_unit_zero zeros, View.ld_unit_zero zeros, View.ld_unit_zero zeros, View.ld_unit_zero zeros, View.ld_unit_zero zeros,
    View.ld_unit_zero zeros, View.ld_unit_zero zeros, View.ld_unit_zero zeros]
  rw [pay5, pay4, pay6, pay12, pay13, pay14, pay15, pay16, pay17]
  rw [show k0_pay9 x1 (column x2) = val_main_v10 x1 x2 by unfold k0_pay9; rw [pay7]; rfl,
    show k0_pay11 x1 (column x2) = val_main_v13 x1 x2 by unfold k0_pay11; rw [pay7]; rfl]
  rw [pay26]

/-- The third block it stores. -/
theorem block9 : out0_9 x0 x1 (column x2) x3 x4 x5 x6 = val_main_v93 x0 x1 x2 x3 x4 x5 x6 := by
  unfold_out out0_9
  rw [View.canon_unit_zero zeros, View.ld_unit_zero zeros, View.ld_unit_zero zeros, View.ld_unit_zero zeros, View.ld_unit_zero zeros,
    View.ld_unit_zero zeros, View.ld_unit_zero zeros, View.ld_unit_zero zeros]
  rw [pay5, pay4, pay6, pay14]
  rw [show k0_pay8 x1 (column x2) = val_main_v9 x1 x2 by unfold k0_pay8; rw [pay7]; rfl,
    show k0_pay10 x1 (column x2) = val_main_v12 x1 x2 by unfold k0_pay10; rw [pay7]; rfl,
    show k0_pay9 x1 (column x2) = val_main_v10 x1 x2 by unfold k0_pay9; rw [pay7]; rfl,
    show k0_pay11 x1 (column x2) = val_main_v13 x1 x2 by unfold k0_pay11; rw [pay7]; rfl]
  rw [pay28, pay1]

/-- The call has one grid point, whose blocks are the whole arrays. -/
theorem idx : ∀ t : Fin cfg0.N, win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧ win0_8.index t = ![0, 0] ∧
    win0_9.index t = ![0, 0] :=
  (by decide +kernel : ∀ t : Fin grid0.N, _)

/-- An array of the call's arguments. -/
abbrev arg (b : Ref sig .tc) := m ((c : Thread nD τ).loc b)

theorem blk0 (t : Fin cfg0.N) : iblk m c 0 t = m ((c : Thread nD τ).loc main_arg0) := by
  funext y
  obtain ⟨r, l, rfl⟩ := Rows.ix2_surj y
  blk_ext [iblk, V, idx t]

theorem blk1 (t : Fin cfg0.N) : iblk m c 1 t = m ((c : Thread nD τ).loc main_arg1) := by
  funext y
  obtain ⟨r, l, rfl⟩ := Rows.ix2_surj y
  blk_ext [iblk, V, idx t]

theorem blk3 (t : Fin cfg0.N) : iblk m c 3 t = m ((c : Thread nD τ).loc main_arg3) := by
  funext y
  obtain ⟨r, l, rfl⟩ := Rows.ix2_surj y
  blk_ext [iblk, V, idx t]

theorem blk4 (t : Fin cfg0.N) : iblk m c 4 t = m ((c : Thread nD τ).loc main_arg4) := by
  funext y
  obtain ⟨r, l, rfl⟩ := Rows.ix2_surj y
  blk_ext [iblk, V, idx t]

theorem blk5 (t : Fin cfg0.N) : iblk m c 5 t = m ((c : Thread nD τ).loc main_arg5) := by
  funext y
  obtain ⟨r, l, rfl⟩ := Rows.ix2_surj y
  blk_ext [iblk, V, idx t]

theorem blk6 (t : Fin cfg0.N) : iblk m c 6 t = m ((c : Thread nD τ).loc main_arg6) := by
  funext y
  obtain ⟨r, l, rfl⟩ := Rows.ix2_surj y
  blk_ext [iblk, V, idx t]

theorem blk2 (t : Fin cfg0.N) : iblk m c 2 t = column (m ((c : Thread nD τ).loc main_arg2)) := by
  funext y
  obtain ⟨r, l, rfl⟩ := Rows.ix2_surj y
  blk_simp [iblk, idx t]
  entry_read
  pointwise
  unfold column
  blk_ext [idx t]

theorem arr7 : (dats m 0 c).arrAt 7 cfg0.N = val_main_v92 (arg m c main_arg0) (arg m c main_arg1) (arg m c main_arg2) (arg m c main_arg3)
    (arg m c main_arg4) (arg m c main_arg5) (arg m c main_arg6) := by
  refine (dats m 0 c).arrAt_eq_of_covers 7 _ (by decide +kernel) fun t hf y => ?_
  obtain ⟨r, l, rfl⟩ := Rows.ix2_surj y
  rw [after0_7, blk0, blk1, blk2, blk3, blk4, blk5, blk6, block7]
  refine congrArg (val_main_v92 (arg m c main_arg0) (arg m c main_arg1) (arg m c main_arg2) (arg m c main_arg3) (arg m c main_arg4) (arg m c main_arg5) (arg m c main_arg6)) ?_
  blk_ext [idx t]

theorem arr8 : (dats m 0 c).arrAt 8 cfg0.N = val_main_v80 (arg m c main_arg0) (arg m c main_arg1) (arg m c main_arg2) (arg m c main_arg3)
    (arg m c main_arg4) (arg m c main_arg5) (arg m c main_arg6) := by
  refine (dats m 0 c).arrAt_eq_of_covers 8 _ (by decide +kernel) fun t hf y => ?_
  obtain ⟨r, l, rfl⟩ := Rows.ix2_surj y
  rw [after0_8, blk0, blk1, blk2, blk3, blk4, blk5, blk6, block8]
  refine congrArg (val_main_v80 (arg m c main_arg0) (arg m c main_arg1) (arg m c main_arg2) (arg m c main_arg3) (arg m c main_arg4) (arg m c main_arg5) (arg m c main_arg6)) ?_
  blk_ext [idx t]

theorem arr9 : (dats m 0 c).arrAt 9 cfg0.N = val_main_v93 (arg m c main_arg0) (arg m c main_arg1) (arg m c main_arg2) (arg m c main_arg3)
    (arg m c main_arg4) (arg m c main_arg5) (arg m c main_arg6) := by
  refine (dats m 0 c).arrAt_eq_of_covers 9 _ (by decide +kernel) fun t hf y => ?_
  obtain ⟨r, l, rfl⟩ := Rows.ix2_surj y
  rw [after0_9, blk0, blk1, blk2, blk3, blk4, blk5, blk6, block9]
  refine congrArg (val_main_v93 (arg m c main_arg0) (arg m c main_arg1) (arg m c main_arg2) (arg m c main_arg3) (arg m c main_arg4) (arg m c main_arg5) (arg m c main_arg6)) ?_
  blk_ext [idx t]

end Cert.ParamsIdeal.Params
-- ==== Proof.ParamsEq.lean ====
/- The backward call of the recurrence's coefficients and its reference leave the same arrays. -/
module

public import proofs.«01_k».proof.Defs
public import proofs.«01_k».proof.Proof.Gen.ParamsIdeal
public import proofs.«01_k».proof.Proof.Gen.ParamsReferenceIdeal
public import proofs.«01_k».proof.Proof.ParamsCall
public import proofs.«01_k».proof.Proof.Gen.ParamsReferenceIdeal.Run

@[expose] public section
noncomputable section

namespace Cert.ParamsIdeal.Params
open Cert.ParamsIdeal Cert.ParamsIdeal.Gen Idealize.ShloMosaic Idealize.ShloMosaic.TcCoe Idealize.SL.Sem
variable (m : (ℓ : Loc nD τ sig) → Buf (Elt Ideal) ℓ) (g)

/-- The call's run: its three arrays, and its arguments as they were. -/
theorem run : θ_run defs (onTc (τ := τ) (main (F := Ideal))) ⟨m, fun _ => 0, g⟩ fun r => ∀ c : Dev nD,
    r.2.mem ((c : Thread nD τ).loc main_v1_0) = (dats m 0 c).arrAt 7 cfg0.N ∧ r.2.mem ((c : Thread nD τ).loc main_v1_1) = (dats m 0 c).arrAt 8 cfg0.N ∧
    r.2.mem ((c : Thread nD τ).loc main_v1_2) = (dats m 0 c).arrAt 9 cfg0.N :=
  (θ_run defs _ _).mono (fun _ h c => ⟨(h c).1 7, (h c).1 8, (h c).1 9⟩) (run_main m g)

end Cert.ParamsIdeal.Params

namespace Cert.Proof
open Idealize.ShloMosaic Idealize.ShloMosaic.TcCoe Idealize.SL.Sem
attribute [local instance] Cert.ParamsIdeal.Gen.facts Cert.ParamsReferenceIdeal.Gen.facts

/-- The two programs leave the same arrays. -/
theorem params : Cert.algebraic_ParamsIdeal_ParamsReferenceIdeal := fun m g m' g' _ ha => by
  refine ⟨fun c => (Cert.ParamsIdeal.Gen.dats m 0 c).arrAt 7 Cert.ParamsIdeal.cfg0.N, fun c => (Cert.ParamsIdeal.Gen.dats m 0 c).arrAt 8 Cert.ParamsIdeal.cfg0.N,
    fun c => (Cert.ParamsIdeal.Gen.dats m 0 c).arrAt 9 Cert.ParamsIdeal.cfg0.N,
    (θ_run Cert.ParamsIdeal.defs _ _).mono (fun r h c => ?_) (θ_run_and (Cert.ParamsIdeal.Params.run m g) (Cert.ParamsIdeal.Gen.unchanged (F := Ideal) m g)),
    (θ_run Cert.ParamsReferenceIdeal.defs _ _).mono (fun r h c => ?_) (Cert.ParamsReferenceIdeal.Value.run (F := Ideal) m' g')⟩
  · exact ⟨(h.1 c).1, (h.1 c).2.1, (h.1 c).2.2, h.2 c⟩
  · obtain ⟨h0, h1, h2, h⟩ := h c
    obtain ⟨a0, a1, a2, a3, a4, a5, a6⟩ := ha c
    refine ⟨h0.trans ?_, h1.trans ?_, h2.trans ?_, h⟩
    · refine (Cert.ParamsReferenceIdeal.Read.val_main_v92_eq m' c).trans (Eq.trans ?_ (Cert.ParamsIdeal.Params.arr7 m c).symm)
      rw [a0, a1, a2, a3, a4, a5, a6]
    · refine (Cert.ParamsReferenceIdeal.Read.val_main_v80_eq m' c).trans (Eq.trans ?_ (Cert.ParamsIdeal.Params.arr8 m c).symm)
      rw [a0, a1, a2, a3, a4, a5, a6]
    · refine (Cert.ParamsReferenceIdeal.Read.val_main_v93_eq m' c).trans (Eq.trans ?_ (Cert.ParamsIdeal.Params.arr9 m c).symm)
      rw [a0, a1, a2, a3, a4, a5, a6]

end Cert.Proof
-- ==== Proof.MixInRuns.lean ====
/- The body of the mixer's input-projection backward call, run at its first point, at a middle one and at the last. -/
module

public import proofs.«01_k».proof.Proof.Gen.MixInIdeal.Frame.Runs

@[expose] public section
set_option maxRecDepth 16384
noncomputable section

namespace Cert.MixInIdeal.Frame
open Cert.MixInIdeal Cert.MixInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The blocks of the five windows that the body reads, in hand. -/
def staged (c : Dev nD) (arg1 : Memref sig .tc .vmem S512x1024 .f32) (arg2 : Memref sig .tc .vmem S512x3072 .bf16) (arg3 : Memref sig .tc .vmem S512x1024 .f32)
    (arg4 : Memref sig .tc .vmem S512x1024 .bf16) (arg5 : Memref sig .tc .vmem S16x1024 .f32)
    (x0 : Vec F S512x1024 .f32) (x1 : Vec F S512x3072 .bf16) (x2 : Vec F S512x1024 .f32) (x3 : Vec F S512x1024 .bf16) (x4 : Vec F S16x1024 .f32) : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4)

/-- The counters of the weight's eight copies, at zero. -/
def cells (c : Dev nD) : sProp 𝕄 :=
  iprop(semVal ((c : Thread nD τ), SemLoc.dma 13) 0 ∗ semVal ((c : Thread nD τ), SemLoc.dma 14) 0 ∗ semVal ((c : Thread nD τ), SemLoc.dma 15) 0 ∗
    semVal ((c : Thread nD τ), SemLoc.dma 16) 0 ∗ semVal ((c : Thread nD τ), SemLoc.dma 17) 0 ∗ semVal ((c : Thread nD τ), SemLoc.dma 18) 0 ∗
    semVal ((c : Thread nD τ), SemLoc.dma 19) 0 ∗ semVal ((c : Thread nD τ), SemLoc.dma 20) 0)

variable (c : Dev nD) (i : grid0.Coords) (arg1 : Memref sig .tc .vmem S512x1024 .f32) (harg1 : arg1.IsWhole) (arg2 : Memref sig .tc .vmem S512x3072 .bf16) (harg2 : arg2.IsWhole)
  (arg3 : Memref sig .tc .vmem S512x1024 .f32) (harg3 : arg3.IsWhole) (arg4 : Memref sig .tc .vmem S512x1024 .bf16) (harg4 : arg4.IsWhole)
  (arg5 : Memref sig .tc .vmem S16x1024 .f32) (harg5 : arg5.IsWhole) (arg7 : Memref sig .tc .vmem S512x1024 .f32) (harg7 : arg7.IsWhole)
  (arg8 : Memref sig .tc .vmem S8x1024 .f32) (harg8 : arg8.IsWhole) (arg9 : Memref sig .tc .vmem S8x1024x384 .bf16) (harg9 : arg9.IsWhole)
  (arg10 : Memref sig .tc .vmem S1024x3072 .bf16) (harg10 : arg10.IsWhole) (arg11 : Memref sig .tc .vmem S1024x3072 .f32) (harg11 : arg11.IsWhole)
  (x0 : Vec F S512x1024 .f32) (x1 : Vec F S512x3072 .bf16) (x2 : Vec F S512x1024 .f32) (x3 : Vec F S512x1024 .bf16) (x4 : Vec F S16x1024 .f32)

set_option maxHeartbeats 1000000 in
set_option sl_exec.dmaWindow true in
set_option sl_exec.dmaWindowSet true in
/-- What the first point leaves: its block, the sums, the weight it copied in and the accumulator it began. -/
def runA (hc : conds0_A i) (w : HbBuf0 (F := F) c hbM0_0) :
    Σ' (L7 : List (View.Piece (Elt F) S512x1024 .f32)), Σ' (L8 : List (View.Piece (Elt F) S8x1024 .f32)), Σ' (L10 : List (View.Piece (Elt F) S1024x3072 .bf16)), { L11 : List (View.Piece (Elt F) S1024x3072 .f32) //
      ∀ (y9 : Vec F S8x1024x384 .bf16) (W : Waits sig Unit) (K : PUnit → sProp 𝕄),
        iprop(staged c arg1 arg2 arg3 arg4 arg5 x0 x1 x2 x3 x4 ∗ (∃ d, owns (c : Thread nD τ) arg7 fullShare d) ∗ (∃ d, owns (c : Thread nD τ) arg8 fullShare d) ∗ owns (c : Thread nD τ) arg9 fullShare y9 ∗
            (∃ d, owns (c : Thread nD τ) arg10 fullShare d) ∗ (∃ d, owns (c : Thread nD τ) arg11 fullShare d) ∗ cells c ∗ hbPt0 c hbM0_0 w ∗ owes (c : Thread nD τ) 0 W
            ∗ (iprop(staged c arg1 arg2 arg3 arg4 arg5 x0 x1 x2 x3 x4 ∗ (∃ f, arg7.view.loc (c : Thread nD τ) ↦[arg7.view.set]{fullShare} arg7.view.writes (Elt F) f L7) ∗
              (∃ f, arg8.view.loc (c : Thread nD τ) ↦[arg8.view.set]{fullShare} arg8.view.writes (Elt F) f L8) ∗ owns (c : Thread nD τ) arg9 fullShare y9 ∗
              (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗
              cells c ∗ hbPt0 c hbM0_0 w ∗ (∃ W', owes (c : Thread nD τ) 0 W')) -∗ K ⟨⟩))
          ⊢ wp frame (wpE (defs₀ (F := F)) Variants.none c none) Set.univ (cc0_mixer_in_backward i arg1 harg1 arg2 harg2 arg3 harg3 arg4 harg4 arg5 harg5
            (Memref.whole main_v10) (Memref.isWhole_whole _) arg7 harg7 arg8 harg8 arg9 harg9 arg10 harg10 arg11 harg11 cc0_scratch2) K } := by
  refine ⟨?_, ?_, ?_, ?_, fun y9 W K => ?run⟩
  case run =>
    obtain ⟨hc0, hc1, hc2, hc3⟩ := hc
    simp only [cc0_mixer_in_backward_eq_skeleton]; unfold cc0_mixer_in_backward_skel
    simp only [k0_part5_eq_skeleton, k0_part1_eq_skeleton, k0_part2_eq_skeleton, k0_part3_eq_skeleton, k0_part6_eq_skeleton]
    unfold staged cells owns
    iintro ⟨⟨⟨%f0, %hf0, H0⟩, ⟨%f1, %hf1, H1⟩, ⟨%f2, %hf2, H2⟩, ⟨%f3, %hf3, H3⟩, ⟨%f4, %hf4, H4⟩⟩, ⟨%d7, %f7, -, H7⟩, ⟨%d8, %f8, -, H8⟩, ⟨%f9, %hf9, H9⟩, ⟨%d10, %f10, -, H10⟩, ⟨%d11, %f11, -, H11⟩,
      ⟨Hq0, Hq1, Hq2, Hq3, Hq4, Hq5, Hq6, Hq7⟩, Hh, HW, Hk⟩
    obtain rfl := harg1.eq_unread hf0; obtain rfl := harg2.eq_unread hf1; obtain rfl := harg3.eq_unread hf2
    obtain rfl := harg4.eq_unread hf3; obtain rfl := harg5.eq_unread hf4
    obtain rfl := harg9.eq_unread hf9
    sl_exec (disch := first | sl_exact hc0 | sl_exact hc1 | sl_exact hc2 | sl_exact hc3)
    sl_step
    iapply Hk
    isplitl [H0 H1 H2 H3 H4]
    · isplitl [H0]; · iexists _; isplitr; · ipureintro; exact harg1.read_unread _
                      iexact H0
      isplitl [H1]; · iexists _; isplitr; · ipureintro; exact harg2.read_unread _
                      iexact H1
      isplitl [H2]; · iexists _; isplitr; · ipureintro; exact harg3.read_unread _
                      iexact H2
      isplitl [H3]; · iexists _; isplitr; · ipureintro; exact harg4.read_unread _
                      iexact H3
      iexists _; isplitr; · ipureintro; exact harg5.read_unread _
      iexact H4
    isplitl [H7]; · iexists _; iexact H7
    isplitl [H8]; · iexists _; iexact H8
    isplitl [H9]; · iexists _; isplitr; · ipureintro; exact harg9.read_unread _
                    iexact H9
    isplitl [H10]; · iexists _; iexact H10
    isplitl [H11]; · iexists _; iexact H11
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh]; · iexact Hh
    iexists _; iexact HW

set_option maxHeartbeats 1000000 in
/-- What a middle point leaves: its block, the sums and the accumulator; the weight stays. -/
def runB (hc : conds0_B i) (y8 : Vec F S8x1024 .f32) (y10 : Vec F S1024x3072 .bf16) (y11 : Vec F S1024x3072 .f32) (w : HbBuf0 (F := F) c hbM0_0) :
    Σ' (L7 : List (View.Piece (Elt F) S512x1024 .f32)), Σ' (L8 : List (View.Piece (Elt F) S8x1024 .f32)), { L11 : List (View.Piece (Elt F) S1024x3072 .f32) //
      ∀ (y9 : Vec F S8x1024x384 .bf16) (W : Waits sig Unit) (K : PUnit → sProp 𝕄),
        iprop(staged c arg1 arg2 arg3 arg4 arg5 x0 x1 x2 x3 x4 ∗ (∃ d, owns (c : Thread nD τ) arg7 fullShare d) ∗ owns (c : Thread nD τ) arg8 fullShare y8 ∗ owns (c : Thread nD τ) arg9 fullShare y9 ∗
            owns (c : Thread nD τ) arg10 fullShare y10 ∗ owns (c : Thread nD τ) arg11 fullShare y11 ∗ cells c ∗ hbPt0 c hbM0_0 w ∗ owes (c : Thread nD τ) 0 W
            ∗ (iprop(staged c arg1 arg2 arg3 arg4 arg5 x0 x1 x2 x3 x4 ∗ (∃ f, arg7.view.loc (c : Thread nD τ) ↦[arg7.view.set]{fullShare} arg7.view.writes (Elt F) f L7) ∗
              (∃ f, arg8.view.loc (c : Thread nD τ) ↦[arg8.view.set]{fullShare} arg8.view.writes (Elt F) f L8) ∗ owns (c : Thread nD τ) arg9 fullShare y9 ∗
              owns (c : Thread nD τ) arg10 fullShare y10 ∗ (∃ f, arg11.view.loc (c : Thread nD τ) ↦[arg11.view.set]{fullShare} arg11.view.writes (Elt F) f L11) ∗
              cells c ∗ hbPt0 c hbM0_0 w ∗ (∃ W', owes (c : Thread nD τ) 0 W')) -∗ K ⟨⟩))
          ⊢ wp frame (wpE (defs₀ (F := F)) Variants.none c none) Set.univ (cc0_mixer_in_backward i arg1 harg1 arg2 harg2 arg3 harg3 arg4 harg4 arg5 harg5
            (Memref.whole main_v10) (Memref.isWhole_whole _) arg7 harg7 arg8 harg8 arg9 harg9 arg10 harg10 arg11 harg11 cc0_scratch2) K } := by
  refine ⟨?_, ?_, ?_, fun y9 W K => ?run⟩
  case run =>
    obtain ⟨hc0, hc1, hc2, hc3⟩ := hc
    simp only [cc0_mixer_in_backward_eq_skeleton]; unfold cc0_mixer_in_backward_skel
    simp only [k0_part5_eq_skeleton, k0_part6_eq_skeleton]
    unfold staged cells owns
    iintro ⟨⟨⟨%f0, %hf0, H0⟩, ⟨%f1, %hf1, H1⟩, ⟨%f2, %hf2, H2⟩, ⟨%f3, %hf3, H3⟩, ⟨%f4, %hf4, H4⟩⟩, ⟨%d7, %f7, -, H7⟩, ⟨%f8, %hf8, H8⟩, ⟨%f9, %hf9, H9⟩, ⟨%f10, %hf10, H10⟩, ⟨%f11, %hf11, H11⟩,
      ⟨Hq0, Hq1, Hq2, Hq3, Hq4, Hq5, Hq6, Hq7⟩, Hh, HW, Hk⟩
    obtain rfl := harg1.eq_unread hf0; obtain rfl := harg2.eq_unread hf1; obtain rfl := harg3.eq_unread hf2
    obtain rfl := harg4.eq_unread hf3; obtain rfl := harg5.eq_unread hf4
    obtain rfl := harg8.eq_unread hf8
    obtain rfl := harg9.eq_unread hf9
    obtain rfl := harg10.eq_unread hf10
    obtain rfl := harg11.eq_unread hf11
    sl_exec (disch := first | sl_exact hc0 | sl_exact hc1 | sl_exact hc2 | sl_exact hc3)
    sl_step
    iapply Hk
    isplitl [H0 H1 H2 H3 H4]
    · isplitl [H0]; · iexists _; isplitr; · ipureintro; exact harg1.read_unread _
                      iexact H0
      isplitl [H1]; · iexists _; isplitr; · ipureintro; exact harg2.read_unread _
                      iexact H1
      isplitl [H2]; · iexists _; isplitr; · ipureintro; exact harg3.read_unread _
                      iexact H2
      isplitl [H3]; · iexists _; isplitr; · ipureintro; exact harg4.read_unread _
                      iexact H3
      iexists _; isplitr; · ipureintro; exact harg5.read_unread _
      iexact H4
    isplitl [H7]; · iexists _; iexact H7
    isplitl [H8]; · iexists _; iexact H8
    isplitl [H9]; · iexists _; isplitr; · ipureintro; exact harg9.read_unread _
                    iexact H9
    isplitl [H10]; · iexists _; isplitr; · ipureintro; exact harg10.read_unread _
                     iexact H10
    isplitl [H11]; · iexists _; iexact H11
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh]; · iexact Hh
    iexists _; iexact HW

set_option maxHeartbeats 1000000 in
/-- What the last point leaves: its block, the sums, the accumulator and the weight's gradient. -/
def runC (hc : conds0_C i) (y8 : Vec F S8x1024 .f32) (y10 : Vec F S1024x3072 .bf16) (y11 : Vec F S1024x3072 .f32) (w : HbBuf0 (F := F) c hbM0_0) :
    Σ' (L7 : List (View.Piece (Elt F) S512x1024 .f32)), Σ' (L8 : List (View.Piece (Elt F) S8x1024 .f32)), Σ' (L9 : List (View.Piece (Elt F) S8x1024x384 .bf16)), { L11 : List (View.Piece (Elt F) S1024x3072 .f32) //
      ∀ (W : Waits sig Unit) (K : PUnit → sProp 𝕄),
        iprop(staged c arg1 arg2 arg3 arg4 arg5 x0 x1 x2 x3 x4 ∗ (∃ d, owns (c : Thread nD τ) arg7 fullShare d) ∗ owns (c : Thread nD τ) arg8 fullShare y8 ∗ (∃ d, owns (c : Thread nD τ) arg9 fullShare d) ∗
            owns (c : Thread nD τ) arg10 fullShare y10 ∗ owns (c : Thread nD τ) arg11 fullShare y11 ∗ cells c ∗ hbPt0 c hbM0_0 w ∗ owes (c : Thread nD τ) 0 W
            ∗ (iprop(staged c arg1 arg2 arg3 arg4 arg5 x0 x1 x2 x3 x4 ∗ (∃ f, arg7.view.loc (c : Thread nD τ) ↦[arg7.view.set]{fullShare} arg7.view.writes (Elt F) f L7) ∗
              (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗
              owns (c : Thread nD τ) arg10 fullShare y10 ∗ (∃ f, arg11.view.loc (c : Thread nD τ) ↦[arg11.view.set]{fullShare} arg11.view.writes (Elt F) f L11) ∗
              cells c ∗ hbPt0 c hbM0_0 w ∗ (∃ W', owes (c : Thread nD τ) 0 W')) -∗ K ⟨⟩))
          ⊢ wp frame (wpE (defs₀ (F := F)) Variants.none c none) Set.univ (cc0_mixer_in_backward i arg1 harg1 arg2 harg2 arg3 harg3 arg4 harg4 arg5 harg5
            (Memref.whole main_v10) (Memref.isWhole_whole _) arg7 harg7 arg8 harg8 arg9 harg9 arg10 harg10 arg11 harg11 cc0_scratch2) K } := by
  refine ⟨?_, ?_, ?_, ?_, fun W K => ?run⟩
  case run =>
    obtain ⟨hc0, hc1, hc2, hc3⟩ := hc
    simp only [cc0_mixer_in_backward_eq_skeleton]; unfold cc0_mixer_in_backward_skel
    simp only [k0_part5_eq_skeleton, k0_part6_eq_skeleton, k0_part4_eq_skeleton]
    unfold staged cells owns
    iintro ⟨⟨⟨%f0, %hf0, H0⟩, ⟨%f1, %hf1, H1⟩, ⟨%f2, %hf2, H2⟩, ⟨%f3, %hf3, H3⟩, ⟨%f4, %hf4, H4⟩⟩, ⟨%d7, %f7, -, H7⟩, ⟨%f8, %hf8, H8⟩, ⟨%d9, %f9, -, H9⟩, ⟨%f10, %hf10, H10⟩, ⟨%f11, %hf11, H11⟩,
      ⟨Hq0, Hq1, Hq2, Hq3, Hq4, Hq5, Hq6, Hq7⟩, Hh, HW, Hk⟩
    obtain rfl := harg1.eq_unread hf0; obtain rfl := harg2.eq_unread hf1; obtain rfl := harg3.eq_unread hf2
    obtain rfl := harg4.eq_unread hf3; obtain rfl := harg5.eq_unread hf4
    obtain rfl := harg8.eq_unread hf8
    obtain rfl := harg10.eq_unread hf10
    obtain rfl := harg11.eq_unread hf11
    sl_exec (disch := first | sl_exact hc0 | sl_exact hc1 | sl_exact hc2 | sl_exact hc3)
    sl_step
    iapply Hk
    isplitl [H0 H1 H2 H3 H4]
    · isplitl [H0]; · iexists _; isplitr; · ipureintro; exact harg1.read_unread _
                      iexact H0
      isplitl [H1]; · iexists _; isplitr; · ipureintro; exact harg2.read_unread _
                      iexact H1
      isplitl [H2]; · iexists _; isplitr; · ipureintro; exact harg3.read_unread _
                      iexact H2
      isplitl [H3]; · iexists _; isplitr; · ipureintro; exact harg4.read_unread _
                      iexact H3
      iexists _; isplitr; · ipureintro; exact harg5.read_unread _
      iexact H4
    isplitl [H7]; · iexists _; iexact H7
    isplitl [H8]; · iexists _; iexact H8
    isplitl [H9]; · iexists _; iexact H9
    isplitl [H10]; · iexists _; isplitr; · ipureintro; exact harg10.read_unread _
                     iexact H10
    isplitl [H11]; · iexists _; iexact H11
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh]; · iexact Hh
    iexists _; iexact HW

end Cert.MixInIdeal.Frame
-- ==== Proof.MixInFrame.lean ====
/- The mixer's input-projection backward call: what each point leaves, and the whole run. -/
module

public import proofs.«01_k».proof.Proof.Gen.MixInIdeal.Frame.Runs
public import proofs.«01_k».proof.Proof.MixInRuns
public import Idealize.ShloMosaic.Lib.Claim
@[expose] public section
set_option maxRecDepth 16384
noncomputable section

namespace Cert.MixInIdeal.Frame
open Cert.MixInIdeal Cert.MixInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (l : Loc nD τ sig) → Buf (Elt F) l) (ρ : Dev nD → PrngReg)

/-- What a point leaves: its block of the input's gradient, the sums so far, the weight's gradient, the weight and the accumulator. -/
abbrev Left (F : FTy → Type) [FloatOps F] : Type := Vec F S512x1024 .f32 × Vec F S8x1024 .f32 × Vec F S8x1024x384 .bf16 × Vec F S1024x3072 .bf16 × Vec F S1024x3072 .f32

theorem at_first (t : Fin cfg0.N) (h : t.val = 0) : conds0_A (grid0.coords t) := by
  have e := hcond0_3 t
  have e2 := hcond0_2 t
  refine ⟨(hcond0_0 t).mpr (by omega), (hcond0_1 t).mpr (by omega), fun q => ?_, fun q => ?_⟩
  · have := e2.mp q; omega
  · have := e.mp q; omega

theorem at_middle (t : Fin cfg0.N) (h : t.val ≠ 0) (h' : t.val ≠ 7) : conds0_B (grid0.coords t) := by
  have hN : t.val < 8 := lt_of_lt_of_eq t.isLt N_0
  refine ⟨fun q => ?_, fun q => ?_, (hcond0_2 t).mpr (by omega), fun q => ?_⟩
  · have := (hcond0_0 t).mp q; omega
  · have := (hcond0_1 t).mp q; omega
  · have := (hcond0_3 t).mp q; omega

theorem at_last (t : Fin cfg0.N) (h : t.val = 7) : conds0_C (grid0.coords t) := by
  refine ⟨fun q => ?_, fun q => ?_, (hcond0_2 t).mpr (by omega), (hcond0_3 t).mpr (by omega)⟩
  · have := (hcond0_0 t).mp q; omega
  · have := (hcond0_1 t).mp q; omega

section
variable (c : Dev nD) (t : Fin cfg0.N) (hc : conds0_A (grid0.coords t))

/-- The first point's run at its own buffers and blocks. -/
abbrev atA :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (iblk m c 0 t) (iblk m c 1 t) (iblk m c 2 t) (iblk m c 3 t) (iblk m c 4 t) hc (V m c main_v10)

def dxA : Vec F S512x1024 .f32 := VO0_5.read (Elt F) (VO0_5.writes (Elt F) VO0_5.junk (atA m c t hc).1)

theorem dxA_read (M : Memref sig .tc .vmem S512x1024 .f32) (f) : M.view.read (Elt F) (M.view.writes (Elt F) f (atA m c t hc).1) = dxA m c t hc :=
  View.read_writes_of_cover _ _ _ _ _ fun y => View.cover_of_tiledL (atA m c t hc).1 S512x1024.size (by sl_kernel_rfl) y

def sumsA : Vec F S8x1024 .f32 := VO0_6.read (Elt F) (VO0_6.writes (Elt F) VO0_6.junk (atA m c t hc).2.1)

theorem sumsA_read (M : Memref sig .tc .vmem S8x1024 .f32) (f) : M.view.read (Elt F) (M.view.writes (Elt F) f (atA m c t hc).2.1) = sumsA m c t hc :=
  View.read_writes_of_cover _ _ _ _ _ fun y => View.cover_of_tiledL (atA m c t hc).2.1 S8x1024.size (by sl_kernel_rfl) y

def wtA : Vec F S1024x3072 .bf16 := VS0_0.read (Elt F) (VS0_0.writes (Elt F) VS0_0.junk (atA m c t hc).2.2.1)

theorem wtA_read (M : Memref sig .tc .vmem S1024x3072 .bf16) (f) : M.view.read (Elt F) (M.view.writes (Elt F) f (atA m c t hc).2.2.1) = wtA m c t hc :=
  View.read_writes_of_cover _ _ _ _ _ fun y => View.cover_of_tiledL (atA m c t hc).2.2.1 S1024x384.size (by sl_kernel_rfl) y

def accA : Vec F S1024x3072 .f32 := VS0_1.read (Elt F) (VS0_1.writes (Elt F) VS0_1.junk (atA m c t hc).2.2.2.1)

theorem accA_read (M : Memref sig .tc .vmem S1024x3072 .f32) (f) : M.view.read (Elt F) (M.view.writes (Elt F) f (atA m c t hc).2.2.2.1) = accA m c t hc :=
  View.read_writes_of_cover _ _ _ _ _ fun y => View.cover_of_tiledL (atA m c t hc).2.2.2.1 S1024x3072.size (by sl_kernel_rfl) y

/-- The first point's body, from what it finds to what it leaves. -/
theorem stepA (d5 d6 d7 d8 d9) (W : Waits sig Unit) (K : PUnit → sProp 𝕄) :
    iprop(staged c (ms0_0 t) (ms0_1 t) (ms0_2 t) (ms0_3 t) (ms0_4 t) (iblk m c 0 t) (iblk m c 1 t) (iblk m c 2 t) (iblk m c 3 t) (iblk m c 4 t) ∗
        owns (c : Thread nD τ) (ms0_5 t) fullShare d5 ∗ owns (c : Thread nD τ) (ms0_6 t) fullShare d6 ∗ owns (c : Thread nD τ) (ms0_7 t) fullShare d7 ∗ owns (c : Thread nD τ) scM0_0 fullShare d8 ∗ owns (c : Thread nD τ) scM0_1 fullShare d9 ∗ cells c ∗ hbPt0 c hbM0_0 (V m c main_v10) ∗ owes (c : Thread nD τ) 0 W ∗
        (iprop(staged c (ms0_0 t) (ms0_1 t) (ms0_2 t) (ms0_3 t) (ms0_4 t) (iblk m c 0 t) (iblk m c 1 t) (iblk m c 2 t) (iblk m c 3 t) (iblk m c 4 t) ∗
          owns (c : Thread nD τ) (ms0_5 t) fullShare (dxA m c t hc) ∗ owns (c : Thread nD τ) (ms0_6 t) fullShare (sumsA m c t hc) ∗ owns (c : Thread nD τ) (ms0_7 t) fullShare (d7) ∗ owns (c : Thread nD τ) scM0_0 fullShare (wtA m c t hc) ∗ owns (c : Thread nD τ) scM0_1 fullShare (accA m c t hc) ∗
          cells c ∗ hbPt0 c hbM0_0 (V m c main_v10) ∗ (∃ W', owes (c : Thread nD τ) 0 W')) -∗ K ⟨⟩))
      ⊢ wp frame (wpE (defs₀ (F := F)) Variants.none c none) Set.univ (bodyAt0 t) K := by
  unfold bodyAt0
  iintro ⟨HA, H5, H6, H7, HS0, HS1, Hq, Hh, HW, Hk⟩
  iapply ((atA m c t hc).2.2.2.2 _ W _)
  isplitl [HA]; · iexact HA
  isplitl [H5]; · iexists _; iexact H5
  isplitl [H6]; · iexists _; iexact H6
  isplitl [H7]; · iexact H7
  isplitl [HS0]; · iexists _; iexact HS0
  isplitl [HS1]; · iexists _; iexact HS1
  isplitl [Hq]; · iexact Hq
  isplitl [Hh]; · iexact Hh
  isplitl [HW]; · iexact HW
  iintro ⟨HA, ⟨%e7, H5⟩, ⟨%e8, H6⟩, H7, ⟨%e10, HS0⟩, ⟨%e11, HS1⟩, Hq, Hh, HW⟩
  iapply Hk
  isplitl [HA]; · iexact HA
  isplitl [H5]
  · unfold owns; iexists _; isplitr; swap; · iexact H5
    ipureintro; exact dxA_read m c t hc _ _
  isplitl [H6]
  · unfold owns; iexists _; isplitr; swap; · iexact H6
    ipureintro; exact sumsA_read m c t hc _ _
  isplitl [H7]; · iexact H7
  isplitl [HS0]
  · unfold owns; iexists _; isplitr; swap; · iexact HS0
    ipureintro; exact wtA_read m c t hc _ _
  isplitl [HS1]
  · unfold owns; iexists _; isplitr; swap; · iexact HS1
    ipureintro; exact accA_read m c t hc _ _
  isplitl [Hq]; · iexact Hq
  isplitl [Hh]; · iexact Hh
  iexact HW
end

section
variable (c : Dev nD) (t : Fin cfg0.N) (hc : conds0_B (grid0.coords t)) (p : Left F)

/-- The middle point's run at its own buffers and blocks. -/
abbrev atB :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (iblk m c 0 t) (iblk m c 1 t) (iblk m c 2 t) (iblk m c 3 t) (iblk m c 4 t) hc p.2.1 p.2.2.2.1 p.2.2.2.2 (V m c main_v10)

def dxB : Vec F S512x1024 .f32 := VO0_5.read (Elt F) (VO0_5.writes (Elt F) VO0_5.junk (atB m c t hc p).1)

theorem dxB_read (M : Memref sig .tc .vmem S512x1024 .f32) (f) : M.view.read (Elt F) (M.view.writes (Elt F) f (atB m c t hc p).1) = dxB m c t hc p :=
  View.read_writes_of_cover _ _ _ _ _ fun y => View.cover_of_tiledL (atB m c t hc p).1 S512x1024.size (by sl_kernel_rfl) y

def sumsB : Vec F S8x1024 .f32 := VO0_6.read (Elt F) (VO0_6.writes (Elt F) VO0_6.junk (atB m c t hc p).2.1)

theorem sumsB_read (M : Memref sig .tc .vmem S8x1024 .f32) (f) : M.view.read (Elt F) (M.view.writes (Elt F) f (atB m c t hc p).2.1) = sumsB m c t hc p :=
  View.read_writes_of_cover _ _ _ _ _ fun y => View.cover_of_tiledL (atB m c t hc p).2.1 S8x1024.size (by sl_kernel_rfl) y

def accB : Vec F S1024x3072 .f32 := VS0_1.read (Elt F) (VS0_1.writes (Elt F) VS0_1.junk (atB m c t hc p).2.2.1)

theorem accB_read (M : Memref sig .tc .vmem S1024x3072 .f32) (f) : M.view.read (Elt F) (M.view.writes (Elt F) f (atB m c t hc p).2.2.1) = accB m c t hc p :=
  View.read_writes_of_cover _ _ _ _ _ fun y => View.cover_of_tiledL (atB m c t hc p).2.2.1 S1024x3072.size (by sl_kernel_rfl) y

/-- The middle point's body, from what it finds to what it leaves. -/
theorem stepB (d5 d7) (W : Waits sig Unit) (K : PUnit → sProp 𝕄) :
    iprop(staged c (ms0_0 t) (ms0_1 t) (ms0_2 t) (ms0_3 t) (ms0_4 t) (iblk m c 0 t) (iblk m c 1 t) (iblk m c 2 t) (iblk m c 3 t) (iblk m c 4 t) ∗
        owns (c : Thread nD τ) (ms0_5 t) fullShare d5 ∗ owns (c : Thread nD τ) (ms0_6 t) fullShare p.2.1 ∗ owns (c : Thread nD τ) (ms0_7 t) fullShare d7 ∗ owns (c : Thread nD τ) scM0_0 fullShare p.2.2.2.1 ∗ owns (c : Thread nD τ) scM0_1 fullShare p.2.2.2.2 ∗ cells c ∗ hbPt0 c hbM0_0 (V m c main_v10) ∗ owes (c : Thread nD τ) 0 W ∗
        (iprop(staged c (ms0_0 t) (ms0_1 t) (ms0_2 t) (ms0_3 t) (ms0_4 t) (iblk m c 0 t) (iblk m c 1 t) (iblk m c 2 t) (iblk m c 3 t) (iblk m c 4 t) ∗
          owns (c : Thread nD τ) (ms0_5 t) fullShare (dxB m c t hc p) ∗ owns (c : Thread nD τ) (ms0_6 t) fullShare (sumsB m c t hc p) ∗ owns (c : Thread nD τ) (ms0_7 t) fullShare (d7) ∗ owns (c : Thread nD τ) scM0_0 fullShare (p.2.2.2.1) ∗ owns (c : Thread nD τ) scM0_1 fullShare (accB m c t hc p) ∗
          cells c ∗ hbPt0 c hbM0_0 (V m c main_v10) ∗ (∃ W', owes (c : Thread nD τ) 0 W')) -∗ K ⟨⟩))
      ⊢ wp frame (wpE (defs₀ (F := F)) Variants.none c none) Set.univ (bodyAt0 t) K := by
  unfold bodyAt0
  iintro ⟨HA, H5, H6, H7, HS0, HS1, Hq, Hh, HW, Hk⟩
  iapply ((atB m c t hc p).2.2.2 _ W _)
  isplitl [HA]; · iexact HA
  isplitl [H5]; · iexists _; iexact H5
  isplitl [H6]; · iexact H6
  isplitl [H7]; · iexact H7
  isplitl [HS0]; · iexact HS0
  isplitl [HS1]; · iexact HS1
  isplitl [Hq]; · iexact Hq
  isplitl [Hh]; · iexact Hh
  isplitl [HW]; · iexact HW
  iintro ⟨HA, ⟨%e7, H5⟩, ⟨%e8, H6⟩, H7, HS0, ⟨%e11, HS1⟩, Hq, Hh, HW⟩
  iapply Hk
  isplitl [HA]; · iexact HA
  isplitl [H5]
  · unfold owns; iexists _; isplitr; swap; · iexact H5
    ipureintro; exact dxB_read m c t hc p _ _
  isplitl [H6]
  · unfold owns; iexists _; isplitr; swap; · iexact H6
    ipureintro; exact sumsB_read m c t hc p _ _
  isplitl [H7]; · iexact H7
  isplitl [HS0]; · iexact HS0
  isplitl [HS1]
  · unfold owns; iexists _; isplitr; swap; · iexact HS1
    ipureintro; exact accB_read m c t hc p _ _
  isplitl [Hq]; · iexact Hq
  isplitl [Hh]; · iexact Hh
  iexact HW
end

section
variable (c : Dev nD) (t : Fin cfg0.N) (hc : conds0_C (grid0.coords t)) (p : Left F)

/-- The last point's run at its own buffers and blocks. -/
abbrev atC :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (iblk m c 0 t) (iblk m c 1 t) (iblk m c 2 t) (iblk m c 3 t) (iblk m c 4 t) hc p.2.1 p.2.2.2.1 p.2.2.2.2 (V m c main_v10)

def dxC : Vec F S512x1024 .f32 := VO0_5.read (Elt F) (VO0_5.writes (Elt F) VO0_5.junk (atC m c t hc p).1)

theorem dxC_read (M : Memref sig .tc .vmem S512x1024 .f32) (f) : M.view.read (Elt F) (M.view.writes (Elt F) f (atC m c t hc p).1) = dxC m c t hc p :=
  View.read_writes_of_cover _ _ _ _ _ fun y => View.cover_of_tiledL (atC m c t hc p).1 S512x1024.size (by sl_kernel_rfl) y

def sumsC : Vec F S8x1024 .f32 := VO0_6.read (Elt F) (VO0_6.writes (Elt F) VO0_6.junk (atC m c t hc p).2.1)

theorem sumsC_read (M : Memref sig .tc .vmem S8x1024 .f32) (f) : M.view.read (Elt F) (M.view.writes (Elt F) f (atC m c t hc p).2.1) = sumsC m c t hc p :=
  View.read_writes_of_cover _ _ _ _ _ fun y => View.cover_of_tiledL (atC m c t hc p).2.1 S8x1024.size (by sl_kernel_rfl) y

def dwC : Vec F S8x1024x384 .bf16 := VO0_7.read (Elt F) (VO0_7.writes (Elt F) VO0_7.junk (atC m c t hc p).2.2.1)

theorem dwC_read (M : Memref sig .tc .vmem S8x1024x384 .bf16) (f) : M.view.read (Elt F) (M.view.writes (Elt F) f (atC m c t hc p).2.2.1) = dwC m c t hc p :=
  View.read_writes_of_cover _ _ _ _ _ fun y => View.cover_of_tiledL (atC m c t hc p).2.2.1 S1x1024x384.size (by sl_kernel_rfl) y

def accC : Vec F S1024x3072 .f32 := VS0_1.read (Elt F) (VS0_1.writes (Elt F) VS0_1.junk (atC m c t hc p).2.2.2.1)

theorem accC_read (M : Memref sig .tc .vmem S1024x3072 .f32) (f) : M.view.read (Elt F) (M.view.writes (Elt F) f (atC m c t hc p).2.2.2.1) = accC m c t hc p :=
  View.read_writes_of_cover _ _ _ _ _ fun y => View.cover_of_tiledL (atC m c t hc p).2.2.2.1 S1024x3072.size (by sl_kernel_rfl) y

/-- The last point's body, from what it finds to what it leaves. -/
theorem stepC (d5 d7) (W : Waits sig Unit) (K : PUnit → sProp 𝕄) :
    iprop(staged c (ms0_0 t) (ms0_1 t) (ms0_2 t) (ms0_3 t) (ms0_4 t) (iblk m c 0 t) (iblk m c 1 t) (iblk m c 2 t) (iblk m c 3 t) (iblk m c 4 t) ∗
        owns (c : Thread nD τ) (ms0_5 t) fullShare d5 ∗ owns (c : Thread nD τ) (ms0_6 t) fullShare p.2.1 ∗ owns (c : Thread nD τ) (ms0_7 t) fullShare d7 ∗ owns (c : Thread nD τ) scM0_0 fullShare p.2.2.2.1 ∗ owns (c : Thread nD τ) scM0_1 fullShare p.2.2.2.2 ∗ cells c ∗ hbPt0 c hbM0_0 (V m c main_v10) ∗ owes (c : Thread nD τ) 0 W ∗
        (iprop(staged c (ms0_0 t) (ms0_1 t) (ms0_2 t) (ms0_3 t) (ms0_4 t) (iblk m c 0 t) (iblk m c 1 t) (iblk m c 2 t) (iblk m c 3 t) (iblk m c 4 t) ∗
          owns (c : Thread nD τ) (ms0_5 t) fullShare (dxC m c t hc p) ∗ owns (c : Thread nD τ) (ms0_6 t) fullShare (sumsC m c t hc p) ∗ owns (c : Thread nD τ) (ms0_7 t) fullShare (dwC m c t hc p) ∗ owns (c : Thread nD τ) scM0_0 fullShare (p.2.2.2.1) ∗ owns (c : Thread nD τ) scM0_1 fullShare (accC m c t hc p) ∗
          cells c ∗ hbPt0 c hbM0_0 (V m c main_v10) ∗ (∃ W', owes (c : Thread nD τ) 0 W')) -∗ K ⟨⟩))
      ⊢ wp frame (wpE (defs₀ (F := F)) Variants.none c none) Set.univ (bodyAt0 t) K := by
  unfold bodyAt0
  iintro ⟨HA, H5, H6, H7, HS0, HS1, Hq, Hh, HW, Hk⟩
  iapply ((atC m c t hc p).2.2.2.2 W _)
  isplitl [HA]; · iexact HA
  isplitl [H5]; · iexists _; iexact H5
  isplitl [H6]; · iexact H6
  isplitl [H7]; · iexists _; iexact H7
  isplitl [HS0]; · iexact HS0
  isplitl [HS1]; · iexact HS1
  isplitl [Hq]; · iexact Hq
  isplitl [Hh]; · iexact Hh
  isplitl [HW]; · iexact HW
  iintro ⟨HA, ⟨%e7, H5⟩, ⟨%e8, H6⟩, ⟨%e9, H7⟩, HS0, ⟨%e11, HS1⟩, Hq, Hh, HW⟩
  iapply Hk
  isplitl [HA]; · iexact HA
  isplitl [H5]
  · unfold owns; iexists _; isplitr; swap; · iexact H5
    ipureintro; exact dxC_read m c t hc p _ _
  isplitl [H6]
  · unfold owns; iexists _; isplitr; swap; · iexact H6
    ipureintro; exact sumsC_read m c t hc p _ _
  isplitl [H7]
  · unfold owns; iexists _; isplitr; swap; · iexact H7
    ipureintro; exact dwC_read m c t hc p _ _
  isplitl [HS0]; · iexact HS0
  isplitl [HS1]
  · unfold owns; iexists _; isplitr; swap; · iexact HS1
    ipureintro; exact accC_read m c t hc p _ _
  isplitl [Hq]; · iexact Hq
  isplitl [Hh]; · iexact Hh
  iexact HW
end

/-- What point `n` leaves, by recursion on the point before. -/
def outsAt (c : Dev nD) : (n : ℕ) → n < cfg0.N → Left F
  | 0, h => (dxA m c ⟨0, h⟩ (at_first _ rfl), sumsA m c ⟨0, h⟩ (at_first _ rfl), VO0_7.read (Elt F) VO0_7.junk, wtA m c ⟨0, h⟩ (at_first _ rfl), accA m c ⟨0, h⟩ (at_first _ rfl))
  | n + 1, h =>
    let p := outsAt c n (Nat.lt_of_succ_lt h)
    if e : n + 1 = 7 then
      (dxC m c ⟨n + 1, h⟩ (at_last _ e) p, sumsC m c ⟨n + 1, h⟩ (at_last _ e) p, dwC m c ⟨n + 1, h⟩ (at_last _ e) p, p.2.2.2.1, accC m c ⟨n + 1, h⟩ (at_last _ e) p)
    else
      (dxB m c ⟨n + 1, h⟩ (at_middle _ (Nat.succ_ne_zero n) e) p, sumsB m c ⟨n + 1, h⟩ (at_middle _ (Nat.succ_ne_zero n) e) p, p.2.2.1, p.2.2.2.1, accB m c ⟨n + 1, h⟩ (at_middle _ (Nat.succ_ne_zero n) e) p)

/-- What the point before `t` left. -/
abbrev prev (c : Dev nD) (t : Fin cfg0.N) : Left F := outsAt m c (t.val - 1) (Nat.lt_of_le_of_lt (Nat.sub_le _ _) t.isLt)

theorem outsAt_A (c : Dev nD) (t : Fin cfg0.N) (h : t.val = 0) : outsAt m c t.val t.isLt
    = (dxA m c t (at_first t h), sumsA m c t (at_first t h), VO0_7.read (Elt F) VO0_7.junk, wtA m c t (at_first t h), accA m c t (at_first t h)) := by
  obtain ⟨n, hn⟩ := t
  cases n with
  | zero => rfl
  | succ n => exact absurd h (Nat.succ_ne_zero n)

theorem outsAt_B (c : Dev nD) (t : Fin cfg0.N) (h : t.val ≠ 0) (h' : t.val ≠ 7) : outsAt m c t.val t.isLt
    = (dxB m c t (at_middle t h h') (prev m c t), sumsB m c t (at_middle t h h') (prev m c t), (prev m c t).2.2.1, (prev m c t).2.2.2.1, accB m c t (at_middle t h h') (prev m c t)) := by
  obtain ⟨n, hn⟩ := t
  cases n with
  | zero => exact absurd rfl h
  | succ n => exact dif_neg h'

theorem outsAt_C (c : Dev nD) (t : Fin cfg0.N) (h : t.val = 7) : outsAt m c t.val t.isLt
    = (dxC m c t (at_last t h) (prev m c t), sumsC m c t (at_last t h) (prev m c t), dwC m c t (at_last t h) (prev m c t), (prev m c t).2.2.2.1, accC m c t (at_last t h) (prev m c t)) := by
  obtain ⟨n, hn⟩ := t
  cases n with
  | zero => exact absurd (show (0 : ℕ) = 7 from h) (by decide)
  | succ n => exact dif_pos h

/-- What is in hand before point `n`: at first the launch's, then the weight and the accumulator as the point before left them. -/
def Held (c : Dev nD) : (n : ℕ) → n ≤ cfg0.N → sProp 𝕄
  | 0, _ => Pipeline.ΦD osem0 spec0 H0 (V m) c
  | n + 1, hn => iprop((owns (c : Thread nD τ) scM0_0 fullShare ((outsAt m c n hn).2.2.2.1) ∗ owns (c : Thread nD τ) scM0_1 fullShare ((outsAt m c n hn).2.2.2.2)) ∗
      (∃ r, prngReg c r) ∗ cells c ∗ hbPt0 c hbM0_0 (V m c main_v10))

theorem Held_succ (c : Dev nD) (n : ℕ) (hn : n < cfg0.N) :
    Held m c (n + 1) hn = iprop((owns (c : Thread nD τ) scM0_0 fullShare ((outsAt m c n hn).2.2.2.1) ∗ owns (c : Thread nD τ) scM0_1 fullShare ((outsAt m c n hn).2.2.2.2)) ∗
      (∃ r, prngReg c r) ∗ cells c ∗ hbPt0 c hbM0_0 (V m c main_v10)) := rfl

theorem Held_pos (c : Dev nD) (n : ℕ) (h : n ≤ cfg0.N) (hz : n ≠ 0) :
    Held m c n h = iprop((owns (c : Thread nD τ) scM0_0 fullShare ((outsAt m c (n - 1) (by omega)).2.2.2.1) ∗ owns (c : Thread nD τ) scM0_1 fullShare ((outsAt m c (n - 1) (by omega)).2.2.2.2)) ∗
      (∃ r, prngReg c r) ∗ cells c ∗ hbPt0 c hbM0_0 (V m c main_v10)) := by
  cases n with
  | zero => exact absurd rfl hz
  | succ n => rfl

theorem Held_zero (c : Dev nD) (n : ℕ) (h : n ≤ cfg0.N) (hz : n = 0) :
    Held m c n h = iprop(((∃ d, owns (c : Thread nD τ) scM0_0 fullShare d) ∗ (∃ d, owns (c : Thread nD τ) scM0_1 fullShare d)) ∗
      (∃ r, prngReg c r) ∗ cells c ∗ hbPt0 c hbM0_0 (V m c main_v10)) := by
  subst hz; exact PhiD0_eq m c

/-- The region's data: its arrays as it finds them, its blocks, and what each point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
  Φ t := Held m c t.val (Nat.le_of_lt_succ t.isLt)
  q _ := fullShare
  owed _ := 0

theorem A_eq (c : Dev nD) (w : Fin cfg0.W) : (dats m 0 c).A w = V m c (Pipeline.arrRef spec0 w) := by dsimp only [dats]
theorem held_at (c : Dev nD) (t : Fin cfg0.N) : (dats m 0 c).Φ t.castSucc = Held m c t.val (Nat.le_of_lt t.isLt) := by
  dsimp only [dats]; exact Pipeline.Dat.Φ_castSucc (Held m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]
theorem after0_6 (c : Dev nD) (t : Fin cfg0.N) : (dats m 0 c).after 6 t = (outsAt m c t.val t.isLt).2.1 := by dsimp only [dats]
theorem after0_7 (c : Dev nD) (t : Fin cfg0.N) : (dats m 0 c).after 7 t = (outsAt m c t.val t.isLt).2.2.1 := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- The sums' window is stored at every point. -/
theorem busy6 (t : Fin cfg0.N) : cfg0.idle 6 (grid0.coords t) = false := (by decide +kernel : ∀ t : Fin cfg0.N, cfg0.idle 6 (grid0.coords t) = false) t

/-- After the first point the sums' buffer holds what the point before left. -/
theorem before0_6 (c : Dev nD) (t : Fin cfg0.N) (h : t.val ≠ 0) (d) : (dats m 0 c).before 6 t d = (prev m c t).2.1 := by
  have fresh : cfg0.fresh 6 t.val = false := by
    rcases eq_or_ne t.val 7 with e | e
    · obtain ⟨h0, h1, h2, h3⟩ := at_last t e; exact notFresh0_6_C t h0 h1 h2 h3
    · obtain ⟨h0, h1, h2, h3⟩ := at_middle t h e; exact notFresh0_6_B t h0 h1 h2 h3
  rw [Dat.before_out_traj _ 6 rfl (fun _ _ => rfl) (fun t _ q _ => absurd ((busy6 t).symm.trans q) Bool.false_ne_true) t.val t rfl d,
    if_neg (by rw [fresh]; exact Bool.false_ne_true)]
  dsimp only [dats]

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
theorem leaves5 (c : Dev nD) (t : Fin cfg0.N) : (dats m 0 c).leavesExact 5 t = owns (c : Thread nD τ) (ms0_5 t) fullShare (outsAt m c t.val t.isLt).1 := by
  unfold Dat.leavesExact; rw [liveAt0_5 t, after0_5]
theorem leaves6 (c : Dev nD) (t : Fin cfg0.N) : (dats m 0 c).leavesExact 6 t = owns (c : Thread nD τ) (ms0_6 t) fullShare (outsAt m c t.val t.isLt).2.1 := by
  unfold Dat.leavesExact; rw [busy6 t, after0_6]
theorem leaves7_last (c : Dev nD) (t : Fin cfg0.N) (h : t.val = 7) : (dats m 0 c).leavesExact 7 t = owns (c : Thread nD τ) (ms0_7 t) fullShare (outsAt m c t.val t.isLt).2.2.1 := by
  obtain ⟨h0, h1, h2, h3⟩ := at_last t h
  unfold Dat.leavesExact; rw [liveAt0_7_C t h0 h1 h2 h3, after0_7]
theorem leaves7 (c : Dev nD) (t : Fin cfg0.N) (h : t.val ≠ 7) : (dats m 0 c).leavesExact 7 t = iprop(∃ d, owns (c : Thread nD τ) (ms0_7 t) fullShare ((dats m 0 c).before 7 t d)) := by
  rcases eq_or_ne t.val 0 with e | e
  · obtain ⟨h0, h1, h2, h3⟩ := at_first t e
    rw [Dat.leavesExact_idle (dats m 0 c) 7 t (idleAt0_7_A t h0 h1 h2 h3) (noFlush0_7_A t h0 h1 h2 h3)]
  · obtain ⟨h0, h1, h2, h3⟩ := at_middle t e h
    rw [Dat.leavesExact_idle (dats m 0 c) 7 t (idleAt0_7_B t h0 h1 h2 h3) (noFlush0_7_B t h0 h1 h2 h3)]

/-- What the body finds at point `t`. -/
def found (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body leaves at point `t`. -/
def left (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t ∗ (dats m 0 c).leavesExact 7 t)

set_option maxHeartbeats 1000000 in
/-- The body at any point. -/
theorem body_at (c : Dev nD) (t : Fin cfg0.N) :
    found m c t ⊢ wp frame (wpE (defs₀ (F := F)) Variants.none c none) Set.univ (bodyAt0 t) (fun _ => left m c t) := by
  unfold found left
  simp only [before0_0, before0_1, before0_2, before0_3, before0_4, leaves0, leaves1, leaves2, leaves3, leaves4, leaves5, leaves6]
  rw [show (dats m 0 c).Φ t.succ = Held m c (t.val + 1) t.isLt from rfl, Held_succ, held_at]
  unfold Dat.owesAt Pipeline.owesWithin
  rw [show (dats m 0 c).owed t.castSucc = 0 from rfl, show (dats m 0 c).owed t.succ = 0 from rfl]
  rcases eq_or_ne t.val 0 with e | e
  · rw [Held_zero m c _ _ e, leaves7 m c t (by omega), outsAt_A m c t e]
    dsimp only
    iintro ⟨⟨⟨⟨%d8, HS0⟩, ⟨%d9, HS1⟩⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stepA m c t (at_first t e) _ _ _ _ _ W _)
    unfold staged
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    isplitl [HS0]; · iexact HS0
    isplitl [HS1]; · iexact HS1
    isplitl [Hq]; · iexact Hq
    isplitl [Hh]; · iexact Hh
    isplitl [HW]; · iexact HW
    iintro ⟨⟨H0, H1, H2, H3, H4⟩, H5, H6, H7, HS0, HS1, Hq, Hh, ⟨%W', HW'⟩⟩
    isplitl [HS0 HS1 Hg Hq Hh]
    · isplitl [HS0 HS1]
      · isplitl [HS0]; · iexact HS0
        iexact HS1
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [Held_pos m c _ _ e]
    simp only [before0_6 m c t e]
    rcases eq_or_ne t.val 7 with e7 | e7
    · rw [leaves7_last m c t e7, outsAt_C m c t e7]
      dsimp only
      iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (stepC m c t (at_last t e7) (prev m c t) _ _ W _)
      unfold staged
      isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexact H6
      isplitl [H7]; · iexact H7
      isplitl [HS0]; · iexact HS0
      isplitl [HS1]; · iexact HS1
      isplitl [Hq]; · iexact Hq
      isplitl [Hh]; · iexact Hh
      isplitl [HW]; · iexact HW
      iintro ⟨⟨H0, H1, H2, H3, H4⟩, H5, H6, H7, HS0, HS1, Hq, Hh, ⟨%W', HW'⟩⟩
      isplitl [HS0 HS1 Hg Hq Hh]
      · isplitl [HS0 HS1]
        · isplitl [HS0]; · iexact HS0
          iexact HS1
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [leaves7 m c t e7, outsAt_B m c t e e7]
      dsimp only
      iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (stepB m c t (at_middle t e e7) (prev m c t) _ _ W _)
      unfold staged
      isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexact H6
      isplitl [H7]; · iexact H7
      isplitl [HS0]; · iexact HS0
      isplitl [HS1]; · iexact HS1
      isplitl [Hq]; · iexact Hq
      isplitl [Hh]; · iexact Hh
      isplitl [HW]; · iexact HW
      iintro ⟨⟨H0, H1, H2, H3, H4⟩, H5, H6, H7, HS0, HS1, Hq, Hh, ⟨%W', HW'⟩⟩
      isplitl [HS0 HS1 Hg Hq Hh]
      · isplitl [HS0 HS1]
        · isplitl [HS0]; · iexact HS0
          iexact HS1
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem held_out (c : Dev nD) : (dats m 0 c).Φ (Fin.last cfg0.N) ⊢ Pipeline.ΦD osem0 spec0 H0 (V m) c := by
  rw [show (dats m 0 c).Φ (Fin.last cfg0.N) = Held m c cfg0.N (Nat.le_refl _) from rfl, Held_pos m c _ _ (by rw [show cfg0.N = 8 from N_0]; decide),
    show Pipeline.ΦD osem0 spec0 H0 (V m) c = _ from Held_zero m c 0 (Nat.zero_le _) rfl]
  iintro ⟨⟨HS0, HS1⟩, Hr⟩
  isplitl [HS0 HS1]
  · isplitl [HS0]
    · iexists _; iexact HS0
    iexists _; iexact HS1
  iexact Hr

set_option backward.isDefEq.respectTransparency.types false in
/-- The whole run: it ends, every window's array at what its points left, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m) (hin := fun _ => .rfl) (hout := held_out m)

/-- The frame: the run ends with every argument as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.MixInIdeal.Frame
-- ==== Proof.MixInFloat.lean ====
/- The mixer's input-projection backward call over floats: its frame, the run's at any scalar. -/
module

public import proofs.«01_k».proof.Defs
public import proofs.«01_k».proof.Proof.Gen.MixIn
public import proofs.«01_k».proof.Proof.Gen.MixInIdeal
public import proofs.«01_k».proof.Proof.MixInFrame

@[expose] public section
set_option maxRecDepth 16384
noncomputable section

namespace Cert.Proof
open Idealize.ShloMosaic Idealize.ShloMosaic.TcCoe Idealize.SL.Sem
attribute [local instance] Cert.MixIn.Gen.facts Cert.MixInIdeal.Gen.facts

/-- The float program is the idealised one's text: the two run alike at floats. -/
theorem mixin_alike (m ρ) (Q) :
    (θ_run (Cert.MixIn.defs (F := Bits)) (onTc Cert.MixIn.main) { mem := m, sem := fun _ => 0, prng := ρ }) Q =
      (θ_run (Cert.MixInIdeal.defs (F := Bits)) (onTc Cert.MixInIdeal.main) { mem := m, sem := fun _ => 0, prng := ρ }) Q := by
  sl_kernel_rfl

/-- The call over floats ends, keeps its arguments and leaves its semaphores at zero. -/
theorem frame_mixin : Cert.quiescent_MixIn := fun m ρ _ =>
  (mixin_alike m ρ _).mpr (Cert.MixInIdeal.Frame.frame (F := Bits) m ρ)

end Cert.Proof
-- ==== Proof.MixInBlocks.lean ====
/- The mixer's input-projection backward call: the blocks its points read, in the arguments, and the weight as its copies leave it. -/
module

public import proofs.«01_k».proof.Proof.MixInFrame
public import proofs.«01_k».proof.Proof.Rows
public import proofs.«01_k».proof.Proof.FfnCall
public import proofs.«01_k».proof.Proof.NormCall
public import Idealize.ShloMosaic.Lib.Pipeline.ValueKit
public import Idealize.ShloMosaic.Lib.Pipeline.ReadBack
public import Idealize.ShloMosaic.Lib.ValueLayout

@[expose] public section
set_option maxRecDepth 16384
noncomputable section

namespace Cert.MixInIdeal.MixIn
open Cert.MixInIdeal Cert.MixInIdeal.Gen Cert.MixInIdeal.Frame Idealize.ShloMosaic Idealize.ShloMosaic.TcCoe Idealize.SL.Sem
open Idealize.ShloMosaic.Pipeline (Dat)
open Cert.MixInIdeal.Facts Cert.NormGrad Cert.NormCall
variable (m : (ℓ : Loc nD τ sig) → Buf (Elt Ideal) ℓ)

/-- Where each window's block lies at each grid point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![0, 0] ∧ win0_7.index t = ![0, 0, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

/-- The arguments as functions of row and column: the rows normalised, -/
def X (c : Dev nD) (i : Fin 4096) (j : Fin 1024) : EReal := m ((c : Thread nD τ).loc main_arg0) (ix2 i j)
/-- the sublayer's output, -/
def Y (c : Dev nD) (i : Fin 4096) (j : Fin 1024) : EReal := m ((c : Thread nD τ).loc main_arg1) (ix2 i j)
/-- the modulation's shift and scale, -/
def Sh (c : Dev nD) (j : Fin 1024) : EReal := m ((c : Thread nD τ).loc main_arg2) (ix1 j)
def S (c : Dev nD) (j : Fin 1024) : EReal := m ((c : Thread nD τ).loc main_arg3) (ix1 j)
/-- the norm's weight, -/
def Gn (c : Dev nD) (j : Fin 1024) : EReal := m ((c : Thread nD τ).loc main_arg5) (ix1 j)
/-- the projection's weight, -/
def W (c : Dev nD) (e : Fin 1024) (q : Fin 3072) : EReal := m ((c : Thread nD τ).loc main_arg6) (ix2 e q)
/-- its result's cotangent -/
def Z (c : Dev nD) (i : Fin 4096) (q : Fin 3072) : EReal := m ((c : Thread nD τ).loc main_arg7) (ix2 i q)
/-- and the residual's. -/
def D (c : Dev nD) (i : Fin 4096) (j : Fin 1024) : EReal := m ((c : Thread nD τ).loc main_arg8) (ix2 i j)
/-- The modulated rows' cotangent. -/
def H (c : Dev nD) (i : Fin 4096) (e : Fin 1024) : EReal := ∑ q, Z m c i q * W m c e q
/-- The modulated rows. -/
def Mo (c : Dev nD) (i : Fin 4096) (e : Fin 1024) : EReal := X m c i e * rinv (X m c i) * Gn m c e * (1 + S m c e) + Sh m c e

theorem x_blk (c : Dev nD) (t : Fin cfg0.N) (r : Fin 512) (j : Fin 1024) : iblk m c 0 t (ix2 r j) = X m c (tok t r) j := by
  blk_ext [iblk, V, idx t, tok, X]

theorem z_blk (c : Dev nD) (t : Fin cfg0.N) (r : Fin 512) (j : Fin 3072) : iblk m c 1 t (ix2 r j) = Z m c (tok t r) j := by
  blk_ext [iblk, V, idx t, tok, Z]

theorem d_blk (c : Dev nD) (t : Fin cfg0.N) (r : Fin 512) (j : Fin 1024) : iblk m c 2 t (ix2 r j) = D m c (tok t r) j := by
  blk_ext [iblk, V, idx t, tok, D]

theorem y_blk (c : Dev nD) (t : Fin cfg0.N) (r : Fin 512) (j : Fin 1024) : iblk m c 3 t (ix2 r j) = Y m c (tok t r) j := by
  blk_simp [iblk, idx t]
  entry_read
  pointwise
  blk_ext [idx t, tok, Y]

/-- The packed parameter rows, as the host lays them out. -/
def prm (shift scale gate g : FVec Ideal S1024 .f32) : FVec Ideal S16x1024 .f32 :=
  concatenate S16x1024 0 [⟨S3x1024, broadcastInDim S3x1024 ![] bcast_S_S3x1024 (constant (F := Ideal) S_ .f32 0x00000000#32)⟩,
    ⟨S1x1024, broadcastInDim S1x1024 ![1] bcast_S1024_S1x1024_1 shift⟩, ⟨S1x1024, broadcastInDim S1x1024 ![1] bcast_S1024_S1x1024_1 scale⟩,
    ⟨S1x1024, broadcastInDim S1x1024 ![1] bcast_S1024_S1x1024_1 gate⟩,
    ⟨S4x1024, broadcastInDim S4x1024 ![] bcast_S_S4x1024 (constant (F := Ideal) S_ .f32 0x00000000#32)⟩,
    ⟨S1x1024, broadcastInDim S1x1024 ![1] bcast_S1024_S1x1024_1 g⟩,
    ⟨S5x1024, broadcastInDim S5x1024 ![] bcast_S_S5x1024 (constant (F := Ideal) S_ .f32 0x00000000#32)⟩]
    concatenates_S3x1024_S1x1024_S1x1024_S1x1024_S4x1024_S1x1024_S5x1024_S16x1024_d0

theorem prm_shift (shift scale gate g : FVec Ideal S1024 .f32) (j : Fin 1024) : prm shift scale gate g (ix2 3 j) = shift (ix1 j) := by
  refine (Rows.stack_apply 1 (broadcastInDim S1x1024 ![1] bcast_S1024_S1x1024_1 shift) 3 0 (by simp) rfl rfl rfl).trans ?_
  pointwise
  blk_ext []

theorem prm_scale (shift scale gate g : FVec Ideal S1024 .f32) (j : Fin 1024) : prm shift scale gate g (ix2 4 j) = scale (ix1 j) := by
  refine (Rows.stack_apply 2 (broadcastInDim S1x1024 ![1] bcast_S1024_S1x1024_1 scale) 4 0 (by simp) rfl rfl rfl).trans ?_
  pointwise
  blk_ext []

theorem prm_g (shift scale gate g : FVec Ideal S1024 .f32) (j : Fin 1024) : prm shift scale gate g (ix2 10 j) = g (ix1 j) := by
  refine (Rows.stack_apply 5 (broadcastInDim S1x1024 ![1] bcast_S1024_S1x1024_1 g) 10 0 (by simp) rfl rfl rfl).trans ?_
  pointwise
  blk_ext []

theorem prm_entry (c : Dev nD) : V m c main_v7 = prm (m ((c : Thread nD τ).loc main_arg2)) (m ((c : Thread nD τ).loc main_arg3))
    (m ((c : Thread nD τ).loc main_arg4)) (m ((c : Thread nD τ).loc main_arg5)) := rfl

theorem prm_blk (c : Dev nD) (t : Fin cfg0.N) (k : Fin 16) (j : Fin 1024) : iblk m c 4 t (ix2 k j) = V m c main_v7 (ix2 k j) := by
  unfold iblk
  blk_ext [idx t]

theorem shift_blk (c : Dev nD) (t : Fin cfg0.N) (j : Fin 1024) : iblk m c 4 t (ix2 3 j) = Sh m c j := by
  rw [prm_blk, prm_entry, prm_shift]; rfl
theorem scale_blk (c : Dev nD) (t : Fin cfg0.N) (j : Fin 1024) : iblk m c 4 t (ix2 4 j) = S m c j := by
  rw [prm_blk, prm_entry, prm_scale]; rfl
theorem g_blk (c : Dev nD) (t : Fin cfg0.N) (j : Fin 1024) : iblk m c 4 t (ix2 10 j) = Gn m c j := by
  rw [prm_blk, prm_entry, prm_g]; rfl

/-- The weight in column blocks, as the host lays it out: its entries. -/
theorem w_entry (c : Dev nD) (k : Fin 8) (e : Fin 1024) (r : Fin 384) :
    V m c main_v10 (ix3 k e r) = W m c e ⟨k.val * 384 + r.val, by omega⟩ := by
  unfold V
  entry_read
  pointwise
  blk_ext [W]

/-- A load of the whole weight's buffer reads what its stores left. -/
theorem readCov_whole {e : EltTy} (v : View sig .tc .vmem S1024x3072 e) (L : List (View.Piece (Elt Ideal) S1024x3072 e)) :
    v.readCov L (Rect.unit (s := S1024x3072) ![0, 0] S1024x3072.size inb_S1024x3072_S1024x3072_0_0).toLoadRect = View.canon L :=
  (View.readCov_eq_canon' v L _).trans (View.ld_unit_zero (by decide : (![0, 0] : Fin 2 → Nat) = fun _ => 0) _ _)

/-- A column block of the weight, as a copy reads it. -/
theorem copied (c : Dev nD) (k : ℕ) (hk : k < 8) (hin) (hn) (e : Fin 1024) (r : Fin 384) :
    View.read (Elt Ideal) (((View.whole main_v10).slice (Rect.unit ![k, 0, 0] ![1, 1024, 384] hin)).reshape S1024x384 hn) (V m c main_v10) (ix2 e r)
      = W m c e ⟨k * 384 + r.val, by omega⟩ := by
  refine (congrArg (V m c main_v10) (?_ : _ = ix3 (⟨k, hk⟩ : Fin 8) e r)).trans (w_entry m c ⟨k, hk⟩ e r)
  refine (congrArg (Rect.unit (s := S8x1024x384) ![k, 0, 0] ![1, 1024, 384] hin).emb (ValueIdx.reshapeEquiv_ix2_1ab _ e r)).trans ?_
  blk_ext []

/-- The weight as an array. -/
def whole (c : Dev nD) (y : S1024x3072.Idx) : Elt Ideal .bf16 := W m c (y 0) (y 1)

/-- So each copy leaves the weight's own entries in its columns. -/
theorem copied_at (c : Dev nD) (k : ℕ) (hk : k < 8) (o : ℕ) (ho : k * 384 = o) (hin) (hn) (hin') :
    View.PiecesOf (Val := Elt Ideal) (e := .bf16) (whole m c) [(⟨Rect.unit (s := S1024x3072) ![0, o] ![1024, 384] hin', ReadAs.same.apply
      (View.read (Elt Ideal) (((View.whole main_v10).slice (Rect.unit ![k, 0, 0] ![1, 1024, 384] hin)).reshape S1024x384 hn) (V m c main_v10))⟩ :
      View.Piece (Elt Ideal) S1024x3072 .bf16)] := by
  refine ⟨fun x => ?_, trivial⟩
  obtain ⟨e, r, rfl⟩ := Rows.ix2_surj (R := 1024) (C := 384) x
  subst ho
  refine (copied m c k hk hin hn e r).trans ?_
  unfold whole
  blk_ext [W]

/-- The weight as the first point's copies leave it. -/
theorem wt_apply (c : Dev nD) (t : Fin cfg0.N) (hc : conds0_A (grid0.coords t)) (e : Fin 1024) (q : Fin 3072) :
    wtA m c t hc (ix2 e q) = W m c e q := by
  unfold wtA atA
  frame_out
  refine View.canon_apply_of_pieces (Val := Elt Ideal) (e := .bf16) (whole m c) _ (View.PiecesOf.mem (Val := Elt Ideal) (e := .bf16) (G := whole m c) ?_) _ (View.cover_of_tiledL _ ![1024, 384] (by sl_kernel_rfl) _)
  exact ⟨(copied_at m c 7 (by decide) 2688 rfl _ _ _).1, (copied_at m c 6 (by decide) 2304 rfl _ _ _).1, (copied_at m c 5 (by decide) 1920 rfl _ _ _).1,
    (copied_at m c 4 (by decide) 1536 rfl _ _ _).1, (copied_at m c 3 (by decide) 1152 rfl _ _ _).1, (copied_at m c 2 (by decide) 768 rfl _ _ _).1,
    (copied_at m c 1 (by decide) 384 rfl _ _ _).1, (copied_at m c 0 (by decide) 0 rfl _ _ _).1, trivial⟩

section
variable (c : Dev nD) (t : Fin cfg0.N)

/-- The parameter rows as a point loads them. -/
abbrev shT : FVec Ideal S1x1024 .f32 := View.ld (iblk m c 4 t) (Rect.unit ![3, 0] ![1, 1024] inb_S16x1024_S1x1024_3_0)
abbrev sT : FVec Ideal S1x1024 .f32 := View.ld (iblk m c 4 t) (Rect.unit ![4, 0] ![1, 1024] inb_S16x1024_S1x1024_4_0)
abbrev gT : FVec Ideal S1x1024 .f32 := View.ld (iblk m c 4 t) (Rect.unit ![10, 0] ![1, 1024] inb_S16x1024_S1x1024_10_0)

/-- What a point stores with the weight `w`: its block of the gradient, -/
abbrev dxP (w : FVec Ideal S1024x3072 .bf16) : FVec Ideal S512x1024 .f32 := k0_pay20 (iblk m c 0 t) (iblk m c 1 t) w (iblk m c 2 t) (sT m c t) (gT m c t)
/-- what it adds to the sums -/
abbrev updP (w : FVec Ideal S1024x3072 .bf16) : FVec Ideal S8x1024 .f32 :=
  k0_pay1 (k0_pay14 (iblk m c 1 t) w) (iblk m c 2 t) (k0_pay15 (iblk m c 3 t)) (k0_pay16 (gT m c t)) (k0_pay18 (iblk m c 0 t))
    (k0_pay21 (iblk m c 0 t) (iblk m c 1 t) w (sT m c t)) (k0_pay22 (iblk m c 1 t) w)
/-- and the accumulator, grown from `a`. -/
abbrev accP (a : FVec Ideal S1024x3072 .f32) : FVec Ideal S1024x3072 .f32 := k0_pay13 (iblk m c 0 t) (shT m c t) (sT m c t) (gT m c t) (iblk m c 1 t) a

theorem read_wt (p : FVec Ideal S1024x3072 .bf16) : View.read (Elt Ideal) (View.whole cc0_scratch0) ((Memref.isWhole_whole cc0_scratch0).unread p) = p := Memref.IsWhole.read_unread _ _
theorem read_acc (p : FVec Ideal S1024x3072 .f32) : View.read (Elt Ideal) (View.whole cc0_scratch1) ((Memref.isWhole_whole cc0_scratch1).unread p) = p := Memref.IsWhole.read_unread _ _

theorem wtA_canon (hc) : wtA m c t hc = View.canon (atA m c t hc).2.2.1 := by
  unfold wtA; exact View.read_writes_junk_eq_canon _ _

theorem dxA_eq (hc) : dxA m c t hc = dxP m c t (wtA m c t hc) := by
  rw [wtA_canon, ← readCov_whole VS0_0]
  unfold dxA atA
  frame_out
  rfl
theorem sumsA_eq (hc) : sumsA m c t hc = updP m c t (wtA m c t hc) := by
  rw [wtA_canon, ← readCov_whole VS0_0]
  unfold sumsA atA
  frame_out
  rfl
theorem accA_eq (hc) : accA m c t hc = accP m c t k0_pay6 := by
  unfold accA atA
  frame_out
  rfl
theorem dxB_eq (hc p) : dxB m c t hc p = dxP m c t p.2.2.2.1 := by
  unfold dxB atB
  frame_out [read_wt]
  rfl
theorem sumsB_eq (hc p) : sumsB m c t hc p = addf p.2.1 (updP m c t p.2.2.2.1) := by
  unfold sumsB atB
  frame_out [read_wt]
  unfold k0_pay2
  funext y
  pointwise
  rfl
theorem accB_eq (hc p) : accB m c t hc p = accP m c t p.2.2.2.2 := by
  unfold accB atB
  frame_out [read_acc]
  rfl
theorem dxC_eq (hc p) : dxC m c t hc p = dxP m c t p.2.2.2.1 := by
  unfold dxC atC
  frame_out [read_wt]
  rfl
theorem sumsC_eq (hc p) : sumsC m c t hc p = addf p.2.1 (updP m c t p.2.2.2.1) := by
  unfold sumsC atC
  frame_out [read_wt]
  unfold k0_pay2
  funext y
  pointwise
  rfl
theorem accC_eq (hc p) : accC m c t hc p = accP m c t p.2.2.2.2 := by
  unfold accC atC
  frame_out [read_acc]
  rfl

end

end Cert.MixInIdeal.MixIn
-- ==== Proof.MixInColumns.lean ====
/- The mixer's input-projection backward call: the weight's gradient as its last point stores it, column block by column block. -/
module

public import proofs.«01_k».proof.Proof.MixInBlocks

@[expose] public section
set_option maxRecDepth 16384
noncomputable section

namespace Cert.MixInIdeal.MixIn
open Cert.MixInIdeal Cert.MixInIdeal.Gen Cert.MixInIdeal.Frame Idealize.ShloMosaic Idealize.ShloMosaic.TcCoe Idealize.SL.Sem
open Idealize.ShloMosaic.Pipeline (Dat)
open Cert.MixInIdeal.Facts Cert.NormGrad Cert.NormCall
variable (m : (ℓ : Loc nD τ sig) → Buf (Elt Ideal) ℓ)

variable (c : Dev nD) (t : Fin cfg0.N)

/-- A matrix cut into column blocks. -/
def byColumns (a : FVec Ideal S1024x3072 .f32) (y : S8x1024x384.Idx) : Elt Ideal .bf16 := a (ix2 (y 1) ⟨(y 0).val * 384 + (y 2).val, by
    have h0 : (y 0).val < 8 := (y 0).isLt
    have h2 : (y 2).val < 384 := (y 2).isLt
    show _ < 3072
    omega⟩)

theorem pay5_apply (x : Vec Ideal S1024x384 .f32) (z : Fin 1) (e : Fin 1024) (r : Fin 384) : k0_pay5 x (ix3 z e r) = x (ix2 e r) := by
  unfold k0_pay5
  pointwise

theorem byColumns_at (a : FVec Ideal S1024x3072 .f32) (k : ℕ) (hk : k < 8) (hin') (z : Fin 1) (e : Fin 1024) (r : Fin 384) :
    byColumns a ((Rect.unit (s := S8x1024x384) ![k, 0, 0] ![1, 1024, 384] hin').emb (ix3 z e r)) = a (ix2 e ⟨k * 384 + r.val, by omega⟩) := by
  unfold byColumns
  blk_ext []

theorem columns_at (k : ℕ) (hk : k < 8) (hin) (e : Fin 1024) (r : Fin 384) :
    (Rect.unit (s := S1024x3072) ![0, k * 384] ![1024, 384] hin).emb (ix2 e r) = ix2 e ⟨k * 384 + r.val, by omega⟩ := by
  blk_ext []

theorem canon_one (a : FVec Ideal S1024x3072 .f32) :
    View.canon (Val := Elt Ideal) (e := .f32) [⟨Rect.unit (s := S1024x3072) ![0, 0] ![1024, 3072] inb_S1024x3072_S1024x3072_0_0, a⟩] = a :=
  View.canon_cons_unit_lit (Val := Elt Ideal) (e := .f32) inb_S1024x3072_S1024x3072_0_0 a [] (fun i => by match i with | 0 => rfl | 1 => rfl)

theorem loaded_at (v : View sig .tc .vmem S1024x3072 .f32) (a : FVec Ideal S1024x3072 .f32) (k : ℕ) (hin) (x : S1024x384.Idx) :
    v.readCov (Val := Elt Ideal) [⟨Rect.unit (s := S1024x3072) ![0, 0] ![1024, 3072] inb_S1024x3072_S1024x3072_0_0, a⟩] (Rect.unit (s := S1024x3072) ![0, k * 384] ![1024, 384] hin).toLoadRect x
      = a ((Rect.unit (s := S1024x3072) ![0, k * 384] ![1024, 384] hin).emb x) := by
  rw [View.readCov_eq_canon', canon_one]
  rfl

/-- A column block of the accumulator, as the last point stores it. -/
theorem stored_at (v : View sig .tc .vmem S1024x3072 .f32) (a : FVec Ideal S1024x3072 .f32) (k : ℕ) (hk : k < 8) (o : ℕ) (ho : k * 384 = o) (hin) (hin') :
    View.PiecesOf (Val := Elt Ideal) (e := .bf16) (byColumns a) [(⟨Rect.unit (s := S8x1024x384) ![k, 0, 0] ![1, 1024, 384] hin',
      k0_pay5 (F := Ideal) (v.readCov [⟨Rect.unit (s := S1024x3072) ![0, 0] ![1024, 3072] inb_S1024x3072_S1024x3072_0_0, a⟩] (Rect.unit (s := S1024x3072) ![0, o] ![1024, 384] hin).toLoadRect)⟩ :
      View.Piece (Elt Ideal) S8x1024x384 .bf16)] := by
  refine ⟨fun x => ?_, trivial⟩
  obtain ⟨z, e, r, rfl⟩ := FfnCall.ix3_surj (A := 1) (B := 1024) (C := 384) x
  subst ho
  exact (pay5_apply _ z e r).trans ((loaded_at v a k hin (ix2 e r)).trans ((congrArg a (columns_at k hk hin e r)).trans (byColumns_at a k hk hin' z e r).symm))

theorem pay7_eq (x : Vec Ideal S1024x384 .f32) : k0_pay7 x = k0_pay5 x := rfl
theorem pay8_eq (x : Vec Ideal S1024x384 .f32) : k0_pay8 x = k0_pay5 x := rfl
theorem pay9_eq (x : Vec Ideal S1024x384 .f32) : k0_pay9 x = k0_pay5 x := rfl
theorem pay10_eq (x : Vec Ideal S1024x384 .f32) : k0_pay10 x = k0_pay5 x := rfl
theorem pay11_eq (x : Vec Ideal S1024x384 .f32) : k0_pay11 x = k0_pay5 x := rfl
theorem pay12_eq (x : Vec Ideal S1024x384 .f32) : k0_pay3 (k0_pay12 x) = k0_pay5 x := rfl
theorem pay4_eq (x : Vec Ideal S1024x384 .f32) : k0_pay4 x = k0_pay5 x := rfl

set_option maxHeartbeats 1600000 in
/-- The last point's weight gradient: the accumulator's column blocks. -/
theorem dwC_apply (hc p) (k : Fin 8) (e : Fin 1024) (r : Fin 384) :
    dwC m c t hc p (ix3 k e r) = accP m c t p.2.2.2.2 (ix2 e ⟨k.val * 384 + r.val, by omega⟩) := by
  refine Eq.trans (b := byColumns (accP m c t p.2.2.2.2) (ix3 k e r)) ?_ rfl
  unfold dwC atC accP shT sT gT
  frame_out [read_acc, pay7_eq, pay8_eq, pay9_eq, pay10_eq, pay11_eq, pay12_eq, pay4_eq]
  generalize k0_pay13 (F := Ideal) _ _ _ _ _ _ = a
  refine View.canon_apply_of_pieces (Val := Elt Ideal) (e := .bf16) (byColumns a) _ (View.PiecesOf.mem (Val := Elt Ideal) (e := .bf16) (G := byColumns a) ?_) _ (View.cover_of_tiledL _ ![1, 1024, 384] (by sl_kernel_rfl) _)
  exact ⟨(stored_at _ a 7 (by decide) 2688 rfl _ _).1, (stored_at _ a 6 (by decide) 2304 rfl _ _).1, (stored_at _ a 5 (by decide) 1920 rfl _ _).1, (stored_at _ a 4 (by decide) 1536 rfl _ _).1,
    (stored_at _ a 3 (by decide) 1152 rfl _ _).1, (stored_at _ a 2 (by decide) 768 rfl _ _).1, (stored_at _ a 1 (by decide) 384 rfl _ _).1, (stored_at _ a 0 (by decide) 0 rfl _ _).1, trivial⟩

end Cert.MixInIdeal.MixIn
-- ==== Proof.MixInKernel.lean ====
/- The mixer's input-projection backward call: the three arrays it leaves, as functions of the arguments. -/
module

public import proofs.«01_k».proof.Proof.MixInColumns

@[expose] public section
set_option maxRecDepth 16384
noncomputable section

namespace Cert.MixInIdeal.MixIn
open Cert.MixInIdeal Cert.MixInIdeal.Gen Cert.MixInIdeal.Frame Idealize.ShloMosaic Idealize.ShloMosaic.TcCoe Idealize.SL.Sem
open Idealize.ShloMosaic.Pipeline (Dat)
open Cert.MixInIdeal.Facts Cert.NormGrad Cert.NormCall
variable (m : (ℓ : Loc nD τ sig) → Buf (Elt Ideal) ℓ)

/-- The weight in hand after every point is the argument. -/
theorem wt_held (c : Dev nD) (e : Fin 1024) (q : Fin 3072) (n : ℕ) (h : n < cfg0.N) : (outsAt m c n h).2.2.2.1 (ix2 e q) = W m c e q := by
  induction n with
  | zero => rw [outsAt_A m c ⟨0, h⟩ rfl]; dsimp only; rw [wt_apply]
  | succ n ih =>
    by_cases e7 : n + 1 = 7
    · rw [outsAt_C m c ⟨n + 1, h⟩ e7]; dsimp only; exact ih _
    · rw [outsAt_B m c ⟨n + 1, h⟩ (Nat.succ_ne_zero n) e7]; dsimp only; exact ih _

/-- A tile's product with the weight. -/
theorem pay14_apply (z : FVec Ideal S512x3072 .bf16) (w : FVec Ideal S1024x3072 .bf16) (r : Fin 512) (e : Fin 1024) :
    k0_pay14 (F := Ideal) z w (ix2 r e) = ∑ q, z (ix2 r q) * w (ix2 e q) := by
  unfold k0_pay14
  pointwise

theorem pay18_apply (x : FVec Ideal S512x1024 .f32) (r : Fin 512) (j : Fin 1024) :
    k0_pay18 x (ix2 r j) = x (ix2 r j) * rinv fun k => x (ix2 r k) := by
  unfold k0_pay18 k0_pay17
  pointwise
  rfl

theorem one_bits : (FloatOps.ofBits FTy.f32 1065353216#32 : Ideal .f32) = (1 : EReal) := by
  show Ideal.ofBits .f32 1065353216#32 = 1
  simp [Ideal.ofBits, Ideal.ieee]
  rw [← EReal.coe_mul]
  norm_num

/-- A tile's gradient of the rows. -/
theorem pay20_apply (x : FVec Ideal S512x1024 .f32) (z : FVec Ideal S512x3072 .bf16) (w : FVec Ideal S1024x3072 .bf16) (d : FVec Ideal S512x1024 .f32)
    (s g : FVec Ideal S1x1024 .f32) (r : Fin 512) (j : Fin 1024) :
    k0_pay20 x z w d s g (ix2 r j) = d (ix2 r j) + grad (fun k => x (ix2 r k)) (fun k => k0_pay14 (F := Ideal) z w (ix2 r k) * (1 + s (ix2 0 k)) * g (ix2 0 k)) j := by
  unfold k0_pay20 k0_pay19 k0_pay18 k0_pay17 k0_pay16
  dsimp only
  generalize k0_pay14 (F := Ideal) z w = h
  pointwise
  rfl

variable (c : Dev nD) (t : Fin cfg0.N)

section
variable (w : FVec Ideal S1024x3072 .bf16) (hw : ∀ e q, w (ix2 e q) = W m c e q)

theorem sT_apply (j : Fin 1024) : sT m c t (ix2 0 j) = S m c j := by unfold sT; pointwise; exact scale_blk m c t j
theorem gT_apply (j : Fin 1024) : gT m c t (ix2 0 j) = Gn m c j := by unfold gT; pointwise; exact g_blk m c t j
theorem shT_apply (j : Fin 1024) : shT m c t (ix2 0 j) = Sh m c j := by unfold shT; pointwise; exact shift_blk m c t j

include hw
theorem h_tile (r : Fin 512) (e : Fin 1024) : k0_pay14 (iblk m c 1 t) w (ix2 r e) = H m c (tok t r) e := by
  rw [pay14_apply]
  exact Finset.sum_congr rfl fun q _ => congrArg₂ (· * ·) (z_blk m c t r q) (hw e q)

theorem dx_tile (r : Fin 512) (j : Fin 1024) : dxP m c t w (ix2 r j) = dx (X m c) (D m c) (H m c) (S m c) (Gn m c) (tok t r) j := by
  unfold dxP
  rw [pay20_apply]
  simp only [h_tile m c t w hw, sT_apply, gT_apply, x_blk, d_blk]
  rfl

/-- What a tile adds to the sums, row by row. -/
theorem sums_tile (k : Fin 8) (j : Fin 1024) :
    updP m c t w (ix2 k j) = total 1 k fun r => term (X m c) (D m c) (H m c) (Y m c) (S m c) (Gn m c) k j (tok t r) := by
  unfold updP k0_pay1
  dsimp only
  match k with
  | 0 =>
    refine (Rows.stack_apply (n := 1) 0 _ 0 0 (by simp) rfl rfl rfl).trans ?_
    unfold k0_pay21 k0_pay19
    pointwise
    refine Finset.sum_congr rfl fun r _ => ?_
    simp only [h_tile m c t w hw, sT_apply, pay18_apply, x_blk]
    rfl
  | 1 =>
    refine (Rows.stack_apply (n := 1) 1 _ 1 0 (by simp) rfl rfl rfl).trans ?_
    unfold k0_pay22
    pointwise
    exact Finset.sum_congr rfl fun r _ => h_tile m c t w hw r j
  | 2 =>
    refine (Rows.stack_apply (n := 1) 2 _ 2 0 (by simp) rfl rfl rfl).trans ?_
    unfold k0_pay16
    pointwise
    refine Finset.sum_congr rfl fun r _ => ?_
    simp only [h_tile m c t w hw, gT_apply, pay18_apply, x_blk]
    rfl
  | 3 =>
    refine (Rows.stack_apply (n := 1) 3 _ 3 0 (by simp) rfl rfl rfl).trans ?_
    unfold k0_pay15
    pointwise
    refine Eq.trans (Finset.sum_congr (M := EReal) rfl fun r _ => ?_) (one_mul (M := EReal) _).symm
    simp only [d_blk, y_blk]
    rfl
  | ⟨k + 4, hk⟩ =>
    refine (Rows.stack_apply (n := 4) 4 _ 4 ⟨k, by omega⟩ (by simp) rfl rfl (Nat.add_comm _ _)).trans ?_
    pointwise
    exact Finset.sum_const_zero.symm
end

/-- What a tile adds to the accumulator. -/
theorem acc_tile (a : FVec Ideal S1024x3072 .f32) (e : Fin 1024) (q : Fin 3072) :
    accP m c t a (ix2 e q) = a (ix2 e q) + ∑ r, Mo m c (tok t r) e * Z m c (tok t r) q := by
  unfold accP k0_pay13
  pointwise
  refine congrArg (a (ix2 e q) + ·) (Finset.sum_congr rfl fun r _ => ?_)
  simp only [x_blk, z_blk, sT_apply, gT_apply, shT_apply]
  rfl

/-- The first array: the gradient of the rows. -/
theorem dx_arr : (dats m 0 c).arrAt 5 cfg0.N = fun y => dx (X m c) (D m c) (H m c) (S m c) (Gn m c) (y 0) (y 1) := by
  refine (dats m 0 c).arrAt_eq_of_covers 5 _ (by decide +kernel) fun t hf y => ?_
  obtain ⟨r, j, rfl⟩ := Rows.ix2_surj y
  blk_simp
  rw [after0_5]
  have hG : ((View.whole main_v12_0).slice (win0_5.rect t)).emb (ix2 r j) = ix2 (tok t r) j := by
    blk_ext [idx t, tok]
  rw [hG]
  by_cases h0 : t.val = 0
  · rw [outsAt_A m c t h0, dxA_eq]
    exact dx_tile m c t _ (wt_apply m c t _) r j
  · by_cases h7 : t.val = 7
    · rw [outsAt_C m c t h7, dxC_eq]
      exact dx_tile m c t _ (fun e q => wt_held m c e q _ _) r j
    · rw [outsAt_B m c t h0 h7, dxB_eq]
      exact dx_tile m c t _ (fun e q => wt_held m c e q _ _) r j

/-- The second array: the sums over all tokens. -/
theorem sums_arr : (dats m 0 c).arrAt 6 cfg0.N = fun y =>
    total 1 (y 0) (term (X m c) (D m c) (H m c) (Y m c) (S m c) (Gn m c) (y 0) (y 1)) := by
  refine (dats m 0 c).arrAt_eq_of_after_last 6 t0_7 (by decide +kernel) _ fun j => ?_
  obtain ⟨k, j, rfl⟩ := Rows.ix2_surj j
  blk_simp
  rw [after0_6]
  refine (Pipeline.eq_sum_fin_of_reset_step_apply_last (fun n h => (outsAt m c n h).2.1) 8 (fun _ => (0 : EReal))
    (fun t y => total 1 (y 0) fun r => term (X m c) (D m c) (H m c) (Y m c) (S m c) (Gn m c) (y 0) (y 1) (tok ⟨t.val, lt_of_lt_of_eq t.isLt N_0.symm⟩ r))
    (fun t h y => ?_) (fun t h y => ?_) (le_of_eq N_0) t0_7 rfl (ix2 k j)).trans ?_
  · have hN : t.val < 8 := lt_of_lt_of_eq t.isLt N_0
    obtain ⟨k, j, rfl⟩ := Rows.ix2_surj y
    rw [outsAt_A m c t (by omega), sumsA_eq]
    exact (sums_tile m c t _ (wt_apply m c t _) k j).trans (zero_add _).symm
  · have hN : t.val < 8 := lt_of_lt_of_eq t.isLt N_0
    obtain ⟨k, j, rfl⟩ := Rows.ix2_surj y
    have step := congrArg ((outsAt m c (t.val - 1) (by omega)).2.1 (ix2 k j) + ·) (sums_tile m c t _ (fun e q => wt_held m c e q (t.val - 1) (by omega)) k j)
    by_cases h7 : t.val = 7
    · rw [outsAt_C m c t h7, sumsC_eq]
      exact step
    · rw [outsAt_B m c t (by omega) h7, sumsB_eq]
      exact step
  · rw [zero_add, ← EReal.coe_one]
    exact total_tiles zero_le_one rfl k _ _ fun t r hl => rfl

/-- The accumulator after the last point: the weight's gradient, summed over all tokens. -/
theorem acc_last (e : Fin 1024) (q : Fin 3072) : (outsAt m c t0_7.val t0_7.isLt).2.2.2.2 (ix2 e q) = ∑ i, Mo m c i e * Z m c i q := by
  refine (Pipeline.eq_sum_fin_of_reset_step_apply_last (fun n h => (outsAt m c n h).2.2.2.2) 8 (fun _ => (0 : EReal))
    (fun t y => ∑ r, Mo m c (tok ⟨t.val, lt_of_lt_of_eq t.isLt N_0.symm⟩ r) (y 0) * Z m c (tok ⟨t.val, lt_of_lt_of_eq t.isLt N_0.symm⟩ r) (y 1))
    (fun t h y => ?_) (fun t h y => ?_) (le_of_eq N_0) t0_7 rfl (ix2 e q)).trans ?_
  · have hN : t.val < 8 := lt_of_lt_of_eq t.isLt N_0
    obtain ⟨k, j, rfl⟩ := Rows.ix2_surj y
    rw [outsAt_A m c t (by omega), accA_eq]
    refine (acc_tile m c t _ k j).trans (congrArg (· + _) ?_)
    unfold k0_pay6
    pointwise
  · have hN : t.val < 8 := lt_of_lt_of_eq t.isLt N_0
    obtain ⟨k, j, rfl⟩ := Rows.ix2_surj y
    by_cases h7 : t.val = 7
    · rw [outsAt_C m c t h7, accC_eq]
      exact acc_tile m c t _ k j
    · rw [outsAt_B m c t (by omega) h7, accB_eq]
      exact acc_tile m c t _ k j
  · rw [zero_add]
    exact Fin.sum_mul_add_fin (M := EReal) 8 512 (fun i => Mo m c i e * Z m c i q) rfl

/-- The third array: the weight's gradient in column blocks. -/
theorem dw_arr : (dats m 0 c).arrAt 7 cfg0.N = fun y => ∑ i, Mo m c i (y 1) * Z m c i ⟨(y 0).val * 384 + (y 2).val, by
    have h0 : (y 0).val < 8 := (y 0).isLt
    have h2 : (y 2).val < 384 := (y 2).isLt
    omega⟩ := by
  refine (dats m 0 c).arrAt_eq_of_after_last 7 t0_7 (by decide +kernel) _ fun j => ?_
  obtain ⟨k, e, r, rfl⟩ := FfnCall.ix3_surj j
  blk_simp
  rw [after0_7]
  refine Eq.trans ?_ (acc_last m c e ⟨k.val * 384 + r.val, by omega⟩)
  rw [outsAt_C m c t0_7 rfl]
  dsimp only
  rw [accC_eq]
  exact dwC_apply m c t0_7 _ _ k e r

end Cert.MixInIdeal.MixIn
-- ==== Proof.MixInRef.lean ====
/- The reference of the mixer's input-projection backward call: what reverse-mode differentiation of its lines computes,
   entry by entry. -/
module

public import proofs.«01_k».proof.Proof.Gen.MixInReferenceIdeal.Run
public import proofs.«01_k».proof.Proof.Gen.MixInReferenceIdeal.Read
public import proofs.«01_k».proof.Proof.Rows
public import proofs.«01_k».proof.Proof.NormCall

@[expose] public section
set_option maxRecDepth 16384
noncomputable section

namespace Cert.MixInReferenceIdeal.MixIn
open Idealize.ShloMosaic Idealize.ShloMosaic.TcCoe Cert.MixInReferenceIdeal.Read Cert.NormGrad Cert.NormCall
variable (m : (ℓ : Loc nD τ sig) → Buf (Elt Ideal) ℓ)

/-- The arguments as functions of row and column: the rows normalised, -/
def X (c : Dev nD) (i : Fin 4096) (j : Fin 1024) : EReal := m ((c : Thread nD τ).loc main_arg0) (ix2 i j)
/-- the sublayer's output, -/
def Y (c : Dev nD) (i : Fin 4096) (j : Fin 1024) : EReal := m ((c : Thread nD τ).loc main_arg1) (ix2 i j)
/-- the modulation's shift and scale, -/
def Sh (c : Dev nD) (j : Fin 1024) : EReal := m ((c : Thread nD τ).loc main_arg2) (ix1 j)
def S (c : Dev nD) (j : Fin 1024) : EReal := m ((c : Thread nD τ).loc main_arg3) (ix1 j)
/-- the norm's weight, -/
def Gn (c : Dev nD) (j : Fin 1024) : EReal := m ((c : Thread nD τ).loc main_arg5) (ix1 j)
/-- the projection's weight, -/
def W (c : Dev nD) (e : Fin 1024) (q : Fin 3072) : EReal := m ((c : Thread nD τ).loc main_arg6) (ix2 e q)
/-- its result's cotangent -/
def Z (c : Dev nD) (i : Fin 4096) (q : Fin 3072) : EReal := m ((c : Thread nD τ).loc main_arg7) (ix2 i q)
/-- and the residual's. -/
def D (c : Dev nD) (i : Fin 4096) (j : Fin 1024) : EReal := m ((c : Thread nD τ).loc main_arg8) (ix2 i j)
/-- The modulated rows' cotangent. -/
def H (c : Dev nD) (i : Fin 4096) (e : Fin 1024) : EReal := ∑ q, Z m c i q * W m c e q
/-- The modulated rows. -/
def Mo (c : Dev nD) (i : Fin 4096) (e : Fin 1024) : EReal := X m c i e * rinv (X m c i) * Gn m c e * (1 + S m c e) + Sh m c e

/-- The gradient of the rows, composed, is the written-out one where the arguments it reads are finite. -/
theorem dx_res (c : Dev nD) (hx : ∀ i j, ∃ a : ℝ, X m c i j = a) (hh : ∀ i j, ∃ a : ℝ, H m c i j = a) (hs : ∀ j, ∃ a : ℝ, S m c j = a)
    (hg : ∀ j, ∃ a : ℝ, Gn m c j = a) : Cert.MixInReferenceIdeal.Value.res_main_v69 m c = fun y => dx (X m c) (D m c) (H m c) (S m c) (Gn m c) (y 0) (y 1) := by
  funext y
  obtain ⟨i, j, rfl⟩ := Rows.ix2_surj y
  unfold Cert.MixInReferenceIdeal.Value.res_main_v69
  pointwise
  choose ξ hξ using hx
  choose η hη using hh
  choose σ hσ using hs
  choose γ hγ using hg
  refine Eq.trans ?_ (grad_eq (ξ i) (fun k => η i k * (1 + σ k) * γ k) (hξ i) (fun k => ?_) (D m c i j) j)
  · rfl
  · rw [cot, hη, hσ, hγ, EReal.coe_mul, EReal.coe_mul, EReal.coe_add, EReal.coe_one]

/-- The sums, row by row. -/
theorem sums_res (c : Dev nD) (k : Fin 8) (j : Fin 1024) :
    val_main_v76 (F := Ideal) (m ((c : Thread nD τ).loc main_arg0)) (m ((c : Thread nD τ).loc main_arg1)) (m ((c : Thread nD τ).loc main_arg3))
      (m ((c : Thread nD τ).loc main_arg5)) (m ((c : Thread nD τ).loc main_arg6)) (m ((c : Thread nD τ).loc main_arg7)) (m ((c : Thread nD τ).loc main_arg8)) (ix2 k j)
      = total 1 k (term (X m c) (D m c) (H m c) (Y m c) (S m c) (Gn m c) k j) := by
  rw [← val_main_v76_eq]
  match k with
  | 0 =>
    refine (Rows.stack_apply (n := 4) 0 _ 0 0 (by simp) rfl rfl rfl).trans ?_
    refine (Rows.stack_apply (n := 1) 0 _ 0 0 (by simp) rfl rfl rfl).trans ?_
    pointwise
    exact (Fin.sum_univ_one _).trans (Finset.sum_congr rfl fun i _ => mul_comm _ _)
  | 1 =>
    refine (Rows.stack_apply (n := 4) 0 _ 0 1 (by simp) rfl rfl rfl).trans ?_
    refine (Rows.stack_apply (n := 1) 1 _ 1 0 (by simp) rfl rfl rfl).trans ?_
    pointwise
    exact Fin.sum_univ_one _
  | 2 =>
    refine (Rows.stack_apply (n := 4) 0 _ 0 2 (by simp) rfl rfl rfl).trans ?_
    refine (Rows.stack_apply (n := 1) 2 _ 2 0 (by simp) rfl rfl rfl).trans ?_
    pointwise
    exact (Fin.sum_univ_one _).trans (Finset.sum_congr rfl fun i _ => mul_comm _ _)
  | 3 =>
    refine (Rows.stack_apply (n := 4) 0 _ 0 3 (by simp) rfl rfl rfl).trans ?_
    refine (Rows.stack_apply (n := 1) 3 _ 3 0 (by simp) rfl rfl rfl).trans ?_
    pointwise
    exact (Fin.sum_univ_one _).trans (one_mul (M := EReal) _).symm
  | ⟨k + 4, hk⟩ =>
    refine (Rows.stack_apply (n := 4) 1 _ 4 ⟨k, by omega⟩ (by simp) rfl rfl (Nat.add_comm _ _)).trans ?_
    pointwise
    exact Finset.sum_const_zero.symm

/-- The weight's gradient, in column blocks. -/
theorem dw_res (c : Dev nD) (k : Fin 8) (e : Fin 1024) (r : Fin 384) :
    val_main_v79 (F := Ideal) (m ((c : Thread nD τ).loc main_arg0)) (m ((c : Thread nD τ).loc main_arg2)) (m ((c : Thread nD τ).loc main_arg3))
      (m ((c : Thread nD τ).loc main_arg5)) (m ((c : Thread nD τ).loc main_arg7)) (ix3 k e r)
      = ∑ i, Mo m c i e * Z m c i ⟨k.val * 384 + r.val, by omega⟩ := by
  rw [← val_main_v79_eq]
  pointwise
  exact Finset.sum_congr rfl fun i _ => mul_comm (G := EReal) _ _

end Cert.MixInReferenceIdeal.MixIn
-- ==== Proof.MixInEq.lean ====
/- The mixer's input-projection backward call and its reference leave the same arrays, where the arguments that the composed
   gradient reads are finite. -/
module

public import proofs.«01_k».proof.Defs
public import proofs.«01_k».proof.Proof.Gen.Pre_finite_mixin
public import proofs.«01_k».proof.Proof.Gen.MixInIdeal
public import proofs.«01_k».proof.Proof.Gen.MixInReferenceIdeal
public import proofs.«01_k».proof.Proof.MixInKernel
public import proofs.«01_k».proof.Proof.MixInRef

@[expose] public section
noncomputable section

namespace Cert.MixInEq
open Idealize.ShloMosaic Idealize.ShloMosaic.TcCoe Idealize.SL.Sem Cert.Reals Cert.NormGrad Cert.NormCall
open Cert.MixInIdeal (nD τ sig defs main cfg0 main_v12_0 main_v12_1 main_v12_2)
open Cert.MixInIdeal.MixIn (X Y D H S Gn Z W)
attribute [local instance] Cert.MixInIdeal.Gen.facts Cert.MixInReferenceIdeal.Gen.facts Cert.Pre_finite_mixin.Gen.facts

variable (m : (ℓ : Loc nD τ sig) → Buf (Elt Ideal) ℓ)

/-- The call's run: its three arrays. -/
theorem run (g) : θ_run defs (onTc (τ := τ) (main (F := Ideal))) ⟨m, fun _ => 0, g⟩ fun r => ∀ c : Dev nD,
    r.2.mem ((c : Thread nD τ).loc main_v12_0) = (Cert.MixInIdeal.Frame.dats m 0 c).arrAt 5 cfg0.N ∧ r.2.mem ((c : Thread nD τ).loc main_v12_1) = (Cert.MixInIdeal.Frame.dats m 0 c).arrAt 6 cfg0.N ∧
    r.2.mem ((c : Thread nD τ).loc main_v12_2) = (Cert.MixInIdeal.Frame.dats m 0 c).arrAt 7 cfg0.N :=
  (θ_run defs _ _).mono (fun _ h c => ⟨(h.1 c).1 5, (h.1 c).1 6, (h.1 c).1 7⟩) (Cert.MixInIdeal.Frame.run_main m g)

variable (h : Cert.Pre_MixInIdeal_finite_mixin m) (c : Dev nD)
include h

theorem x_real (i : Fin 4096) (j : Fin 1024) : ∃ a : ℝ, X m c i j = a :=
  real_of_flag _ _ (ix2 i j) (congrFun (h c).1 (ix2 i j))

theorem s_real (j : Fin 1024) : ∃ a : ℝ, S m c j = a := real_of_flag _ _ (ix1 j) (congrFun (h c).2.1 (ix1 j))

theorem g_real (j : Fin 1024) : ∃ a : ℝ, Gn m c j = a := real_of_flag _ _ (ix1 j) (congrFun (h c).2.2.1 (ix1 j))

theorem w_real (e : Fin 1024) (q : Fin 3072) : ∃ a : ℝ, W m c e q = a := real_of_flag _ _ (ix2 e q) (congrFun (h c).2.2.2.1 (ix2 e q))

theorem z_real (i : Fin 4096) (q : Fin 3072) : ∃ a : ℝ, Z m c i q = a :=
  real_of_flag (extf .f32 (m ((c : Thread nD τ).loc Cert.MixInIdeal.main_arg7)) (by decide : FTy.bits .bf16 < FTy.bits .f32)) _ (ix2 i q) (congrFun (h c).2.2.2.2 (ix2 i q))

theorem h_real (i : Fin 4096) (e : Fin 1024) : ∃ a : ℝ, H m c i e = a := by
  choose p hp using z_real m h c i
  choose q hq using w_real m h c e
  refine ⟨∑ k, p k * q k, (Finset.sum_congr rfl fun k _ => ?_).trans (coe_sum _ _)⟩
  rw [hp, hq, EReal.coe_mul]

end Cert.MixInEq

namespace Cert.Proof
open Idealize.ShloMosaic Idealize.ShloMosaic.TcCoe Idealize.SL.Sem Cert.NormCall
attribute [local instance] Cert.MixInIdeal.Gen.facts Cert.MixInReferenceIdeal.Gen.facts Cert.Pre_finite_mixin.Gen.facts

/-- The two programs leave the same arrays. -/
theorem mixin : Cert.algebraic_MixInIdeal_MixInReferenceIdeal_pre_finite_mixin := fun m g m' g' hp ha => by
  refine ⟨fun c => (Cert.MixInIdeal.Frame.dats m 0 c).arrAt 5 Cert.MixInIdeal.cfg0.N, fun c => (Cert.MixInIdeal.Frame.dats m 0 c).arrAt 6 Cert.MixInIdeal.cfg0.N,
    fun c => (Cert.MixInIdeal.Frame.dats m 0 c).arrAt 7 Cert.MixInIdeal.cfg0.N,
    (θ_run Cert.MixInIdeal.defs _ _).mono (fun r h c => ?_) (θ_run_and (Cert.MixInEq.run m g) (Cert.MixInIdeal.Frame.frame (F := Ideal) m g)),
    (θ_run Cert.MixInReferenceIdeal.defs _ _).mono (fun r h c => ?_) (Cert.MixInReferenceIdeal.Value.run (F := Ideal) m' g')⟩
  · exact ⟨(h.1 c).1, (h.1 c).2.1, (h.1 c).2.2, h.2.1 c⟩
  · obtain ⟨h0, h1, h2, h⟩ := h c
    obtain ⟨a0, a1, a2, a3, a4, a5, a6, a7, a8⟩ := ha c
    have eX : Cert.MixInReferenceIdeal.MixIn.X m' c = Cert.MixInIdeal.MixIn.X m c := funext₂ fun i j => congrFun a0 (ix2 i j)
    have eY : Cert.MixInReferenceIdeal.MixIn.Y m' c = Cert.MixInIdeal.MixIn.Y m c := funext₂ fun i j => congrFun a1 (ix2 i j)
    have eT : Cert.MixInReferenceIdeal.MixIn.Sh m' c = Cert.MixInIdeal.MixIn.Sh m c := funext fun j => congrFun a2 (ix1 j)
    have eS : Cert.MixInReferenceIdeal.MixIn.S m' c = Cert.MixInIdeal.MixIn.S m c := funext fun j => congrFun a3 (ix1 j)
    have eG : Cert.MixInReferenceIdeal.MixIn.Gn m' c = Cert.MixInIdeal.MixIn.Gn m c := funext fun j => congrFun a5 (ix1 j)
    have eW : Cert.MixInReferenceIdeal.MixIn.W m' c = Cert.MixInIdeal.MixIn.W m c := funext₂ fun i j => congrFun a6 (ix2 i j)
    have eZ : Cert.MixInReferenceIdeal.MixIn.Z m' c = Cert.MixInIdeal.MixIn.Z m c := funext₂ fun i j => congrFun a7 (ix2 i j)
    have eD : Cert.MixInReferenceIdeal.MixIn.D m' c = Cert.MixInIdeal.MixIn.D m c := funext₂ fun i j => congrFun a8 (ix2 i j)
    have eH : Cert.MixInReferenceIdeal.MixIn.H m' c = Cert.MixInIdeal.MixIn.H m c := by
      funext i e; unfold Cert.MixInReferenceIdeal.MixIn.H Cert.MixInIdeal.MixIn.H; rw [eZ, eW]
    have eM : Cert.MixInReferenceIdeal.MixIn.Mo m' c = Cert.MixInIdeal.MixIn.Mo m c := by
      funext i e; unfold Cert.MixInReferenceIdeal.MixIn.Mo Cert.MixInIdeal.MixIn.Mo; rw [eX, eG, eS, eT]
    refine ⟨h0.trans ?_, h1.trans ?_, h2.trans ?_, h⟩
    · refine (Cert.MixInReferenceIdeal.MixIn.dx_res m' c (eX ▸ Cert.MixInEq.x_real m hp c) (eH ▸ Cert.MixInEq.h_real m hp c) (eS ▸ Cert.MixInEq.s_real m hp c)
        (eG ▸ Cert.MixInEq.g_real m hp c)).trans ?_
      rw [eX, eD, eH, eS, eG]
      exact (Cert.MixInIdeal.MixIn.dx_arr m c).symm
    · refine Eq.trans ?_ (Cert.MixInIdeal.MixIn.sums_arr m c).symm
      funext y
      obtain ⟨k, j, rfl⟩ := Rows.ix2_surj y
      rw [← eX, ← eD, ← eH, ← eY, ← eS, ← eG]
      exact Cert.MixInReferenceIdeal.MixIn.sums_res m' c k j
    · refine Eq.trans ?_ (Cert.MixInIdeal.MixIn.dw_arr m c).symm
      funext y
      obtain ⟨k, e, r, rfl⟩ := FfnCall.ix3_surj y
      rw [← eM, ← eZ]
      exact Cert.MixInReferenceIdeal.MixIn.dw_res m' c k e r

end Cert.Proof
-- ==== Proof.HoldCall.lean ====
/- The forward call of the recurrence's coefficients: the arrays it leaves are its reference's. -/
module

public import proofs.«01_k».proof.Proof.Gen.HoldIdeal.Frame
public import proofs.«01_k».proof.Proof.Rows
public import proofs.«01_k».proof.Proof.Gen.HoldReferenceIdeal.Read

@[expose] public section
set_option maxRecDepth 16384
noncomputable section

namespace Cert.HoldIdeal.Hold
open Cert.HoldIdeal Cert.HoldIdeal.Gen Idealize.ShloMosaic Idealize.ShloMosaic.TcCoe Idealize.SL.Sem
open Idealize.ShloMosaic.Pipeline (Dat)
open Cert.HoldIdeal.Facts Cert.HoldReferenceIdeal.Read
attribute [local instance] Cert.HoldReferenceIdeal.Gen.facts

/-- The column of the logarithms of the time steps that the call is handed. -/
def column (x2 : Vec Ideal Cert.HoldReferenceIdeal.S32 .f32) : Vec Ideal S32x1 .f32 := fun i => x2 (ix1 (i 0))

section
variable (x0 x1 : Vec Ideal S32x64 .f32) (x2 : Vec Ideal Cert.HoldReferenceIdeal.S32 .f32)

/-- The decay rates: the call takes the exponentials from zero, the reference negates them. -/
theorem rates : k0_pay1 x0 = val_main_v1 x0 := by
  funext y
  unfold k0_pay1 val_main_v1 val_main_v0
  pointwise
  exact _root_.zero_sub (G := EReal) _

/-- The time steps, one row of lanes each. -/
theorem steps : broadcastTo S32x64 (k0_pay2 (column x2)) broadcasts_S32x1_S32x64 = val_main_v4 x2 := by
  funext y
  obtain ⟨r, z, rfl⟩ := Rows.ix2_surj y
  unfold k0_pay2 val_main_v4 val_main_v3 val_main_v2 column
  pointwise

theorem magnitude : k0_pay3 x0 (column x2) = val_main_v6 x0 x2 := by
  unfold k0_pay3
  dsimp only
  rw [rates, steps]
  rfl

theorem angle : k0_pay4 x1 (column x2) = val_main_v8 x1 x2 := by
  unfold k0_pay4
  dsimp only
  rw [steps]
  rfl

theorem decay_re : k0_pay5 x0 x1 (column x2) = val_main_v10 x0 x1 x2 := by
  unfold k0_pay5
  dsimp only
  rw [magnitude, angle]
  rfl

theorem decay_im : k0_pay6 x0 x1 (column x2) = val_main_v12 x0 x1 x2 := by
  unfold k0_pay6
  dsimp only
  rw [magnitude, angle]
  rfl

theorem numerator : k0_pay7 x0 x1 (column x2) = val_main_v14 x0 x1 x2 := by
  unfold k0_pay7
  dsimp only
  rw [decay_re]
  unfold val_main_v14
  refine congrArg (subf _) (funext fun y => ?_)
  unfold val_main_v13 val_main_cst
  pointwise

theorem denominator : k0_pay8 x0 x1 = val_main_v17 x0 x1 := by
  unfold k0_pay8
  dsimp only
  rw [rates]
  rfl

theorem factor_re : k0_pay9 x0 x1 (column x2) = val_main_v21 x0 x1 x2 := by
  unfold k0_pay9
  dsimp only
  rw [numerator, decay_im, denominator, rates]
  rfl

theorem factor_im : k0_pay10 x0 x1 (column x2) = val_main_v25 x0 x1 x2 := by
  unfold k0_pay10
  dsimp only
  rw [numerator, decay_im, denominator, rates]
  rfl

theorem zeros : (![0, 0] : Fin 2 → Nat) = fun _ => 0 := by decide

theorem block3 : out0_3 x0 x1 (column x2) = val_main_v10 x0 x1 x2 := by
  unfold out0_3
  rw [View.canon_unit_zero zeros, View.ld_unit_zero zeros, View.ld_unit_zero zeros, View.ld_unit_zero zeros, decay_re]

theorem block4 : out0_4 x0 x1 (column x2) = val_main_v12 x0 x1 x2 := by
  unfold out0_4
  rw [View.canon_unit_zero zeros, View.ld_unit_zero zeros, View.ld_unit_zero zeros, View.ld_unit_zero zeros, decay_im]

theorem block5 : out0_5 x0 x1 (column x2) = val_main_v21 x0 x1 x2 := by
  unfold out0_5
  rw [View.canon_unit_zero zeros, View.ld_unit_zero zeros, View.ld_unit_zero zeros, View.ld_unit_zero zeros, factor_re]

theorem block6 : out0_6 x0 x1 (column x2) = val_main_v25 x0 x1 x2 := by
  unfold out0_6
  rw [View.canon_unit_zero zeros, View.ld_unit_zero zeros, View.ld_unit_zero zeros, View.ld_unit_zero zeros, factor_im]
end

variable (m : (ℓ : Loc nD τ sig) → Buf (Elt Ideal) ℓ) (c : Dev nD)

/-- The call has one grid point, whose blocks are the whole arrays. -/
theorem idx : ∀ t : Fin cfg0.N, win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] :=
  (by decide +kernel : ∀ t : Fin grid0.N, _)

/-- An array of the call's arguments. -/
abbrev arg (b : Ref sig .tc) := m ((c : Thread nD τ).loc b)

theorem blk0 (t : Fin cfg0.N) : iblk m c 0 t = m ((c : Thread nD τ).loc main_arg0) := by
  funext y
  obtain ⟨r, l, rfl⟩ := Rows.ix2_surj y
  blk_ext [iblk, V, idx t]

theorem blk1 (t : Fin cfg0.N) : iblk m c 1 t = m ((c : Thread nD τ).loc main_arg1) := by
  funext y
  obtain ⟨r, l, rfl⟩ := Rows.ix2_surj y
  blk_ext [iblk, V, idx t]

theorem blk2 (t : Fin cfg0.N) : iblk m c 2 t = column (m ((c : Thread nD τ).loc main_arg2)) := by
  funext y
  obtain ⟨r, l, rfl⟩ := Rows.ix2_surj y
  blk_simp [iblk, idx t]
  entry_read
  pointwise
  unfold column
  blk_ext [idx t]

theorem arr3 : (dats m 0 c).arrAt 3 cfg0.N = val_main_v10 (arg m c main_arg0) (arg m c main_arg1) (arg m c main_arg2) := by
  refine (dats m 0 c).arrAt_eq_of_covers 3 _ (by decide +kernel) fun t hf y => ?_
  obtain ⟨r, l, rfl⟩ := Rows.ix2_surj y
  rw [after0_3, blk0, blk1, blk2, block3]
  refine congrArg (val_main_v10 (arg m c main_arg0) (arg m c main_arg1) (arg m c main_arg2)) ?_
  blk_ext [idx t]

theorem arr4 : (dats m 0 c).arrAt 4 cfg0.N = val_main_v12 (arg m c main_arg0) (arg m c main_arg1) (arg m c main_arg2) := by
  refine (dats m 0 c).arrAt_eq_of_covers 4 _ (by decide +kernel) fun t hf y => ?_
  obtain ⟨r, l, rfl⟩ := Rows.ix2_surj y
  rw [after0_4, blk0, blk1, blk2, block4]
  refine congrArg (val_main_v12 (arg m c main_arg0) (arg m c main_arg1) (arg m c main_arg2)) ?_
  blk_ext [idx t]

theorem arr5 : (dats m 0 c).arrAt 5 cfg0.N = val_main_v21 (arg m c main_arg0) (arg m c main_arg1) (arg m c main_arg2) := by
  refine (dats m 0 c).arrAt_eq_of_covers 5 _ (by decide +kernel) fun t hf y => ?_
  obtain ⟨r, l, rfl⟩ := Rows.ix2_surj y
  rw [after0_5, blk0, blk1, blk2, block5]
  refine congrArg (val_main_v21 (arg m c main_arg0) (arg m c main_arg1) (arg m c main_arg2)) ?_
  blk_ext [idx t]

theorem arr6 : (dats m 0 c).arrAt 6 cfg0.N = val_main_v25 (arg m c main_arg0) (arg m c main_arg1) (arg m c main_arg2) := by
  refine (dats m 0 c).arrAt_eq_of_covers 6 _ (by decide +kernel) fun t hf y => ?_
  obtain ⟨r, l, rfl⟩ := Rows.ix2_surj y
  rw [after0_6, blk0, blk1, blk2, block6]
  refine congrArg (val_main_v25 (arg m c main_arg0) (arg m c main_arg1) (arg m c main_arg2)) ?_
  blk_ext [idx t]

end Cert.HoldIdeal.Hold
-- ==== Proof.HoldEq.lean ====
/- The forward call of the recurrence's coefficients and its reference leave the same arrays. -/
module

public import proofs.«01_k».proof.Defs
public import proofs.«01_k».proof.Proof.Gen.HoldIdeal
public import proofs.«01_k».proof.Proof.Gen.HoldReferenceIdeal
public import proofs.«01_k».proof.Proof.HoldCall
public import proofs.«01_k».proof.Proof.Gen.HoldReferenceIdeal.Run

@[expose] public section
noncomputable section

namespace Cert.HoldIdeal.Hold
open Cert.HoldIdeal Cert.HoldIdeal.Gen Idealize.ShloMosaic Idealize.ShloMosaic.TcCoe Idealize.SL.Sem
variable (m : (ℓ : Loc nD τ sig) → Buf (Elt Ideal) ℓ) (g)

/-- The call's run: its four arrays. -/
theorem run : θ_run defs (onTc (τ := τ) (main (F := Ideal))) ⟨m, fun _ => 0, g⟩ fun r => ∀ c : Dev nD,
    r.2.mem ((c : Thread nD τ).loc main_v1_0) = (dats m 0 c).arrAt 3 cfg0.N ∧ r.2.mem ((c : Thread nD τ).loc main_v1_1) = (dats m 0 c).arrAt 4 cfg0.N ∧
    r.2.mem ((c : Thread nD τ).loc main_v1_2) = (dats m 0 c).arrAt 5 cfg0.N ∧ r.2.mem ((c : Thread nD τ).loc main_v1_3) = (dats m 0 c).arrAt 6 cfg0.N :=
  (θ_run defs _ _).mono (fun _ h c => ⟨(h c).1 3, (h c).1 4, (h c).1 5, (h c).1 6⟩) (run_main m g)

end Cert.HoldIdeal.Hold

namespace Cert.Proof
open Idealize.ShloMosaic Idealize.ShloMosaic.TcCoe Idealize.SL.Sem
attribute [local instance] Cert.HoldIdeal.Gen.facts Cert.HoldReferenceIdeal.Gen.facts

/-- The two programs leave the same arrays. -/
theorem hold : Cert.algebraic_HoldIdeal_HoldReferenceIdeal := fun m g m' g' _ ha => by
  refine ⟨fun c => (Cert.HoldIdeal.Gen.dats m 0 c).arrAt 3 Cert.HoldIdeal.cfg0.N, fun c => (Cert.HoldIdeal.Gen.dats m 0 c).arrAt 4 Cert.HoldIdeal.cfg0.N,
    fun c => (Cert.HoldIdeal.Gen.dats m 0 c).arrAt 5 Cert.HoldIdeal.cfg0.N, fun c => (Cert.HoldIdeal.Gen.dats m 0 c).arrAt 6 Cert.HoldIdeal.cfg0.N,
    (θ_run Cert.HoldIdeal.defs _ _).mono (fun r h c => ?_) (θ_run_and (Cert.HoldIdeal.Hold.run m g) (Cert.HoldIdeal.Gen.unchanged (F := Ideal) m g)),
    (θ_run Cert.HoldReferenceIdeal.defs _ _).mono (fun r h c => ?_) (Cert.HoldReferenceIdeal.Value.run (F := Ideal) m' g')⟩
  · exact ⟨(h.1 c).1, (h.1 c).2.1, (h.1 c).2.2.1, (h.1 c).2.2.2, h.2 c⟩
  · obtain ⟨h0, h1, h2, h3, h⟩ := h c
    obtain ⟨a0, a1, a2⟩ := ha c
    refine ⟨h0.trans ?_, h1.trans ?_, h2.trans ?_, h3.trans ?_, h⟩
    · refine (Cert.HoldReferenceIdeal.Read.val_main_v10_eq _ _ _).trans (Eq.trans ?_ (Cert.HoldIdeal.Hold.arr3 m c).symm)
      rw [a0, a1, a2]
    · refine (Cert.HoldReferenceIdeal.Read.val_main_v12_eq _ _ _).trans (Eq.trans ?_ (Cert.HoldIdeal.Hold.arr4 m c).symm)
      rw [a0, a1, a2]
    · refine (Cert.HoldReferenceIdeal.Read.val_main_v21_eq _ _ _).trans (Eq.trans ?_ (Cert.HoldIdeal.Hold.arr5 m c).symm)
      rw [a0, a1, a2]
    · refine (Cert.HoldReferenceIdeal.Read.val_main_v25_eq _ _ _).trans (Eq.trans ?_ (Cert.HoldIdeal.Hold.arr6 m c).symm)
      rw [a0, a1, a2]

end Cert.Proof
-- ==== Proof.GateKernel.lean ====
/- The forward call of the first feed-forward's hidden units: the two arrays it leaves, as functions of its arguments. -/
module

public import proofs.«01_k».proof.Proof.Gen.GateIdeal.Value
public import proofs.«01_k».proof.Proof.Rows
public import proofs.«01_k».proof.Proof.LossCall

@[expose] public section
set_option maxRecDepth 16384
noncomputable section

namespace Cert.GateIdeal.Gate
open Cert.GateIdeal Cert.GateIdeal.Gen Idealize.ShloMosaic Idealize.ShloMosaic.TcCoe Idealize.SL.Sem
open Idealize.ShloMosaic.Pipeline (Dat)
open Cert.GateIdeal.Facts Cert.NormGrad Cert.FfnCall Cert.DwinCall Cert.LossCall

section
variable (x0 : FVec Ideal S512x1024 .f32) (x1 : FVec Ideal S16x1024 .f32) (x2 : FVec Ideal S2x4x704x1024 .bf16)

/-- A tile's modulated rows and hidden units. -/
def tmod (r : Fin 512) (e : Fin 1024) : EReal :=
  x0 (ix2 r e) * rinv (fun k => x0 (ix2 r k)) * x1 (ix2 9 e) * (1 + x1 (ix2 1 e)) + x1 (ix2 0 e)
def thid (p : Fin 2) (j : Fin 4) (r : Fin 512) (k : Fin 704) : EReal := ∑ e, tmod x0 x1 r e * x2 (ix4 p j k e)

set_option maxHeartbeats 4000000 in
/-- What the body stores of the hidden units, -/
theorem ab_out (p : Fin 2) (j : Fin 4) (r : Fin 512) (k : Fin 704) : out0_3 (F := Ideal) x0 x1 x2 (ix4 p j r k) = thid x0 x1 x2 p j r k := by
  obtain ⟨p, hp⟩ := p
  obtain ⟨j, hj⟩ := j
  unfold_out out0_3
  canon_tiles x h
  all_goals
    replace h0 : p = _ := h0
    replace h1 : j = _ := h1
    rw [show (x 0).val = 0 by omega] at h0
    rw [show (x 1).val = 0 by omega] at h1
    subst h0 h1
    rw [show r = x 2 from Fin.ext h2, show k = x 3 from Fin.ext h3]
    open_payloads
    pointwise
    rfl

set_option maxHeartbeats 4000000 in
/-- and of the gated units. -/
theorem s_out (j : Fin 4) (r : Fin 512) (k : Fin 704) : out0_4 (F := Ideal) x0 x1 x2 (ix3 j r k)
    = unit (thid x0 x1 x2 0 j r k) (thid x0 x1 x2 1 j r k) := by
  obtain ⟨j, hj⟩ := j
  unfold_out out0_4
  canon_tiles x h
  all_goals
    replace h0 : j = _ := h0
    rw [show (x 0).val = 0 by omega] at h0
    subst h0
    rw [show r = x 1 from Fin.ext h1, show k = x 2 from Fin.ext h2]
    open_payloads
    pointwise
    rfl
end

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![0, 0, 0, 0] ∧
    win0_3.index t = ![0, 0, t.val, 0] ∧ win0_4.index t = ![0, t.val, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

theorem x_blk (c : Dev nD) (t : Fin cfg0.N) (r : Fin 512) (e : Fin 1024) :
    iblk m c 0 t (ix2 r e) = m ((c : Thread nD τ).loc main_arg0) (ix2 (tok t r) e) := by
  blk_ext [iblk, V, idx t, tok]

theorem in_blk (c : Dev nD) (t : Fin cfg0.N) (p : Fin 2) (j : Fin 4) (k : Fin 704) (e : Fin 1024) :
    iblk m c 2 t (ix4 p j k e) = wIn (m ((c : Thread nD τ).loc main_arg4)) p j k e := by
  blk_simp [iblk, idx t]
  entry_read
  unfold wIn
  pointwise
  refine congrArg (m ((c : Thread nD τ).loc main_arg4)) ?_
  blk_ext [idx t]

/-- The packed parameter rows, as the host lays them out. -/
def prm (shift scale g : FVec Ideal S1024 .f32) : FVec Ideal S16x1024 .f32 :=
  concatenate S16x1024 0 [⟨S1x1024, broadcastInDim S1x1024 ![1] bcast_S1024_S1x1024_1 shift⟩,
    ⟨S1x1024, broadcastInDim S1x1024 ![1] bcast_S1024_S1x1024_1 scale⟩,
    ⟨S7x1024, broadcastInDim S7x1024 ![] bcast_S_S7x1024 (constant (F := Ideal) S_ .f32 0x00000000#32)⟩,
    ⟨S1x1024, broadcastInDim S1x1024 ![1] bcast_S1024_S1x1024_1 g⟩,
    ⟨S6x1024, broadcastInDim S6x1024 ![] bcast_S_S6x1024 (constant (F := Ideal) S_ .f32 0x00000000#32)⟩]
    concatenates_S1x1024_S1x1024_S7x1024_S1x1024_S6x1024_S16x1024_d0

theorem prm_shift (shift scale g : FVec Ideal S1024 .f32) (e : Fin 1024) : prm shift scale g (ix2 0 e) = shift (ix1 e) := by
  refine (Rows.stack_apply 0 (broadcastInDim S1x1024 ![1] bcast_S1024_S1x1024_1 shift) 0 0 (by simp) rfl rfl rfl).trans ?_
  pointwise
  blk_ext []

theorem prm_scale (shift scale g : FVec Ideal S1024 .f32) (e : Fin 1024) : prm shift scale g (ix2 1 e) = scale (ix1 e) := by
  refine (Rows.stack_apply 1 (broadcastInDim S1x1024 ![1] bcast_S1024_S1x1024_1 scale) 1 0 (by simp) rfl rfl rfl).trans ?_
  pointwise
  blk_ext []

theorem prm_g (shift scale g : FVec Ideal S1024 .f32) (e : Fin 1024) : prm shift scale g (ix2 9 e) = g (ix1 e) := by
  refine (Rows.stack_apply 3 (broadcastInDim S1x1024 ![1] bcast_S1024_S1x1024_1 g) 9 0 (by simp) rfl rfl rfl).trans ?_
  pointwise
  blk_ext []

theorem prm_blk (c : Dev nD) (t : Fin cfg0.N) (k : Fin 16) (e : Fin 1024) : iblk m c 1 t (ix2 k e)
    = prm (m ((c : Thread nD τ).loc main_arg1)) (m ((c : Thread nD τ).loc main_arg2)) (m ((c : Thread nD τ).loc main_arg3)) (ix2 k e) := by
  unfold iblk
  refine Eq.trans (b := V m c main_v5 (ix2 k e)) ?_ rfl
  blk_ext [idx t]

/-- The hidden units of a core's arguments. -/
abbrev hiddenOf (c : Dev nD) : Fin 2 → Fin 4 → Fin 4096 → Fin 704 → EReal :=
  LossCall.hidden (m ((c : Thread nD τ).loc main_arg0)) (m ((c : Thread nD τ).loc main_arg1)) (m ((c : Thread nD τ).loc main_arg2))
    (m ((c : Thread nD τ).loc main_arg3)) (m ((c : Thread nD τ).loc main_arg4))

theorem thid_blk (c : Dev nD) (t : Fin cfg0.N) (p : Fin 2) (j : Fin 4) (r : Fin 512) (k : Fin 704) :
    thid (iblk m c 0 t) (iblk m c 1 t) (iblk m c 2 t) p j r k = hiddenOf m c p j (tok t r) k := by
  simp only [thid, tmod, hiddenOf, LossCall.hidden, modulated, x_blk, prm_blk, prm_shift, prm_scale, prm_g, in_blk]

/-- The first array: the hidden units. -/
theorem ab_arr (c : Dev nD) : (dats m 0 c).arrAt 3 cfg0.N = fun y => hiddenOf m c (y 0) (y 1) (y 2) (y 3) := by
  refine (dats m 0 c).arrAt_eq_of_covers 3 _ (by decide +kernel) fun t hf y => ?_
  obtain ⟨p, j, r, k, rfl⟩ := FfnCall.ix4_surj y
  blk_simp
  rw [after0_3]
  have hG : ((View.whole main_v9_0).slice (win0_3.rect t)).emb (ix4 p j r k) = ix4 p j (tok t r) k := by
    blk_ext [idx t, tok]
  rw [hG]
  exact (ab_out _ _ _ p j r k).trans (thid_blk m c t p j r k)

/-- The second array: the gated units. -/
theorem s_arr (c : Dev nD) : (dats m 0 c).arrAt 4 cfg0.N = fun y => unit (hiddenOf m c 0 (y 0) (y 1) (y 2)) (hiddenOf m c 1 (y 0) (y 1) (y 2)) := by
  refine (dats m 0 c).arrAt_eq_of_covers 4 _ (by decide +kernel) fun t hf y => ?_
  obtain ⟨j, r, k, rfl⟩ := FfnCall.ix3_surj y
  blk_simp
  rw [after0_4]
  have hG : ((View.whole main_v9_1).slice (win0_4.rect t)).emb (ix3 j r k) = ix3 j (tok t r) k := by
    blk_ext [idx t, tok]
  rw [hG]
  refine (s_out _ _ _ j r k).trans ?_
  rw [thid_blk, thid_blk]
  rfl

end Cert.GateIdeal.Gate
-- ==== Proof.GateRef.lean ====
/- The reference of the first feed-forward's hidden units: what its lines compute, entry by entry. -/
module

public import proofs.«01_k».proof.Proof.Gen.GateReferenceIdeal.Run
public import proofs.«01_k».proof.Proof.Gen.GateReferenceIdeal.Read
public import proofs.«01_k».proof.Proof.Rows
public import proofs.«01_k».proof.Proof.LossCall

@[expose] public section
set_option maxRecDepth 16384
noncomputable section

namespace Cert.GateReferenceIdeal.Gate
open Idealize.ShloMosaic Idealize.ShloMosaic.TcCoe Cert.GateReferenceIdeal.Read Cert.NormGrad Cert.FfnCall Cert.DwinCall Cert.LossCall

variable (x0 : FVec Ideal S4096x1024 .f32) (x1 x2 x3 : FVec Ideal S1024 .f32) (x4 : FVec Ideal S1024x5632 .f32)

/-- The normalised and modulated tokens, -/
theorem mod_at (t : Fin 4096) (e : Fin 1024) : val_main_v20 (F := Ideal) x0 x1 x2 x3 (ix2 t e) = modulated x0 x1 x2 x3 t e := by
  unfold val_main_v20 val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0 val_main_cst val_main_cst_0
    val_main_cst_1 val_main_cst_2
  pointwise
  rfl

/-- their product with the input matrix, by half, block and unit, -/
theorem ab_at (t : Fin 4096) (p : Fin 2) (j : Fin 4) (k : Fin 704) (q : Fin 5632) (hq : q.val = 2816 * p.val + 704 * j.val + k.val) :
    val_main_v21 (F := Ideal) x0 x1 x2 x3 x4 (ix2 t q) = LossCall.hidden x0 x1 x2 x3 x4 p j t k := by
  refine (val_main_v21_apply x0 x1 x2 x3 x4 (ix2 t q)).trans (Finset.sum_congr (M := EReal) rfl fun e _ => ?_)
  have hl : lidx_main_v21 (ix2 t q) e = ix2 t e := by funext a; match a with | 0 => rfl | 1 => rfl
  have hr : ridx_main_v21 (ix2 t q) e = ix2 e ⟨2816 * p.val + 704 * j.val + k.val, by omega⟩ := by
    funext a; match a with | 0 => rfl | 1 => exact Fin.ext hq
  exact congrArg₂ (· * ·) ((congrArg _ hl).trans (mod_at x0 x1 x2 x3 t e)) (congrArg x4 hr)

/-- and the gated unit. -/
theorem unit_at (t : Fin 4096) (j : Fin 4) (k : Fin 704) (q : Fin 2816) (hq : q.val = 704 * j.val + k.val) :
    val_main_v25 (F := Ideal) x0 x1 x2 x3 x4 (ix2 t q) = unit (LossCall.hidden x0 x1 x2 x3 x4 0 j t k) (LossCall.hidden x0 x1 x2 x3 x4 1 j t k) := by
  have ha : val_main_v22 (F := Ideal) x0 x1 x2 x3 x4 (ix2 t q) = LossCall.hidden x0 x1 x2 x3 x4 0 j t k := by
    unfold val_main_v22
    refine Eq.trans ?_ (ab_at x0 x1 x2 x3 x4 t 0 j k ⟨q.val, by omega⟩ (by simp [hq]))
    pointwise
  have hb : val_main_v23 (F := Ideal) x0 x1 x2 x3 x4 (ix2 t q) = LossCall.hidden x0 x1 x2 x3 x4 1 j t k := by
    unfold val_main_v23
    refine Eq.trans ?_ (ab_at x0 x1 x2 x3 x4 t 1 j k ⟨2816 + q.val, by omega⟩ (by simp [hq, Nat.add_assoc]))
    pointwise
  unfold val_main_v25 val_main_v24 val_main_call0_v5 val_main_call0_v4 val_main_call0_cst_0 val_main_call0_v3 val_main_call0_v2 val_main_call0_cst
    val_main_call0_v1 val_main_call0_v0
  pointwise
  rw [ha, hb]
  rfl

/-- The hidden units, laid out by half, block, token and unit. -/
theorem ab_res : val_main_v28 (F := Ideal) x0 x1 x2 x3 x4 = fun y => LossCall.hidden x0 x1 x2 x3 x4 (y 0) (y 1) (y 2) (y 3) := by
  funext y
  obtain ⟨p, j, t, k, rfl⟩ := FfnCall.ix4_surj y
  refine Eq.trans ?_ (ab_at x0 x1 x2 x3 x4 t p j k ⟨2816 * p.val + 704 * j.val + k.val, by omega⟩ rfl)
  unfold val_main_v28 val_main_v27 val_main_v26
  pointwise
  refine congrArg (val_main_v21 (F := Ideal) x0 x1 x2 x3 x4) ?_
  blk_ext []

/-- The gated units, laid out by block, token and unit. -/
theorem s_res : val_main_v31 (F := Ideal) x0 x1 x2 x3 x4
    = fun y => unit (LossCall.hidden x0 x1 x2 x3 x4 0 (y 0) (y 1) (y 2)) (LossCall.hidden x0 x1 x2 x3 x4 1 (y 0) (y 1) (y 2)) := by
  funext y
  obtain ⟨j, t, k, rfl⟩ := FfnCall.ix3_surj y
  refine Eq.trans ?_ (unit_at x0 x1 x2 x3 x4 t j k ⟨704 * j.val + k.val, by omega⟩ rfl)
  unfold val_main_v31 val_main_v30 val_main_v29
  pointwise
  refine congrArg (val_main_v25 (F := Ideal) x0 x1 x2 x3 x4) ?_
  blk_ext []

end Cert.GateReferenceIdeal.Gate
-- ==== Proof.GateEq.lean ====
/- The forward call of the hidden units and its reference leave the same arrays. -/
module

public import proofs.«01_k».proof.Defs
public import proofs.«01_k».proof.Proof.Gen.GateIdeal
public import proofs.«01_k».proof.Proof.Gen.GateReferenceIdeal
public import proofs.«01_k».proof.Proof.GateKernel
public import proofs.«01_k».proof.Proof.GateRef

@[expose] public section
noncomputable section

namespace Cert.Proof
open Idealize.ShloMosaic Idealize.ShloMosaic.TcCoe Idealize.SL.Sem
attribute [local instance] Cert.GateIdeal.Gen.facts Cert.GateReferenceIdeal.Gen.facts

/-- The two programs leave the same arrays. -/
theorem gate : Cert.algebraic_GateIdeal_GateReferenceIdeal := fun m g m' g' _ ha => by
  refine ⟨fun c => (Cert.GateIdeal.Gen.dats m 0 c).arrAt 3 Cert.GateIdeal.cfg0.N, fun c => (Cert.GateIdeal.Gen.dats m 0 c).arrAt 4 Cert.GateIdeal.cfg0.N,
    (θ_run Cert.GateIdeal.defs _ _).mono (fun r h c => ?_) (Cert.GateIdeal.Value.run_blocks (F := Ideal) m g),
    (θ_run Cert.GateReferenceIdeal.defs _ _).mono (fun r h c => ?_) (Cert.GateReferenceIdeal.Value.run (F := Ideal) m' g')⟩
  · exact h c
  · obtain ⟨h0, h1, h⟩ := h c
    obtain ⟨a0, a1, a2, a3, a4⟩ := ha c
    have e : ∀ b, StableHlo.launchContents m' c (Proc.devRef .tc b) = m' ((c : Thread Cert.GateReferenceIdeal.nD Cert.GateReferenceIdeal.τ).loc b) := fun _ => rfl
    refine ⟨h0.trans ?_, h1.trans ?_, h⟩
    · refine Eq.trans ?_ (Cert.GateIdeal.Gate.ab_arr m c).symm
      refine (Cert.GateReferenceIdeal.Read.val_main_v28_eq (F := Ideal) _ _ _ _ _).trans ?_
      simp only [e, a0, a1, a2, a3, a4]
      exact Cert.GateReferenceIdeal.Gate.ab_res _ _ _ _ _
    · refine Eq.trans ?_ (Cert.GateIdeal.Gate.s_arr m c).symm
      refine (Cert.GateReferenceIdeal.Read.val_main_v31_eq (F := Ideal) _ _).trans ?_
      simp only [e, a0, a1, a2, a3, a4]
      exact Cert.GateReferenceIdeal.Gate.s_res _ _ _ _ _

end Cert.Proof
-- ==== Proof.OutKernel.lean ====
/- The forward call of the first feed-forward's output: the two arrays it leaves, as functions of its arguments. -/
module

public import proofs.«01_k».proof.Proof.Gen.OutIdeal.Value
public import proofs.«01_k».proof.Proof.Rows
public import proofs.«01_k».proof.Proof.FfnCall

@[expose] public section
set_option maxRecDepth 16384
noncomputable section

namespace Cert.OutIdeal.Out
open Cert.OutIdeal Cert.OutIdeal.Gen Idealize.ShloMosaic Idealize.ShloMosaic.TcCoe Idealize.SL.Sem
open Idealize.ShloMosaic.Pipeline (Dat)
open Cert.OutIdeal.Facts Cert.FfnCall

section
variable (x0 : FVec Ideal S512x1024 .f32) (x1 : FVec Ideal S4x512x704 .bf16) (x2 : FVec Ideal S16x1024 .f32) (x3 : FVec Ideal S4x704x1024 .bf16)

/-- A tile's product with the output matrix, summed over the column blocks. -/
def tout (r : Fin 512) (e : Fin 1024) : EReal := ∑ j : Fin 4, ∑ k : Fin 704, x1 (ix3 j r k) * x3 (ix3 j k e)

theorem zeros : (![0, 0] : Fin 2 → Nat) = fun _ => 0 := by decide

/-- What the body stores of the output, -/
theorem f_out (r : Fin 512) (e : Fin 1024) : out0_5 (F := Ideal) x0 x1 x2 x3 (ix2 r e) = tout x1 x3 r e := by
  unfold out0_5
  rw [View.canon_unit_zero zeros]
  open_payloads
  pointwise
  simp only [tout, Fin.sum_univ_four]

/-- and of the rows beside the residual. -/
theorem x_out (r : Fin 512) (e : Fin 1024) : out0_4 (F := Ideal) x0 x1 x2 x3 (ix2 r e)
    = x0 (ix2 r e) + half * x2 (ix2 2 e) * tout x1 x3 r e := by
  unfold out0_4
  rw [View.canon_unit_zero zeros, View.ld_unit_zero zeros]
  open_payloads
  pointwise
  simp only [tout, Fin.sum_univ_four]
  rfl
end

variable (m : (ℓ : Loc nD τ sig) → Buf (Elt Ideal) ℓ)

/-- Where each window's block lies at each grid point. -/
theorem idx : ∀ t : Fin cfg0.N, win0_0.index t = ![t.val, 0] ∧ win0_1.index t = ![0, t.val, 0] ∧ win0_2.index t = ![0, 0] ∧
    win0_3.index t = ![0, 0, 0] ∧ win0_4.index t = ![t.val, 0] ∧ win0_5.index t = ![t.val, 0] :=
  (by decide +kernel : ∀ t : Fin grid0.N, _)

/-- The token that row `r` of grid point `t`'s tile is. -/
def tok (t : Fin cfg0.N) (r : Fin 512) : Fin 4096 :=
  ⟨t.val * 512 + r.val, by have h : t.val < 8 := lt_of_lt_of_eq t.isLt N_0; omega⟩

theorem x_blk (c : Dev nD) (t : Fin cfg0.N) (r : Fin 512) (e : Fin 1024) :
    iblk m c 0 t (ix2 r e) = m ((c : Thread nD τ).loc main_arg0) (ix2 (tok t r) e) := by
  blk_ext [iblk, V, idx t, tok]

/-- A gated unit, in column block `j`. -/
def unitOf (s : (⟨2, ![4096, 2816]⟩ : Shape).Idx → EReal) (j : Fin 4) (t : Fin 4096) (k : Fin 704) : EReal := s (ix2 t ⟨704 * j.val + k.val, by omega⟩)

theorem s_blk (c : Dev nD) (t : Fin cfg0.N) (j : Fin 4) (r : Fin 512) (k : Fin 704) :
    iblk m c 1 t (ix3 j r k) = unitOf (m ((c : Thread nD τ).loc main_arg1)) j (tok t r) k := by
  blk_simp [iblk, idx t]
  entry_read
  unfold unitOf
  pointwise
  refine congrArg (m ((c : Thread nD τ).loc main_arg1)) ?_
  blk_ext [idx t, tok]

theorem w_blk (c : Dev nD) (t : Fin cfg0.N) (j : Fin 4) (k : Fin 704) (e : Fin 1024) :
    iblk m c 3 t (ix3 j k e) = wOut (m ((c : Thread nD τ).loc main_arg3)) j k e := by
  blk_simp [iblk, idx t]
  entry_read
  unfold wOut
  pointwise
  refine congrArg (m ((c : Thread nD τ).loc main_arg3)) ?_
  blk_ext [idx t]

/-- The packed parameter rows, as the host lays them out. -/
def prm (gate : FVec Ideal S1024 .f32) : FVec Ideal S16x1024 .f32 :=
  concatenate S16x1024 0 [⟨S2x1024, broadcastInDim S2x1024 ![] bcast_S_S2x1024 (constant (F := Ideal) S_ .f32 0x00000000#32)⟩,
    ⟨S1x1024, broadcastInDim S1x1024 ![1] bcast_S1024_S1x1024_1 gate⟩,
    ⟨S13x1024, broadcastInDim S13x1024 ![] bcast_S_S13x1024 (constant (F := Ideal) S_ .f32 0x00000000#32)⟩]
    concatenates_S2x1024_S1x1024_S13x1024_S16x1024_d0

theorem gate_blk (c : Dev nD) (t : Fin cfg0.N) (e : Fin 1024) : iblk m c 2 t (ix2 2 e) = m ((c : Thread nD τ).loc main_arg2) (ix1 e) := by
  have h : iblk m c 2 t (ix2 2 e) = prm (m ((c : Thread nD τ).loc main_arg2)) (ix2 2 e) := by
    unfold iblk
    refine Eq.trans (b := V m c main_v3 (ix2 2 e)) ?_ rfl
    blk_ext [idx t]
  refine h.trans ((Rows.stack_apply 1 (broadcastInDim S1x1024 ![1] bcast_S1024_S1x1024_1 (m ((c : Thread nD τ).loc main_arg2))) 2 0 (by simp) rfl rfl rfl).trans ?_)
  pointwise
  blk_ext []

/-- The product with the output matrix, by column blocks, -/
def out (s : (⟨2, ![4096, 2816]⟩ : Shape).Idx → EReal) (w : (⟨2, ![2816, 1024]⟩ : Shape).Idx → EReal) (t : Fin 4096) (e : Fin 1024) : EReal :=
  ∑ j : Fin 4, ∑ k : Fin 704, unitOf s j t k * wOut w j k e

/-- and that of a core's arguments. -/
abbrev outOf (c : Dev nD) : Fin 4096 → Fin 1024 → EReal := out (m ((c : Thread nD τ).loc main_arg1)) (m ((c : Thread nD τ).loc main_arg3))

/-- The rows beside the residual, of the rows, the gate and the output. -/
def rows (x : (⟨2, ![4096, 1024]⟩ : Shape).Idx → EReal) (gate : (⟨1, ![1024]⟩ : Shape).Idx → EReal) (f : Fin 4096 → Fin 1024 → EReal) (t : Fin 4096)
    (e : Fin 1024) : EReal := x (ix2 t e) + half * gate (ix1 e) * f t e

theorem tout_blk (c : Dev nD) (t : Fin cfg0.N) (r : Fin 512) (e : Fin 1024) :
    tout (iblk m c 1 t) (iblk m c 3 t) r e = outOf m c (tok t r) e := by
  simp only [tout, outOf, out, s_blk, w_blk]

/-- The first array: the rows beside the residual. -/
theorem x_arr (c : Dev nD) : (dats m 0 c).arrAt 4 cfg0.N = fun y => rows (m ((c : Thread nD τ).loc main_arg0)) (m ((c : Thread nD τ).loc main_arg2)) (outOf m c) (y 0) (y 1) := by
  refine (dats m 0 c).arrAt_eq_of_covers 4 _ (by decide +kernel) fun t hf y => ?_
  obtain ⟨r, e, rfl⟩ := Rows.ix2_surj y
  blk_simp
  rw [after0_4]
  have hG : ((View.whole main_v9_0).slice (win0_4.rect t)).emb (ix2 r e) = ix2 (tok t r) e := by
    blk_ext [idx t, tok]
  rw [hG]
  refine (x_out _ _ _ _ r e).trans ?_
  rw [tout_blk, x_blk, gate_blk]
  rfl

/-- The second array: the output. -/
theorem f_arr (c : Dev nD) : (dats m 0 c).arrAt 5 cfg0.N = fun y => outOf m c (y 0) (y 1) := by
  refine (dats m 0 c).arrAt_eq_of_covers 5 _ (by decide +kernel) fun t hf y => ?_
  obtain ⟨r, e, rfl⟩ := Rows.ix2_surj y
  blk_simp
  rw [after0_5]
  have hG : ((View.whole main_v9_1).slice (win0_5.rect t)).emb (ix2 r e) = ix2 (tok t r) e := by
    blk_ext [idx t, tok]
  rw [hG]
  exact (f_out _ _ _ _ r e).trans (tout_blk m c t r e)

end Cert.OutIdeal.Out
-- ==== Proof.OutEq.lean ====
/- The forward call of the feed-forward's output and its reference leave the same arrays. -/
module

public import proofs.«01_k».proof.Defs
public import proofs.«01_k».proof.Proof.Gen.OutIdeal
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutKernel

@[expose] public section
noncomputable section

namespace Cert.OutEq
open Idealize.ShloMosaic Idealize.ShloMosaic.TcCoe Idealize.SL.Sem Cert.FfnCall Cert.OutReferenceIdeal.Read
open Cert.OutIdeal.Out (out unitOf)
variable (s : (⟨2, ![4096, 2816]⟩ : Shape).Idx → EReal) (w : (⟨2, ![2816, 1024]⟩ : Shape).Idx → EReal)

/-- The reference's product is the sum over the column blocks. -/
theorem out_at (t : Fin 4096) (e : Fin 1024) : val_main_v0 (F := Ideal) s w (ix2 t e) = out s w t e := by
  unfold val_main_v0
  pointwise
  refine Eq.trans (Fin.sum_mul_add_fin (M := EReal) 4 704 (fun q : Fin 2816 => s (ix2 t q) * w (ix2 q e)) rfl).symm ?_
  refine Finset.sum_congr (M := EReal) rfl fun j _ => Finset.sum_congr (M := EReal) rfl fun k _ => ?_
  have h : (⟨j.val * 704 + k.val, by omega⟩ : Fin 2816) = ⟨704 * j.val + k.val, by omega⟩ := Fin.ext (by show j.val * 704 + k.val = 704 * j.val + k.val; omega)
  exact congrArg₂ (· * ·) (congrArg (fun q => s (ix2 t q)) h) (congrArg (fun q => w (ix2 q e)) h)

end Cert.OutEq

namespace Cert.Proof
open Idealize.ShloMosaic Idealize.ShloMosaic.TcCoe Idealize.SL.Sem Cert.OutReferenceIdeal.Read
attribute [local instance] Cert.OutIdeal.Gen.facts Cert.OutReferenceIdeal.Gen.facts

/-- The two programs leave the same arrays. -/
theorem out : Cert.algebraic_OutIdeal_OutReferenceIdeal := fun m g m' g' _ ha => by
  refine ⟨fun c => (Cert.OutIdeal.Gen.dats m 0 c).arrAt 4 Cert.OutIdeal.cfg0.N, fun c => (Cert.OutIdeal.Gen.dats m 0 c).arrAt 5 Cert.OutIdeal.cfg0.N,
    (θ_run Cert.OutIdeal.defs _ _).mono (fun r h c => ?_) (Cert.OutIdeal.Value.run_blocks (F := Ideal) m g),
    (θ_run Cert.OutReferenceIdeal.defs _ _).mono (fun r h c => ?_) (Cert.OutReferenceIdeal.Value.run (F := Ideal) m' g')⟩
  · exact h c
  · obtain ⟨h0, h1, h⟩ := h c
    obtain ⟨a0, a1, a2, a3⟩ := ha c
    have e : ∀ b, StableHlo.launchContents m' c (Proc.devRef .tc b) = m' ((c : Thread Cert.OutReferenceIdeal.nD Cert.OutReferenceIdeal.τ).loc b) := fun _ => rfl
    refine ⟨h0.trans ?_, h1.trans ?_, h⟩
    · refine Eq.trans ?_ (Cert.OutIdeal.Out.x_arr m c).symm
      refine (val_main_v6_eq (F := Ideal) _ _ _ _).trans ?_
      simp only [e, a0, a1, a2, a3]
      funext y
      obtain ⟨t, k, rfl⟩ := Rows.ix2_surj y
      have h := Cert.OutEq.out_at (m ((c : Thread Cert.OutIdeal.nD Cert.OutIdeal.τ).loc Cert.OutIdeal.main_arg1)) (m ((c : Thread Cert.OutIdeal.nD Cert.OutIdeal.τ).loc Cert.OutIdeal.main_arg3)) t k
      unfold val_main_v6 val_main_v5 val_main_v4 val_main_v3 val_main_v2 val_main_v1 val_main_cst
      pointwise
      rw [h]
      rfl
    · refine Eq.trans ?_ (Cert.OutIdeal.Out.f_arr m c).symm
      refine (val_main_v7_eq (F := Ideal) _ _).trans ?_
      simp only [e, a1, a3]
      funext y
      obtain ⟨t, k, rfl⟩ := Rows.ix2_surj y
      unfold val_main_v7
      pointwise
      exact Cert.OutEq.out_at (m ((c : Thread Cert.OutIdeal.nD Cert.OutIdeal.τ).loc Cert.OutIdeal.main_arg1)) (m ((c : Thread Cert.OutIdeal.nD Cert.OutIdeal.τ).loc Cert.OutIdeal.main_arg3)) t k

end Cert.Proof
-- ==== Proof.SpreadCall.lean ====
/- The forward call of the recurrence's matrices: what it leaves, as functions of its arguments' entries. -/
module

public import proofs.«01_k».proof.Proof.DenseCall

@[expose] public section
noncomputable section

namespace Cert.SpreadCall
open Idealize.ShloMosaic Cert.DenseCall

/-- A select on two small counts' equality. -/
theorem select_eq {a b : ℕ} (ha : a < 8) (hb : b < 8) (u v : EReal) :
    Scalar.select (IntOp.cmpi CmpIPredicate.eq (IntOp.addi (BitVec.ofNat 32 a) 0#32) (BitVec.ofNat 32 b)) u v = if a = b then u else v := by
  have h : ∀ a b : Fin 8, (IntOp.cmpi CmpIPredicate.eq (IntOp.addi (BitVec.ofNat 32 a.val) 0#32) (BitVec.ofNat 32 b.val)) = if a = b then 1#1 else 0#1 := by
    decide
  rw [h ⟨a, ha⟩ ⟨b, hb⟩]
  by_cases e : a = b
  · subst e; simp [Scalar.select]
  · simp [Scalar.select, e]

/-- The output matrices on the diagonals of four blocks: entry (`r`, `l`) of block `j` belongs to group `r / 64` of the
    block's eight, and is zero where the channel's group is another. -/
def spreadOut (c : (⟨3, ![32, 16, 64]⟩ : Shape).Idx → EReal) (j : Fin 4) (r : Fin 512) (l : Fin 128) : EReal :=
  Scalar.select (IntOp.cmpi CmpIPredicate.eq (IntOp.addi (BitVec.ofNat 32 (r.val / 64)) 0#32) (BitVec.ofNat 32 (l.val / 16)))
    (c (ix3 ⟨j.val * 8 + r.val / 64, by omega⟩ ⟨l.val % 16, by omega⟩ ⟨r.val % 64, by omega⟩)) 0

/-- Both output matrices. -/
def outs (cr ci : (⟨3, ![32, 16, 64]⟩ : Shape).Idx → EReal) (p : Fin 2) : Fin 4 → Fin 512 → Fin 128 → EReal := if p.val < 1 then spreadOut cr else spreadOut ci

variable (fr fi : (⟨2, ![32, 64]⟩ : Shape).Idx → EReal) (br bi : (⟨3, ![32, 64, 16]⟩ : Shape).Idx → EReal)

/-- The product of the factor and the blocks, real part and imaginary part. -/
def ins (p : Fin 2) (j : Fin 4) (r : Fin 128) (l : Fin 512) : EReal :=
  if p.val < 1 then flat fr ⟨512 * j.val + l.val, by omega⟩ * spread br j r l - flat fi ⟨512 * j.val + l.val, by omega⟩ * spread bi j r l
  else flat fr ⟨512 * j.val + l.val, by omega⟩ * spread bi j r l + flat fi ⟨512 * j.val + l.val, by omega⟩ * spread br j r l

/-- A blocks' entry times its lane's factor is the entry of the groups' products. -/
theorem flat_mul (f : (⟨2, ![32, 64]⟩ : Shape).Idx → EReal) (b : (⟨3, ![32, 64, 16]⟩ : Shape).Idx → EReal) (j : Fin 4) (r : Fin 128) (l : Fin 512) :
    flat f ⟨512 * j.val + l.val, by omega⟩ * spread b j r l = spread (fun i => f (ix2 (i 0) (i 1)) * b i) j r l := by
  unfold spread
  rw [select_eq (by omega) (by omega), select_eq (by omega) (by omega)]
  split
  · rename_i h
    refine congrArg (· * b _) (congrArg f ?_)
    funext a
    match a with
    | 0 => exact Fin.ext (by show (512 * j.val + l.val) / 64 = j.val * 8 + r.val / 16; omega)
    | 1 => exact Fin.ext (by show (512 * j.val + l.val) % 64 = l.val % 64; omega)
  · exact mul_zero _

theorem spread_sub (a b : (⟨3, ![32, 64, 16]⟩ : Shape).Idx → EReal) (j : Fin 4) (r : Fin 128) (l : Fin 512) :
    spread a j r l - spread b j r l = spread (fun i => a i - b i) j r l := by
  unfold spread
  simp only [select_eq (show r.val / 16 < 8 by omega) (show l.val / 64 < 8 by omega)]
  split
  · rfl
  · exact sub_zero _

theorem spread_add (a b : (⟨3, ![32, 64, 16]⟩ : Shape).Idx → EReal) (j : Fin 4) (r : Fin 128) (l : Fin 512) :
    spread a j r l + spread b j r l = spread (fun i => a i + b i) j r l := by
  unfold spread
  simp only [select_eq (show r.val / 16 < 8 by omega) (show l.val / 64 < 8 by omega)]
  split
  · rfl
  · exact add_zero _

end Cert.SpreadCall
-- ==== Proof.SpreadKernel.lean ====
/- The forward call of the recurrence's matrices: the two arrays it leaves, as functions of its arguments. -/
module

public import proofs.«01_k».proof.Proof.Gen.SpreadIdeal.Value
public import proofs.«01_k».proof.Proof.Rows
public import proofs.«01_k».proof.Proof.SpreadCall

@[expose] public section
set_option maxRecDepth 16384
noncomputable section

namespace Cert.SpreadIdeal.Spread
open Cert.SpreadIdeal Cert.SpreadIdeal.Gen Idealize.ShloMosaic Idealize.ShloMosaic.TcCoe Idealize.SL.Sem
open Idealize.ShloMosaic.Pipeline (Dat)
open Cert.SpreadIdeal.Facts Cert.DenseCall Cert.SpreadCall

/-- The blocks' product with the factor that two rows hold. -/
def cell (s : FVec Ideal S4x2048 .f32) (b : FVec Ideal S2x4x128x512 .f32) (p : Fin 2) (j : Fin 4) (r : Fin 128) (l : Fin 512) : EReal :=
  if p.val < 1 then s (ix2 2 ⟨512 * j.val + l.val, by omega⟩) * b (ix4 0 j r l) - s (ix2 3 ⟨512 * j.val + l.val, by omega⟩) * b (ix4 1 j r l)
  else s (ix2 2 ⟨512 * j.val + l.val, by omega⟩) * b (ix4 1 j r l) + s (ix2 3 ⟨512 * j.val + l.val, by omega⟩) * b (ix4 0 j r l)

theorem cell_re {s : FVec Ideal S4x2048 .f32} {b : FVec Ideal S2x4x128x512 .f32} {p : Fin 2} {j j' : Fin 4} {r r' : Fin 128} {l l' : Fin 512}
    {q : Fin 2048} (hp : p.val = 0) (hj : j.val = j'.val) (hr : r.val = r'.val) (hl : l.val = l'.val) (hq : q.val = 512 * j.val + l.val) :
    (s (ix2 2 q) * b (ix4 0 j' r' l') - s (ix2 3 q) * b (ix4 1 j' r' l') : EReal) = cell s b p j r l := by
  obtain rfl := Fin.ext hj; obtain rfl := Fin.ext hr; obtain rfl := Fin.ext hl
  rw [cell, if_pos (by omega), show q = ⟨512 * j.val + l.val, by omega⟩ from Fin.ext hq]

theorem cell_im {s : FVec Ideal S4x2048 .f32} {b : FVec Ideal S2x4x128x512 .f32} {p : Fin 2} {j j' : Fin 4} {r r' : Fin 128} {l l' : Fin 512}
    {q : Fin 2048} (hp : p.val = 1) (hj : j.val = j'.val) (hr : r.val = r'.val) (hl : l.val = l'.val) (hq : q.val = 512 * j.val + l.val) :
    (s (ix2 2 q) * b (ix4 1 j' r' l') + s (ix2 3 q) * b (ix4 0 j' r' l') : EReal) = cell s b p j r l := by
  obtain rfl := Fin.ext hj; obtain rfl := Fin.ext hr; obtain rfl := Fin.ext hl
  rw [cell, if_neg (by omega), show q = ⟨512 * j.val + l.val, by omega⟩ from Fin.ext hq]

section
variable (x0 : FVec Ideal S4x2048 .f32) (x1 : FVec Ideal S2x4x128x512 .f32) (x2 : FVec Ideal S2x4x512x128 .f32)

set_option maxHeartbeats 4000000 in
/-- What the body stores of the input blocks, -/
theorem in_out (p : Fin 2) (j : Fin 4) (r : Fin 128) (l : Fin 512) : out0_3 (F := Ideal) x0 x1 x2 (ix4 p j r l) = cell x0 x1 p j r l := by
  canon_tiles x h
  all_goals
    open_payloads
    pointwise
    replace h0 : p.val = _ := h0
    replace h1 : j.val = _ := h1
    replace h2 : r.val = _ := h2
    replace h3 : l.val = _ := h3
    first
      | exact cell_re (by omega) (h1.trans (by simp only [Fin.isValue, Fin.coe_ofNat_eq_mod]; omega)) h2 h3 (by simp only; omega)
      | exact cell_im (by omega) (h1.trans (by simp only [Fin.isValue, Fin.coe_ofNat_eq_mod]; omega)) h2 h3 (by simp only; omega)

set_option maxHeartbeats 4000000 in
/-- and of the output blocks: what it loads. -/
theorem out_out (p : Fin 2) (j : Fin 4) (r : Fin 512) (l : Fin 128) : out0_4 (F := Ideal) x0 x1 x2 (ix4 p j r l) = (x2 (ix4 p j r l) : EReal) := by
  obtain ⟨p, hp⟩ := p
  obtain ⟨j, hj⟩ := j
  canon_tiles x h
  all_goals
    replace h0 : p = _ := h0
    replace h1 : j = _ := h1
    rw [show (x 0).val = 0 by omega] at h0
    rw [show (x 1).val = 0 by omega] at h1
    subst h0 h1
    rw [show r = x 2 from Fin.ext h2, show l = x 3 from Fin.ext h3]
    open_payloads
    pointwise
end

variable (m : (ℓ : Loc nD τ sig) → Buf (Elt Ideal) ℓ)

/-- The call has one grid point, whose blocks are the whole arrays. -/
theorem idx : ∀ t : Fin cfg0.N, win0_0.index t = ![0, 0] ∧ win0_1.index t = ![0, 0, 0, 0] ∧ win0_2.index t = ![0, 0, 0, 0] ∧
    win0_3.index t = ![0, 0, 0, 0] ∧ win0_4.index t = ![0, 0, 0, 0] :=
  (by decide +kernel : ∀ t : Fin grid0.N, _)

theorem s_blk (c : Dev nD) (t : Fin cfg0.N) (k : Fin 4) (q : Fin 2048) : iblk m c 0 t (ix2 k q) = V m c main_v8 (ix2 k q) := by
  unfold iblk
  blk_ext [idx t]

theorem b_blk (c : Dev nD) (t : Fin cfg0.N) (p : Fin 2) (j : Fin 4) (r : Fin 128) (l : Fin 512) :
    iblk m c 1 t (ix4 p j r l) = V m c main_v33 (ix4 p j r l) := by
  unfold iblk
  blk_ext [idx t]

theorem c_blk (c : Dev nD) (t : Fin cfg0.N) (p : Fin 2) (j : Fin 4) (r : Fin 512) (l : Fin 128) :
    iblk m c 2 t (ix4 p j r l) = V m c main_v58 (ix4 p j r l) := by
  unfold iblk
  blk_ext [idx t]

/-- The four tables' lanes, as the host lays them out in rows. -/
def lanes (ar ai fr fi : FVec Ideal S32x64 .f32) : FVec Ideal S4x2048 .f32 :=
  concatenate S4x2048 0 [⟨S1x2048, broadcastInDim S1x2048 ![1] bcast_S2048_S1x2048_1 (shapeCast S2048 ar shapeCasts_S32x64_S2048)⟩,
    ⟨S1x2048, broadcastInDim S1x2048 ![1] bcast_S2048_S1x2048_1 (shapeCast S2048 ai shapeCasts_S32x64_S2048)⟩,
    ⟨S1x2048, broadcastInDim S1x2048 ![1] bcast_S2048_S1x2048_1 (shapeCast S2048 fr shapeCasts_S32x64_S2048)⟩,
    ⟨S1x2048, broadcastInDim S1x2048 ![1] bcast_S2048_S1x2048_1 (shapeCast S2048 fi shapeCasts_S32x64_S2048)⟩]
    concatenates_S1x2048_S1x2048_S1x2048_S1x2048_S4x2048_d0

/-- Whether two groups of eight are the same. -/
def same : IVec S1x8x1x8x1 1 := broadcastInDim S1x8x1x8x1 ![1, 3] bcast_S8x8_S1x8x1x8x1_1_3
  (cmpi .eq (addi (iotaInDim S8x8 32 0) (broadcastInDim S8x8 ![] bcast_S_S8x8 (constantI S_ 32 0#32))) (iotaInDim S8x8 32 1))

/-- The input matrices on the blocks' diagonals, as the host lays them out, -/
def blocks (b : FVec Ideal S32x64x16 .f32) : FVec Ideal S4x128x512 .f32 :=
  shapeCast S4x128x512 (select (broadcastInDim S4x8x16x8x64 ![0, 1, 2, 3, 4] bcast_S1x8x1x8x1_S4x8x16x8x64_0_1_2_3_4 same)
    (broadcastInDim S4x8x16x8x64 ![0, 1, 2, 3, 4] bcast_S4x8x16x1x64_S4x8x16x8x64_0_1_2_3_4 (broadcastInDim S4x8x16x1x64 ![0, 1, 2, 4] bcast_S4x8x16x64_S4x8x16x1x64_0_1_2_4
      (shapeCast S4x8x16x64 (transpose S32x16x64 [0, 2, 1] b transposes_S32x64x16_S32x16x64_0_2_1) shapeCasts_S32x16x64_S4x8x16x64)))
    (broadcastInDim S4x8x16x8x64 ![] bcast_S_S4x8x16x8x64 (constant (F := Ideal) S_ .f32 0x00000000#32))) shapeCasts_S4x8x16x8x64_S4x128x512

/-- and the output matrices. -/
def blocksOut (b : FVec Ideal S32x16x64 .f32) : FVec Ideal S4x512x128 .f32 :=
  shapeCast S4x512x128 (select (broadcastInDim S4x8x64x8x16 ![0, 1, 2, 3, 4] bcast_S1x8x1x8x1_S4x8x64x8x16_0_1_2_3_4 same)
    (broadcastInDim S4x8x64x8x16 ![0, 1, 2, 3, 4] bcast_S4x8x64x1x16_S4x8x64x8x16_0_1_2_3_4 (broadcastInDim S4x8x64x1x16 ![0, 1, 2, 4] bcast_S4x8x64x16_S4x8x64x1x16_0_1_2_4
      (shapeCast S4x8x64x16 (transpose S32x64x16 [0, 2, 1] b transposes_S32x16x64_S32x64x16_0_2_1) shapeCasts_S32x64x16_S4x8x64x16)))
    (broadcastInDim S4x8x64x8x16 ![] bcast_S_S4x8x64x8x16 (constant (F := Ideal) S_ .f32 0x00000000#32))) shapeCasts_S4x8x64x8x16_S4x512x128

set_option maxHeartbeats 8000000 in
theorem s_entry (c : Dev nD) : V m c main_v8 = lanes (m ((c : Thread nD τ).loc main_arg0)) (m ((c : Thread nD τ).loc main_arg1))
    (m ((c : Thread nD τ).loc main_arg2)) (m ((c : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append,
    StableHlo.TRef.ternary, StableHlo.TRef.unary, StableHlo.TRef.toBuf, StableHlo.TRef.ofBuf, cast_eq]
  after_results_simp <;> (try dsimp only [Matrix.cons_val]) <;> (try after_results_simp) <;> rfl

set_option maxHeartbeats 8000000 in
theorem b_entry (c : Dev nD) : V m c main_v33 = concatenate S2x4x128x512 0
    [⟨S1x4x128x512, broadcastInDim S1x4x128x512 ![1, 2, 3] bcast_S4x128x512_S1x4x128x512_1_2_3 (blocks (m ((c : Thread nD τ).loc main_arg4)))⟩,
     ⟨S1x4x128x512, broadcastInDim S1x4x128x512 ![1, 2, 3] bcast_S4x128x512_S1x4x128x512_1_2_3 (blocks (m ((c : Thread nD τ).loc main_arg5)))⟩]
    concatenates_S1x4x128x512_S1x4x128x512_S2x4x128x512_d0 := by
  unfold V
  simp only [hostOps0, hostOps0_1, hostOps0_2, hostOps0_3, hostOps0_4, hostOps0_5, hostOps0_6, hostOps0_7, hostOps0_8, List.flatten_cons, List.flatten_nil, List.append_nil, List.cons_append,
    StableHlo.TRef.ternary, StableHlo.TRef.unary, StableHlo.TRef.toBuf, StableHlo.TRef.ofBuf, cast_eq]
  after_results_simp <;> (try dsimp only [Matrix.cons_val]) <;> (try after_results_simp) <;> rfl

set_option maxHeartbeats 8000000 in
theorem c_entry (c : Dev nD) : V m c main_v58 = concatenate S2x4x512x128 0
    [⟨S1x4x512x128, broadcastInDim S1x4x512x128 ![1, 2, 3] bcast_S4x512x128_S1x4x512x128_1_2_3 (blocksOut (m ((c : Thread nD τ).loc main_arg6)))⟩,
     ⟨S1x4x512x128, broadcastInDim S1x4x512x128 ![1, 2, 3] bcast_S4x512x128_S1x4x512x128_1_2_3 (blocksOut (m ((c : Thread nD τ).loc main_arg7)))⟩]
    concatenates_S1x4x512x128_S1x4x512x128_S2x4x512x128_d0 := by
  unfold V
  simp only [hostOps0, hostOps0_1, hostOps0_2, hostOps0_3, hostOps0_4, hostOps0_5, hostOps0_6, hostOps0_7, hostOps0_8, List.flatten_cons, List.flatten_nil, List.append_nil, List.cons_append,
    StableHlo.TRef.ternary, StableHlo.TRef.unary, StableHlo.TRef.toBuf, StableHlo.TRef.ofBuf, cast_eq]
  after_results_simp <;> (try dsimp only [Matrix.cons_val]) <;> (try after_results_simp) <;> rfl

theorem blocks_apply (b : FVec Ideal S32x64x16 .f32) (j : Fin 4) (r : Fin 128) (l : Fin 512) : blocks b (ix3 j r l) = spread b j r l := by
  unfold blocks same
  pointwise
  rfl

theorem blocksOut_apply (b : FVec Ideal S32x16x64 .f32) (j : Fin 4) (r : Fin 512) (l : Fin 128) : blocksOut b (ix3 j r l) = spreadOut b j r l := by
  unfold blocksOut same
  pointwise
  rfl

theorem br_blk (c : Dev nD) (t : Fin cfg0.N) (j : Fin 4) (r : Fin 128) (l : Fin 512) :
    iblk m c 1 t (ix4 0 j r l) = spread (m ((c : Thread nD τ).loc main_arg4)) j r l := by
  rw [b_blk, b_entry]
  pointwise
  exact blocks_apply _ j r l

theorem bi_blk (c : Dev nD) (t : Fin cfg0.N) (j : Fin 4) (r : Fin 128) (l : Fin 512) :
    iblk m c 1 t (ix4 1 j r l) = spread (m ((c : Thread nD τ).loc main_arg5)) j r l := by
  rw [b_blk, b_entry]
  pointwise
  exact blocks_apply _ j r l

theorem out_blk (c : Dev nD) (t : Fin cfg0.N) (p : Fin 2) (j : Fin 4) (r : Fin 512) (l : Fin 128) :
    iblk m c 2 t (ix4 p j r l) = outs (m ((c : Thread nD τ).loc main_arg6)) (m ((c : Thread nD τ).loc main_arg7)) p j r l := by
  rw [c_blk, c_entry]
  match p with
  | 0 => pointwise; exact blocksOut_apply _ j r l
  | 1 => pointwise; exact blocksOut_apply _ j r l

theorem fr_blk (c : Dev nD) (t : Fin cfg0.N) (q : Fin 2048) : iblk m c 0 t (ix2 2 q) = flat (m ((c : Thread nD τ).loc main_arg2)) q := by
  rw [s_blk, s_entry, lanes]
  pointwise
  rfl

theorem fi_blk (c : Dev nD) (t : Fin cfg0.N) (q : Fin 2048) : iblk m c 0 t (ix2 3 q) = flat (m ((c : Thread nD τ).loc main_arg3)) q := by
  rw [s_blk, s_entry, lanes]
  pointwise
  rfl

set_option maxHeartbeats 4000000 in
/-- The first array: the input blocks. -/
theorem in_arr (c : Dev nD) : (dats m 0 c).arrAt 3 cfg0.N = fun y => ins (m ((c : Thread nD τ).loc main_arg2)) (m ((c : Thread nD τ).loc main_arg3))
    (m ((c : Thread nD τ).loc main_arg4)) (m ((c : Thread nD τ).loc main_arg5)) (y 0) (y 1) (y 2) (y 3) := by
  refine (dats m 0 c).arrAt_eq_of_covers 3 _ (by decide +kernel) fun t hf y => ?_
  obtain ⟨p, j, r, l, rfl⟩ := ix4_surj y
  blk_simp
  rw [after0_3]
  have hG : ((View.whole main_v59_0).slice (win0_3.rect t)).emb (ix4 p j r l) = ix4 p j r l := by
    blk_ext [idx t]
  rw [hG]
  show _ = ins _ _ _ _ p j r l
  refine (in_out _ _ _ p j r l).trans ?_
  simp only [cell, ins, br_blk, bi_blk, fr_blk, fi_blk]

set_option maxHeartbeats 4000000 in
/-- The second array: the output blocks. -/
theorem out_arr (c : Dev nD) : (dats m 0 c).arrAt 4 cfg0.N = fun y =>
    outs (m ((c : Thread nD τ).loc main_arg6)) (m ((c : Thread nD τ).loc main_arg7)) (y 0) (y 1) (y 2) (y 3) := by
  refine (dats m 0 c).arrAt_eq_of_covers 4 _ (by decide +kernel) fun t hf y => ?_
  obtain ⟨p, j, r, l, rfl⟩ := ix4_surj y
  blk_simp
  rw [after0_4]
  have hG : ((View.whole main_v59_1).slice (win0_4.rect t)).emb (ix4 p j r l) = ix4 p j r l := by
    blk_ext [idx t]
  rw [hG]
  exact (out_out _ _ _ p j r l).trans (out_blk m c t p j r l)

end Cert.SpreadIdeal.Spread
-- ==== Proof.SpreadEq.lean ====
/- The forward call of the recurrence's matrices and its reference leave the same arrays. -/
module

public import proofs.«01_k».proof.Defs
public import proofs.«01_k».proof.Proof.Gen.SpreadIdeal
public import proofs.«01_k».proof.Proof.Gen.SpreadReferenceIdeal
public import proofs.«01_k».proof.Proof.Gen.SpreadReferenceIdeal.Run
public import proofs.«01_k».proof.Proof.Gen.SpreadReferenceIdeal.Read
public import proofs.«01_k».proof.Proof.SpreadKernel

@[expose] public section
set_option maxRecDepth 16384
noncomputable section

namespace Cert.SpreadReferenceIdeal.Spread
open Idealize.ShloMosaic Idealize.ShloMosaic.TcCoe Cert.SpreadReferenceIdeal Cert.SpreadReferenceIdeal.Read Cert.DenseCall Cert.SpreadCall

variable (fr fi : FVec Ideal S32x64 .f32) (br bi : FVec Ideal S32x64x16 .f32) (cr ci : FVec Ideal S32x16x64 .f32)

/-- The product of factor and matrix at group, state and channel: real part, -/
theorem re_at : val_main_v6 (F := Ideal) fr fi br bi = fun i => fr (ix2 (i 0) (i 1)) * br i - fi (ix2 (i 0) (i 1)) * bi i := by
  funext i
  obtain ⟨a, b, d, rfl⟩ : ∃ (a : Fin 32) (b : Fin 64) (d : Fin 16), i = ix3 a b d := ⟨i 0, i 1, i 2, by funext k; match k with | 0 => rfl | 1 => rfl | 2 => rfl⟩
  unfold val_main_v6 val_main_v5 val_main_v4 val_main_v3 val_main_v2 val_main_v1 val_main_v0
  pointwise

/-- and imaginary part. -/
theorem im_at : val_main_v13 (F := Ideal) fr fi br bi = fun i => fr (ix2 (i 0) (i 1)) * bi i + fi (ix2 (i 0) (i 1)) * br i := by
  funext i
  obtain ⟨a, b, d, rfl⟩ : ∃ (a : Fin 32) (b : Fin 64) (d : Fin 16), i = ix3 a b d := ⟨i 0, i 1, i 2, by funext k; match k with | 0 => rfl | 1 => rfl | 2 => rfl⟩
  unfold val_main_v13 val_main_v12 val_main_v11 val_main_v10 val_main_v9 val_main_v8 val_main_v7
  pointwise

/-- The blocks are the groups' matrices on the diagonals: of the real parts, -/
theorem re_blocks (j : Fin 4) (r : Fin 128) (l : Fin 512) :
    val_main_v24 (F := Ideal) fr fi br bi (ix3 j r l) = spread (val_main_v6 (F := Ideal) fr fi br bi) j r l := by
  unfold val_main_v24 val_main_v23 val_main_call0_v3 val_main_call0_v2 val_main_call0_v1 val_main_call0_v0 val_main_cst val_main_v22 val_main_v21 val_main_v20
    val_main_v19 val_main_v18 val_main_v17 val_main_v16 val_main_c val_main_v15 val_main_v14
  generalize val_main_v6 (F := Ideal) fr fi br bi = b
  simp only [id_eq]
  pointwise
  rfl

/-- of the imaginary parts, -/
theorem im_blocks (j : Fin 4) (r : Fin 128) (l : Fin 512) :
    val_main_v35 (F := Ideal) fr fi br bi (ix3 j r l) = spread (val_main_v13 (F := Ideal) fr fi br bi) j r l := by
  unfold val_main_v35 val_main_v34 val_main_call1_v3 val_main_call1_v2 val_main_call1_v1 val_main_call1_v0 val_main_cst_1 val_main_v33 val_main_v32 val_main_v31
    val_main_v30 val_main_v29 val_main_v28 val_main_v27 val_main_c_0 val_main_v26 val_main_v25
  generalize val_main_v13 (F := Ideal) fr fi br bi = b
  simp only [id_eq]
  pointwise
  rfl

/-- and of the output matrices. -/
theorem cr_blocks (j : Fin 4) (r : Fin 512) (l : Fin 128) : val_main_v50 (F := Ideal) cr (ix3 j r l) = spreadOut cr j r l := by
  unfold val_main_v50 val_main_v49 val_main_call2_v3 val_main_call2_v2 val_main_call2_v1 val_main_call2_v0 val_main_cst_3 val_main_v48 val_main_v47 val_main_v46
    val_main_v45 val_main_v44 val_main_v43 val_main_v42 val_main_c_2 val_main_v41 val_main_v40
  simp only [id_eq]
  pointwise
  rfl

theorem ci_blocks (j : Fin 4) (r : Fin 512) (l : Fin 128) : val_main_v61 (F := Ideal) ci (ix3 j r l) = spreadOut ci j r l := by
  unfold val_main_v61 val_main_v60 val_main_call3_v3 val_main_call3_v2 val_main_call3_v1 val_main_call3_v0 val_main_cst_5 val_main_v59 val_main_v58 val_main_v57
    val_main_v56 val_main_v55 val_main_v54 val_main_v53 val_main_c_4 val_main_v52 val_main_v51
  simp only [id_eq]
  pointwise
  rfl

/-- The first result. -/
theorem in_res : val_main_v39 (F := Ideal) fr fi br bi = fun y => ins fr fi br bi (y 0) (y 1) (y 2) (y 3) := by
  funext y
  obtain ⟨p, j, r, l, rfl⟩ := ix4_surj y
  show _ = ins fr fi br bi p j r l
  unfold val_main_v39 val_main_v38 val_main_v37 val_main_v36 ins
  have hr := re_blocks fr fi br bi j r l
  have hi := im_blocks fr fi br bi j r l
  rw [re_at, ← spread_sub, ← flat_mul, ← flat_mul] at hr
  rw [im_at, ← spread_add, ← flat_mul, ← flat_mul] at hi
  match p with
  | 0 => pointwise; exact hr
  | 1 => pointwise; exact hi

/-- The second result. -/
theorem out_res : val_main_v65 (F := Ideal) cr ci = fun y => outs cr ci (y 0) (y 1) (y 2) (y 3) := by
  funext y
  obtain ⟨p, j, r, l, rfl⟩ := ix4_surj y
  show _ = outs cr ci p j r l
  unfold val_main_v65 val_main_v64 val_main_v63 val_main_v62
  have hr := cr_blocks cr j r l
  have hi := ci_blocks ci j r l
  match p with
  | 0 => pointwise; exact hr
  | 1 => pointwise; exact hi

end Cert.SpreadReferenceIdeal.Spread

namespace Cert.Proof
open Idealize.ShloMosaic Idealize.ShloMosaic.TcCoe Idealize.SL.Sem
attribute [local instance] Cert.SpreadIdeal.Gen.facts Cert.SpreadReferenceIdeal.Gen.facts

/-- The two programs leave the same arrays. -/
theorem spread : Cert.algebraic_SpreadIdeal_SpreadReferenceIdeal := fun m g m' g' _ ha => by
  refine ⟨fun c => (Cert.SpreadIdeal.Gen.dats m 0 c).arrAt 3 Cert.SpreadIdeal.cfg0.N, fun c => (Cert.SpreadIdeal.Gen.dats m 0 c).arrAt 4 Cert.SpreadIdeal.cfg0.N,
    (θ_run Cert.SpreadIdeal.defs _ _).mono (fun r h c => ?_) (Cert.SpreadIdeal.Value.run_blocks (F := Ideal) m g),
    (θ_run Cert.SpreadReferenceIdeal.defs _ _).mono (fun r h c => ?_) (Cert.SpreadReferenceIdeal.Value.run (F := Ideal) m' g')⟩
  · exact h c
  · obtain ⟨h0, h1, h⟩ := h c
    obtain ⟨a0, a1, a2, a3, a4, a5, a6, a7⟩ := ha c
    have e : ∀ b, StableHlo.launchContents m' c (Proc.devRef .tc b) = m' ((c : Thread Cert.SpreadReferenceIdeal.nD Cert.SpreadReferenceIdeal.τ).loc b) := fun _ => rfl
    refine ⟨h0.trans ?_, h1.trans ?_, h⟩
    · refine Eq.trans ?_ (Cert.SpreadIdeal.Spread.in_arr m c).symm
      refine (Cert.SpreadReferenceIdeal.Read.val_main_v39_eq (F := Ideal) _ _ _ _).trans ?_
      simp only [e, a2, a3, a4, a5]
      exact Cert.SpreadReferenceIdeal.Spread.in_res _ _ _ _
    · refine Eq.trans ?_ (Cert.SpreadIdeal.Spread.out_arr m c).symm
      refine (Cert.SpreadReferenceIdeal.Read.val_main_v65_eq (F := Ideal) _ _).trans ?_
      simp only [e, a6, a7]
      exact Cert.SpreadReferenceIdeal.Spread.out_res _ _

end Cert.Proof
-- ==== Proof.lean ====
module

public import proofs.«01_k».proof.Defs
public import Idealize.ShloMosaic.Adequacy
public import Idealize.ShloMosaic.Init
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Pre_finite_args
public import proofs.«01_k».proof.Proof.NormEq
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.Pre_finite_first
public import proofs.«01_k».proof.Proof.FirstEq
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Read
public import proofs.«01_k».proof.Proof.Gen.DenseReferenceIdeal.Run
public import proofs.«01_k».proof.Proof.DenseEq
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Read
public import proofs.«01_k».proof.Proof.Gen.FfnReferenceIdeal.Run
public import proofs.«01_k».proof.Proof.Gen.Pre_finite_ffn
public import proofs.«01_k».proof.Proof.FfnEq
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinReferenceIdeal
public import proofs.«01_k».proof.Proof.Gen.DwinReferenceIdeal.Read
public import proofs.«01_k».proof.Proof.Gen.DwinReferenceIdeal.Run
public import proofs.«01_k».proof.Proof.DwinEq
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Read
public import proofs.«01_k».proof.Proof.Gen.LossReferenceIdeal.Run
public import proofs.«01_k».proof.Proof.Gen.Pre_finite_loss
public import proofs.«01_k».proof.Proof.LossEq
public import proofs.«01_k».proof.Proof.Gen.Params
public import proofs.«01_k».proof.Proof.Gen.Params.Skeleton
public import proofs.«01_k».proof.Proof.Gen.Params.Launch
public import proofs.«01_k».proof.Proof.Gen.Params.Points
public import proofs.«01_k».proof.Proof.Gen.Params.Frame
public import proofs.«01_k».proof.Proof.Gen.ParamsIdeal
public import proofs.«01_k».proof.Proof.Gen.ParamsIdeal.Skeleton
public import proofs.«01_k».proof.Proof.Gen.ParamsIdeal.Launch
public import proofs.«01_k».proof.Proof.Gen.ParamsIdeal.Points
public import proofs.«01_k».proof.Proof.Gen.ParamsIdeal.Frame
public import proofs.«01_k».proof.Proof.Gen.ParamsReferenceIdeal
public import proofs.«01_k».proof.Proof.Gen.ParamsReferenceIdeal.Read
public import proofs.«01_k».proof.Proof.Gen.ParamsReferenceIdeal.Run
public import proofs.«01_k».proof.Proof.ParamsEq
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInReferenceIdeal
public import proofs.«01_k».proof.Proof.Gen.MixInReferenceIdeal.Read
public import proofs.«01_k».proof.Proof.Gen.MixInReferenceIdeal.Run
public import proofs.«01_k».proof.Proof.MixInFloat
public import proofs.«01_k».proof.Proof.Gen.Pre_finite_mixin
public import proofs.«01_k».proof.Proof.MixInEq
public import proofs.«01_k».proof.Proof.Gen.Hold
public import proofs.«01_k».proof.Proof.Gen.Hold.Skeleton
public import proofs.«01_k».proof.Proof.Gen.Hold.Launch
public import proofs.«01_k».proof.Proof.Gen.Hold.Points
public import proofs.«01_k».proof.Proof.Gen.Hold.Frame
public import proofs.«01_k».proof.Proof.Gen.HoldIdeal
public import proofs.«01_k».proof.Proof.Gen.HoldIdeal.Skeleton
public import proofs.«01_k».proof.Proof.Gen.HoldIdeal.Launch
public import proofs.«01_k».proof.Proof.Gen.HoldIdeal.Points
public import proofs.«01_k».proof.Proof.Gen.HoldIdeal.Frame
public import proofs.«01_k».proof.Proof.Gen.HoldReferenceIdeal
public import proofs.«01_k».proof.Proof.Gen.HoldReferenceIdeal.Read
public import proofs.«01_k».proof.Proof.Gen.HoldReferenceIdeal.Run
public import proofs.«01_k».proof.Proof.HoldEq
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Read
public import proofs.«01_k».proof.Proof.Gen.GateReferenceIdeal.Run
public import proofs.«01_k».proof.Proof.GateEq
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Read
public import proofs.«01_k».proof.Proof.Gen.OutReferenceIdeal.Run
public import proofs.«01_k».proof.Proof.OutEq
public import proofs.«01_k».proof.Proof.Gen.Spread
public import proofs.«01_k».proof.Proof.Gen.Spread.Skeleton
public import proofs.«01_k».proof.Proof.Gen.Spread.Launch
public import proofs.«01_k».proof.Proof.Gen.Spread.Points
public import proofs.«01_k».proof.Proof.Gen.Spread.Frame
public import proofs.«01_k».proof.Proof.Gen.SpreadIdeal
public import proofs.«01_k».proof.Proof.Gen.SpreadIdeal.Skeleton
public import proofs.«01_k».proof.Proof.Gen.SpreadIdeal.Launch
public import proofs.«01_k».proof.Proof.Gen.SpreadIdeal.Points
public import proofs.«01_k».proof.Proof.Gen.SpreadIdeal.Frame
public import proofs.«01_k».proof.Proof.Gen.SpreadIdeal.Value
public import proofs.«01_k».proof.Proof.Gen.SpreadReferenceIdeal
public import proofs.«01_k».proof.Proof.Gen.SpreadReferenceIdeal.Read
public import proofs.«01_k».proof.Proof.Gen.SpreadReferenceIdeal.Run
public import proofs.«01_k».proof.Proof.SpreadEq

@[expose] public section
noncomputable section

namespace Cert.Proof
open Idealize.ShloMosaic Idealize.SL.Sem

/-- The reference of `norm` keeps its arguments and has no semaphore. -/
theorem frame_norm_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The reference of `dense` keeps its arguments and has no semaphore. -/
theorem frame_dense_reference : Cert.quiescent_DenseReferenceIdeal (hDenseReferenceIdeal := Cert.DenseReferenceIdeal.Gen.facts) := fun m ρ _ =>
  (θ_run Cert.DenseReferenceIdeal.defs _ _).mono (fun r h => ⟨fun c => (h c).2.2, Idealize.ShloMosaic.sem_eq_zero_of_no_sems (by decide) r.2⟩)
    (Cert.DenseReferenceIdeal.Value.run (F := Ideal) m ρ)

/-- The reference of `ffn` keeps its arguments and has no semaphore. -/
theorem frame_ffn_reference : Cert.quiescent_FfnReferenceIdeal (hFfnReferenceIdeal := Cert.FfnReferenceIdeal.Gen.facts) := fun m ρ _ =>
  (θ_run Cert.FfnReferenceIdeal.defs _ _).mono (fun r h => ⟨fun c => (h c).2.2.2, Idealize.ShloMosaic.sem_eq_zero_of_no_sems (by decide) r.2⟩)
    (Cert.FfnReferenceIdeal.Value.run (F := Ideal) m ρ)

/-- The reference of `dwin` keeps its arguments and has no semaphore. -/
theorem frame_dwin_reference : Cert.quiescent_DwinReferenceIdeal (hDwinReferenceIdeal := Cert.DwinReferenceIdeal.Gen.facts) := fun m ρ _ =>
  (θ_run Cert.DwinReferenceIdeal.defs _ _).mono (fun r h => ⟨fun c => (h c).2, Idealize.ShloMosaic.sem_eq_zero_of_no_sems (by decide) r.2⟩)
    (Cert.DwinReferenceIdeal.Value.run (F := Ideal) m ρ)

/-- The reference of `loss` keeps its arguments and has no semaphore. -/
theorem frame_loss_reference : Cert.quiescent_LossReferenceIdeal (hLossReferenceIdeal := Cert.LossReferenceIdeal.Gen.facts) := fun m ρ _ =>
  (θ_run Cert.LossReferenceIdeal.defs _ _).mono (fun r h => ⟨fun c => (h c).2.2.2.2, Idealize.ShloMosaic.sem_eq_zero_of_no_sems (by decide) r.2⟩)
    (Cert.LossReferenceIdeal.Value.run (F := Ideal) m ρ)

/-- The reference of `params` keeps its arguments and has no semaphore. -/
theorem frame_params_reference : Cert.quiescent_ParamsReferenceIdeal (hParamsReferenceIdeal := Cert.ParamsReferenceIdeal.Gen.facts) := fun m ρ _ =>
  (θ_run Cert.ParamsReferenceIdeal.defs _ _).mono (fun r h => ⟨fun c => (h c).2.2.2, Idealize.ShloMosaic.sem_eq_zero_of_no_sems (by decide) r.2⟩)
    (Cert.ParamsReferenceIdeal.Value.run (F := Ideal) m ρ)

/-- The reference of `mixin` keeps its arguments and has no semaphore. -/
theorem frame_mixin_reference : Cert.quiescent_MixInReferenceIdeal (hMixInReferenceIdeal := Cert.MixInReferenceIdeal.Gen.facts) := fun m ρ _ =>
  (θ_run Cert.MixInReferenceIdeal.defs _ _).mono (fun r h => ⟨fun c => (h c).2.2.2, Idealize.ShloMosaic.sem_eq_zero_of_no_sems (by decide) r.2⟩)
    (Cert.MixInReferenceIdeal.Value.run (F := Ideal) m ρ)

/-- The reference of `hold` keeps its arguments and has no semaphore. -/
theorem frame_hold_reference : Cert.quiescent_HoldReferenceIdeal (hHoldReferenceIdeal := Cert.HoldReferenceIdeal.Gen.facts) := fun m ρ _ =>
  (θ_run Cert.HoldReferenceIdeal.defs _ _).mono (fun r h => ⟨fun c => (h c).2.2.2.2, Idealize.ShloMosaic.sem_eq_zero_of_no_sems (by decide) r.2⟩)
    (Cert.HoldReferenceIdeal.Value.run (F := Ideal) m ρ)

/-- The reference of `gate` keeps its arguments and has no semaphore. -/
theorem frame_gate_reference : Cert.quiescent_GateReferenceIdeal (hGateReferenceIdeal := Cert.GateReferenceIdeal.Gen.facts) := fun m ρ _ =>
  (θ_run Cert.GateReferenceIdeal.defs _ _).mono (fun r h => ⟨fun c => (h c).2.2, Idealize.ShloMosaic.sem_eq_zero_of_no_sems (by decide) r.2⟩)
    (Cert.GateReferenceIdeal.Value.run (F := Ideal) m ρ)

/-- The reference of `out` keeps its arguments and has no semaphore. -/
theorem frame_out_reference : Cert.quiescent_OutReferenceIdeal (hOutReferenceIdeal := Cert.OutReferenceIdeal.Gen.facts) := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

/-- The reference of `spread` keeps its arguments and has no semaphore. -/
theorem frame_spread_reference : Cert.quiescent_SpreadReferenceIdeal (hSpreadReferenceIdeal := Cert.SpreadReferenceIdeal.Gen.facts) := fun m ρ _ =>
  (θ_run Cert.SpreadReferenceIdeal.defs _ _).mono (fun r h => ⟨fun c => (h c).2.2, Idealize.ShloMosaic.sem_eq_zero_of_no_sems (by decide) r.2⟩)
    (Cert.SpreadReferenceIdeal.Value.run (F := Ideal) m ρ)

/-- Everything that is claimed. -/
theorem claim : Cert.Claim := ⟨
  Cert.Kernel.Gen.facts, Cert.KernelIdeal.Gen.facts, Cert.ReferenceIdeal.Gen.facts, Cert.First.Gen.facts, Cert.FirstIdeal.Gen.facts,
  Cert.Dense.Gen.facts, Cert.DenseIdeal.Gen.facts, Cert.DenseReferenceIdeal.Gen.facts, Cert.Ffn.Gen.facts, Cert.FfnIdeal.Gen.facts,
  Cert.FfnReferenceIdeal.Gen.facts, Cert.Dwin.Gen.facts, Cert.DwinIdeal.Gen.facts, Cert.DwinReferenceIdeal.Gen.facts, Cert.Loss.Gen.facts,
  Cert.LossIdeal.Gen.facts, Cert.LossReferenceIdeal.Gen.facts, Cert.Params.Gen.facts, Cert.ParamsIdeal.Gen.facts, Cert.ParamsReferenceIdeal.Gen.facts,
  Cert.MixIn.Gen.facts, Cert.MixInIdeal.Gen.facts, Cert.MixInReferenceIdeal.Gen.facts, Cert.Hold.Gen.facts, Cert.HoldIdeal.Gen.facts,
  Cert.HoldReferenceIdeal.Gen.facts, Cert.Gate.Gen.facts, Cert.GateIdeal.Gen.facts, Cert.GateReferenceIdeal.Gen.facts, Cert.Out.Gen.facts,
  Cert.OutIdeal.Gen.facts, Cert.OutReferenceIdeal.Gen.facts, Cert.Spread.Gen.facts, Cert.SpreadIdeal.Gen.facts, Cert.SpreadReferenceIdeal.Gen.facts,
  Cert.Pre_finite_args.Gen.facts, Cert.Pre_finite_first.Gen.facts, Cert.Pre_finite_ffn.Gen.facts, Cert.Pre_finite_loss.Gen.facts,
  Cert.Pre_finite_mixin.Gen.facts,
  fun m ρ _ => Cert.Kernel.Gen.frame m ρ,
  fun m ρ _ => Cert.KernelIdeal.Gen.frame m ρ,
  fun m ρ _ => Cert.KernelIdeal.Gen.frame m ρ,
  fun m ρ _ => frame_norm_reference m ρ trivial,
  fun m ρ _ => frame_norm_reference m ρ trivial,
  fun m ρ _ => frame_norm_reference m ρ trivial,
  fun m ρ _ => Cert.First.Gen.frame m ρ,
  fun m ρ _ => Cert.FirstIdeal.Gen.frame m ρ,
  fun m ρ _ => Cert.FirstIdeal.Gen.frame m ρ,
  fun m ρ _ => Cert.Dense.Gen.frame m ρ,
  fun m ρ _ => Cert.DenseIdeal.Gen.frame m ρ,
  fun m ρ _ => frame_dense_reference m ρ trivial,
  fun m ρ _ => Cert.Ffn.Gen.frame m ρ,
  fun m ρ _ => Cert.FfnIdeal.Gen.frame m ρ,
  fun m ρ _ => Cert.FfnIdeal.Gen.frame m ρ,
  fun m ρ _ => frame_ffn_reference m ρ trivial,
  fun m ρ _ => frame_ffn_reference m ρ trivial,
  fun m ρ _ => Cert.Dwin.Gen.frame m ρ,
  fun m ρ _ => Cert.DwinIdeal.Gen.frame m ρ,
  fun m ρ _ => frame_dwin_reference m ρ trivial,
  fun m ρ _ => Cert.Loss.Gen.frame m ρ,
  fun m ρ _ => Cert.LossIdeal.Gen.frame m ρ,
  fun m ρ _ => Cert.LossIdeal.Gen.frame m ρ,
  fun m ρ _ => frame_loss_reference m ρ trivial,
  fun m ρ _ => frame_loss_reference m ρ trivial,
  fun m ρ _ => Cert.Params.Gen.frame m ρ,
  fun m ρ _ => Cert.ParamsIdeal.Gen.frame m ρ,
  fun m ρ _ => frame_params_reference m ρ trivial,
  fun m ρ _ => frame_mixin m ρ trivial,
  fun m ρ _ => Cert.MixInIdeal.Frame.frame (F := Ideal) m ρ,
  fun m ρ _ => Cert.MixInIdeal.Frame.frame (F := Ideal) m ρ,
  fun m ρ _ => frame_mixin_reference m ρ trivial,
  fun m ρ _ => frame_mixin_reference m ρ trivial,
  fun m ρ _ => Cert.Hold.Gen.frame m ρ,
  fun m ρ _ => Cert.HoldIdeal.Gen.frame m ρ,
  fun m ρ _ => frame_hold_reference m ρ trivial,
  fun m ρ _ => Cert.Gate.Gen.frame m ρ,
  fun m ρ _ => Cert.GateIdeal.Gen.frame m ρ,
  fun m ρ _ => frame_gate_reference m ρ trivial,
  fun m ρ _ => Cert.Out.Gen.frame m ρ,
  fun m ρ _ => Cert.OutIdeal.Gen.frame m ρ,
  fun m ρ _ => frame_out_reference m ρ trivial,
  fun m ρ _ => Cert.Spread.Gen.frame m ρ,
  fun m ρ _ => Cert.SpreadIdeal.Gen.frame m ρ,
  fun m ρ _ => frame_spread_reference m ρ trivial,
  trivial, Cert.Proof.norm, trivial, Cert.Proof.first, trivial, Cert.Proof.dense, trivial, Cert.Proof.ffn, trivial, Cert.Proof.dwin, trivial,
  Cert.Proof.loss, trivial, Cert.Proof.params, trivial, Cert.Proof.mixin, trivial, Cert.Proof.hold, trivial, Cert.Proof.gate, trivial, Cert.Proof.out,
  trivial, Cert.Proof.spread⟩

end Cert.Proof

end
